-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lower_bound_finite [hPre_lower_bound_finite : Cert.Pre_lower_bound_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lower_bound_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lower_bound_finite [hPre_lower_bound_finite : Cert.Pre_lower_bound_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lower_bound_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnCd (m : (ℓ : Loc Cert.FfnCd.nD Cert.FfnCd.τ Cert.FfnCd.sig) → Buf (Elt Bits) ℓ) : Prop :=
  True

def Pre_FfnCdIdeal (m : (ℓ : Loc Cert.FfnCdIdeal.nD Cert.FfnCdIdeal.τ Cert.FfnCdIdeal.sig) → Buf (Elt Ideal) ℓ) : Prop :=
  True

def Pre_FfnCdRefIdeal (m : (ℓ : Loc Cert.FfnCdRefIdeal.nD Cert.FfnCdRefIdeal.τ Cert.FfnCdRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_FfnAb (m : (ℓ : Loc Cert.FfnAb.nD Cert.FfnAb.τ Cert.FfnAb.sig) → Buf (Elt Bits) ℓ) : Prop :=
  True

def Pre_FfnAbIdeal (m : (ℓ : Loc Cert.FfnAbIdeal.nD Cert.FfnAbIdeal.τ Cert.FfnAbIdeal.sig) → Buf (Elt Ideal) ℓ) : Prop :=
  True

def Pre_FfnAbRefIdeal (m : (ℓ : Loc Cert.FfnAbRefIdeal.nD Cert.FfnAbRefIdeal.τ Cert.FfnAbRefIdeal.sig) → Buf (Elt Ideal) ℓ) : Prop :=
  True

def Pre_InprojCd (m : (ℓ : Loc Cert.InprojCd.nD Cert.InprojCd.τ Cert.InprojCd.sig) → Buf (Elt Bits) ℓ) : Prop :=
  True

def Pre_InprojCdIdeal (m : (ℓ : Loc Cert.InprojCdIdeal.nD Cert.InprojCdIdeal.τ Cert.InprojCdIdeal.sig) → Buf (Elt Ideal) ℓ) : Prop :=
  True

def Pre_InprojCdRefIdeal (m : (ℓ : Loc Cert.InprojCdRefIdeal.nD Cert.InprojCdRefIdeal.τ Cert.InprojCdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_lower_bound_finite [hKernelIdeal : Cert.KernelIdeal.Facts] [hPre_lower_bound_finite : Cert.Pre_lower_bound_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lower_bound_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_lower_bound_finite [hReferenceIdeal : Cert.ReferenceIdeal.Facts] [hPre_lower_bound_finite : Cert.Pre_lower_bound_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lower_bound_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnCd [hFfnCd : Cert.FfnCd.Facts] : Prop :=
  ∀ (m : (ℓ : Loc Cert.FfnCd.nD Cert.FfnCd.τ Cert.FfnCd.sig) → Buf (Elt Bits) ℓ) (g : Dev Cert.FfnCd.nD → PrngReg), Pre_FfnCd m →
    θ_run (Cert.FfnCd.defs (F := Bits)) (onTc (τ := Cert.FfnCd.τ) (Cert.FfnCd.main (F := Bits))) ⟨m, fun _ => 0, g⟩ (fun r => (∀ c : Dev Cert.FfnCd.nD,
      r.2.mem ((c.tc : Thread Cert.FfnCd.nD Cert.FfnCd.τ).loc Cert.FfnCd.main_arg0) = m ((c.tc : Thread Cert.FfnCd.nD Cert.FfnCd.τ).loc Cert.FfnCd.main_arg0)
      ∧ r.2.mem ((c.tc : Thread Cert.FfnCd.nD Cert.FfnCd.τ).loc Cert.FfnCd.main_arg1) = m ((c.tc : Thread Cert.FfnCd.nD Cert.FfnCd.τ).loc Cert.FfnCd.main_arg1)
      ∧ r.2.mem ((c.tc : Thread Cert.FfnCd.nD Cert.FfnCd.τ).loc Cert.FfnCd.main_arg2) = m ((c.tc : Thread Cert.FfnCd.nD Cert.FfnCd.τ).loc Cert.FfnCd.main_arg2)
      ∧ r.2.mem ((c.tc : Thread Cert.FfnCd.nD Cert.FfnCd.τ).loc Cert.FfnCd.main_arg3) = m ((c.tc : Thread Cert.FfnCd.nD Cert.FfnCd.τ).loc Cert.FfnCd.main_arg3)
      ∧ r.2.mem ((c.tc : Thread Cert.FfnCd.nD Cert.FfnCd.τ).loc Cert.FfnCd.main_arg4) = m ((c.tc : Thread Cert.FfnCd.nD Cert.FfnCd.τ).loc Cert.FfnCd.main_arg4)
      ∧ r.2.mem ((c.tc : Thread Cert.FfnCd.nD Cert.FfnCd.τ).loc Cert.FfnCd.main_arg5) = m ((c.tc : Thread Cert.FfnCd.nD Cert.FfnCd.τ).loc Cert.FfnCd.main_arg5)
      ∧ r.2.mem ((c.tc : Thread Cert.FfnCd.nD Cert.FfnCd.τ).loc Cert.FfnCd.main_arg6) = m ((c.tc : Thread Cert.FfnCd.nD Cert.FfnCd.τ).loc Cert.FfnCd.main_arg6)
      ∧ r.2.mem ((c.tc : Thread Cert.FfnCd.nD Cert.FfnCd.τ).loc Cert.FfnCd.main_arg7) = m ((c.tc : Thread Cert.FfnCd.nD Cert.FfnCd.τ).loc Cert.FfnCd.main_arg7)
      ∧ r.2.mem ((c.tc : Thread Cert.FfnCd.nD Cert.FfnCd.τ).loc Cert.FfnCd.main_arg8) = m ((c.tc : Thread Cert.FfnCd.nD Cert.FfnCd.τ).loc Cert.FfnCd.main_arg8)
      ∧ r.2.mem ((c.tc : Thread Cert.FfnCd.nD Cert.FfnCd.τ).loc Cert.FfnCd.main_arg9) = m ((c.tc : Thread Cert.FfnCd.nD Cert.FfnCd.τ).loc Cert.FfnCd.main_arg9)
      ∧ r.2.mem ((c.tc : Thread Cert.FfnCd.nD Cert.FfnCd.τ).loc Cert.FfnCd.main_arg10) = m ((c.tc : Thread Cert.FfnCd.nD Cert.FfnCd.τ).loc Cert.FfnCd.main_arg10))
      ∧ r.2.sem = fun _ => 0)

def quiescent_FfnCdIdeal [hFfnCdIdeal : Cert.FfnCdIdeal.Facts] : Prop :=
  ∀ (m : (ℓ : Loc Cert.FfnCdIdeal.nD Cert.FfnCdIdeal.τ Cert.FfnCdIdeal.sig) → Buf (Elt Ideal) ℓ) (g : Dev Cert.FfnCdIdeal.nD → PrngReg), Pre_FfnCdIdeal m →
    θ_run (Cert.FfnCdIdeal.defs (F := Ideal)) (onTc (τ := Cert.FfnCdIdeal.τ) (Cert.FfnCdIdeal.main (F := Ideal))) ⟨m, fun _ => 0, g⟩ (fun r => (∀ c : Dev Cert.FfnCdIdeal.nD,
      r.2.mem ((c.tc : Thread Cert.FfnCdIdeal.nD Cert.FfnCdIdeal.τ).loc Cert.FfnCdIdeal.main_arg0) = m ((c.tc : Thread Cert.FfnCdIdeal.nD Cert.FfnCdIdeal.τ).loc Cert.FfnCdIdeal.main_arg0)
      ∧ r.2.mem ((c.tc : Thread Cert.FfnCdIdeal.nD Cert.FfnCdIdeal.τ).loc Cert.FfnCdIdeal.main_arg1) = m ((c.tc : Thread Cert.FfnCdIdeal.nD Cert.FfnCdIdeal.τ).loc Cert.FfnCdIdeal.main_arg1)
      ∧ r.2.mem ((c.tc : Thread Cert.FfnCdIdeal.nD Cert.FfnCdIdeal.τ).loc Cert.FfnCdIdeal.main_arg2) = m ((c.tc : Thread Cert.FfnCdIdeal.nD Cert.FfnCdIdeal.τ).loc Cert.FfnCdIdeal.main_arg2)
      ∧ r.2.mem ((c.tc : Thread Cert.FfnCdIdeal.nD Cert.FfnCdIdeal.τ).loc Cert.FfnCdIdeal.main_arg3) = m ((c.tc : Thread Cert.FfnCdIdeal.nD Cert.FfnCdIdeal.τ).loc Cert.FfnCdIdeal.main_arg3)
      ∧ r.2.mem ((c.tc : Thread Cert.FfnCdIdeal.nD Cert.FfnCdIdeal.τ).loc Cert.FfnCdIdeal.main_arg4) = m ((c.tc : Thread Cert.FfnCdIdeal.nD Cert.FfnCdIdeal.τ).loc Cert.FfnCdIdeal.main_arg4)
      ∧ r.2.mem ((c.tc : Thread Cert.FfnCdIdeal.nD Cert.FfnCdIdeal.τ).loc Cert.FfnCdIdeal.main_arg5) = m ((c.tc : Thread Cert.FfnCdIdeal.nD Cert.FfnCdIdeal.τ).loc Cert.FfnCdIdeal.main_arg5)
      ∧ r.2.mem ((c.tc : Thread Cert.FfnCdIdeal.nD Cert.FfnCdIdeal.τ).loc Cert.FfnCdIdeal.main_arg6) = m ((c.tc : Thread Cert.FfnCdIdeal.nD Cert.FfnCdIdeal.τ).loc Cert.FfnCdIdeal.main_arg6)
      ∧ r.2.mem ((c.tc : Thread Cert.FfnCdIdeal.nD Cert.FfnCdIdeal.τ).loc Cert.FfnCdIdeal.main_arg7) = m ((c.tc : Thread Cert.FfnCdIdeal.nD Cert.FfnCdIdeal.τ).loc Cert.FfnCdIdeal.main_arg7)
      ∧ r.2.mem ((c.tc : Thread Cert.FfnCdIdeal.nD Cert.FfnCdIdeal.τ).loc Cert.FfnCdIdeal.main_arg8) = m ((c.tc : Thread Cert.FfnCdIdeal.nD Cert.FfnCdIdeal.τ).loc Cert.FfnCdIdeal.main_arg8)
      ∧ r.2.mem ((c.tc : Thread Cert.FfnCdIdeal.nD Cert.FfnCdIdeal.τ).loc Cert.FfnCdIdeal.main_arg9) = m ((c.tc : Thread Cert.FfnCdIdeal.nD Cert.FfnCdIdeal.τ).loc Cert.FfnCdIdeal.main_arg9)
      ∧ r.2.mem ((c.tc : Thread Cert.FfnCdIdeal.nD Cert.FfnCdIdeal.τ).loc Cert.FfnCdIdeal.main_arg10) = m ((c.tc : Thread Cert.FfnCdIdeal.nD Cert.FfnCdIdeal.τ).loc Cert.FfnCdIdeal.main_arg10))
      ∧ r.2.sem = fun _ => 0)

def quiescent_FfnCdRefIdeal [hFfnCdRefIdeal : Cert.FfnCdRefIdeal.Facts] : Prop :=
  ∀ (m : (ℓ : Loc Cert.FfnCdRefIdeal.nD Cert.FfnCdRefIdeal.τ Cert.FfnCdRefIdeal.sig) → Buf (Elt Ideal) ℓ) (g : Dev Cert.FfnCdRefIdeal.nD → PrngReg), Pre_FfnCdRefIdeal m →
    θ_run (Cert.FfnCdRefIdeal.defs (F := Ideal)) (onTc (τ := Cert.FfnCdRefIdeal.τ) (Cert.FfnCdRefIdeal.main (F := Ideal))) ⟨m, fun _ => 0, g⟩ (fun r => (∀ c : Dev Cert.FfnCdRefIdeal.nD,
      r.2.mem ((c.tc : Thread Cert.FfnCdRefIdeal.nD Cert.FfnCdRefIdeal.τ).loc Cert.FfnCdRefIdeal.main_arg0) = m ((c.tc : Thread Cert.FfnCdRefIdeal.nD Cert.FfnCdRefIdeal.τ).loc Cert.FfnCdRefIdeal.main_arg0)
      ∧ r.2.mem ((c.tc : Thread Cert.FfnCdRefIdeal.nD Cert.FfnCdRefIdeal.τ).loc Cert.FfnCdRefIdeal.main_arg1) = m ((c.tc : Thread Cert.FfnCdRefIdeal.nD Cert.FfnCdRefIdeal.τ).loc Cert.FfnCdRefIdeal.main_arg1)
      ∧ r.2.mem ((c.tc : Thread Cert.FfnCdRefIdeal.nD Cert.FfnCdRefIdeal.τ).loc Cert.FfnCdRefIdeal.main_arg2) = m ((c.tc : Thread Cert.FfnCdRefIdeal.nD Cert.FfnCdRefIdeal.τ).loc Cert.FfnCdRefIdeal.main_arg2)
      ∧ r.2.mem ((c.tc : Thread Cert.FfnCdRefIdeal.nD Cert.FfnCdRefIdeal.τ).loc Cert.FfnCdRefIdeal.main_arg3) = m ((c.tc : Thread Cert.FfnCdRefIdeal.nD Cert.FfnCdRefIdeal.τ).loc Cert.FfnCdRefIdeal.main_arg3)
      ∧ r.2.mem ((c.tc : Thread Cert.FfnCdRefIdeal.nD Cert.FfnCdRefIdeal.τ).loc Cert.FfnCdRefIdeal.main_arg4) = m ((c.tc : Thread Cert.FfnCdRefIdeal.nD Cert.FfnCdRefIdeal.τ).loc Cert.FfnCdRefIdeal.main_arg4)
      ∧ r.2.mem ((c.tc : Thread Cert.FfnCdRefIdeal.nD Cert.FfnCdRefIdeal.τ).loc Cert.FfnCdRefIdeal.main_arg5) = m ((c.tc : Thread Cert.FfnCdRefIdeal.nD Cert.FfnCdRefIdeal.τ).loc Cert.FfnCdRefIdeal.main_arg5)
      ∧ r.2.mem ((c.tc : Thread Cert.FfnCdRefIdeal.nD Cert.FfnCdRefIdeal.τ).loc Cert.FfnCdRefIdeal.main_arg6) = m ((c.tc : Thread Cert.FfnCdRefIdeal.nD Cert.FfnCdRefIdeal.τ).loc Cert.FfnCdRefIdeal.main_arg6)
      ∧ r.2.mem ((c.tc : Thread Cert.FfnCdRefIdeal.nD Cert.FfnCdRefIdeal.τ).loc Cert.FfnCdRefIdeal.main_arg7) = m ((c.tc : Thread Cert.FfnCdRefIdeal.nD Cert.FfnCdRefIdeal.τ).loc Cert.FfnCdRefIdeal.main_arg7)
      ∧ r.2.mem ((c.tc : Thread Cert.FfnCdRefIdeal.nD Cert.FfnCdRefIdeal.τ).loc Cert.FfnCdRefIdeal.main_arg8) = m ((c.tc : Thread Cert.FfnCdRefIdeal.nD Cert.FfnCdRefIdeal.τ).loc Cert.FfnCdRefIdeal.main_arg8)
      ∧ r.2.mem ((c.tc : Thread Cert.FfnCdRefIdeal.nD Cert.FfnCdRefIdeal.τ).loc Cert.FfnCdRefIdeal.main_arg9) = m ((c.tc : Thread Cert.FfnCdRefIdeal.nD Cert.FfnCdRefIdeal.τ).loc Cert.FfnCdRefIdeal.main_arg9)
      ∧ r.2.mem ((c.tc : Thread Cert.FfnCdRefIdeal.nD Cert.FfnCdRefIdeal.τ).loc Cert.FfnCdRefIdeal.main_arg10) = m ((c.tc : Thread Cert.FfnCdRefIdeal.nD Cert.FfnCdRefIdeal.τ).loc Cert.FfnCdRefIdeal.main_arg10))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6)
      ∧ r.2.mem ((c.tc : Thread Cert.FfnLast.nD Cert.FfnLast.τ).loc Cert.FfnLast.main_arg7) = m ((c.tc : Thread Cert.FfnLast.nD Cert.FfnLast.τ).loc Cert.FfnLast.main_arg7)
      ∧ r.2.mem ((c.tc : Thread Cert.FfnLast.nD Cert.FfnLast.τ).loc Cert.FfnLast.main_arg8) = m ((c.tc : Thread Cert.FfnLast.nD Cert.FfnLast.τ).loc Cert.FfnLast.main_arg8)
      ∧ r.2.mem ((c.tc : Thread Cert.FfnLast.nD Cert.FfnLast.τ).loc Cert.FfnLast.main_arg9) = m ((c.tc : Thread Cert.FfnLast.nD Cert.FfnLast.τ).loc Cert.FfnLast.main_arg9)
      ∧ r.2.mem ((c.tc : Thread Cert.FfnLast.nD Cert.FfnLast.τ).loc Cert.FfnLast.main_arg10) = m ((c.tc : Thread Cert.FfnLast.nD Cert.FfnLast.τ).loc Cert.FfnLast.main_arg10)
      ∧ r.2.mem ((c.tc : Thread Cert.FfnLast.nD Cert.FfnLast.τ).loc Cert.FfnLast.main_arg11) = m ((c.tc : Thread Cert.FfnLast.nD Cert.FfnLast.τ).loc Cert.FfnLast.main_arg11))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
      ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
      ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8)
      ∧ r.2.mem ((c.tc : Thread Cert.FfnLastIdeal.nD Cert.FfnLastIdeal.τ).loc Cert.FfnLastIdeal.main_arg9) = m ((c.tc : Thread Cert.FfnLastIdeal.nD Cert.FfnLastIdeal.τ).loc Cert.FfnLastIdeal.main_arg9)
      ∧ r.2.mem ((c.tc : Thread Cert.FfnLastIdeal.nD Cert.FfnLastIdeal.τ).loc Cert.FfnLastIdeal.main_arg10) = m ((c.tc : Thread Cert.FfnLastIdeal.nD Cert.FfnLastIdeal.τ).loc Cert.FfnLastIdeal.main_arg10)
      ∧ r.2.mem ((c.tc : Thread Cert.FfnLastIdeal.nD Cert.FfnLastIdeal.τ).loc Cert.FfnLastIdeal.main_arg11) = m ((c.tc : Thread Cert.FfnLastIdeal.nD Cert.FfnLastIdeal.τ).loc Cert.FfnLastIdeal.main_arg11))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6)
      ∧ r.2.mem ((c.tc : Thread Cert.FfnLastRefIdeal.nD Cert.FfnLastRefIdeal.τ).loc Cert.FfnLastRefIdeal.main_arg7) = m ((c.tc : Thread Cert.FfnLastRefIdeal.nD Cert.FfnLastRefIdeal.τ).loc Cert.FfnLastRefIdeal.main_arg7)
      ∧ r.2.mem ((c.tc : Thread Cert.FfnLastRefIdeal.nD Cert.FfnLastRefIdeal.τ).loc Cert.FfnLastRefIdeal.main_arg8) = m ((c.tc : Thread Cert.FfnLastRefIdeal.nD Cert.FfnLastRefIdeal.τ).loc Cert.FfnLastRefIdeal.main_arg8)
      ∧ r.2.mem ((c.tc : Thread Cert.FfnLastRefIdeal.nD Cert.FfnLastRefIdeal.τ).loc Cert.FfnLastRefIdeal.main_arg9) = m ((c.tc : Thread Cert.FfnLastRefIdeal.nD Cert.FfnLastRefIdeal.τ).loc Cert.FfnLastRefIdeal.main_arg9)
      ∧ r.2.mem ((c.tc : Thread Cert.FfnLastRefIdeal.nD Cert.FfnLastRefIdeal.τ).loc Cert.FfnLastRefIdeal.main_arg10) = m ((c.tc : Thread Cert.FfnLastRefIdeal.nD Cert.FfnLastRefIdeal.τ).loc Cert.FfnLastRefIdeal.main_arg10)
      ∧ r.2.mem ((c.tc : Thread Cert.FfnLastRefIdeal.nD Cert.FfnLastRefIdeal.τ).loc Cert.FfnLastRefIdeal.main_arg11) = m ((c.tc : Thread Cert.FfnLastRefIdeal.nD Cert.FfnLastRefIdeal.τ).loc Cert.FfnLastRefIdeal.main_arg11))
      ∧ r.2.sem = fun _ => 0)

def quiescent_FfnAb [hFfnAb : Cert.FfnAb.Facts] : Prop :=
  ∀ (m : (ℓ : Loc Cert.FfnAb.nD Cert.FfnAb.τ Cert.FfnAb.sig) → Buf (Elt Bits) ℓ) (g : Dev Cert.FfnAb.nD → PrngReg), Pre_FfnAb m →
    θ_run (Cert.FfnAb.defs (F := Bits)) (onTc (τ := Cert.FfnAb.τ) (Cert.FfnAb.main (F := Bits))) ⟨m, fun _ => 0, g⟩ (fun r => (∀ c : Dev Cert.FfnAb.nD,
      r.2.mem ((c.tc : Thread Cert.FfnAb.nD Cert.FfnAb.τ).loc Cert.FfnAb.main_arg0) = m ((c.tc : Thread Cert.FfnAb.nD Cert.FfnAb.τ).loc Cert.FfnAb.main_arg0)
      ∧ r.2.mem ((c.tc : Thread Cert.FfnAb.nD Cert.FfnAb.τ).loc Cert.FfnAb.main_arg1) = m ((c.tc : Thread Cert.FfnAb.nD Cert.FfnAb.τ).loc Cert.FfnAb.main_arg1)
      ∧ r.2.mem ((c.tc : Thread Cert.FfnAb.nD Cert.FfnAb.τ).loc Cert.FfnAb.main_arg2) = m ((c.tc : Thread Cert.FfnAb.nD Cert.FfnAb.τ).loc Cert.FfnAb.main_arg2)
      ∧ r.2.mem ((c.tc : Thread Cert.FfnAb.nD Cert.FfnAb.τ).loc Cert.FfnAb.main_arg3) = m ((c.tc : Thread Cert.FfnAb.nD Cert.FfnAb.τ).loc Cert.FfnAb.main_arg3)
      ∧ r.2.mem ((c.tc : Thread Cert.FfnAb.nD Cert.FfnAb.τ).loc Cert.FfnAb.main_arg4) = m ((c.tc : Thread Cert.FfnAb.nD Cert.FfnAb.τ).loc Cert.FfnAb.main_arg4)
      ∧ r.2.mem ((c.tc : Thread Cert.FfnAb.nD Cert.FfnAb.τ).loc Cert.FfnAb.main_arg5) = m ((c.tc : Thread Cert.FfnAb.nD Cert.FfnAb.τ).loc Cert.FfnAb.main_arg5)
      ∧ r.2.mem ((c.tc : Thread Cert.FfnAb.nD Cert.FfnAb.τ).loc Cert.FfnAb.main_arg6) = m ((c.tc : Thread Cert.FfnAb.nD Cert.FfnAb.τ).loc Cert.FfnAb.main_arg6)
      ∧ r.2.mem ((c.tc : Thread Cert.FfnAb.nD Cert.FfnAb.τ).loc Cert.FfnAb.main_arg7) = m ((c.tc : Thread Cert.FfnAb.nD Cert.FfnAb.τ).loc Cert.FfnAb.main_arg7)
      ∧ r.2.mem ((c.tc : Thread Cert.FfnAb.nD Cert.FfnAb.τ).loc Cert.FfnAb.main_arg8) = m ((c.tc : Thread Cert.FfnAb.nD Cert.FfnAb.τ).loc Cert.FfnAb.main_arg8)
      ∧ r.2.mem ((c.tc : Thread Cert.FfnAb.nD Cert.FfnAb.τ).loc Cert.FfnAb.main_arg9) = m ((c.tc : Thread Cert.FfnAb.nD Cert.FfnAb.τ).loc Cert.FfnAb.main_arg9)
      ∧ r.2.mem ((c.tc : Thread Cert.FfnAb.nD Cert.FfnAb.τ).loc Cert.FfnAb.main_arg10) = m ((c.tc : Thread Cert.FfnAb.nD Cert.FfnAb.τ).loc Cert.FfnAb.main_arg10)
      ∧ r.2.mem ((c.tc : Thread Cert.FfnAb.nD Cert.FfnAb.τ).loc Cert.FfnAb.main_arg11) = m ((c.tc : Thread Cert.FfnAb.nD Cert.FfnAb.τ).loc Cert.FfnAb.main_arg11)
      ∧ r.2.mem ((c.tc : Thread Cert.FfnAb.nD Cert.FfnAb.τ).loc Cert.FfnAb.main_arg12) = m ((c.tc : Thread Cert.FfnAb.nD Cert.FfnAb.τ).loc Cert.FfnAb.main_arg12)
      ∧ r.2.mem ((c.tc : Thread Cert.FfnAb.nD Cert.FfnAb.τ).loc Cert.FfnAb.main_arg13) = m ((c.tc : Thread Cert.FfnAb.nD Cert.FfnAb.τ).loc Cert.FfnAb.main_arg13)
      ∧ r.2.mem ((c.tc : Thread Cert.FfnAb.nD Cert.FfnAb.τ).loc Cert.FfnAb.main_arg14) = m ((c.tc : Thread Cert.FfnAb.nD Cert.FfnAb.τ).loc Cert.FfnAb.main_arg14)
      ∧ r.2.mem ((c.tc : Thread Cert.FfnAb.nD Cert.FfnAb.τ).loc Cert.FfnAb.main_arg15) = m ((c.tc : Thread Cert.FfnAb.nD Cert.FfnAb.τ).loc Cert.FfnAb.main_arg15)
      ∧ r.2.mem ((c.tc : Thread Cert.FfnAb.nD Cert.FfnAb.τ).loc Cert.FfnAb.main_arg16) = m ((c.tc : Thread Cert.FfnAb.nD Cert.FfnAb.τ).loc Cert.FfnAb.main_arg16)
      ∧ r.2.mem ((c.tc : Thread Cert.FfnAb.nD Cert.FfnAb.τ).loc Cert.FfnAb.main_arg17) = m ((c.tc : Thread Cert.FfnAb.nD Cert.FfnAb.τ).loc Cert.FfnAb.main_arg17))
      ∧ r.2.sem = fun _ => 0)

def quiescent_FfnAbIdeal [hFfnAbIdeal : Cert.FfnAbIdeal.Facts] : Prop :=
  ∀ (m : (ℓ : Loc Cert.FfnAbIdeal.nD Cert.FfnAbIdeal.τ Cert.FfnAbIdeal.sig) → Buf (Elt Ideal) ℓ) (g : Dev Cert.FfnAbIdeal.nD → PrngReg), Pre_FfnAbIdeal m →
    θ_run (Cert.FfnAbIdeal.defs (F := Ideal)) (onTc (τ := Cert.FfnAbIdeal.τ) (Cert.FfnAbIdeal.main (F := Ideal))) ⟨m, fun _ => 0, g⟩ (fun r => (∀ c : Dev Cert.FfnAbIdeal.nD,
      r.2.mem ((c.tc : Thread Cert.FfnAbIdeal.nD Cert.FfnAbIdeal.τ).loc Cert.FfnAbIdeal.main_arg0) = m ((c.tc : Thread Cert.FfnAbIdeal.nD Cert.FfnAbIdeal.τ).loc Cert.FfnAbIdeal.main_arg0)
      ∧ r.2.mem ((c.tc : Thread Cert.FfnAbIdeal.nD Cert.FfnAbIdeal.τ).loc Cert.FfnAbIdeal.main_arg1) = m ((c.tc : Thread Cert.FfnAbIdeal.nD Cert.FfnAbIdeal.τ).loc Cert.FfnAbIdeal.main_arg1)
      ∧ r.2.mem ((c.tc : Thread Cert.FfnAbIdeal.nD Cert.FfnAbIdeal.τ).loc Cert.FfnAbIdeal.main_arg2) = m ((c.tc : Thread Cert.FfnAbIdeal.nD Cert.FfnAbIdeal.τ).loc Cert.FfnAbIdeal.main_arg2)
      ∧ r.2.mem ((c.tc : Thread Cert.FfnAbIdeal.nD Cert.FfnAbIdeal.τ).loc Cert.FfnAbIdeal.main_arg3) = m ((c.tc : Thread Cert.FfnAbIdeal.nD Cert.FfnAbIdeal.τ).loc Cert.FfnAbIdeal.main_arg3)
      ∧ r.2.mem ((c.tc : Thread Cert.FfnAbIdeal.nD Cert.FfnAbIdeal.τ).loc Cert.FfnAbIdeal.main_arg4) = m ((c.tc : Thread Cert.FfnAbIdeal.nD Cert.FfnAbIdeal.τ).loc Cert.FfnAbIdeal.main_arg4)
      ∧ r.2.mem ((c.tc : Thread Cert.FfnAbIdeal.nD Cert.FfnAbIdeal.τ).loc Cert.FfnAbIdeal.main_arg5) = m ((c.tc : Thread Cert.FfnAbIdeal.nD Cert.FfnAbIdeal.τ).loc Cert.FfnAbIdeal.main_arg5)
      ∧ r.2.mem ((c.tc : Thread Cert.FfnAbIdeal.nD Cert.FfnAbIdeal.τ).loc Cert.FfnAbIdeal.main_arg6) = m ((c.tc : Thread Cert.FfnAbIdeal.nD Cert.FfnAbIdeal.τ).loc Cert.FfnAbIdeal.main_arg6)
      ∧ r.2.mem ((c.tc : Thread Cert.FfnAbIdeal.nD Cert.FfnAbIdeal.τ).loc Cert.FfnAbIdeal.main_arg7) = m ((c.tc : Thread Cert.FfnAbIdeal.nD Cert.FfnAbIdeal.τ).loc Cert.FfnAbIdeal.main_arg7)
      ∧ r.2.mem ((c.tc : Thread Cert.FfnAbIdeal.nD Cert.FfnAbIdeal.τ).loc Cert.FfnAbIdeal.main_arg8) = m ((c.tc : Thread Cert.FfnAbIdeal.nD Cert.FfnAbIdeal.τ).loc Cert.FfnAbIdeal.main_arg8)
      ∧ r.2.mem ((c.tc : Thread Cert.FfnAbIdeal.nD Cert.FfnAbIdeal.τ).loc Cert.FfnAbIdeal.main_arg9) = m ((c.tc : Thread Cert.FfnAbIdeal.nD Cert.FfnAbIdeal.τ).loc Cert.FfnAbIdeal.main_arg9)
      ∧ r.2.mem ((c.tc : Thread Cert.FfnAbIdeal.nD Cert.FfnAbIdeal.τ).loc Cert.FfnAbIdeal.main_arg10) = m ((c.tc : Thread Cert.FfnAbIdeal.nD Cert.FfnAbIdeal.τ).loc Cert.FfnAbIdeal.main_arg10)
      ∧ r.2.mem ((c.tc : Thread Cert.FfnAbIdeal.nD Cert.FfnAbIdeal.τ).loc Cert.FfnAbIdeal.main_arg11) = m ((c.tc : Thread Cert.FfnAbIdeal.nD Cert.FfnAbIdeal.τ).loc Cert.FfnAbIdeal.main_arg11)
      ∧ r.2.mem ((c.tc : Thread Cert.FfnAbIdeal.nD Cert.FfnAbIdeal.τ).loc Cert.FfnAbIdeal.main_arg12) = m ((c.tc : Thread Cert.FfnAbIdeal.nD Cert.FfnAbIdeal.τ).loc Cert.FfnAbIdeal.main_arg12)
      ∧ r.2.mem ((c.tc : Thread Cert.FfnAbIdeal.nD Cert.FfnAbIdeal.τ).loc Cert.FfnAbIdeal.main_arg13) = m ((c.tc : Thread Cert.FfnAbIdeal.nD Cert.FfnAbIdeal.τ).loc Cert.FfnAbIdeal.main_arg13)
      ∧ r.2.mem ((c.tc : Thread Cert.FfnAbIdeal.nD Cert.FfnAbIdeal.τ).loc Cert.FfnAbIdeal.main_arg14) = m ((c.tc : Thread Cert.FfnAbIdeal.nD Cert.FfnAbIdeal.τ).loc Cert.FfnAbIdeal.main_arg14)
      ∧ r.2.mem ((c.tc : Thread Cert.FfnAbIdeal.nD Cert.FfnAbIdeal.τ).loc Cert.FfnAbIdeal.main_arg15) = m ((c.tc : Thread Cert.FfnAbIdeal.nD Cert.FfnAbIdeal.τ).loc Cert.FfnAbIdeal.main_arg15)
      ∧ r.2.mem ((c.tc : Thread Cert.FfnAbIdeal.nD Cert.FfnAbIdeal.τ).loc Cert.FfnAbIdeal.main_arg16) = m ((c.tc : Thread Cert.FfnAbIdeal.nD Cert.FfnAbIdeal.τ).loc Cert.FfnAbIdeal.main_arg16)
      ∧ r.2.mem ((c.tc : Thread Cert.FfnAbIdeal.nD Cert.FfnAbIdeal.τ).loc Cert.FfnAbIdeal.main_arg17) = m ((c.tc : Thread Cert.FfnAbIdeal.nD Cert.FfnAbIdeal.τ).loc Cert.FfnAbIdeal.main_arg17))
      ∧ r.2.sem = fun _ => 0)

def quiescent_FfnAbRefIdeal [hFfnAbRefIdeal : Cert.FfnAbRefIdeal.Facts] : Prop :=
  ∀ (m : (ℓ : Loc Cert.FfnAbRefIdeal.nD Cert.FfnAbRefIdeal.τ Cert.FfnAbRefIdeal.sig) → Buf (Elt Ideal) ℓ) (g : Dev Cert.FfnAbRefIdeal.nD → PrngReg), Pre_FfnAbRefIdeal m →
    θ_run (Cert.FfnAbRefIdeal.defs (F := Ideal)) (onTc (τ := Cert.FfnAbRefIdeal.τ) (Cert.FfnAbRefIdeal.main (F := Ideal))) ⟨m, fun _ => 0, g⟩ (fun r => (∀ c : Dev Cert.FfnAbRefIdeal.nD,
      r.2.mem ((c.tc : Thread Cert.FfnAbRefIdeal.nD Cert.FfnAbRefIdeal.τ).loc Cert.FfnAbRefIdeal.main_arg0) = m ((c.tc : Thread Cert.FfnAbRefIdeal.nD Cert.FfnAbRefIdeal.τ).loc Cert.FfnAbRefIdeal.main_arg0)
      ∧ r.2.mem ((c.tc : Thread Cert.FfnAbRefIdeal.nD Cert.FfnAbRefIdeal.τ).loc Cert.FfnAbRefIdeal.main_arg1) = m ((c.tc : Thread Cert.FfnAbRefIdeal.nD Cert.FfnAbRefIdeal.τ).loc Cert.FfnAbRefIdeal.main_arg1)
      ∧ r.2.mem ((c.tc : Thread Cert.FfnAbRefIdeal.nD Cert.FfnAbRefIdeal.τ).loc Cert.FfnAbRefIdeal.main_arg2) = m ((c.tc : Thread Cert.FfnAbRefIdeal.nD Cert.FfnAbRefIdeal.τ).loc Cert.FfnAbRefIdeal.main_arg2)
      ∧ r.2.mem ((c.tc : Thread Cert.FfnAbRefIdeal.nD Cert.FfnAbRefIdeal.τ).loc Cert.FfnAbRefIdeal.main_arg3) = m ((c.tc : Thread Cert.FfnAbRefIdeal.nD Cert.FfnAbRefIdeal.τ).loc Cert.FfnAbRefIdeal.main_arg3)
      ∧ r.2.mem ((c.tc : Thread Cert.FfnAbRefIdeal.nD Cert.FfnAbRefIdeal.τ).loc Cert.FfnAbRefIdeal.main_arg4) = m ((c.tc : Thread Cert.FfnAbRefIdeal.nD Cert.FfnAbRefIdeal.τ).loc Cert.FfnAbRefIdeal.main_arg4)
      ∧ r.2.mem ((c.tc : Thread Cert.FfnAbRefIdeal.nD Cert.FfnAbRefIdeal.τ).loc Cert.FfnAbRefIdeal.main_arg5) = m ((c.tc : Thread Cert.FfnAbRefIdeal.nD Cert.FfnAbRefIdeal.τ).loc Cert.FfnAbRefIdeal.main_arg5)
      ∧ r.2.mem ((c.tc : Thread Cert.FfnAbRefIdeal.nD Cert.FfnAbRefIdeal.τ).loc Cert.FfnAbRefIdeal.main_arg6) = m ((c.tc : Thread Cert.FfnAbRefIdeal.nD Cert.FfnAbRefIdeal.τ).loc Cert.FfnAbRefIdeal.main_arg6)
      ∧ r.2.mem ((c.tc : Thread Cert.FfnAbRefIdeal.nD Cert.FfnAbRefIdeal.τ).loc Cert.FfnAbRefIdeal.main_arg7) = m ((c.tc : Thread Cert.FfnAbRefIdeal.nD Cert.FfnAbRefIdeal.τ).loc Cert.FfnAbRefIdeal.main_arg7)
      ∧ r.2.mem ((c.tc : Thread Cert.FfnAbRefIdeal.nD Cert.FfnAbRefIdeal.τ).loc Cert.FfnAbRefIdeal.main_arg8) = m ((c.tc : Thread Cert.FfnAbRefIdeal.nD Cert.FfnAbRefIdeal.τ).loc Cert.FfnAbRefIdeal.main_arg8)
      ∧ r.2.mem ((c.tc : Thread Cert.FfnAbRefIdeal.nD Cert.FfnAbRefIdeal.τ).loc Cert.FfnAbRefIdeal.main_arg9) = m ((c.tc : Thread Cert.FfnAbRefIdeal.nD Cert.FfnAbRefIdeal.τ).loc Cert.FfnAbRefIdeal.main_arg9)
      ∧ r.2.mem ((c.tc : Thread Cert.FfnAbRefIdeal.nD Cert.FfnAbRefIdeal.τ).loc Cert.FfnAbRefIdeal.main_arg10) = m ((c.tc : Thread Cert.FfnAbRefIdeal.nD Cert.FfnAbRefIdeal.τ).loc Cert.FfnAbRefIdeal.main_arg10)
      ∧ r.2.mem ((c.tc : Thread Cert.FfnAbRefIdeal.nD Cert.FfnAbRefIdeal.τ).loc Cert.FfnAbRefIdeal.main_arg11) = m ((c.tc : Thread Cert.FfnAbRefIdeal.nD Cert.FfnAbRefIdeal.τ).loc Cert.FfnAbRefIdeal.main_arg11)
      ∧ r.2.mem ((c.tc : Thread Cert.FfnAbRefIdeal.nD Cert.FfnAbRefIdeal.τ).loc Cert.FfnAbRefIdeal.main_arg12) = m ((c.tc : Thread Cert.FfnAbRefIdeal.nD Cert.FfnAbRefIdeal.τ).loc Cert.FfnAbRefIdeal.main_arg12)
      ∧ r.2.mem ((c.tc : Thread Cert.FfnAbRefIdeal.nD Cert.FfnAbRefIdeal.τ).loc Cert.FfnAbRefIdeal.main_arg13) = m ((c.tc : Thread Cert.FfnAbRefIdeal.nD Cert.FfnAbRefIdeal.τ).loc Cert.FfnAbRefIdeal.main_arg13)
      ∧ r.2.mem ((c.tc : Thread Cert.FfnAbRefIdeal.nD Cert.FfnAbRefIdeal.τ).loc Cert.FfnAbRefIdeal.main_arg14) = m ((c.tc : Thread Cert.FfnAbRefIdeal.nD Cert.FfnAbRefIdeal.τ).loc Cert.FfnAbRefIdeal.main_arg14)
      ∧ r.2.mem ((c.tc : Thread Cert.FfnAbRefIdeal.nD Cert.FfnAbRefIdeal.τ).loc Cert.FfnAbRefIdeal.main_arg15) = m ((c.tc : Thread Cert.FfnAbRefIdeal.nD Cert.FfnAbRefIdeal.τ).loc Cert.FfnAbRefIdeal.main_arg15)
      ∧ r.2.mem ((c.tc : Thread Cert.FfnAbRefIdeal.nD Cert.FfnAbRefIdeal.τ).loc Cert.FfnAbRefIdeal.main_arg16) = m ((c.tc : Thread Cert.FfnAbRefIdeal.nD Cert.FfnAbRefIdeal.τ).loc Cert.FfnAbRefIdeal.main_arg16)
      ∧ r.2.mem ((c.tc : Thread Cert.FfnAbRefIdeal.nD Cert.FfnAbRefIdeal.τ).loc Cert.FfnAbRefIdeal.main_arg17) = m ((c.tc : Thread Cert.FfnAbRefIdeal.nD Cert.FfnAbRefIdeal.τ).loc Cert.FfnAbRefIdeal.main_arg17))
      ∧ r.2.sem = fun _ => 0)

def quiescent_InprojCd [hInprojCd : Cert.InprojCd.Facts] : Prop :=
  ∀ (m : (ℓ : Loc Cert.InprojCd.nD Cert.InprojCd.τ Cert.InprojCd.sig) → Buf (Elt Bits) ℓ) (g : Dev Cert.InprojCd.nD → PrngReg), Pre_InprojCd m →
    θ_run (Cert.InprojCd.defs (F := Bits)) (onTc (τ := Cert.InprojCd.τ) (Cert.InprojCd.main (F := Bits))) ⟨m, fun _ => 0, g⟩ (fun r => (∀ c : Dev Cert.InprojCd.nD,
      r.2.mem ((c.tc : Thread Cert.InprojCd.nD Cert.InprojCd.τ).loc Cert.InprojCd.main_arg0) = m ((c.tc : Thread Cert.InprojCd.nD Cert.InprojCd.τ).loc Cert.InprojCd.main_arg0)
      ∧ r.2.mem ((c.tc : Thread Cert.InprojCd.nD Cert.InprojCd.τ).loc Cert.InprojCd.main_arg1) = m ((c.tc : Thread Cert.InprojCd.nD Cert.InprojCd.τ).loc Cert.InprojCd.main_arg1)
      ∧ r.2.mem ((c.tc : Thread Cert.InprojCd.nD Cert.InprojCd.τ).loc Cert.InprojCd.main_arg2) = m ((c.tc : Thread Cert.InprojCd.nD Cert.InprojCd.τ).loc Cert.InprojCd.main_arg2)
      ∧ r.2.mem ((c.tc : Thread Cert.InprojCd.nD Cert.InprojCd.τ).loc Cert.InprojCd.main_arg3) = m ((c.tc : Thread Cert.InprojCd.nD Cert.InprojCd.τ).loc Cert.InprojCd.main_arg3))
      ∧ r.2.sem = fun _ => 0)

def quiescent_InprojCdIdeal [hInprojCdIdeal : Cert.InprojCdIdeal.Facts] : Prop :=
  ∀ (m : (ℓ : Loc Cert.InprojCdIdeal.nD Cert.InprojCdIdeal.τ Cert.InprojCdIdeal.sig) → Buf (Elt Ideal) ℓ) (g : Dev Cert.InprojCdIdeal.nD → PrngReg), Pre_InprojCdIdeal m →
    θ_run (Cert.InprojCdIdeal.defs (F := Ideal)) (onTc (τ := Cert.InprojCdIdeal.τ) (Cert.InprojCdIdeal.main (F := Ideal))) ⟨m, fun _ => 0, g⟩ (fun r => (∀ c : Dev Cert.InprojCdIdeal.nD,
      r.2.mem ((c.tc : Thread Cert.InprojCdIdeal.nD Cert.InprojCdIdeal.τ).loc Cert.InprojCdIdeal.main_arg0) = m ((c.tc : Thread Cert.InprojCdIdeal.nD Cert.InprojCdIdeal.τ).loc Cert.InprojCdIdeal.main_arg0)
      ∧ r.2.mem ((c.tc : Thread Cert.InprojCdIdeal.nD Cert.InprojCdIdeal.τ).loc Cert.InprojCdIdeal.main_arg1) = m ((c.tc : Thread Cert.InprojCdIdeal.nD Cert.InprojCdIdeal.τ).loc Cert.InprojCdIdeal.main_arg1)
      ∧ r.2.mem ((c.tc : Thread Cert.InprojCdIdeal.nD Cert.InprojCdIdeal.τ).loc Cert.InprojCdIdeal.main_arg2) = m ((c.tc : Thread Cert.InprojCdIdeal.nD Cert.InprojCdIdeal.τ).loc Cert.InprojCdIdeal.main_arg2)
      ∧ r.2.mem ((c.tc : Thread Cert.InprojCdIdeal.nD Cert.InprojCdIdeal.τ).loc Cert.InprojCdIdeal.main_arg3) = m ((c.tc : Thread Cert.InprojCdIdeal.nD Cert.InprojCdIdeal.τ).loc Cert.InprojCdIdeal.main_arg3))
      ∧ r.2.sem = fun _ => 0)

def quiescent_InprojCdRefIdeal [hInprojCdRefIdeal : Cert.InprojCdRefIdeal.Facts] : Prop :=
  ∀ (m : (ℓ : Loc Cert.InprojCdRefIdeal.nD Cert.InprojCdRefIdeal.τ Cert.InprojCdRefIdeal.sig) → Buf (Elt Ideal) ℓ) (g : Dev Cert.InprojCdRefIdeal.nD → PrngReg), Pre_InprojCdRefIdeal m →
    θ_run (Cert.InprojCdRefIdeal.defs (F := Ideal)) (onTc (τ := Cert.InprojCdRefIdeal.τ) (Cert.InprojCdRefIdeal.main (F := Ideal))) ⟨m, fun _ => 0, g⟩ (fun r => (∀ c : Dev Cert.InprojCdRefIdeal.nD,
      r.2.mem ((c.tc : Thread Cert.InprojCdRefIdeal.nD Cert.InprojCdRefIdeal.τ).loc Cert.InprojCdRefIdeal.main_arg0) = m ((c.tc : Thread Cert.InprojCdRefIdeal.nD Cert.InprojCdRefIdeal.τ).loc Cert.InprojCdRefIdeal.main_arg0)
      ∧ r.2.mem ((c.tc : Thread Cert.InprojCdRefIdeal.nD Cert.InprojCdRefIdeal.τ).loc Cert.InprojCdRefIdeal.main_arg1) = m ((c.tc : Thread Cert.InprojCdRefIdeal.nD Cert.InprojCdRefIdeal.τ).loc Cert.InprojCdRefIdeal.main_arg1)
      ∧ r.2.mem ((c.tc : Thread Cert.InprojCdRefIdeal.nD Cert.InprojCdRefIdeal.τ).loc Cert.InprojCdRefIdeal.main_arg2) = m ((c.tc : Thread Cert.InprojCdRefIdeal.nD Cert.InprojCdRefIdeal.τ).loc Cert.InprojCdRefIdeal.main_arg2)
      ∧ r.2.mem ((c.tc : Thread Cert.InprojCdRefIdeal.nD Cert.InprojCdRefIdeal.τ).loc Cert.InprojCdRefIdeal.main_arg3) = m ((c.tc : Thread Cert.InprojCdRefIdeal.nD Cert.InprojCdRefIdeal.τ).loc Cert.InprojCdRefIdeal.main_arg3))
      ∧ r.2.sem = fun _ => 0)

def preserves_Kernel_KernelIdeal : Prop :=
  True

def algebraic_KernelIdeal_ReferenceIdeal_pre_lower_bound_finite [hKernelIdeal : Cert.KernelIdeal.Facts] [hReferenceIdeal : Cert.ReferenceIdeal.Facts] [hPre_lower_bound_finite : Cert.Pre_lower_bound_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lower_bound_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnCd_FfnCdIdeal : Prop :=
  True

def algebraic_FfnCdIdeal_FfnCdRefIdeal [hFfnCdIdeal : Cert.FfnCdIdeal.Facts] [hFfnCdRefIdeal : Cert.FfnCdRefIdeal.Facts] : Prop :=
  ∀ (m : (ℓ : Loc Cert.FfnCdIdeal.nD Cert.FfnCdIdeal.τ Cert.FfnCdIdeal.sig) → Buf (Elt Ideal) ℓ) (g : Dev Cert.FfnCdIdeal.nD → PrngReg)
    (m' : (ℓ : Loc Cert.FfnCdRefIdeal.nD Cert.FfnCdRefIdeal.τ Cert.FfnCdRefIdeal.sig) → Buf (Elt Ideal) ℓ) (g' : Dev Cert.FfnCdRefIdeal.nD → PrngReg), Pre_FfnCdIdeal m →
    (∀ c : Dev Cert.FfnCdIdeal.nD,
      m' ((c.tc : Thread Cert.FfnCdRefIdeal.nD Cert.FfnCdRefIdeal.τ).loc Cert.FfnCdRefIdeal.main_arg0) = m ((c.tc : Thread Cert.FfnCdIdeal.nD Cert.FfnCdIdeal.τ).loc Cert.FfnCdIdeal.main_arg0)
      ∧ m' ((c.tc : Thread Cert.FfnCdRefIdeal.nD Cert.FfnCdRefIdeal.τ).loc Cert.FfnCdRefIdeal.main_arg1) = m ((c.tc : Thread Cert.FfnCdIdeal.nD Cert.FfnCdIdeal.τ).loc Cert.FfnCdIdeal.main_arg1)
      ∧ m' ((c.tc : Thread Cert.FfnCdRefIdeal.nD Cert.FfnCdRefIdeal.τ).loc Cert.FfnCdRefIdeal.main_arg2) = m ((c.tc : Thread Cert.FfnCdIdeal.nD Cert.FfnCdIdeal.τ).loc Cert.FfnCdIdeal.main_arg2)
      ∧ m' ((c.tc : Thread Cert.FfnCdRefIdeal.nD Cert.FfnCdRefIdeal.τ).loc Cert.FfnCdRefIdeal.main_arg3) = m ((c.tc : Thread Cert.FfnCdIdeal.nD Cert.FfnCdIdeal.τ).loc Cert.FfnCdIdeal.main_arg3)
      ∧ m' ((c.tc : Thread Cert.FfnCdRefIdeal.nD Cert.FfnCdRefIdeal.τ).loc Cert.FfnCdRefIdeal.main_arg4) = m ((c.tc : Thread Cert.FfnCdIdeal.nD Cert.FfnCdIdeal.τ).loc Cert.FfnCdIdeal.main_arg4)
      ∧ m' ((c.tc : Thread Cert.FfnCdRefIdeal.nD Cert.FfnCdRefIdeal.τ).loc Cert.FfnCdRefIdeal.main_arg5) = m ((c.tc : Thread Cert.FfnCdIdeal.nD Cert.FfnCdIdeal.τ).loc Cert.FfnCdIdeal.main_arg5)
      ∧ m' ((c.tc : Thread Cert.FfnCdRefIdeal.nD Cert.FfnCdRefIdeal.τ).loc Cert.FfnCdRefIdeal.main_arg6) = m ((c.tc : Thread Cert.FfnCdIdeal.nD Cert.FfnCdIdeal.τ).loc Cert.FfnCdIdeal.main_arg6)
      ∧ m' ((c.tc : Thread Cert.FfnCdRefIdeal.nD Cert.FfnCdRefIdeal.τ).loc Cert.FfnCdRefIdeal.main_arg7) = m ((c.tc : Thread Cert.FfnCdIdeal.nD Cert.FfnCdIdeal.τ).loc Cert.FfnCdIdeal.main_arg7)
      ∧ m' ((c.tc : Thread Cert.FfnCdRefIdeal.nD Cert.FfnCdRefIdeal.τ).loc Cert.FfnCdRefIdeal.main_arg8) = m ((c.tc : Thread Cert.FfnCdIdeal.nD Cert.FfnCdIdeal.τ).loc Cert.FfnCdIdeal.main_arg8)
      ∧ m' ((c.tc : Thread Cert.FfnCdRefIdeal.nD Cert.FfnCdRefIdeal.τ).loc Cert.FfnCdRefIdeal.main_arg9) = m ((c.tc : Thread Cert.FfnCdIdeal.nD Cert.FfnCdIdeal.τ).loc Cert.FfnCdIdeal.main_arg9)
      ∧ m' ((c.tc : Thread Cert.FfnCdRefIdeal.nD Cert.FfnCdRefIdeal.τ).loc Cert.FfnCdRefIdeal.main_arg10) = m ((c.tc : Thread Cert.FfnCdIdeal.nD Cert.FfnCdIdeal.τ).loc Cert.FfnCdIdeal.main_arg10)) →
    ∃ (v0 : (c : Dev Cert.FfnCdIdeal.nD) → Buf (Elt Ideal) ((c.tc : Thread Cert.FfnCdIdeal.nD Cert.FfnCdIdeal.τ).loc Cert.FfnCdIdeal.main_v11)),
      θ_run (Cert.FfnCdIdeal.defs (F := Ideal)) (onTc (τ := Cert.FfnCdIdeal.τ) (Cert.FfnCdIdeal.main (F := Ideal))) ⟨m, fun _ => 0, g⟩ (fun r => ∀ c : Dev Cert.FfnCdIdeal.nD,
          r.2.mem ((c.tc : Thread Cert.FfnCdIdeal.nD Cert.FfnCdIdeal.τ).loc Cert.FfnCdIdeal.main_v11) = v0 c
          ∧ r.2.mem ((c.tc : Thread Cert.FfnCdIdeal.nD Cert.FfnCdIdeal.τ).loc Cert.FfnCdIdeal.main_arg0) = m ((c.tc : Thread Cert.FfnCdIdeal.nD Cert.FfnCdIdeal.τ).loc Cert.FfnCdIdeal.main_arg0)
          ∧ r.2.mem ((c.tc : Thread Cert.FfnCdIdeal.nD Cert.FfnCdIdeal.τ).loc Cert.FfnCdIdeal.main_arg1) = m ((c.tc : Thread Cert.FfnCdIdeal.nD Cert.FfnCdIdeal.τ).loc Cert.FfnCdIdeal.main_arg1)
          ∧ r.2.mem ((c.tc : Thread Cert.FfnCdIdeal.nD Cert.FfnCdIdeal.τ).loc Cert.FfnCdIdeal.main_arg2) = m ((c.tc : Thread Cert.FfnCdIdeal.nD Cert.FfnCdIdeal.τ).loc Cert.FfnCdIdeal.main_arg2)
          ∧ r.2.mem ((c.tc : Thread Cert.FfnCdIdeal.nD Cert.FfnCdIdeal.τ).loc Cert.FfnCdIdeal.main_arg3) = m ((c.tc : Thread Cert.FfnCdIdeal.nD Cert.FfnCdIdeal.τ).loc Cert.FfnCdIdeal.main_arg3)
          ∧ r.2.mem ((c.tc : Thread Cert.FfnCdIdeal.nD Cert.FfnCdIdeal.τ).loc Cert.FfnCdIdeal.main_arg4) = m ((c.tc : Thread Cert.FfnCdIdeal.nD Cert.FfnCdIdeal.τ).loc Cert.FfnCdIdeal.main_arg4)
          ∧ r.2.mem ((c.tc : Thread Cert.FfnCdIdeal.nD Cert.FfnCdIdeal.τ).loc Cert.FfnCdIdeal.main_arg5) = m ((c.tc : Thread Cert.FfnCdIdeal.nD Cert.FfnCdIdeal.τ).loc Cert.FfnCdIdeal.main_arg5)
          ∧ r.2.mem ((c.tc : Thread Cert.FfnCdIdeal.nD Cert.FfnCdIdeal.τ).loc Cert.FfnCdIdeal.main_arg6) = m ((c.tc : Thread Cert.FfnCdIdeal.nD Cert.FfnCdIdeal.τ).loc Cert.FfnCdIdeal.main_arg6)
          ∧ r.2.mem ((c.tc : Thread Cert.FfnCdIdeal.nD Cert.FfnCdIdeal.τ).loc Cert.FfnCdIdeal.main_arg7) = m ((c.tc : Thread Cert.FfnCdIdeal.nD Cert.FfnCdIdeal.τ).loc Cert.FfnCdIdeal.main_arg7)
          ∧ r.2.mem ((c.tc : Thread Cert.FfnCdIdeal.nD Cert.FfnCdIdeal.τ).loc Cert.FfnCdIdeal.main_arg8) = m ((c.tc : Thread Cert.FfnCdIdeal.nD Cert.FfnCdIdeal.τ).loc Cert.FfnCdIdeal.main_arg8)
          ∧ r.2.mem ((c.tc : Thread Cert.FfnCdIdeal.nD Cert.FfnCdIdeal.τ).loc Cert.FfnCdIdeal.main_arg9) = m ((c.tc : Thread Cert.FfnCdIdeal.nD Cert.FfnCdIdeal.τ).loc Cert.FfnCdIdeal.main_arg9)
          ∧ r.2.mem ((c.tc : Thread Cert.FfnCdIdeal.nD Cert.FfnCdIdeal.τ).loc Cert.FfnCdIdeal.main_arg10) = m ((c.tc : Thread Cert.FfnCdIdeal.nD Cert.FfnCdIdeal.τ).loc Cert.FfnCdIdeal.main_arg10))
      ∧ θ_run (Cert.FfnCdRefIdeal.defs (F := Ideal)) (onTc (τ := Cert.FfnCdRefIdeal.τ) (Cert.FfnCdRefIdeal.main (F := Ideal))) ⟨m', fun _ => 0, g'⟩ (fun r => ∀ c : Dev Cert.FfnCdRefIdeal.nD,
          r.2.mem ((c.tc : Thread Cert.FfnCdRefIdeal.nD Cert.FfnCdRefIdeal.τ).loc Cert.FfnCdRefIdeal.main_v79) = v0 c
          ∧ r.2.mem ((c.tc : Thread Cert.FfnCdRefIdeal.nD Cert.FfnCdRefIdeal.τ).loc Cert.FfnCdRefIdeal.main_arg0) = m' ((c.tc : Thread Cert.FfnCdRefIdeal.nD Cert.FfnCdRefIdeal.τ).loc Cert.FfnCdRefIdeal.main_arg0)
          ∧ r.2.mem ((c.tc : Thread Cert.FfnCdRefIdeal.nD Cert.FfnCdRefIdeal.τ).loc Cert.FfnCdRefIdeal.main_arg1) = m' ((c.tc : Thread Cert.FfnCdRefIdeal.nD Cert.FfnCdRefIdeal.τ).loc Cert.FfnCdRefIdeal.main_arg1)
          ∧ r.2.mem ((c.tc : Thread Cert.FfnCdRefIdeal.nD Cert.FfnCdRefIdeal.τ).loc Cert.FfnCdRefIdeal.main_arg2) = m' ((c.tc : Thread Cert.FfnCdRefIdeal.nD Cert.FfnCdRefIdeal.τ).loc Cert.FfnCdRefIdeal.main_arg2)
          ∧ r.2.mem ((c.tc : Thread Cert.FfnCdRefIdeal.nD Cert.FfnCdRefIdeal.τ).loc Cert.FfnCdRefIdeal.main_arg3) = m' ((c.tc : Thread Cert.FfnCdRefIdeal.nD Cert.FfnCdRefIdeal.τ).loc Cert.FfnCdRefIdeal.main_arg3)
          ∧ r.2.mem ((c.tc : Thread Cert.FfnCdRefIdeal.nD Cert.FfnCdRefIdeal.τ).loc Cert.FfnCdRefIdeal.main_arg4) = m' ((c.tc : Thread Cert.FfnCdRefIdeal.nD Cert.FfnCdRefIdeal.τ).loc Cert.FfnCdRefIdeal.main_arg4)
          ∧ r.2.mem ((c.tc : Thread Cert.FfnCdRefIdeal.nD Cert.FfnCdRefIdeal.τ).loc Cert.FfnCdRefIdeal.main_arg5) = m' ((c.tc : Thread Cert.FfnCdRefIdeal.nD Cert.FfnCdRefIdeal.τ).loc Cert.FfnCdRefIdeal.main_arg5)
          ∧ r.2.mem ((c.tc : Thread Cert.FfnCdRefIdeal.nD Cert.FfnCdRefIdeal.τ).loc Cert.FfnCdRefIdeal.main_arg6) = m' ((c.tc : Thread Cert.FfnCdRefIdeal.nD Cert.FfnCdRefIdeal.τ).loc Cert.FfnCdRefIdeal.main_arg6)
          ∧ r.2.mem ((c.tc : Thread Cert.FfnCdRefIdeal.nD Cert.FfnCdRefIdeal.τ).loc Cert.FfnCdRefIdeal.main_arg7) = m' ((c.tc : Thread Cert.FfnCdRefIdeal.nD Cert.FfnCdRefIdeal.τ).loc Cert.FfnCdRefIdeal.main_arg7)
          ∧ r.2.mem ((c.tc : Thread Cert.FfnCdRefIdeal.nD Cert.FfnCdRefIdeal.τ).loc Cert.FfnCdRefIdeal.main_arg8) = m' ((c.tc : Thread Cert.FfnCdRefIdeal.nD Cert.FfnCdRefIdeal.τ).loc Cert.FfnCdRefIdeal.main_arg8)
          ∧ r.2.mem ((c.tc : Thread Cert.FfnCdRefIdeal.nD Cert.FfnCdRefIdeal.τ).loc Cert.FfnCdRefIdeal.main_arg9) = m' ((c.tc : Thread Cert.FfnCdRefIdeal.nD Cert.FfnCdRefIdeal.τ).loc Cert.FfnCdRefIdeal.main_arg9)
          ∧ r.2.mem ((c.tc : Thread Cert.FfnCdRefIdeal.nD Cert.FfnCdRefIdeal.τ).loc Cert.FfnCdRefIdeal.main_arg10) = m' ((c.tc : Thread Cert.FfnCdRefIdeal.nD Cert.FfnCdRefIdeal.τ).loc Cert.FfnCdRefIdeal.main_arg10))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)
      ∧ m' ((c.tc : Thread Cert.FfnLastRefIdeal.nD Cert.FfnLastRefIdeal.τ).loc Cert.FfnLastRefIdeal.main_arg7) = m ((c.tc : Thread Cert.FfnLastIdeal.nD Cert.FfnLastIdeal.τ).loc Cert.FfnLastIdeal.main_arg7)
      ∧ m' ((c.tc : Thread Cert.FfnLastRefIdeal.nD Cert.FfnLastRefIdeal.τ).loc Cert.FfnLastRefIdeal.main_arg8) = m ((c.tc : Thread Cert.FfnLastIdeal.nD Cert.FfnLastIdeal.τ).loc Cert.FfnLastIdeal.main_arg8)
      ∧ m' ((c.tc : Thread Cert.FfnLastRefIdeal.nD Cert.FfnLastRefIdeal.τ).loc Cert.FfnLastRefIdeal.main_arg9) = m ((c.tc : Thread Cert.FfnLastIdeal.nD Cert.FfnLastIdeal.τ).loc Cert.FfnLastIdeal.main_arg9)
      ∧ m' ((c.tc : Thread Cert.FfnLastRefIdeal.nD Cert.FfnLastRefIdeal.τ).loc Cert.FfnLastRefIdeal.main_arg10) = m ((c.tc : Thread Cert.FfnLastIdeal.nD Cert.FfnLastIdeal.τ).loc Cert.FfnLastIdeal.main_arg10)
      ∧ m' ((c.tc : Thread Cert.FfnLastRefIdeal.nD Cert.FfnLastRefIdeal.τ).loc Cert.FfnLastRefIdeal.main_arg11) = m ((c.tc : Thread Cert.FfnLastIdeal.nD Cert.FfnLastIdeal.τ).loc Cert.FfnLastIdeal.main_arg11)) →
    ∃ (v0 : (c : Dev Cert.FfnLastIdeal.nD) → Buf (Elt Ideal) ((c.tc : Thread Cert.FfnLastIdeal.nD Cert.FfnLastIdeal.τ).loc Cert.FfnLastIdeal.main_v12)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v12) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6)
          ∧ r.2.mem ((c.tc : Thread Cert.FfnLastIdeal.nD Cert.FfnLastIdeal.τ).loc Cert.FfnLastIdeal.main_arg7) = m ((c.tc : Thread Cert.FfnLastIdeal.nD Cert.FfnLastIdeal.τ).loc Cert.FfnLastIdeal.main_arg7)
          ∧ r.2.mem ((c.tc : Thread Cert.FfnLastIdeal.nD Cert.FfnLastIdeal.τ).loc Cert.FfnLastIdeal.main_arg8) = m ((c.tc : Thread Cert.FfnLastIdeal.nD Cert.FfnLastIdeal.τ).loc Cert.FfnLastIdeal.main_arg8)
          ∧ r.2.mem ((c.tc : Thread Cert.FfnLastIdeal.nD Cert.FfnLastIdeal.τ).loc Cert.FfnLastIdeal.main_arg9) = m ((c.tc : Thread Cert.FfnLastIdeal.nD Cert.FfnLastIdeal.τ).loc Cert.FfnLastIdeal.main_arg9)
          ∧ r.2.mem ((c.tc : Thread Cert.FfnLastIdeal.nD Cert.FfnLastIdeal.τ).loc Cert.FfnLastIdeal.main_arg10) = m ((c.tc : Thread Cert.FfnLastIdeal.nD Cert.FfnLastIdeal.τ).loc Cert.FfnLastIdeal.main_arg10)
          ∧ r.2.mem ((c.tc : Thread Cert.FfnLastIdeal.nD Cert.FfnLastIdeal.τ).loc Cert.FfnLastIdeal.main_arg11) = m ((c.tc : Thread Cert.FfnLastIdeal.nD Cert.FfnLastIdeal.τ).loc Cert.FfnLastIdeal.main_arg11))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v92) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6)
          ∧ r.2.mem ((c.tc : Thread Cert.FfnLastRefIdeal.nD Cert.FfnLastRefIdeal.τ).loc Cert.FfnLastRefIdeal.main_arg7) = m' ((c.tc : Thread Cert.FfnLastRefIdeal.nD Cert.FfnLastRefIdeal.τ).loc Cert.FfnLastRefIdeal.main_arg7)
          ∧ r.2.mem ((c.tc : Thread Cert.FfnLastRefIdeal.nD Cert.FfnLastRefIdeal.τ).loc Cert.FfnLastRefIdeal.main_arg8) = m' ((c.tc : Thread Cert.FfnLastRefIdeal.nD Cert.FfnLastRefIdeal.τ).loc Cert.FfnLastRefIdeal.main_arg8)
          ∧ r.2.mem ((c.tc : Thread Cert.FfnLastRefIdeal.nD Cert.FfnLastRefIdeal.τ).loc Cert.FfnLastRefIdeal.main_arg9) = m' ((c.tc : Thread Cert.FfnLastRefIdeal.nD Cert.FfnLastRefIdeal.τ).loc Cert.FfnLastRefIdeal.main_arg9)
          ∧ r.2.mem ((c.tc : Thread Cert.FfnLastRefIdeal.nD Cert.FfnLastRefIdeal.τ).loc Cert.FfnLastRefIdeal.main_arg10) = m' ((c.tc : Thread Cert.FfnLastRefIdeal.nD Cert.FfnLastRefIdeal.τ).loc Cert.FfnLastRefIdeal.main_arg10)
          ∧ r.2.mem ((c.tc : Thread Cert.FfnLastRefIdeal.nD Cert.FfnLastRefIdeal.τ).loc Cert.FfnLastRefIdeal.main_arg11) = m' ((c.tc : Thread Cert.FfnLastRefIdeal.nD Cert.FfnLastRefIdeal.τ).loc Cert.FfnLastRefIdeal.main_arg11))

def preserves_FfnAb_FfnAbIdeal : Prop :=
  True

def algebraic_FfnAbIdeal_FfnAbRefIdeal [hFfnAbIdeal : Cert.FfnAbIdeal.Facts] [hFfnAbRefIdeal : Cert.FfnAbRefIdeal.Facts] : Prop :=
  ∀ (m : (ℓ : Loc Cert.FfnAbIdeal.nD Cert.FfnAbIdeal.τ Cert.FfnAbIdeal.sig) → Buf (Elt Ideal) ℓ) (g : Dev Cert.FfnAbIdeal.nD → PrngReg)
    (m' : (ℓ : Loc Cert.FfnAbRefIdeal.nD Cert.FfnAbRefIdeal.τ Cert.FfnAbRefIdeal.sig) → Buf (Elt Ideal) ℓ) (g' : Dev Cert.FfnAbRefIdeal.nD → PrngReg), Pre_FfnAbIdeal m →
    (∀ c : Dev Cert.FfnAbIdeal.nD,
      m' ((c.tc : Thread Cert.FfnAbRefIdeal.nD Cert.FfnAbRefIdeal.τ).loc Cert.FfnAbRefIdeal.main_arg0) = m ((c.tc : Thread Cert.FfnAbIdeal.nD Cert.FfnAbIdeal.τ).loc Cert.FfnAbIdeal.main_arg0)
      ∧ m' ((c.tc : Thread Cert.FfnAbRefIdeal.nD Cert.FfnAbRefIdeal.τ).loc Cert.FfnAbRefIdeal.main_arg1) = m ((c.tc : Thread Cert.FfnAbIdeal.nD Cert.FfnAbIdeal.τ).loc Cert.FfnAbIdeal.main_arg1)
      ∧ m' ((c.tc : Thread Cert.FfnAbRefIdeal.nD Cert.FfnAbRefIdeal.τ).loc Cert.FfnAbRefIdeal.main_arg2) = m ((c.tc : Thread Cert.FfnAbIdeal.nD Cert.FfnAbIdeal.τ).loc Cert.FfnAbIdeal.main_arg2)
      ∧ m' ((c.tc : Thread Cert.FfnAbRefIdeal.nD Cert.FfnAbRefIdeal.τ).loc Cert.FfnAbRefIdeal.main_arg3) = m ((c.tc : Thread Cert.FfnAbIdeal.nD Cert.FfnAbIdeal.τ).loc Cert.FfnAbIdeal.main_arg3)
      ∧ m' ((c.tc : Thread Cert.FfnAbRefIdeal.nD Cert.FfnAbRefIdeal.τ).loc Cert.FfnAbRefIdeal.main_arg4) = m ((c.tc : Thread Cert.FfnAbIdeal.nD Cert.FfnAbIdeal.τ).loc Cert.FfnAbIdeal.main_arg4)
      ∧ m' ((c.tc : Thread Cert.FfnAbRefIdeal.nD Cert.FfnAbRefIdeal.τ).loc Cert.FfnAbRefIdeal.main_arg5) = m ((c.tc : Thread Cert.FfnAbIdeal.nD Cert.FfnAbIdeal.τ).loc Cert.FfnAbIdeal.main_arg5)
      ∧ m' ((c.tc : Thread Cert.FfnAbRefIdeal.nD Cert.FfnAbRefIdeal.τ).loc Cert.FfnAbRefIdeal.main_arg6) = m ((c.tc : Thread Cert.FfnAbIdeal.nD Cert.FfnAbIdeal.τ).loc Cert.FfnAbIdeal.main_arg6)
      ∧ m' ((c.tc : Thread Cert.FfnAbRefIdeal.nD Cert.FfnAbRefIdeal.τ).loc Cert.FfnAbRefIdeal.main_arg7) = m ((c.tc : Thread Cert.FfnAbIdeal.nD Cert.FfnAbIdeal.τ).loc Cert.FfnAbIdeal.main_arg7)
      ∧ m' ((c.tc : Thread Cert.FfnAbRefIdeal.nD Cert.FfnAbRefIdeal.τ).loc Cert.FfnAbRefIdeal.main_arg8) = m ((c.tc : Thread Cert.FfnAbIdeal.nD Cert.FfnAbIdeal.τ).loc Cert.FfnAbIdeal.main_arg8)
      ∧ m' ((c.tc : Thread Cert.FfnAbRefIdeal.nD Cert.FfnAbRefIdeal.τ).loc Cert.FfnAbRefIdeal.main_arg9) = m ((c.tc : Thread Cert.FfnAbIdeal.nD Cert.FfnAbIdeal.τ).loc Cert.FfnAbIdeal.main_arg9)
      ∧ m' ((c.tc : Thread Cert.FfnAbRefIdeal.nD Cert.FfnAbRefIdeal.τ).loc Cert.FfnAbRefIdeal.main_arg10) = m ((c.tc : Thread Cert.FfnAbIdeal.nD Cert.FfnAbIdeal.τ).loc Cert.FfnAbIdeal.main_arg10)
      ∧ m' ((c.tc : Thread Cert.FfnAbRefIdeal.nD Cert.FfnAbRefIdeal.τ).loc Cert.FfnAbRefIdeal.main_arg11) = m ((c.tc : Thread Cert.FfnAbIdeal.nD Cert.FfnAbIdeal.τ).loc Cert.FfnAbIdeal.main_arg11)
      ∧ m' ((c.tc : Thread Cert.FfnAbRefIdeal.nD Cert.FfnAbRefIdeal.τ).loc Cert.FfnAbRefIdeal.main_arg12) = m ((c.tc : Thread Cert.FfnAbIdeal.nD Cert.FfnAbIdeal.τ).loc Cert.FfnAbIdeal.main_arg12)
      ∧ m' ((c.tc : Thread Cert.FfnAbRefIdeal.nD Cert.FfnAbRefIdeal.τ).loc Cert.FfnAbRefIdeal.main_arg13) = m ((c.tc : Thread Cert.FfnAbIdeal.nD Cert.FfnAbIdeal.τ).loc Cert.FfnAbIdeal.main_arg13)
      ∧ m' ((c.tc : Thread Cert.FfnAbRefIdeal.nD Cert.FfnAbRefIdeal.τ).loc Cert.FfnAbRefIdeal.main_arg14) = m ((c.tc : Thread Cert.FfnAbIdeal.nD Cert.FfnAbIdeal.τ).loc Cert.FfnAbIdeal.main_arg14)
      ∧ m' ((c.tc : Thread Cert.FfnAbRefIdeal.nD Cert.FfnAbRefIdeal.τ).loc Cert.FfnAbRefIdeal.main_arg15) = m ((c.tc : Thread Cert.FfnAbIdeal.nD Cert.FfnAbIdeal.τ).loc Cert.FfnAbIdeal.main_arg15)
      ∧ m' ((c.tc : Thread Cert.FfnAbRefIdeal.nD Cert.FfnAbRefIdeal.τ).loc Cert.FfnAbRefIdeal.main_arg16) = m ((c.tc : Thread Cert.FfnAbIdeal.nD Cert.FfnAbIdeal.τ).loc Cert.FfnAbIdeal.main_arg16)
      ∧ m' ((c.tc : Thread Cert.FfnAbRefIdeal.nD Cert.FfnAbRefIdeal.τ).loc Cert.FfnAbRefIdeal.main_arg17) = m ((c.tc : Thread Cert.FfnAbIdeal.nD Cert.FfnAbIdeal.τ).loc Cert.FfnAbIdeal.main_arg17)) →
    ∃ (v0 : (c : Dev Cert.FfnAbIdeal.nD) → Buf (Elt Ideal) ((c.tc : Thread Cert.FfnAbIdeal.nD Cert.FfnAbIdeal.τ).loc Cert.FfnAbIdeal.main_v20)),
      θ_run (Cert.FfnAbIdeal.defs (F := Ideal)) (onTc (τ := Cert.FfnAbIdeal.τ) (Cert.FfnAbIdeal.main (F := Ideal))) ⟨m, fun _ => 0, g⟩ (fun r => ∀ c : Dev Cert.FfnAbIdeal.nD,
          r.2.mem ((c.tc : Thread Cert.FfnAbIdeal.nD Cert.FfnAbIdeal.τ).loc Cert.FfnAbIdeal.main_v20) = v0 c
          ∧ r.2.mem ((c.tc : Thread Cert.FfnAbIdeal.nD Cert.FfnAbIdeal.τ).loc Cert.FfnAbIdeal.main_arg0) = m ((c.tc : Thread Cert.FfnAbIdeal.nD Cert.FfnAbIdeal.τ).loc Cert.FfnAbIdeal.main_arg0)
          ∧ r.2.mem ((c.tc : Thread Cert.FfnAbIdeal.nD Cert.FfnAbIdeal.τ).loc Cert.FfnAbIdeal.main_arg1) = m ((c.tc : Thread Cert.FfnAbIdeal.nD Cert.FfnAbIdeal.τ).loc Cert.FfnAbIdeal.main_arg1)
          ∧ r.2.mem ((c.tc : Thread Cert.FfnAbIdeal.nD Cert.FfnAbIdeal.τ).loc Cert.FfnAbIdeal.main_arg2) = m ((c.tc : Thread Cert.FfnAbIdeal.nD Cert.FfnAbIdeal.τ).loc Cert.FfnAbIdeal.main_arg2)
          ∧ r.2.mem ((c.tc : Thread Cert.FfnAbIdeal.nD Cert.FfnAbIdeal.τ).loc Cert.FfnAbIdeal.main_arg3) = m ((c.tc : Thread Cert.FfnAbIdeal.nD Cert.FfnAbIdeal.τ).loc Cert.FfnAbIdeal.main_arg3)
          ∧ r.2.mem ((c.tc : Thread Cert.FfnAbIdeal.nD Cert.FfnAbIdeal.τ).loc Cert.FfnAbIdeal.main_arg4) = m ((c.tc : Thread Cert.FfnAbIdeal.nD Cert.FfnAbIdeal.τ).loc Cert.FfnAbIdeal.main_arg4)
          ∧ r.2.mem ((c.tc : Thread Cert.FfnAbIdeal.nD Cert.FfnAbIdeal.τ).loc Cert.FfnAbIdeal.main_arg5) = m ((c.tc : Thread Cert.FfnAbIdeal.nD Cert.FfnAbIdeal.τ).loc Cert.FfnAbIdeal.main_arg5)
          ∧ r.2.mem ((c.tc : Thread Cert.FfnAbIdeal.nD Cert.FfnAbIdeal.τ).loc Cert.FfnAbIdeal.main_arg6) = m ((c.tc : Thread Cert.FfnAbIdeal.nD Cert.FfnAbIdeal.τ).loc Cert.FfnAbIdeal.main_arg6)
          ∧ r.2.mem ((c.tc : Thread Cert.FfnAbIdeal.nD Cert.FfnAbIdeal.τ).loc Cert.FfnAbIdeal.main_arg7) = m ((c.tc : Thread Cert.FfnAbIdeal.nD Cert.FfnAbIdeal.τ).loc Cert.FfnAbIdeal.main_arg7)
          ∧ r.2.mem ((c.tc : Thread Cert.FfnAbIdeal.nD Cert.FfnAbIdeal.τ).loc Cert.FfnAbIdeal.main_arg8) = m ((c.tc : Thread Cert.FfnAbIdeal.nD Cert.FfnAbIdeal.τ).loc Cert.FfnAbIdeal.main_arg8)
          ∧ r.2.mem ((c.tc : Thread Cert.FfnAbIdeal.nD Cert.FfnAbIdeal.τ).loc Cert.FfnAbIdeal.main_arg9) = m ((c.tc : Thread Cert.FfnAbIdeal.nD Cert.FfnAbIdeal.τ).loc Cert.FfnAbIdeal.main_arg9)
          ∧ r.2.mem ((c.tc : Thread Cert.FfnAbIdeal.nD Cert.FfnAbIdeal.τ).loc Cert.FfnAbIdeal.main_arg10) = m ((c.tc : Thread Cert.FfnAbIdeal.nD Cert.FfnAbIdeal.τ).loc Cert.FfnAbIdeal.main_arg10)
          ∧ r.2.mem ((c.tc : Thread Cert.FfnAbIdeal.nD Cert.FfnAbIdeal.τ).loc Cert.FfnAbIdeal.main_arg11) = m ((c.tc : Thread Cert.FfnAbIdeal.nD Cert.FfnAbIdeal.τ).loc Cert.FfnAbIdeal.main_arg11)
          ∧ r.2.mem ((c.tc : Thread Cert.FfnAbIdeal.nD Cert.FfnAbIdeal.τ).loc Cert.FfnAbIdeal.main_arg12) = m ((c.tc : Thread Cert.FfnAbIdeal.nD Cert.FfnAbIdeal.τ).loc Cert.FfnAbIdeal.main_arg12)
          ∧ r.2.mem ((c.tc : Thread Cert.FfnAbIdeal.nD Cert.FfnAbIdeal.τ).loc Cert.FfnAbIdeal.main_arg13) = m ((c.tc : Thread Cert.FfnAbIdeal.nD Cert.FfnAbIdeal.τ).loc Cert.FfnAbIdeal.main_arg13)
          ∧ r.2.mem ((c.tc : Thread Cert.FfnAbIdeal.nD Cert.FfnAbIdeal.τ).loc Cert.FfnAbIdeal.main_arg14) = m ((c.tc : Thread Cert.FfnAbIdeal.nD Cert.FfnAbIdeal.τ).loc Cert.FfnAbIdeal.main_arg14)
          ∧ r.2.mem ((c.tc : Thread Cert.FfnAbIdeal.nD Cert.FfnAbIdeal.τ).loc Cert.FfnAbIdeal.main_arg15) = m ((c.tc : Thread Cert.FfnAbIdeal.nD Cert.FfnAbIdeal.τ).loc Cert.FfnAbIdeal.main_arg15)
          ∧ r.2.mem ((c.tc : Thread Cert.FfnAbIdeal.nD Cert.FfnAbIdeal.τ).loc Cert.FfnAbIdeal.main_arg16) = m ((c.tc : Thread Cert.FfnAbIdeal.nD Cert.FfnAbIdeal.τ).loc Cert.FfnAbIdeal.main_arg16)
          ∧ r.2.mem ((c.tc : Thread Cert.FfnAbIdeal.nD Cert.FfnAbIdeal.τ).loc Cert.FfnAbIdeal.main_arg17) = m ((c.tc : Thread Cert.FfnAbIdeal.nD Cert.FfnAbIdeal.τ).loc Cert.FfnAbIdeal.main_arg17))
      ∧ θ_run (Cert.FfnAbRefIdeal.defs (F := Ideal)) (onTc (τ := Cert.FfnAbRefIdeal.τ) (Cert.FfnAbRefIdeal.main (F := Ideal))) ⟨m', fun _ => 0, g'⟩ (fun r => ∀ c : Dev Cert.FfnAbRefIdeal.nD,
          r.2.mem ((c.tc : Thread Cert.FfnAbRefIdeal.nD Cert.FfnAbRefIdeal.τ).loc Cert.FfnAbRefIdeal.main_v114) = v0 c
          ∧ r.2.mem ((c.tc : Thread Cert.FfnAbRefIdeal.nD Cert.FfnAbRefIdeal.τ).loc Cert.FfnAbRefIdeal.main_arg0) = m' ((c.tc : Thread Cert.FfnAbRefIdeal.nD Cert.FfnAbRefIdeal.τ).loc Cert.FfnAbRefIdeal.main_arg0)
          ∧ r.2.mem ((c.tc : Thread Cert.FfnAbRefIdeal.nD Cert.FfnAbRefIdeal.τ).loc Cert.FfnAbRefIdeal.main_arg1) = m' ((c.tc : Thread Cert.FfnAbRefIdeal.nD Cert.FfnAbRefIdeal.τ).loc Cert.FfnAbRefIdeal.main_arg1)
          ∧ r.2.mem ((c.tc : Thread Cert.FfnAbRefIdeal.nD Cert.FfnAbRefIdeal.τ).loc Cert.FfnAbRefIdeal.main_arg2) = m' ((c.tc : Thread Cert.FfnAbRefIdeal.nD Cert.FfnAbRefIdeal.τ).loc Cert.FfnAbRefIdeal.main_arg2)
          ∧ r.2.mem ((c.tc : Thread Cert.FfnAbRefIdeal.nD Cert.FfnAbRefIdeal.τ).loc Cert.FfnAbRefIdeal.main_arg3) = m' ((c.tc : Thread Cert.FfnAbRefIdeal.nD Cert.FfnAbRefIdeal.τ).loc Cert.FfnAbRefIdeal.main_arg3)
          ∧ r.2.mem ((c.tc : Thread Cert.FfnAbRefIdeal.nD Cert.FfnAbRefIdeal.τ).loc Cert.FfnAbRefIdeal.main_arg4) = m' ((c.tc : Thread Cert.FfnAbRefIdeal.nD Cert.FfnAbRefIdeal.τ).loc Cert.FfnAbRefIdeal.main_arg4)
          ∧ r.2.mem ((c.tc : Thread Cert.FfnAbRefIdeal.nD Cert.FfnAbRefIdeal.τ).loc Cert.FfnAbRefIdeal.main_arg5) = m' ((c.tc : Thread Cert.FfnAbRefIdeal.nD Cert.FfnAbRefIdeal.τ).loc Cert.FfnAbRefIdeal.main_arg5)
          ∧ r.2.mem ((c.tc : Thread Cert.FfnAbRefIdeal.nD Cert.FfnAbRefIdeal.τ).loc Cert.FfnAbRefIdeal.main_arg6) = m' ((c.tc : Thread Cert.FfnAbRefIdeal.nD Cert.FfnAbRefIdeal.τ).loc Cert.FfnAbRefIdeal.main_arg6)
          ∧ r.2.mem ((c.tc : Thread Cert.FfnAbRefIdeal.nD Cert.FfnAbRefIdeal.τ).loc Cert.FfnAbRefIdeal.main_arg7) = m' ((c.tc : Thread Cert.FfnAbRefIdeal.nD Cert.FfnAbRefIdeal.τ).loc Cert.FfnAbRefIdeal.main_arg7)
          ∧ r.2.mem ((c.tc : Thread Cert.FfnAbRefIdeal.nD Cert.FfnAbRefIdeal.τ).loc Cert.FfnAbRefIdeal.main_arg8) = m' ((c.tc : Thread Cert.FfnAbRefIdeal.nD Cert.FfnAbRefIdeal.τ).loc Cert.FfnAbRefIdeal.main_arg8)
          ∧ r.2.mem ((c.tc : Thread Cert.FfnAbRefIdeal.nD Cert.FfnAbRefIdeal.τ).loc Cert.FfnAbRefIdeal.main_arg9) = m' ((c.tc : Thread Cert.FfnAbRefIdeal.nD Cert.FfnAbRefIdeal.τ).loc Cert.FfnAbRefIdeal.main_arg9)
          ∧ r.2.mem ((c.tc : Thread Cert.FfnAbRefIdeal.nD Cert.FfnAbRefIdeal.τ).loc Cert.FfnAbRefIdeal.main_arg10) = m' ((c.tc : Thread Cert.FfnAbRefIdeal.nD Cert.FfnAbRefIdeal.τ).loc Cert.FfnAbRefIdeal.main_arg10)
          ∧ r.2.mem ((c.tc : Thread Cert.FfnAbRefIdeal.nD Cert.FfnAbRefIdeal.τ).loc Cert.FfnAbRefIdeal.main_arg11) = m' ((c.tc : Thread Cert.FfnAbRefIdeal.nD Cert.FfnAbRefIdeal.τ).loc Cert.FfnAbRefIdeal.main_arg11)
          ∧ r.2.mem ((c.tc : Thread Cert.FfnAbRefIdeal.nD Cert.FfnAbRefIdeal.τ).loc Cert.FfnAbRefIdeal.main_arg12) = m' ((c.tc : Thread Cert.FfnAbRefIdeal.nD Cert.FfnAbRefIdeal.τ).loc Cert.FfnAbRefIdeal.main_arg12)
          ∧ r.2.mem ((c.tc : Thread Cert.FfnAbRefIdeal.nD Cert.FfnAbRefIdeal.τ).loc Cert.FfnAbRefIdeal.main_arg13) = m' ((c.tc : Thread Cert.FfnAbRefIdeal.nD Cert.FfnAbRefIdeal.τ).loc Cert.FfnAbRefIdeal.main_arg13)
          ∧ r.2.mem ((c.tc : Thread Cert.FfnAbRefIdeal.nD Cert.FfnAbRefIdeal.τ).loc Cert.FfnAbRefIdeal.main_arg14) = m' ((c.tc : Thread Cert.FfnAbRefIdeal.nD Cert.FfnAbRefIdeal.τ).loc Cert.FfnAbRefIdeal.main_arg14)
          ∧ r.2.mem ((c.tc : Thread Cert.FfnAbRefIdeal.nD Cert.FfnAbRefIdeal.τ).loc Cert.FfnAbRefIdeal.main_arg15) = m' ((c.tc : Thread Cert.FfnAbRefIdeal.nD Cert.FfnAbRefIdeal.τ).loc Cert.FfnAbRefIdeal.main_arg15)
          ∧ r.2.mem ((c.tc : Thread Cert.FfnAbRefIdeal.nD Cert.FfnAbRefIdeal.τ).loc Cert.FfnAbRefIdeal.main_arg16) = m' ((c.tc : Thread Cert.FfnAbRefIdeal.nD Cert.FfnAbRefIdeal.τ).loc Cert.FfnAbRefIdeal.main_arg16)
          ∧ r.2.mem ((c.tc : Thread Cert.FfnAbRefIdeal.nD Cert.FfnAbRefIdeal.τ).loc Cert.FfnAbRefIdeal.main_arg17) = m' ((c.tc : Thread Cert.FfnAbRefIdeal.nD Cert.FfnAbRefIdeal.τ).loc Cert.FfnAbRefIdeal.main_arg17))

def preserves_InprojCd_InprojCdIdeal : Prop :=
  True

def algebraic_InprojCdIdeal_InprojCdRefIdeal [hInprojCdIdeal : Cert.InprojCdIdeal.Facts] [hInprojCdRefIdeal : Cert.InprojCdRefIdeal.Facts] : Prop :=
  ∀ (m : (ℓ : Loc Cert.InprojCdIdeal.nD Cert.InprojCdIdeal.τ Cert.InprojCdIdeal.sig) → Buf (Elt Ideal) ℓ) (g : Dev Cert.InprojCdIdeal.nD → PrngReg)
    (m' : (ℓ : Loc Cert.InprojCdRefIdeal.nD Cert.InprojCdRefIdeal.τ Cert.InprojCdRefIdeal.sig) → Buf (Elt Ideal) ℓ) (g' : Dev Cert.InprojCdRefIdeal.nD → PrngReg), Pre_InprojCdIdeal m →
    (∀ c : Dev Cert.InprojCdIdeal.nD,
      m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0)
      ∧ m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1)
      ∧ m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2)
      ∧ m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) →
    ∃ (v0 : (c : Dev Cert.InprojCdIdeal.nD) → Buf (Elt Ideal) ((c.tc : Thread Cert.InprojCdIdeal.nD Cert.InprojCdIdeal.τ).loc Cert.InprojCdIdeal.main_v6_0)) (v1 : (c : Dev Cert.InprojCdIdeal.nD) → Buf (Elt Ideal) ((c.tc : Thread Cert.InprojCdIdeal.nD Cert.InprojCdIdeal.τ).loc Cert.InprojCdIdeal.main_v6_1)) (v2 : (c : Dev Cert.InprojCdIdeal.nD) → Buf (Elt Ideal) ((c.tc : Thread Cert.InprojCdIdeal.nD Cert.InprojCdIdeal.τ).loc Cert.InprojCdIdeal.main_v6_2)) (v3 : (c : Dev Cert.InprojCdIdeal.nD) → Buf (Elt Ideal) ((c.tc : Thread Cert.InprojCdIdeal.nD Cert.InprojCdIdeal.τ).loc Cert.InprojCdIdeal.main_v6_3)) (v4 : (c : Dev Cert.InprojCdIdeal.nD) → Buf (Elt Ideal) ((c.tc : Thread Cert.InprojCdIdeal.nD Cert.InprojCdIdeal.τ).loc Cert.InprojCdIdeal.main_v6_4)) (v5 : (c : Dev Cert.InprojCdIdeal.nD) → Buf (Elt Ideal) ((c.tc : Thread Cert.InprojCdIdeal.nD Cert.InprojCdIdeal.τ).loc Cert.InprojCdIdeal.main_v6_5)),
      θ_run (Cert.InprojCdIdeal.defs (F := Ideal)) (onTc (τ := Cert.InprojCdIdeal.τ) (Cert.InprojCdIdeal.main (F := Ideal))) ⟨m, fun _ => 0, g⟩ (fun r => ∀ c : Dev Cert.InprojCdIdeal.nD,
          r.2.mem ((c.tc : Thread Cert.InprojCdIdeal.nD Cert.InprojCdIdeal.τ).loc Cert.InprojCdIdeal.main_v6_0) = v0 c
          ∧ r.2.mem ((c.tc : Thread Cert.InprojCdIdeal.nD Cert.InprojCdIdeal.τ).loc Cert.InprojCdIdeal.main_v6_1) = v1 c
          ∧ r.2.mem ((c.tc : Thread Cert.InprojCdIdeal.nD Cert.InprojCdIdeal.τ).loc Cert.InprojCdIdeal.main_v6_2) = v2 c
          ∧ r.2.mem ((c.tc : Thread Cert.InprojCdIdeal.nD Cert.InprojCdIdeal.τ).loc Cert.InprojCdIdeal.main_v6_3) = v3 c
          ∧ r.2.mem ((c.tc : Thread Cert.InprojCdIdeal.nD Cert.InprojCdIdeal.τ).loc Cert.InprojCdIdeal.main_v6_4) = v4 c
          ∧ r.2.mem ((c.tc : Thread Cert.InprojCdIdeal.nD Cert.InprojCdIdeal.τ).loc Cert.InprojCdIdeal.main_v6_5) = v5 c
          ∧ r.2.mem ((c.tc : Thread Cert.InprojCdIdeal.nD Cert.InprojCdIdeal.τ).loc Cert.InprojCdIdeal.main_arg0) = m ((c.tc : Thread Cert.InprojCdIdeal.nD Cert.InprojCdIdeal.τ).loc Cert.InprojCdIdeal.main_arg0)
          ∧ r.2.mem ((c.tc : Thread Cert.InprojCdIdeal.nD Cert.InprojCdIdeal.τ).loc Cert.InprojCdIdeal.main_arg1) = m ((c.tc : Thread Cert.InprojCdIdeal.nD Cert.InprojCdIdeal.τ).loc Cert.InprojCdIdeal.main_arg1)
          ∧ r.2.mem ((c.tc : Thread Cert.InprojCdIdeal.nD Cert.InprojCdIdeal.τ).loc Cert.InprojCdIdeal.main_arg2) = m ((c.tc : Thread Cert.InprojCdIdeal.nD Cert.InprojCdIdeal.τ).loc Cert.InprojCdIdeal.main_arg2)
          ∧ r.2.mem ((c.tc : Thread Cert.InprojCdIdeal.nD Cert.InprojCdIdeal.τ).loc Cert.InprojCdIdeal.main_arg3) = m ((c.tc : Thread Cert.InprojCdIdeal.nD Cert.InprojCdIdeal.τ).loc Cert.InprojCdIdeal.main_arg3))
      ∧ θ_run (Cert.InprojCdRefIdeal.defs (F := Ideal)) (onTc (τ := Cert.InprojCdRefIdeal.τ) (Cert.InprojCdRefIdeal.main (F := Ideal))) ⟨m', fun _ => 0, g'⟩ (fun r => ∀ c : Dev Cert.InprojCdRefIdeal.nD,
          r.2.mem ((c.tc : Thread Cert.InprojCdRefIdeal.nD Cert.InprojCdRefIdeal.τ).loc Cert.InprojCdRefIdeal.main_v43) = v0 c
          ∧ r.2.mem ((c.tc : Thread Cert.InprojCdRefIdeal.nD Cert.InprojCdRefIdeal.τ).loc Cert.InprojCdRefIdeal.main_v44) = v1 c
          ∧ r.2.mem ((c.tc : Thread Cert.InprojCdRefIdeal.nD Cert.InprojCdRefIdeal.τ).loc Cert.InprojCdRefIdeal.main_v45) = v2 c
          ∧ r.2.mem ((c.tc : Thread Cert.InprojCdRefIdeal.nD Cert.InprojCdRefIdeal.τ).loc Cert.InprojCdRefIdeal.main_v46) = v3 c
          ∧ r.2.mem ((c.tc : Thread Cert.InprojCdRefIdeal.nD Cert.InprojCdRefIdeal.τ).loc Cert.InprojCdRefIdeal.main_v47) = v4 c
          ∧ r.2.mem ((c.tc : Thread Cert.InprojCdRefIdeal.nD Cert.InprojCdRefIdeal.τ).loc Cert.InprojCdRefIdeal.main_v48) = v5 c
          ∧ r.2.mem ((c.tc : Thread Cert.InprojCdRefIdeal.nD Cert.InprojCdRefIdeal.τ).loc Cert.InprojCdRefIdeal.main_arg0) = m' ((c.tc : Thread Cert.InprojCdRefIdeal.nD Cert.InprojCdRefIdeal.τ).loc Cert.InprojCdRefIdeal.main_arg0)
          ∧ r.2.mem ((c.tc : Thread Cert.InprojCdRefIdeal.nD Cert.InprojCdRefIdeal.τ).loc Cert.InprojCdRefIdeal.main_arg1) = m' ((c.tc : Thread Cert.InprojCdRefIdeal.nD Cert.InprojCdRefIdeal.τ).loc Cert.InprojCdRefIdeal.main_arg1)
          ∧ r.2.mem ((c.tc : Thread Cert.InprojCdRefIdeal.nD Cert.InprojCdRefIdeal.τ).loc Cert.InprojCdRefIdeal.main_arg2) = m' ((c.tc : Thread Cert.InprojCdRefIdeal.nD Cert.InprojCdRefIdeal.τ).loc Cert.InprojCdRefIdeal.main_arg2)
          ∧ r.2.mem ((c.tc : Thread Cert.InprojCdRefIdeal.nD Cert.InprojCdRefIdeal.τ).loc Cert.InprojCdRefIdeal.main_arg3) = m' ((c.tc : Thread Cert.InprojCdRefIdeal.nD Cert.InprojCdRefIdeal.τ).loc Cert.InprojCdRefIdeal.main_arg3))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hFfnCd : Cert.FfnCd.Facts) (hFfnCdIdeal : Cert.FfnCdIdeal.Facts) (hFfnCdRefIdeal : Cert.FfnCdRefIdeal.Facts) (hFfnLast : Cert.FfnLast.Facts) (hFfnLastIdeal : Cert.FfnLastIdeal.Facts) (hFfnLastRefIdeal : Cert.FfnLastRefIdeal.Facts) (hFfnAb : Cert.FfnAb.Facts) (hFfnAbIdeal : Cert.FfnAbIdeal.Facts) (hFfnAbRefIdeal : Cert.FfnAbRefIdeal.Facts) (hInprojCd : Cert.InprojCd.Facts) (hInprojCdIdeal : Cert.InprojCdIdeal.Facts) (hInprojCdRefIdeal : Cert.InprojCdRefIdeal.Facts) (hPre_lower_bound_finite : Cert.Pre_lower_bound_finite.Facts),
    quiescent_Kernel (hKernel := hKernel)
    ∧ quiescent_KernelIdeal (hKernelIdeal := hKernelIdeal)
    ∧ quiescent_KernelIdeal_pre_lower_bound_finite (hKernelIdeal := hKernelIdeal) (hPre_lower_bound_finite := hPre_lower_bound_finite)
    ∧ quiescent_ReferenceIdeal (hReferenceIdeal := hReferenceIdeal)
    ∧ quiescent_ReferenceIdeal_pre_lower_bound_finite (hReferenceIdeal := hReferenceIdeal) (hPre_lower_bound_finite := hPre_lower_bound_finite)
    ∧ quiescent_Ffn (hFfn := hFfn)
    ∧ quiescent_FfnIdeal (hFfnIdeal := hFfnIdeal)
    ∧ quiescent_FfnRefIdeal (hFfnRefIdeal := hFfnRefIdeal)
    ∧ quiescent_FfnCd (hFfnCd := hFfnCd)
    ∧ quiescent_FfnCdIdeal (hFfnCdIdeal := hFfnCdIdeal)
    ∧ quiescent_FfnCdRefIdeal (hFfnCdRefIdeal := hFfnCdRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_FfnAb (hFfnAb := hFfnAb)
    ∧ quiescent_FfnAbIdeal (hFfnAbIdeal := hFfnAbIdeal)
    ∧ quiescent_FfnAbRefIdeal (hFfnAbRefIdeal := hFfnAbRefIdeal)
    ∧ quiescent_InprojCd (hInprojCd := hInprojCd)
    ∧ quiescent_InprojCdIdeal (hInprojCdIdeal := hInprojCdIdeal)
    ∧ quiescent_InprojCdRefIdeal (hInprojCdRefIdeal := hInprojCdRefIdeal)
    ∧ preserves_Kernel_KernelIdeal
    ∧ algebraic_KernelIdeal_ReferenceIdeal_pre_lower_bound_finite (hKernelIdeal := hKernelIdeal) (hReferenceIdeal := hReferenceIdeal) (hPre_lower_bound_finite := hPre_lower_bound_finite)
    ∧ preserves_Ffn_FfnIdeal
    ∧ algebraic_FfnIdeal_FfnRefIdeal (hFfnIdeal := hFfnIdeal) (hFfnRefIdeal := hFfnRefIdeal)
    ∧ preserves_FfnCd_FfnCdIdeal
    ∧ algebraic_FfnCdIdeal_FfnCdRefIdeal (hFfnCdIdeal := hFfnCdIdeal) (hFfnCdRefIdeal := hFfnCdRefIdeal)
    ∧ preserves_FfnLast_FfnLastIdeal
    ∧ algebraic_FfnLastIdeal_FfnLastRefIdeal (hFfnLastIdeal := hFfnLastIdeal) (hFfnLastRefIdeal := hFfnLastRefIdeal)
    ∧ preserves_FfnAb_FfnAbIdeal
    ∧ algebraic_FfnAbIdeal_FfnAbRefIdeal (hFfnAbIdeal := hFfnAbIdeal) (hFfnAbRefIdeal := hFfnAbRefIdeal)
    ∧ preserves_InprojCd_InprojCdIdeal
    ∧ algebraic_InprojCdIdeal_InprojCdRefIdeal (hInprojCdIdeal := hInprojCdIdeal) (hInprojCdRefIdeal := hInprojCdRefIdeal)
-- ==== Pre_lower_bound_finite.lean ====
abbrev S2x16384x512 : Shape := ⟨3, ![2, 16384, 512]⟩
abbrev S1x512 : Shape := ⟨2, ![1, 512]⟩
abbrev S2x4x128x128 : Shape := ⟨4, ![2, 4, 128, 128]⟩
abbrev S_ : Shape := ⟨0, ![]⟩

class Facts : Prop where
  bcast_S_S1x512 : S_.BroadcastsInDim S1x512 (![] : Fin 0 → Fin S1x512.rank)
  reducesTo_S1x512_S_d0_1 : S1x512.ReducesTo [0, 1] S_
  h_S_ : 0 < S_.numel

variable [Facts]

def fn {F : FTy → Type} [FloatOps F] (main_arg0 : FVec F S2x16384x512 .f32) (main_arg1 : FVec F S2x16384x512 .f32) (main_arg2 : FVec F S2x16384x512 .f32) (main_arg3 : FVec F S1x512 .f32) (main_arg4 : FVec F S2x4x128x128 .f32) : IVec S_ 1 :=
  let main_cst : FVec F S_ .f32 := constant S_ .f32 0x7F800000#32
  let main_v0 : FVec F S1x512 .f32 := broadcastInDim S1x512 ![] bcast_S_S1x512 main_cst
  let main_v1 : IVec S1x512 1 := cmpf .olt main_arg3 main_v0
  let main_c : IVec S_ 1 := constantI S_ 1 1#1
  let main_v2 : IVec S_ 1 := (fun x v => Host.reduce IntOp.andi x v reducesTo_S1x512_S_d0_1 h_S_) main_v1 main_c
  main_v2
-- ==== Kernel.lean ====
abbrev S2x16384x512 : Shape := ⟨3, ![2, 16384, 512]⟩
abbrev S1x512 : Shape := ⟨2, ![1, 512]⟩
abbrev S2x4x128x128 : Shape := ⟨4, ![2, 4, 128, 128]⟩
abbrev S1x256x512 : Shape := ⟨3, ![1, 256, 512]⟩
abbrev S1x4x128x128 : Shape := ⟨4, ![1, 4, 128, 128]⟩
abbrev S4x128x128 : Shape := ⟨3, ![4, 128, 128]⟩
abbrev S4x16x128x128 : Shape := ⟨4, ![4, 16, 128, 128]⟩
abbrev S256x512 : Shape := ⟨2, ![256, 512]⟩
abbrev S256x256 : Shape := ⟨2, ![256, 256]⟩
abbrev S256x768 : Shape := ⟨2, ![256, 768]⟩
abbrev S768x512 : Shape := ⟨2, ![768, 512]⟩
abbrev S16x16x512 : Shape := ⟨3, ![16, 16, 512]⟩
abbrev S16x1x512 : Shape := ⟨3, ![16, 1, 512]⟩
abbrev S256x128 : Shape := ⟨2, ![256, 128]⟩
abbrev S16x128 : Shape := ⟨2, ![16, 128]⟩
abbrev S128x128 : Shape := ⟨2, ![128, 128]⟩
abbrev S1x1x128x128 : Shape := ⟨4, ![1, 1, 128, 128]⟩
abbrev S1x128x128 : Shape := ⟨3, ![1, 128, 128]⟩
abbrev S1x128 : Shape := ⟨2, ![1, 128]⟩
abbrev S64x128 : Shape := ⟨2, ![64, 128]⟩
abbrev S64x512 : Shape := ⟨2, ![64, 512]⟩
abbrev S128x512 : Shape := ⟨2, ![128, 512]⟩
abbrev S1x64x128 : Shape := ⟨3, ![1, 64, 128]⟩

abbrev nBuf : Space → Nat
  | .hbm => 7
  | .vmem => 16
  | .smem => 0
  | _ => 0

abbrev bufTy : (tb : Table) → Fin (tcTables nBuf tb) → BufTy
  | .hbm, ⟨0, _⟩ => ⟨S2x16384x512, .f32⟩
  | .hbm, ⟨1, _⟩ => ⟨S2x16384x512, .f32⟩
  | .hbm, ⟨2, _⟩ => ⟨S2x16384x512, .f32⟩
  | .hbm, ⟨3, _⟩ => ⟨S1x512, .f32⟩
  | .hbm, ⟨4, _⟩ => ⟨S2x4x128x128, .f32⟩
  | .hbm, ⟨5, _⟩ => ⟨S2x16384x512, .f32⟩
  | .hbm, ⟨6, _⟩ => ⟨S2x4x128x128, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x512, .f32⟩
  | .local _ .vmem, ⟨7, _⟩ => ⟨S1x4x128x128, .f32⟩
  | .local _ .vmem, ⟨8, _⟩ => ⟨S1x4x128x128, .f32⟩
  | .local _ .vmem, ⟨9, _⟩ => ⟨S1x256x512, .f32⟩
  | .local _ .vmem, ⟨10, _⟩ => ⟨S1x256x512, .f32⟩
  | .local _ .vmem, ⟨11, _⟩ => ⟨S1x4x128x128, .f32⟩
  | .local _ .vmem, ⟨12, _⟩ => ⟨S1x4x128x128, .f32⟩
  | .local _ .vmem, ⟨13, _⟩ => ⟨S4x128x128, .f32⟩
  | .local _ .vmem, ⟨14, _⟩ => ⟨S4x16x128x128, .f32⟩
  | .local _ .vmem, ⟨15, _⟩ => ⟨S4x16x128x128, .f32⟩
  | _, _ => ⟨S2x16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v1792 : BitVec 1 := Scalar.cmpi .eq arg1 c63_i32
  let v1793 : BitVec 32 := Scalar.extui v1792
  let c0_i32_1314 : BitVec 32 := 0#32
  let v1794 : BitVec 1 := Scalar.cmpi .ne v1793 c0_i32_1314
  v1794

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x16384x512 : Shape := ⟨3, ![2, 16384, 512]⟩
abbrev S1x512 : Shape := ⟨2, ![1, 512]⟩
abbrev S2x4x128x128 : Shape := ⟨4, ![2, 4, 128, 128]⟩
abbrev S512 : Shape := ⟨1, ![512]⟩
abbrev S_ : Shape := ⟨0, ![]⟩
abbrev S1x1x512 : Shape := ⟨3, ![1, 1, 512]⟩
abbrev S2x16384x4x128 : Shape := ⟨4, ![2, 16384, 4, 128]⟩
abbrev S2x4x16384x128 : Shape := ⟨4, ![2, 4, 16384, 128]⟩
abbrev S2x4x1024x16x128 : Shape := ⟨5, ![2, 4, 1024, 16, 128]⟩
abbrev S16 : Shape := ⟨1, ![16]⟩
abbrev S16x1 : Shape := ⟨2, ![16, 1]⟩
abbrev S1x16 : Shape := ⟨2, ![1, 16]⟩
abbrev S16x16 : Shape := ⟨2, ![16, 16]⟩
abbrev S2x4x1024x128x16 : Shape := ⟨5, ![2, 4, 1024, 128, 16]⟩
abbrev S2x4x1024x16x16 : Shape := ⟨5, ![2, 4, 1024, 16, 16]⟩
abbrev S2x4x1024x1x128 : Shape := ⟨5, ![2, 4, 1024, 1, 128]⟩
abbrev S2x4x1024x128 : Shape := ⟨4, ![2, 4, 1024, 128]⟩
abbrev S1024x2x4x16x128 : Shape := ⟨5, ![1024, 2, 4, 16, 128]⟩
abbrev S1024x2x4x128 : Shape := ⟨4, ![1024, 2, 4, 128]⟩
abbrev S1x2x4x16x128 : Shape := ⟨5, ![1, 2, 4, 16, 128]⟩
abbrev S2x4x16x128 : Shape := ⟨4, ![2, 4, 16, 128]⟩
abbrev S1x2x4x128 : Shape := ⟨4, ![1, 2, 4, 128]⟩
abbrev S2x4x128 : Shape := ⟨3, ![2, 4, 128]⟩
abbrev S2x4x128x1 : Shape := ⟨4, ![2, 4, 128, 1]⟩

abbrev nBuf : Space → Nat
  | .hbm => 137
  | .vmem => 0
  | .smem => 0
  | _ => 0

abbrev hbmTy0_0 (i : Nat) : BufTy := match i % 128 with
  | 0 => ⟨S2x16384x512, .f32⟩
  | 1 => ⟨S2x16384x512, .f32⟩
  | 2 => ⟨S2x16384x512, .f32⟩
  | 3 => ⟨S1x512, .f32⟩
  | 4 => ⟨S2x4x128x128, .f32⟩
  | 5 => ⟨S512, .f32⟩
  | 6 => ⟨S512, .f32⟩
  | 7 => ⟨S_, .f32⟩
  | 8 => ⟨S512, .f32⟩
  | 9 => ⟨S512, .f32⟩
  | 10 => ⟨S2x16384x512, .f32⟩
  | 11 => ⟨S2x16384x512, .f32⟩
  | 12 => ⟨S_, .f32⟩
  | 13 => ⟨S2x16384x512, .f32⟩
  | 14 => ⟨S2x16384x512, .f32⟩
  | 15 => ⟨S_, .f32⟩
  | 16 => ⟨S2x16384x512, .f32⟩
  | 17 => ⟨S2x16384x512, .f32⟩
  | 18 => ⟨S1x1x512, .f32⟩
  | 19 => ⟨S2x16384x512, .f32⟩
  | 20 => ⟨S2x16384x512, .f32⟩
  | 21 => ⟨S1x1x512, .f32⟩
  | 22 => ⟨S2x16384x512, .f32⟩
  | 23 => ⟨S2x16384x512, .f32⟩
  | 24 => ⟨S2x16384x4x128, .f32⟩
  | 25 => ⟨S2x4x16384x128, .f32⟩
  | 26 => ⟨S_, .f32⟩
  | 27 => ⟨S2x16384x512, .f32⟩
  | 28 => ⟨S2x16384x512, .f32⟩
  | 29 => ⟨S2x16384x4x128, .f32⟩
  | 30 => ⟨S2x4x16384x128, .f32⟩
  | 31 => ⟨S2x16384x4x128, .f32⟩
  | 32 => ⟨S2x4x16384x128, .f32⟩
  | 33 => ⟨S2x16384x512, .f32⟩
  | 34 => ⟨S2x16384x4x128, .f32⟩
  | 35 => ⟨S2x4x16384x128, .f32⟩
  | 36 => ⟨S2x4x128x128, .f32⟩
  | 37 => ⟨S2x4x1024x16x128, .f32⟩
  | 38 => ⟨S2x4x1024x16x128, .f32⟩
  | 39 => ⟨S2x4x1024x16x128, .f32⟩
  | 40 => ⟨S2x4x1024x16x128, .f32⟩
  | 41 => ⟨S16, .i32⟩
  | 42 => ⟨S16x1, .i32⟩
  | 43 => ⟨S1x16, .i32⟩
  | 44 => ⟨S16x16, .i32⟩
  | 45 => ⟨S16x16, .i32⟩
  | 46 => ⟨S16x16, .i1⟩
  | 47 => ⟨S16x16, .f32⟩
  | 48 => ⟨S2x4x1024x128x16, .f32⟩
  | 49 => ⟨S2x4x1024x16x128, .f32⟩
  | 50 => ⟨S2x4x1024x16x128, .f32⟩
  | 51 => ⟨S2x4x1024x16x128, .f32⟩
  | 52 => ⟨S2x4x1024x16x128, .f32⟩
  | 53 => ⟨S2x4x1024x16x128, .f32⟩
  | 54 => ⟨S2x4x1024x16x128, .f32⟩
  | 55 => ⟨S2x4x1024x16x16, .f32⟩
  | 56 => ⟨S_, .f32⟩
  | 57 => ⟨S_, .f32⟩
  | 58 => ⟨S2x4x1024x16x16, .i1⟩
  | 59 => ⟨S2x4x1024x16x16, .f32⟩
  | 60 => ⟨S2x4x1024x16x16, .f32⟩
  | 61 => ⟨S2x4x1024x16x128, .f32⟩
  | 62 => ⟨S2x4x1024x1x128, .f32⟩
  | 63 => ⟨S2x4x1024x16x128, .f32⟩
  | 64 => ⟨S2x4x1024x16x128, .f32⟩
  | 65 => ⟨S2x4x1024x16x128, .f32⟩
  | 66 => ⟨S2x4x1024x16x128, .f32⟩
  | 67 => ⟨S2x4x1024x1x128, .f32⟩
  | 68 => ⟨S2x4x1024x128, .f32⟩
  | 69 => ⟨S2x4x1024x128, .f32⟩
  | 70 => ⟨S1024x2x4x16x128, .f32⟩
  | 71 => ⟨S1024x2x4x16x128, .f32⟩
  | 72 => ⟨S1024x2x4x16x128, .f32⟩
  | 73 => ⟨S1024x2x4x16x128, .f32⟩
  | 74 => ⟨S1024x2x4x128, .f32⟩
  | 75 => ⟨S_, .f32⟩
  | 76 => ⟨S1024x2x4x16x128, .f32⟩
  | 77 => ⟨S_, .i32⟩
  | 78 => ⟨S1024x2x4x16x128, .f32⟩
  | 79 => ⟨S1024x2x4x16x128, .f32⟩
  | 80 => ⟨S1024x2x4x16x128, .f32⟩
  | 81 => ⟨S1024x2x4x16x128, .f32⟩
  | 82 => ⟨S1024x2x4x128, .f32⟩
  | 83 => ⟨S_, .i32⟩
  | 84 => ⟨S2x4x128x128, .f32⟩
  | 85 => ⟨S1024x2x4x16x128, .f32⟩
  | 86 => ⟨S_, .i32⟩
  | 87 => ⟨S_, .i1⟩
  | 88 => ⟨S_, .i32⟩
  | 89 => ⟨S_, .i32⟩
  | 90 => ⟨S_, .i32⟩
  | 91 => ⟨S_, .i32⟩
  | 92 => ⟨S1x2x4x16x128, .f32⟩
  | 93 => ⟨S2x4x16x128, .f32⟩
  | 94 => ⟨S_, .i32⟩
  | 95 => ⟨S_, .i32⟩
  | 96 => ⟨S_, .i32⟩
  | 97 => ⟨S_, .i32⟩
  | 98 => ⟨S1x2x4x16x128, .f32⟩
  | 99 => ⟨S2x4x16x128, .f32⟩
  | 100 => ⟨S_, .i32⟩
  | 101 => ⟨S_, .i32⟩
  | 102 => ⟨S_, .i32⟩
  | 103 => ⟨S_, .i32⟩
  | 104 => ⟨S1x2x4x16x128, .f32⟩
  | 105 => ⟨S2x4x16x128, .f32⟩
  | 106 => ⟨S_, .i32⟩
  | 107 => ⟨S_, .i32⟩
  | 108 => ⟨S_, .i32⟩
  | 109 => ⟨S_, .i32⟩
  | 110 => ⟨S1x2x4x16x128, .f32⟩
  | 111 => ⟨S2x4x16x128, .f32⟩
  | 112 => ⟨S_, .i32⟩
  | 113 => ⟨S_, .i32⟩
  | 114 => ⟨S_, .i32⟩
  | 115 => ⟨S1x2x4x128, .f32⟩
  | 116 => ⟨S2x4x128, .f32⟩
  | 117 => ⟨S2x4x16x128, .f32⟩
  | 118 => ⟨S2x4x16x128, .f32⟩
  | 119 => ⟨S2x4x128x1, .f32⟩
  | 120 => ⟨S2x4x128x128, .f32⟩
  | 121 => ⟨S2x4x128x128, .f32⟩
  | 122 => ⟨S2x4x128x128, .f32⟩
  | 123 => ⟨S2x4x128x128, .f32⟩
  | 124 => ⟨S1x2x4x16x128, .f32⟩
  | 125 => ⟨S_, .i32⟩
  | 126 => ⟨S_, .i32⟩
  | 127 => ⟨S_, .i32⟩
  | _ => ⟨S2x16384x512, .f32⟩

abbrev hbmTy0_1 (i : Nat) : BufTy := match i % 128 with
  | 0 => ⟨S_, .i32⟩
  | 1 => ⟨S1024x2x4x16x128, .f32⟩
  | 2 => ⟨S_, .i32⟩
  | 3 => ⟨S_, .i32⟩
  | 4 => ⟨S2x4x1024x16x128, .f32⟩
  | 5 => ⟨S2x4x16384x128, .f32⟩
  | 6 => ⟨S2x16384x4x128, .f32⟩
  | 7 => ⟨S2x16384x512, .f32⟩
  | 8 => ⟨S2x4x128x128, .f32⟩
  | _ => ⟨S2x16384x512, .f32⟩

abbrev hbmTy (i : Nat) : BufTy := match i / 128 with
  | 0 => hbmTy0_0 i
  | 1 => hbmTy0_1 i
  | _ => ⟨S2x16384x512, .f32⟩

abbrev bufTy : (tb : Table) → Fin (tcTables nBuf tb) → BufTy
  | .hbm, ⟨i, _⟩ => hbmTy i
  | _, _ => ⟨S2x16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_4 : Ref sig .tc := ⟨.hbm, 75, rfl⟩
abbrev main_v62 : Ref sig .tc := ⟨.hbm, 76, rfl⟩
abbrev main_c : Ref sig .tc := ⟨.hbm, 77, rfl⟩
abbrev main_v63_0 : Ref sig .tc := ⟨.hbm, 78, rfl⟩
abbrev main_v63_1 : Ref sig .tc := ⟨.hbm, 79, rfl⟩
abbrev main_v63_2 : Ref sig .tc := ⟨.hbm, 80, rfl⟩
abbrev main_v63_3 : Ref sig .tc := ⟨.hbm, 81, rfl⟩
abbrev main_v63_4 : Ref sig .tc := ⟨.hbm, 82, rfl⟩
abbrev main_v63_5 : Ref sig .tc := ⟨.hbm, 83, rfl⟩
abbrev main_v63_6 : Ref sig .tc := ⟨.hbm, 84, rfl⟩
abbrev main_v63_7 : Ref sig .tc := ⟨.hbm, 85, rfl⟩
abbrev main_while0c_c_12 : Ref sig .tc := ⟨.hbm, 86, rfl⟩
abbrev main_while0c_v69 : Ref sig .tc := ⟨.hbm, 87, rfl⟩
abbrev main_while0b_call1_c : Ref sig .tc := ⟨.hbm, 88, rfl⟩
abbrev main_while0b_call1_c_0 : Ref sig .tc := ⟨.hbm, 89, rfl⟩
abbrev main_while0b_call1_c_1 : Ref sig .tc := ⟨.hbm, 90, rfl⟩
abbrev main_while0b_call1_c_2 : Ref sig .tc := ⟨.hbm, 91, rfl⟩
abbrev main_while0b_call1_v0 : Ref sig .tc := ⟨.hbm, 92, rfl⟩
abbrev main_while0b_v69 : Ref sig .tc := ⟨.hbm, 93, rfl⟩
abbrev main_while0b_call2_c : Ref sig .tc := ⟨.hbm, 94, rfl⟩
abbrev main_while0b_call2_c_0 : Ref sig .tc := ⟨.hbm, 95, rfl⟩
abbrev main_while0b_call2_c_1 : Ref sig .tc := ⟨.hbm, 96, rfl⟩
abbrev main_while0b_call2_c_2 : Ref sig .tc := ⟨.hbm, 97, rfl⟩
abbrev main_while0b_call2_v0 : Ref sig .tc := ⟨.hbm, 98, rfl⟩
abbrev main_while0b_v70 : Ref sig .tc := ⟨.hbm, 99, rfl⟩
abbrev main_while0b_call3_c : Ref sig .tc := ⟨.hbm, 100, rfl⟩
abbrev main_while0b_call3_c_0 : Ref sig .tc := ⟨.hbm, 101, rfl⟩
abbrev main_while0b_call3_c_1 : Ref sig .tc := ⟨.hbm, 102, rfl⟩
abbrev main_while0b_call3_c_2 : Ref sig .tc := ⟨.hbm, 103, rfl⟩
abbrev main_while0b_call3_v0 : Ref sig .tc := ⟨.hbm, 104, rfl⟩
abbrev main_while0b_v71 : Ref sig .tc := ⟨.hbm, 105, rfl⟩
abbrev main_while0b_call4_c : Ref sig .tc := ⟨.hbm, 106, rfl⟩
abbrev main_while0b_call4_c_0 : Ref sig .tc := ⟨.hbm, 107, rfl⟩
abbrev main_while0b_call4_c_1 : Ref sig .tc := ⟨.hbm, 108, rfl⟩
abbrev main_while0b_call4_c_2 : Ref sig .tc := ⟨.hbm, 109, rfl⟩
abbrev main_while0b_call4_v0 : Ref sig .tc := ⟨.hbm, 110, rfl⟩
abbrev main_while0b_v72 : Ref sig .tc := ⟨.hbm, 111, rfl⟩
abbrev main_while0b_call5_c : Ref sig .tc := ⟨.hbm, 112, rfl⟩
abbrev main_while0b_call5_c_0 : Ref sig .tc := ⟨.hbm, 113, rfl⟩
abbrev main_while0b_call5_c_1 : Ref sig .tc := ⟨.hbm, 114, rfl⟩
abbrev main_while0b_call5_v0 : Ref sig .tc := ⟨.hbm, 115, rfl⟩
abbrev main_while0b_v73 : Ref sig .tc := ⟨.hbm, 116, rfl⟩
abbrev main_while0b_v74 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_call6_c_0 : Ref sig .tc := ⟨.hbm, 126, rfl⟩
abbrev main_while0b_call6_c_1 : Ref sig .tc := ⟨.hbm, 127, rfl⟩
abbrev main_while0b_call6_c_2 : Ref sig .tc := ⟨.hbm, 128, rfl⟩
abbrev main_while0b_v81 : Ref sig .tc := ⟨.hbm, 129, rfl⟩
abbrev main_while0b_c_12 : Ref sig .tc := ⟨.hbm, 130, rfl⟩
abbrev main_while0b_v82 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩

abbrev nD : Nat := 1
abbrev τ : Topo := Topo.v7x

variable {F : FTy → Type} [FloatOps F]

abbrev main_while0_count : Scf.Loop 32 := ⟨0#32, 1024#32, 1#32⟩
-- ==== Ffn.lean ====
abbrev S2x16384x1024 : Shape := ⟨3, ![2, 16384, 1024]⟩
abbrev S288x1x1024 : Shape := ⟨3, ![288, 1, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 11
  | .vmem => 13
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S1x1x1024, .f32⟩
  | .hbm, ⟨6, _⟩ => ⟨S1024, .f32⟩
  | .hbm, ⟨7, _⟩ => ⟨S1x1024, .f32⟩
  | .hbm, ⟨8, _⟩ => ⟨S4x2x1024x5632, .bf16⟩
  | .hbm, ⟨9, _⟩ => ⟨S4x2x2816x1024, .bf16⟩
  | .hbm, ⟨10, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1x1024x5632, .bf16⟩
  | .local _ .vmem, ⟨10, _⟩ => ⟨S1x1x2816x1024, .bf16⟩
  | .local _ .vmem, ⟨11, _⟩ => ⟨S1x512x1024, .f32⟩
  | .local _ .vmem, ⟨12, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FfnRefIdeal.lean ====
abbrev S2x16384x1024 : Shape := ⟨3, ![2, 16384, 1024]⟩
abbrev S288x1x1024 : Shape := ⟨3, ![288, 1, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x3x8x1024 : Shape := ⟨5, ![4, 3, 3, 8, 1024]⟩
abbrev S1x3x3x2x1024 : Shape := ⟨5, ![1, 3, 3, 2, 1024]⟩
abbrev S3x3x2x1024 : Shape := ⟨4, ![3, 3, 2, 1024]⟩
abbrev S2x3x3x1024 : Shape := ⟨4, ![2, 3, 3, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S_ : Shape := ⟨0, ![]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩

abbrev nBuf : Space → Nat
  | .hbm => 67
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S4x3x1024, .f32⟩
  | .hbm, ⟨3, _⟩ => ⟨S4x2x1024x5632, .f32⟩
  | .hbm, ⟨4, _⟩ => ⟨S4x2x2816x1024, .f32⟩
  | .hbm, ⟨5, _⟩ => ⟨S4x3x3x8x1024, .f32⟩
  | .hbm, ⟨6, _⟩ => ⟨S1x3x3x2x1024, .f32⟩
  | .hbm, ⟨7, _⟩ => ⟨S3x3x2x1024, .f32⟩
  | .hbm, ⟨8, _⟩ => ⟨S2x3x3x1024, .f32⟩
  | .hbm, ⟨9, _⟩ => ⟨S2x1x1x1024, .f32⟩
  | .hbm, ⟨10, _⟩ => ⟨S2x1024, .f32⟩
  | .hbm, ⟨11, _⟩ => ⟨S2x1x1024, .f32⟩
  | .hbm, ⟨12, _⟩ => ⟨S_, .f32⟩
  | .hbm, ⟨13, _⟩ => ⟨S2x1x1024, .f32⟩
  | .hbm, ⟨14, _⟩ => ⟨S2x1x1024, .f32⟩
  | .hbm, ⟨15, _⟩ => ⟨S1x1x1024, .f32⟩
  | .hbm, ⟨16, _⟩ => ⟨S1024, .f32⟩
  | .hbm, ⟨17, _⟩ => ⟨S2x16384x1024, .f32⟩
  | .hbm, ⟨18, _⟩ => ⟨S_, .f32⟩
  | .hbm, ⟨19, _⟩ => ⟨S2x16384, .f32⟩
  | .hbm, ⟨20, _⟩ => ⟨S2x16384x1, .f32⟩
  | .hbm, ⟨21, _⟩ => ⟨S_, .f32⟩
  | .hbm, ⟨22, _⟩ => ⟨S2x16384x1, .f32⟩
  | .hbm, ⟨23, _⟩ => ⟨S2x16384x1, .f32⟩
  | .hbm, ⟨24, _⟩ => ⟨S_, .f32⟩
  | .hbm, ⟨25, _⟩ => ⟨S2x16384x1, .f32⟩
  | .hbm, ⟨26, _⟩ => ⟨S2x16384x1, .f32⟩
  | .hbm, ⟨27, _⟩ => ⟨S2x16384x1, .f32⟩
  | .hbm, ⟨28, _⟩ => ⟨S2x16384x1024, .f32⟩
  | .hbm, ⟨29, _⟩ => ⟨S2x16384x1024, .f32⟩
  | .hbm, ⟨30, _⟩ => ⟨S1x1x1024, .f32⟩
  | .hbm, ⟨31, _⟩ => ⟨S2x16384x1024, .f32⟩
  | .hbm, ⟨32, _⟩ => ⟨S2x16384x1024, .f32⟩
  | .hbm, ⟨33, _⟩ => ⟨S2x1x1x1024, .f32⟩
  | .hbm, ⟨34, _⟩ => ⟨S2x1024, .f32⟩
  | .hbm, ⟨35, _⟩ => ⟨S2x1x1024, .f32⟩
  | .hbm, ⟨36, _⟩ => ⟨S_, .f32⟩
  | .hbm, ⟨37, _⟩ => ⟨S2x1x1024, .f32⟩
  | .hbm, ⟨38, _⟩ => ⟨S2x1x1024, .f32⟩
  | .hbm, ⟨39, _⟩ => ⟨S2x16384x1024, .f32⟩
  | .hbm, ⟨40, _⟩ => ⟨S2x16384x1024, .f32⟩
  | .hbm, ⟨41, _⟩ => ⟨S2x1x1x1024, .f32⟩
  | .hbm, ⟨42, _⟩ => ⟨S2x1024, .f32⟩
  | .hbm, ⟨43, _⟩ => ⟨S2x1x1024, .f32⟩
  | .hbm, ⟨44, _⟩ => ⟨S2x16384x1024, .f32⟩
  | .hbm, ⟨45, _⟩ => ⟨S2x16384x1024, .f32⟩
  | .hbm, ⟨46, _⟩ => ⟨S1x1x1024x5632, .f32⟩
  | .hbm, ⟨47, _⟩ => ⟨S1024x5632, .f32⟩
  | .hbm, ⟨48, _⟩ => ⟨S1x1x2816x1024, .f32⟩
  | .hbm, ⟨49, _⟩ => ⟨S2816x1024, .f32⟩
  | .hbm, ⟨50, _⟩ => ⟨S2x16384x5632, .f32⟩
  | .hbm, ⟨51, _⟩ => ⟨S2x16384x2816, .f32⟩
  | .hbm, ⟨52, _⟩ => ⟨S2x16384x2816, .f32⟩
  | .hbm, ⟨53, _⟩ => ⟨S2x16384x2816, .f32⟩
  | .hbm, ⟨54, _⟩ => ⟨S2x16384x2816, .f32⟩
  | .hbm, ⟨55, _⟩ => ⟨S_, .f32⟩
  | .hbm, ⟨56, _⟩ => ⟨S2x16384x2816, .f32⟩
  | .hbm, ⟨57, _⟩ => ⟨S2x16384x2816, .f32⟩
  | .hbm, ⟨58, _⟩ => ⟨S_, .f32⟩
  | .hbm, ⟨59, _⟩ => ⟨S2x16384x2816, .f32⟩
  | .hbm, ⟨60, _⟩ => ⟨S2x16384x2816, .f32⟩
  | .hbm, ⟨61, _⟩ => ⟨S2x16384x2816, .f32⟩
  | .hbm, ⟨62, _⟩ => ⟨S2x16384x2816, .f32⟩
  | .hbm, ⟨63, _⟩ => ⟨S2x16384x1024, .f32⟩
  | .hbm, ⟨64, _⟩ => ⟨S2x16384x1024, .f32⟩
  | .hbm, ⟨65, _⟩ => ⟨S2x16384x1024, .f32⟩
  | .hbm, ⟨66, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩

abbrev nD : Nat := 1
abbrev τ : Topo := Topo.v7x

variable {F : FTy → Type} [FloatOps F]
-- ==== FfnCd.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x128 : Shape := ⟨2, ![2, 128]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x128 : Shape := ⟨2, ![1, 128]⟩
abbrev S128 : Shape := ⟨1, ![128]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 23
  | .vmem => 25
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x128, .f32⟩
  | .hbm, ⟨7, _⟩ => ⟨S2x1024x1024, .f32⟩
  | .hbm, ⟨8, _⟩ => ⟨S4x3x1024, .f32⟩
  | .hbm, ⟨9, _⟩ => ⟨S4x2x1024x5632, .f32⟩
  | .hbm, ⟨10, _⟩ => ⟨S4x2x2816x1024, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S1x1024x1024, .f32⟩
  | .hbm, ⟨15, _⟩ => ⟨S1024x1024, .f32⟩
  | .hbm, ⟨16, _⟩ => ⟨S1024x1024, .bf16⟩
  | .hbm, ⟨17, _⟩ => ⟨S1x1x1024, .f32⟩
  | .hbm, ⟨18, _⟩ => ⟨S1024, .f32⟩
  | .hbm, ⟨19, _⟩ => ⟨S1x1024, .f32⟩
  | .hbm, ⟨20, _⟩ => ⟨S4x2x1024x5632, .bf16⟩
  | .hbm, ⟨21, _⟩ => ⟨S4x2x2816x1024, .bf16⟩
  | .hbm, ⟨22, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x128, .f32⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1x1024x5632, .bf16⟩
  | .local _ .vmem, ⟨22, _⟩ => ⟨S1x1x2816x1024, .bf16⟩
  | .local _ .vmem, ⟨23, _⟩ => ⟨S1x512x1024, .f32⟩
  | .local _ .vmem, ⟨24, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c112_i32 : BitVec 32 := 112#32
  let v0 : BitVec 32 := Scalar.addi c112_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c120_i32 : BitVec 32 := 120#32
  let v0 : BitVec 32 := Scalar.addi c120_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.addi c128_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c136_i32 : BitVec 32 := 136#32
  let v0 : BitVec 32 := Scalar.addi c136_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_13 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== FfnCdRefIdeal.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x128 : Shape := ⟨2, ![2, 128]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x3x8x1024 : Shape := ⟨5, ![4, 3, 3, 8, 1024]⟩
abbrev S1x3x3x2x1024 : Shape := ⟨5, ![1, 3, 3, 2, 1024]⟩
abbrev S3x3x2x1024 : Shape := ⟨4, ![3, 3, 2, 1024]⟩
abbrev S2x3x3x1024 : Shape := ⟨4, ![2, 3, 3, 1024]⟩
abbrev S1x128 : Shape := ⟨2, ![1, 128]⟩
abbrev S128 : Shape := ⟨1, ![128]⟩
abbrev S2x16384x4x128 : Shape := ⟨4, ![2, 16384, 4, 128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩

abbrev nBuf : Space → Nat
  | .hbm => 115
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x128, .f32⟩
  | .hbm, ⟨7, _⟩ => ⟨S2x1024x1024, .f32⟩
  | .hbm, ⟨8, _⟩ => ⟨S4x3x1024, .f32⟩
  | .hbm, ⟨9, _⟩ => ⟨S4x2x1024x5632, .f32⟩
  | .hbm, ⟨10, _⟩ => ⟨S4x2x2816x1024, .f32⟩
  | .hbm, ⟨11, _⟩ => ⟨S4x3x3x8x1024, .f32⟩
  | .hbm, ⟨12, _⟩ => ⟨S1x3x3x2x1024, .f32⟩
  | .hbm, ⟨13, _⟩ => ⟨S3x3x2x1024, .f32⟩
  | .hbm, ⟨14, _⟩ => ⟨S2x3x3x1024, .f32⟩
  | .hbm, ⟨15, _⟩ => ⟨S2x16384x512, .f32⟩
  | .hbm, ⟨16, _⟩ => ⟨S1x128, .f32⟩
  | .hbm, ⟨17, _⟩ => ⟨S128, .f32⟩
  | .hbm, ⟨18, _⟩ => ⟨S2x16384x4x128, .f32⟩
  | .hbm, ⟨19, _⟩ => ⟨S2x16384x4x128, .f32⟩
  | .hbm, ⟨20, _⟩ => ⟨S_, .f32⟩
  | .hbm, ⟨21, _⟩ => ⟨S2x16384x4, .f32⟩
  | .hbm, ⟨22, _⟩ => ⟨S2x16384x4x1, .f32⟩
  | .hbm, ⟨23, _⟩ => ⟨S_, .f32⟩
  | .hbm, ⟨24, _⟩ => ⟨S2x16384x4x1, .f32⟩
  | .hbm, ⟨25, _⟩ => ⟨S2x16384x4x1, .f32⟩
  | .hbm, ⟨26, _⟩ => ⟨S_, .f32⟩
  | .hbm, ⟨27, _⟩ => ⟨S2x16384x4x1, .f32⟩
  | .hbm, ⟨28, _⟩ => ⟨S2x16384x4x1, .f32⟩
  | .hbm, ⟨29, _⟩ => ⟨S2x16384x4x1, .f32⟩
  | .hbm, ⟨30, _⟩ => ⟨S2x16384x4x128, .f32⟩
  | .hbm, ⟨31, _⟩ => ⟨S2x16384x4x128, .f32⟩
  | .hbm, ⟨32, _⟩ => ⟨S1x1x1x128, .f32⟩
  | .hbm, ⟨33, _⟩ => ⟨S2x16384x4x128, .f32⟩
  | .hbm, ⟨34, _⟩ => ⟨S2x16384x4x128, .f32⟩
  | .hbm, ⟨35, _⟩ => ⟨S2x16384x4x128, .f32⟩
  | .hbm, ⟨36, _⟩ => ⟨S2x16384x4x128, .f32⟩
  | .hbm, ⟨37, _⟩ => ⟨S2x16384x4x128, .f32⟩
  | .hbm, ⟨38, _⟩ => ⟨S_, .f32⟩
  | .hbm, ⟨39, _⟩ => ⟨S2x16384x4x128, .f32⟩
  | .hbm, ⟨40, _⟩ => ⟨S2x16384x4x128, .f32⟩
  | .hbm, ⟨41, _⟩ => ⟨S_, .f32⟩
  | .hbm, ⟨42, _⟩ => ⟨S2x16384x4x128, .f32⟩
  | .hbm, ⟨43, _⟩ => ⟨S2x16384x4x128, .f32⟩
  | .hbm, ⟨44, _⟩ => ⟨S2x16384x4x128, .f32⟩
  | .hbm, ⟨45, _⟩ => ⟨S2x16384x4x128, .f32⟩
  | .hbm, ⟨46, _⟩ => ⟨S2x16384x512, .f32⟩
  | .hbm, ⟨47, _⟩ => ⟨S2x16384x1024, .f32⟩
  | .hbm, ⟨48, _⟩ => ⟨S1x1024x1024, .f32⟩
  | .hbm, ⟨49, _⟩ => ⟨S1024x1024, .f32⟩
  | .hbm, ⟨50, _⟩ => ⟨S2x16384x1024, .f32⟩
  | .hbm, ⟨51, _⟩ => ⟨S2x1x1x1024, .f32⟩
  | .hbm, ⟨52, _⟩ => ⟨S2x1024, .f32⟩
  | .hbm, ⟨53, _⟩ => ⟨S2x1x1024, .f32⟩
  | .hbm, ⟨54, _⟩ => ⟨S2x16384x1024, .f32⟩
  | .hbm, ⟨55, _⟩ => ⟨S2x16384x1024, .f32⟩
  | .hbm, ⟨56, _⟩ => ⟨S2x16384x1024, .f32⟩
  | .hbm, ⟨57, _⟩ => ⟨S2x1x1x1024, .f32⟩
  | .hbm, ⟨58, _⟩ => ⟨S2x1024, .f32⟩
  | .hbm, ⟨59, _⟩ => ⟨S2x1x1024, .f32⟩
  | .hbm, ⟨60, _⟩ => ⟨S_, .f32⟩
  | .hbm, ⟨61, _⟩ => ⟨S2x1x1024, .f32⟩
  | .hbm, ⟨62, _⟩ => ⟨S2x1x1024, .f32⟩
  | .hbm, ⟨63, _⟩ => ⟨S1x1x1024, .f32⟩
  | .hbm, ⟨64, _⟩ => ⟨S1024, .f32⟩
  | .hbm, ⟨65, _⟩ => ⟨S2x16384x1024, .f32⟩
  | .hbm, ⟨66, _⟩ => ⟨S_, .f32⟩
  | .hbm, ⟨67, _⟩ => ⟨S2x16384, .f32⟩
  | .hbm, ⟨68, _⟩ => ⟨S2x16384x1, .f32⟩
  | .hbm, ⟨69, _⟩ => ⟨S_, .f32⟩
  | .hbm, ⟨70, _⟩ => ⟨S2x16384x1, .f32⟩
  | .hbm, ⟨71, _⟩ => ⟨S2x16384x1, .f32⟩
  | .hbm, ⟨72, _⟩ => ⟨S_, .f32⟩
  | .hbm, ⟨73, _⟩ => ⟨S2x16384x1, .f32⟩
  | .hbm, ⟨74, _⟩ => ⟨S2x16384x1, .f32⟩
  | .hbm, ⟨75, _⟩ => ⟨S2x16384x1, .f32⟩
  | .hbm, ⟨76, _⟩ => ⟨S2x16384x1024, .f32⟩
  | .hbm, ⟨77, _⟩ => ⟨S2x16384x1024, .f32⟩
  | .hbm, ⟨78, _⟩ => ⟨S1x1x1024, .f32⟩
  | .hbm, ⟨79, _⟩ => ⟨S2x16384x1024, .f32⟩
  | .hbm, ⟨80, _⟩ => ⟨S2x16384x1024, .f32⟩
  | .hbm, ⟨81, _⟩ => ⟨S2x1x1x1024, .f32⟩
  | .hbm, ⟨82, _⟩ => ⟨S2x1024, .f32⟩
  | .hbm, ⟨83, _⟩ => ⟨S2x1x1024, .f32⟩
  | .hbm, ⟨84, _⟩ => ⟨S_, .f32⟩
  | .hbm, ⟨85, _⟩ => ⟨S2x1x1024, .f32⟩
  | .hbm, ⟨86, _⟩ => ⟨S2x1x1024, .f32⟩
  | .hbm, ⟨87, _⟩ => ⟨S2x16384x1024, .f32⟩
  | .hbm, ⟨88, _⟩ => ⟨S2x16384x1024, .f32⟩
  | .hbm, ⟨89, _⟩ => ⟨S2x1x1x1024, .f32⟩
  | .hbm, ⟨90, _⟩ => ⟨S2x1024, .f32⟩
  | .hbm, ⟨91, _⟩ => ⟨S2x1x1024, .f32⟩
  | .hbm, ⟨92, _⟩ => ⟨S2x16384x1024, .f32⟩
  | .hbm, ⟨93, _⟩ => ⟨S2x16384x1024, .f32⟩
  | .hbm, ⟨94, _⟩ => ⟨S1x1x1024x5632, .f32⟩
  | .hbm, ⟨95, _⟩ => ⟨S1024x5632, .f32⟩
  | .hbm, ⟨96, _⟩ => ⟨S1x1x2816x1024, .f32⟩
  | .hbm, ⟨97, _⟩ => ⟨S2816x1024, .f32⟩
  | .hbm, ⟨98, _⟩ => ⟨S2x16384x5632, .f32⟩
  | .hbm, ⟨99, _⟩ => ⟨S2x16384x2816, .f32⟩
  | .hbm, ⟨100, _⟩ => ⟨S2x16384x2816, .f32⟩
  | .hbm, ⟨101, _⟩ => ⟨S2x16384x2816, .f32⟩
  | .hbm, ⟨102, _⟩ => ⟨S2x16384x2816, .f32⟩
  | .hbm, ⟨103, _⟩ => ⟨S_, .f32⟩
  | .hbm, ⟨104, _⟩ => ⟨S2x16384x2816, .f32⟩
  | .hbm, ⟨105, _⟩ => ⟨S2x16384x2816, .f32⟩
  | .hbm, ⟨106, _⟩ => ⟨S_, .f32⟩
  | .hbm, ⟨107, _⟩ => ⟨S2x16384x2816, .f32⟩
  | .hbm, ⟨108, _⟩ => ⟨S2x16384x2816, .f32⟩
  | .hbm, ⟨109, _⟩ => ⟨S2x16384x2816, .f32⟩
  | .hbm, ⟨110, _⟩ => ⟨S2x16384x2816, .f32⟩
  | .hbm, ⟨111, _⟩ => ⟨S2x16384x1024, .f32⟩
  | .hbm, ⟨112, _⟩ => ⟨S2x16384x1024, .f32⟩
  | .hbm, ⟨113, _⟩ => ⟨S2x16384x1024, .f32⟩
  | .hbm, ⟨114, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_3 : Ref sig .tc := ⟨.hbm, 66, rfl⟩
abbrev main_v43 : Ref sig .tc := ⟨.hbm, 67, rfl⟩
abbrev main_v44 : Ref sig .tc := ⟨.hbm, 68, rfl⟩
abbrev main_cst_4 : Ref sig .tc := ⟨.hbm, 69, rfl⟩
abbrev main_v45 : Ref sig .tc := ⟨.hbm, 70, rfl⟩
abbrev main_v46 : Ref sig .tc := ⟨.hbm, 71, rfl⟩
abbrev main_cst_5 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_6 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_call1_v0 : Ref sig .tc := ⟨.hbm, 101, rfl⟩
abbrev main_call1_v1 : Ref sig .tc := ⟨.hbm, 102, rfl⟩
abbrev main_call1_cst : Ref sig .tc := ⟨.hbm, 103, rfl⟩
abbrev main_call1_v2 : Ref sig .tc := ⟨.hbm, 104, rfl⟩
abbrev main_call1_v3 : Ref sig .tc := ⟨.hbm, 105, rfl⟩
abbrev main_call1_cst_0 : Ref sig .tc := ⟨.hbm, 106, rfl⟩
abbrev main_call1_v4 : Ref sig .tc := ⟨.hbm, 107, rfl⟩
abbrev main_call1_v5 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩

abbrev nD : Nat := 1
abbrev τ : Topo := Topo.v7x

variable {F : FTy → Type} [FloatOps F]
-- ==== FfnLast.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x128 : Shape := ⟨2, ![2, 128]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S1x128 : Shape := ⟨2, ![1, 128]⟩
abbrev S128 : Shape := ⟨1, ![128]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S512x512 : Shape := ⟨2, ![512, 512]⟩
abbrev S512x128 : Shape := ⟨2, ![512, 128]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 25
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x512, .f32⟩
  | .hbm, ⟨6, _⟩ => ⟨S2x128, .f32⟩
  | .hbm, ⟨7, _⟩ => ⟨S2x1024x1024, .f32⟩
  | .hbm, ⟨8, _⟩ => ⟨S4x3x1024, .f32⟩
  | .hbm, ⟨9, _⟩ => ⟨S4x2x1024x5632, .f32⟩
  | .hbm, ⟨10, _⟩ => ⟨S4x2x2816x1024, .f32⟩
  | .hbm, ⟨11, _⟩ => ⟨S1024, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S1x1024x1024, .f32⟩
  | .hbm, ⟨16, _⟩ => ⟨S1024x1024, .f32⟩
  | .hbm, ⟨17, _⟩ => ⟨S1024x1024, .bf16⟩
  | .hbm, ⟨18, _⟩ => ⟨S1x1x1024, .f32⟩
  | .hbm, ⟨19, _⟩ => ⟨S1024, .f32⟩
  | .hbm, ⟨20, _⟩ => ⟨S1x1024, .f32⟩
  | .hbm, ⟨21, _⟩ => ⟨S4x2x1024x5632, .bf16⟩
  | .hbm, ⟨22, _⟩ => ⟨S4x2x2816x1024, .bf16⟩
  | .hbm, ⟨23, _⟩ => ⟨S1x1024, .f32⟩
  | .hbm, ⟨24, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x128, .f32⟩
  | .local _ .vmem, ⟨13, _⟩ => ⟨S1024x1024, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S1x1x1024x5632, .bf16⟩
  | .local _ .vmem, ⟨22, _⟩ => ⟨S1x1x2816x1024, .bf16⟩
  | .local _ .vmem, ⟨23, _⟩ => ⟨S1x1024, .f32⟩
  | .local _ .vmem, ⟨24, _⟩ => ⟨S1x512x1024, .f32⟩
  | .local _ .vmem, ⟨25, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.addi c256_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c264_i32 : BitVec 32 := 264#32
  let v0 : BitVec 32 := Scalar.addi c264_i32 arg0
  let c0_i32 : BitVec 32 := 0#32
  let c0_i32_0 : BitVec 32 := 0#32
  let c0_i32_1 : BitVec 32 := 0#32
  ![v0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c272_i32 : BitVec 32 := 272#32
  let v0 : BitVec 32 := Scalar.addi c272_i32 arg0
  let c0_i32 : BitVec 32 := 0#32
  let c0_i32_0 : BitVec 32 := 0#32
  let c0_i32_1 : BitVec 32 := 0#32
  ![v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c280_i32 : BitVec 32 := 280#32
  let v0 : BitVec 32 := Scalar.addi c280_i32 arg0
  let c0_i32 : BitVec 32 := 0#32
  let c0_i32_0 : BitVec 32 := 0#32
  let c0_i32_1 : BitVec 32 := 0#32
  ![v0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_13 (i : grid0.Coords) : Fin 4 → Nat :=
  let arg0 : BitVec 32 := BitVec.ofNat 32 (i 0).val
  let arg1 : BitVec 32 := BitVec.ofNat 32 (i 1).val
  let c3_i32 : BitVec 32 := 3#32
  let c1_i32 : BitVec 32 := 1#32
  let c0_i32 : BitVec 32 := 0#32
  let c0_i32_0 : BitVec 32 := 0#32
  let c0_i32_1 : BitVec 32 := 0#32
  ![c3_i32.toNat, c1_i32.toNat, c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1x1024x5632 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== FfnLastRefIdeal.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x128 : Shape := ⟨2, ![2, 128]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1024 : Shape := ⟨1, ![1024]⟩
abbrev S4x3x3x8x1024 : Shape := ⟨5, ![4, 3, 3, 8, 1024]⟩
abbrev S1x3x3x2x1024 : Shape := ⟨5, ![1, 3, 3, 2, 1024]⟩
abbrev S3x3x2x1024 : Shape := ⟨4, ![3, 3, 2, 1024]⟩
abbrev S2x3x3x1024 : Shape := ⟨4, ![2, 3, 3, 1024]⟩
abbrev S1x128 : Shape := ⟨2, ![1, 128]⟩
abbrev S128 : Shape := ⟨1, ![128]⟩
abbrev S2x16384x4x128 : Shape := ⟨4, ![2, 16384, 4, 128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S1x1024x1024 : Shape := ⟨3, ![1, 1024, 1024]⟩
abbrev S1024x1024 : Shape := ⟨2, ![1024, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024 : Shape := ⟨3, ![1, 1, 1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩

abbrev nBuf : Space → Nat
  | .hbm => 132
  | .vmem => 0
  | .smem => 0
  | _ => 0

abbrev hbmTy0_0 (i : Nat) : BufTy := match i % 128 with
  | 0 => ⟨S2x16384x1024, .f32⟩
  | 1 => ⟨S288x1x1024, .f32⟩
  | 2 => ⟨S2x16384x512, .f32⟩
  | 3 => ⟨S2x16384x512, .f32⟩
  | 4 => ⟨S2x16384x512, .f32⟩
  | 5 => ⟨S2x16384x512, .f32⟩
  | 6 => ⟨S2x128, .f32⟩
  | 7 => ⟨S2x1024x1024, .f32⟩
  | 8 => ⟨S4x3x1024, .f32⟩
  | 9 => ⟨S4x2x1024x5632, .f32⟩
  | 10 => ⟨S4x2x2816x1024, .f32⟩
  | 11 => ⟨S1024, .f32⟩
  | 12 => ⟨S4x3x3x8x1024, .f32⟩
  | 13 => ⟨S1x3x3x2x1024, .f32⟩
  | 14 => ⟨S3x3x2x1024, .f32⟩
  | 15 => ⟨S2x3x3x1024, .f32⟩
  | 16 => ⟨S2x16384x512, .f32⟩
  | 17 => ⟨S1x128, .f32⟩
  | 18 => ⟨S128, .f32⟩
  | 19 => ⟨S2x16384x4x128, .f32⟩
  | 20 => ⟨S2x16384x4x128, .f32⟩
  | 21 => ⟨S_, .f32⟩
  | 22 => ⟨S2x16384x4, .f32⟩
  | 23 => ⟨S2x16384x4x1, .f32⟩
  | 24 => ⟨S_, .f32⟩
  | 25 => ⟨S2x16384x4x1, .f32⟩
  | 26 => ⟨S2x16384x4x1, .f32⟩
  | 27 => ⟨S_, .f32⟩
  | 28 => ⟨S2x16384x4x1, .f32⟩
  | 29 => ⟨S2x16384x4x1, .f32⟩
  | 30 => ⟨S2x16384x4x1, .f32⟩
  | 31 => ⟨S2x16384x4x128, .f32⟩
  | 32 => ⟨S2x16384x4x128, .f32⟩
  | 33 => ⟨S1x1x1x128, .f32⟩
  | 34 => ⟨S2x16384x4x128, .f32⟩
  | 35 => ⟨S2x16384x4x128, .f32⟩
  | 36 => ⟨S2x16384x4x128, .f32⟩
  | 37 => ⟨S2x16384x4x128, .f32⟩
  | 38 => ⟨S2x16384x4x128, .f32⟩
  | 39 => ⟨S_, .f32⟩
  | 40 => ⟨S2x16384x4x128, .f32⟩
  | 41 => ⟨S2x16384x4x128, .f32⟩
  | 42 => ⟨S_, .f32⟩
  | 43 => ⟨S2x16384x4x128, .f32⟩
  | 44 => ⟨S2x16384x4x128, .f32⟩
  | 45 => ⟨S2x16384x4x128, .f32⟩
  | 46 => ⟨S2x16384x4x128, .f32⟩
  | 47 => ⟨S2x16384x512, .f32⟩
  | 48 => ⟨S2x16384x1024, .f32⟩
  | 49 => ⟨S1x1024x1024, .f32⟩
  | 50 => ⟨S1024x1024, .f32⟩
  | 51 => ⟨S2x16384x1024, .f32⟩
  | 52 => ⟨S2x1x1x1024, .f32⟩
  | 53 => ⟨S2x1024, .f32⟩
  | 54 => ⟨S2x1x1024, .f32⟩
  | 55 => ⟨S2x16384x1024, .f32⟩
  | 56 => ⟨S2x16384x1024, .f32⟩
  | 57 => ⟨S2x16384x1024, .f32⟩
  | 58 => ⟨S2x1x1x1024, .f32⟩
  | 59 => ⟨S2x1024, .f32⟩
  | 60 => ⟨S2x1x1024, .f32⟩
  | 61 => ⟨S_, .f32⟩
  | 62 => ⟨S2x1x1024, .f32⟩
  | 63 => ⟨S2x1x1024, .f32⟩
  | 64 => ⟨S1x1x1024, .f32⟩
  | 65 => ⟨S1024, .f32⟩
  | 66 => ⟨S2x16384x1024, .f32⟩
  | 67 => ⟨S_, .f32⟩
  | 68 => ⟨S2x16384, .f32⟩
  | 69 => ⟨S2x16384x1, .f32⟩
  | 70 => ⟨S_, .f32⟩
  | 71 => ⟨S2x16384x1, .f32⟩
  | 72 => ⟨S2x16384x1, .f32⟩
  | 73 => ⟨S_, .f32⟩
  | 74 => ⟨S2x16384x1, .f32⟩
  | 75 => ⟨S2x16384x1, .f32⟩
  | 76 => ⟨S2x16384x1, .f32⟩
  | 77 => ⟨S2x16384x1024, .f32⟩
  | 78 => ⟨S2x16384x1024, .f32⟩
  | 79 => ⟨S1x1x1024, .f32⟩
  | 80 => ⟨S2x16384x1024, .f32⟩
  | 81 => ⟨S2x16384x1024, .f32⟩
  | 82 => ⟨S2x1x1x1024, .f32⟩
  | 83 => ⟨S2x1024, .f32⟩
  | 84 => ⟨S2x1x1024, .f32⟩
  | 85 => ⟨S_, .f32⟩
  | 86 => ⟨S2x1x1024, .f32⟩
  | 87 => ⟨S2x1x1024, .f32⟩
  | 88 => ⟨S2x16384x1024, .f32⟩
  | 89 => ⟨S2x16384x1024, .f32⟩
  | 90 => ⟨S2x1x1x1024, .f32⟩
  | 91 => ⟨S2x1024, .f32⟩
  | 92 => ⟨S2x1x1024, .f32⟩
  | 93 => ⟨S2x16384x1024, .f32⟩
  | 94 => ⟨S2x16384x1024, .f32⟩
  | 95 => ⟨S1x1x1024x5632, .f32⟩
  | 96 => ⟨S1024x5632, .f32⟩
  | 97 => ⟨S1x1x2816x1024, .f32⟩
  | 98 => ⟨S2816x1024, .f32⟩
  | 99 => ⟨S2x16384x5632, .f32⟩
  | 100 => ⟨S2x16384x2816, .f32⟩
  | 101 => ⟨S2x16384x2816, .f32⟩
  | 102 => ⟨S2x16384x2816, .f32⟩
  | 103 => ⟨S2x16384x2816, .f32⟩
  | 104 => ⟨S_, .f32⟩
  | 105 => ⟨S2x16384x2816, .f32⟩
  | 106 => ⟨S2x16384x2816, .f32⟩
  | 107 => ⟨S_, .f32⟩
  | 108 => ⟨S2x16384x2816, .f32⟩
  | 109 => ⟨S2x16384x2816, .f32⟩
  | 110 => ⟨S2x16384x2816, .f32⟩
  | 111 => ⟨S2x16384x2816, .f32⟩
  | 112 => ⟨S2x16384x1024, .f32⟩
  | 113 => ⟨S2x16384x1024, .f32⟩
  | 114 => ⟨S2x16384x1024, .f32⟩
  | 115 => ⟨S2x16384x1024, .f32⟩
  | 116 => ⟨S2x16384x1024, .f32⟩
  | 117 => ⟨S_, .f32⟩
  | 118 => ⟨S2x16384, .f32⟩
  | 119 => ⟨S2x16384x1, .f32⟩
  | 120 => ⟨S_, .f32⟩
  | 121 => ⟨S2x16384x1, .f32⟩
  | 122 => ⟨S2x16384x1, .f32⟩
  | 123 => ⟨S_, .f32⟩
  | 124 => ⟨S2x16384x1, .f32⟩
  | 125 => ⟨S2x16384x1, .f32⟩
  | 126 => ⟨S2x16384x1, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S1x1x1024, .f32⟩
  | 2 => ⟨S2x16384x1024, .f32⟩
  | 3 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_3 : Ref sig .tc := ⟨.hbm, 67, rfl⟩
abbrev main_v43 : Ref sig .tc := ⟨.hbm, 68, rfl⟩
abbrev main_v44 : Ref sig .tc := ⟨.hbm, 69, rfl⟩
abbrev main_cst_4 : Ref sig .tc := ⟨.hbm, 70, rfl⟩
abbrev main_v45 : Ref sig .tc := ⟨.hbm, 71, rfl⟩
abbrev main_v46 : Ref sig .tc := ⟨.hbm, 72, rfl⟩
abbrev main_cst_5 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_cst_6 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_7 : Ref sig .tc := ⟨.hbm, 117, rfl⟩
abbrev main_v81 : Ref sig .tc := ⟨.hbm, 118, rfl⟩
abbrev main_v82 : Ref sig .tc := ⟨.hbm, 119, rfl⟩
abbrev main_cst_8 : Ref sig .tc := ⟨.hbm, 120, rfl⟩
abbrev main_v83 : Ref sig .tc := ⟨.hbm, 121, rfl⟩
abbrev main_v84 : Ref sig .tc := ⟨.hbm, 122, rfl⟩
abbrev main_cst_9 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩

abbrev nD : Nat := 1
abbrev τ : Topo := Topo.v7x

variable {F : FTy → Type} [FloatOps F]
-- ==== FfnAb.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x16384x128 : Shape := ⟨3, ![2, 16384, 128]⟩
abbrev S2x128 : Shape := ⟨2, ![2, 128]⟩
abbrev S2x512 : Shape := ⟨2, ![2, 512]⟩
abbrev S2x512x512 : Shape := ⟨3, ![2, 512, 512]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S1x128 : Shape := ⟨2, ![1, 128]⟩
abbrev S128 : Shape := ⟨1, ![128]⟩
abbrev S1x512 : Shape := ⟨2, ![1, 512]⟩
abbrev S512 : Shape := ⟨1, ![512]⟩
abbrev S1x512x512 : Shape := ⟨3, ![1, 512, 512]⟩
abbrev S512x512 : Shape := ⟨2, ![512, 512]⟩
abbrev S1x1024x1024 : Shape := ⟨3, ![1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x512x128 : Shape := ⟨3, ![1, 512, 128]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S512x128 : Shape := ⟨2, ![512, 128]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 39
  | .vmem => 36
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S2x16384x512, .f32⟩
  | .hbm, ⟨3, _⟩ => ⟨S2x16384x512, .f32⟩
  | .hbm, ⟨4, _⟩ => ⟨S2x16384x512, .f32⟩
  | .hbm, ⟨5, _⟩ => ⟨S2x16384x128, .f32⟩
  | .hbm, ⟨6, _⟩ => ⟨S2x16384x128, .f32⟩
  | .hbm, ⟨7, _⟩ => ⟨S2x16384x128, .f32⟩
  | .hbm, ⟨8, _⟩ => ⟨S2x16384x128, .f32⟩
  | .hbm, ⟨9, _⟩ => ⟨S2x16384x512, .f32⟩
  | .hbm, ⟨10, _⟩ => ⟨S2x128, .f32⟩
  | .hbm, ⟨11, _⟩ => ⟨S2x512, .f32⟩
  | .hbm, ⟨12, _⟩ => ⟨S2x512x512, .f32⟩
  | .hbm, ⟨13, _⟩ => ⟨S2x512, .f32⟩
  | .hbm, ⟨14, _⟩ => ⟨S2x1024x1024, .f32⟩
  | .hbm, ⟨15, _⟩ => ⟨S4x3x1024, .f32⟩
  | .hbm, ⟨16, _⟩ => ⟨S4x2x1024x5632, .f32⟩
  | .hbm, ⟨17, _⟩ => ⟨S4x2x2816x1024, .f32⟩
  | .hbm, ⟨18, _⟩ => ⟨S1x128, .f32⟩
  | .hbm, ⟨19, _⟩ => ⟨S128, .f32⟩
  | .hbm, ⟨20, _⟩ => ⟨S1x128, .f32⟩
  | .hbm, ⟨21, _⟩ => ⟨S1x512, .f32⟩
  | .hbm, ⟨22, _⟩ => ⟨S512, .f32⟩
  | .hbm, ⟨23, _⟩ => ⟨S1x512, .f32⟩
  | .hbm, ⟨24, _⟩ => ⟨S1x512x512, .f32⟩
  | .hbm, ⟨25, _⟩ => ⟨S512x512, .f32⟩
  | .hbm, ⟨26, _⟩ => ⟨S512x512, .bf16⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S1x1024x1024, .f32⟩
  | .hbm, ⟨31, _⟩ => ⟨S1024x1024, .f32⟩
  | .hbm, ⟨32, _⟩ => ⟨S1024x1024, .bf16⟩
  | .hbm, ⟨33, _⟩ => ⟨S1x1x1024, .f32⟩
  | .hbm, ⟨34, _⟩ => ⟨S1024, .f32⟩
  | .hbm, ⟨35, _⟩ => ⟨S1x1024, .f32⟩
  | .hbm, ⟨36, _⟩ => ⟨S4x2x1024x5632, .bf16⟩
  | .hbm, ⟨37, _⟩ => ⟨S4x2x2816x1024, .bf16⟩
  | .hbm, ⟨38, _⟩ => ⟨S2x16384x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x512, .f32⟩
  | .local _ .vmem, ⟨19, _⟩ => ⟨S1x512x512, .f32⟩
  | .local _ .vmem, ⟨20, _⟩ => ⟨S1x128, .f32⟩
  | .local _ .vmem, ⟨21, _⟩ => ⟨S1x512, .f32⟩
  | .local _ .vmem, ⟨22, _⟩ => ⟨S512x512, .bf16⟩
  | .local _ .vmem, ⟨23, _⟩ => ⟨S1x512, .f32⟩
  | .local _ .vmem, ⟨24, _⟩ => ⟨S1024x1024, .bf16⟩
  | .local _ .vmem, ⟨25, _⟩ => ⟨S1x1x1024, .f32⟩
  | .local _ .vmem, ⟨26, _⟩ => ⟨S1x1x1024, .f32⟩
  | .local _ .vmem, ⟨27, _⟩ => ⟨S1x1x1024, .f32⟩
  | .local _ .vmem, ⟨28, _⟩ => ⟨S1x1x1024, .f32⟩
  | .local _ .vmem, ⟨29, _⟩ => ⟨S1x1x1024, .f32⟩
  | .local _ .vmem, ⟨30, _⟩ => ⟨S1x1x1024, .f32⟩
  | .local _ .vmem, ⟨31, _⟩ => ⟨S1x1024, .f32⟩
  | .local _ .vmem, ⟨32, _⟩ => ⟨S1x1x1024x5632, .bf16⟩
  | .local _ .vmem, ⟨33, _⟩ => ⟨S1x1x2816x1024, .bf16⟩
  | .local _ .vmem, ⟨34, _⟩ => ⟨S1x512x1024, .f32⟩
  | .local _ .vmem, ⟨35, _⟩ => ⟨S1x512x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg19_0 : Ref sig .tc := ⟨.vmem, 32, rfl⟩
abbrev cc0_stg20_0 : Ref sig .tc := ⟨.vmem, 33, rfl⟩
abbrev cc0_stg21_0 : Ref sig .tc := ⟨.vmem, 34, rfl⟩
abbrev cc0_stg21_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem14_0 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem19_0 : DmaSem sig := 32
abbrev cc0_sem20_0 : DmaSem sig := 33
abbrev cc0_sem21_0 : DmaSem sig := 34
abbrev cc0_sem21_1 : DmaSem sig := 35

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![v0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg0
  let c0_i32 : BitVec 32 := 0#32
  let c0_i32_0 : BitVec 32 := 0#32
  let c0_i32_1 : BitVec 32 := 0#32
  ![v0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  let c0_i32_1 : BitVec 32 := 0#32
  ![v0.toNat, c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S1x1x1024x5632 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x1x2816x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== FfnAbRefIdeal.lean ====
abbrev S2x16384x1024 : Shape := ⟨3, ![2, 16384, 1024]⟩
abbrev S288x1x1024 : Shape := ⟨3, ![288, 1, 1024]⟩
abbrev S2x16384x512 : Shape := ⟨3, ![2, 16384, 512]⟩
abbrev S2x16384x128 : Shape := ⟨3, ![2, 16384, 128]⟩
abbrev S2x128 : Shape := ⟨2, ![2, 128]⟩
abbrev S2x512 : Shape := ⟨2, ![2, 512]⟩
abbrev S2x512x512 : Shape := ⟨3, ![2, 512, 512]⟩
abbrev S2x1024x1024 : Shape := ⟨3, ![2, 1024, 1024]⟩
abbrev S4x3x1024 : Shape := ⟨3, ![4, 3, 1024]⟩
abbrev S4x2x1024x5632 : Shape := ⟨4, ![4, 2, 1024, 5632]⟩
abbrev S4x2x2816x1024 : Shape := ⟨4, ![4, 2, 2816, 1024]⟩
abbrev S4x3x3x8x1024 : Shape := ⟨5, ![4, 3, 3, 8, 1024]⟩
abbrev S1x3x3x2x1024 : Shape := ⟨5, ![1, 3, 3, 2, 1024]⟩
abbrev S3x3x2x1024 : Shape := ⟨4, ![3, 3, 2, 1024]⟩
abbrev S2x3x3x1024 : Shape := ⟨4, ![2, 3, 3, 1024]⟩
abbrev S1x128 : Shape := ⟨2, ![1, 128]⟩
abbrev S128 : Shape := ⟨1, ![128]⟩
abbrev S2x16384x4x128 : Shape := ⟨4, ![2, 16384, 4, 128]⟩
abbrev S_ : Shape := ⟨0, ![]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S1x512 : Shape := ⟨2, ![1, 512]⟩
abbrev S512 : Shape := ⟨1, ![512]⟩
abbrev S1x1x512 : Shape := ⟨3, ![1, 1, 512]⟩
abbrev S1x512x512 : Shape := ⟨3, ![1, 512, 512]⟩
abbrev S512x512 : Shape := ⟨2, ![512, 512]⟩
abbrev S1x1024x1024 : Shape := ⟨3, ![1, 1024, 1024]⟩
abbrev S1024x1024 : Shape := ⟨2, ![1024, 1024]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1x1024 : Shape := ⟨3, ![1, 1, 1024]⟩
abbrev S1024 : Shape := ⟨1, ![1024]⟩
abbrev S2x16384 : Shape := ⟨2, ![2, 16384]⟩
abbrev S2x16384x1 : Shape := ⟨3, ![2, 16384, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S2x16384x5632 : Shape := ⟨3, ![2, 16384, 5632]⟩
abbrev S2x16384x2816 : Shape := ⟨3, ![2, 16384, 2816]⟩

abbrev nBuf : Space → Nat
  | .hbm => 163
  | .vmem => 0
  | .smem => 0
  | _ => 0

abbrev hbmTy0_0 (i : Nat) : BufTy := match i % 128 with
  | 0 => ⟨S2x16384x1024, .f32⟩
  | 1 => ⟨S288x1x1024, .f32⟩
  | 2 => ⟨S2x16384x512, .f32⟩
  | 3 => ⟨S2x16384x512, .f32⟩
  | 4 => ⟨S2x16384x512, .f32⟩
  | 5 => ⟨S2x16384x128, .f32⟩
  | 6 => ⟨S2x16384x128, .f32⟩
  | 7 => ⟨S2x16384x128, .f32⟩
  | 8 => ⟨S2x16384x128, .f32⟩
  | 9 => ⟨S2x16384x512, .f32⟩
  | 10 => ⟨S2x128, .f32⟩
  | 11 => ⟨S2x512, .f32⟩
  | 12 => ⟨S2x512x512, .f32⟩
  | 13 => ⟨S2x512, .f32⟩
  | 14 => ⟨S2x1024x1024, .f32⟩
  | 15 => ⟨S4x3x1024, .f32⟩
  | 16 => ⟨S4x2x1024x5632, .f32⟩
  | 17 => ⟨S4x2x2816x1024, .f32⟩
  | 18 => ⟨S4x3x3x8x1024, .f32⟩
  | 19 => ⟨S1x3x3x2x1024, .f32⟩
  | 20 => ⟨S3x3x2x1024, .f32⟩
  | 21 => ⟨S2x3x3x1024, .f32⟩
  | 22 => ⟨S2x16384x512, .f32⟩
  | 23 => ⟨S1x128, .f32⟩
  | 24 => ⟨S128, .f32⟩
  | 25 => ⟨S2x16384x4x128, .f32⟩
  | 26 => ⟨S2x16384x4x128, .f32⟩
  | 27 => ⟨S_, .f32⟩
  | 28 => ⟨S2x16384x4, .f32⟩
  | 29 => ⟨S2x16384x4x1, .f32⟩
  | 30 => ⟨S_, .f32⟩
  | 31 => ⟨S2x16384x4x1, .f32⟩
  | 32 => ⟨S2x16384x4x1, .f32⟩
  | 33 => ⟨S_, .f32⟩
  | 34 => ⟨S2x16384x4x1, .f32⟩
  | 35 => ⟨S2x16384x4x1, .f32⟩
  | 36 => ⟨S2x16384x4x1, .f32⟩
  | 37 => ⟨S2x16384x4x128, .f32⟩
  | 38 => ⟨S2x16384x4x128, .f32⟩
  | 39 => ⟨S1x1x1x128, .f32⟩
  | 40 => ⟨S2x16384x4x128, .f32⟩
  | 41 => ⟨S2x16384x4x128, .f32⟩
  | 42 => ⟨S2x16384x4x128, .f32⟩
  | 43 => ⟨S2x16384x4x128, .f32⟩
  | 44 => ⟨S2x16384x4x128, .f32⟩
  | 45 => ⟨S_, .f32⟩
  | 46 => ⟨S2x16384x4x128, .f32⟩
  | 47 => ⟨S2x16384x4x128, .f32⟩
  | 48 => ⟨S_, .f32⟩
  | 49 => ⟨S2x16384x4x128, .f32⟩
  | 50 => ⟨S2x16384x4x128, .f32⟩
  | 51 => ⟨S2x16384x4x128, .f32⟩
  | 52 => ⟨S2x16384x4x128, .f32⟩
  | 53 => ⟨S2x16384x512, .f32⟩
  | 54 => ⟨S2x16384x512, .f32⟩
  | 55 => ⟨S1x512, .f32⟩
  | 56 => ⟨S512, .f32⟩
  | 57 => ⟨S1x1x512, .f32⟩
  | 58 => ⟨S2x16384x512, .f32⟩
  | 59 => ⟨S2x16384x512, .f32⟩
  | 60 => ⟨S2x16384x512, .f32⟩
  | 61 => ⟨S2x16384x512, .f32⟩
  | 62 => ⟨S2x16384x512, .f32⟩
  | 63 => ⟨S_, .f32⟩
  | 64 => ⟨S2x16384x512, .f32⟩
  | 65 => ⟨S2x16384x512, .f32⟩
  | 66 => ⟨S2x16384x512, .f32⟩
  | 67 => ⟨S_, .f32⟩
  | 68 => ⟨S2x16384x512, .f32⟩
  | 69 => ⟨S2x16384x512, .f32⟩
  | 70 => ⟨S2x16384x512, .f32⟩
  | 71 => ⟨S_, .f32⟩
  | 72 => ⟨S2x16384x512, .f32⟩
  | 73 => ⟨S2x16384x512, .f32⟩
  | 74 => ⟨S_, .f32⟩
  | 75 => ⟨S2x16384x512, .f32⟩
  | 76 => ⟨S2x16384x512, .f32⟩
  | 77 => ⟨S2x16384x512, .f32⟩
  | 78 => ⟨S1x512x512, .f32⟩
  | 79 => ⟨S512x512, .f32⟩
  | 80 => ⟨S2x16384x512, .f32⟩
  | 81 => ⟨S1x512, .f32⟩
  | 82 => ⟨S512, .f32⟩
  | 83 => ⟨S1x1x512, .f32⟩
  | 84 => ⟨S2x16384x512, .f32⟩
  | 85 => ⟨S2x16384x512, .f32⟩
  | 86 => ⟨S2x16384x512, .f32⟩
  | 87 => ⟨S2x16384x512, .f32⟩
  | 88 => ⟨S_, .f32⟩
  | 89 => ⟨S2x16384x512, .f32⟩
  | 90 => ⟨S2x16384x512, .f32⟩
  | 91 => ⟨S_, .f32⟩
  | 92 => ⟨S2x16384x512, .f32⟩
  | 93 => ⟨S2x16384x512, .f32⟩
  | 94 => ⟨S2x16384x512, .f32⟩
  | 95 => ⟨S2x16384x1024, .f32⟩
  | 96 => ⟨S1x1024x1024, .f32⟩
  | 97 => ⟨S1024x1024, .f32⟩
  | 98 => ⟨S2x16384x1024, .f32⟩
  | 99 => ⟨S2x1x1x1024, .f32⟩
  | 100 => ⟨S2x1024, .f32⟩
  | 101 => ⟨S2x1x1024, .f32⟩
  | 102 => ⟨S2x16384x1024, .f32⟩
  | 103 => ⟨S2x16384x1024, .f32⟩
  | 104 => ⟨S2x16384x1024, .f32⟩
  | 105 => ⟨S2x1x1x1024, .f32⟩
  | 106 => ⟨S2x1024, .f32⟩
  | 107 => ⟨S2x1x1024, .f32⟩
  | 108 => ⟨S_, .f32⟩
  | 109 => ⟨S2x1x1024, .f32⟩
  | 110 => ⟨S2x1x1024, .f32⟩
  | 111 => ⟨S1x1x1024, .f32⟩
  | 112 => ⟨S1024, .f32⟩
  | 113 => ⟨S2x16384x1024, .f32⟩
  | 114 => ⟨S_, .f32⟩
  | 115 => ⟨S2x16384, .f32⟩
  | 116 => ⟨S2x16384x1, .f32⟩
  | 117 => ⟨S_, .f32⟩
  | 118 => ⟨S2x16384x1, .f32⟩
  | 119 => ⟨S2x16384x1, .f32⟩
  | 120 => ⟨S_, .f32⟩
  | 121 => ⟨S2x16384x1, .f32⟩
  | 122 => ⟨S2x16384x1, .f32⟩
  | 123 => ⟨S2x16384x1, .f32⟩
  | 124 => ⟨S2x16384x1024, .f32⟩
  | 125 => ⟨S2x16384x1024, .f32⟩
  | 126 => ⟨S1x1x1024, .f32⟩
  | 127 => ⟨S2x16384x1024, .f32⟩
  | _ => ⟨S2x16384x1024, .f32⟩

abbrev hbmTy0_1 (i : Nat) : BufTy := match i % 128 with
  | 0 => ⟨S2x16384x1024, .f32⟩
  | 1 => ⟨S2x1x1x1024, .f32⟩
  | 2 => ⟨S2x1024, .f32⟩
  | 3 => ⟨S2x1x1024, .f32⟩
  | 4 => ⟨S_, .f32⟩
  | 5 => ⟨S2x1x1024, .f32⟩
  | 6 => ⟨S2x1x1024, .f32⟩
  | 7 => ⟨S2x16384x1024, .f32⟩
  | 8 => ⟨S2x16384x1024, .f32⟩
  | 9 => ⟨S2x1x1x1024, .f32⟩
  | 10 => ⟨S2x1024, .f32⟩
  | 11 => ⟨S2x1x1024, .f32⟩
  | 12 => ⟨S2x16384x1024, .f32⟩
  | 13 => ⟨S2x16384x1024, .f32⟩
  | 14 => ⟨S1x1x1024x5632, .f32⟩
  | 15 => ⟨S1024x5632, .f32⟩
  | 16 => ⟨S1x1x2816x1024, .f32⟩
  | 17 => ⟨S2816x1024, .f32⟩
  | 18 => ⟨S2x16384x5632, .f32⟩
  | 19 => ⟨S2x16384x2816, .f32⟩
  | 20 => ⟨S2x16384x2816, .f32⟩
  | 21 => ⟨S2x16384x2816, .f32⟩
  | 22 => ⟨S2x16384x2816, .f32⟩
  | 23 => ⟨S_, .f32⟩
  | 24 => ⟨S2x16384x2816, .f32⟩
  | 25 => ⟨S2x16384x2816, .f32⟩
  | 26 => ⟨S_, .f32⟩
  | 27 => ⟨S2x16384x2816, .f32⟩
  | 28 => ⟨S2x16384x2816, .f32⟩
  | 29 => ⟨S2x16384x2816, .f32⟩
  | 30 => ⟨S2x16384x2816, .f32⟩
  | 31 => ⟨S2x16384x1024, .f32⟩
  | 32 => ⟨S2x16384x1024, .f32⟩
  | 33 => ⟨S2x16384x1024, .f32⟩
  | 34 => ⟨S2x16384x1024, .f32⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst : Ref sig .tc := ⟨.hbm, 27, rfl⟩
abbrev main_v9 : Ref sig .tc := ⟨.hbm, 28, rfl⟩
abbrev main_v10 : Ref sig .tc := ⟨.hbm, 29, rfl⟩
abbrev main_cst_0 : Ref sig .tc := ⟨.hbm, 30, rfl⟩
abbrev main_v11 : Ref sig .tc := ⟨.hbm, 31, rfl⟩
abbrev main_v12 : Ref sig .tc := ⟨.hbm, 32, rfl⟩
abbrev main_cst_1 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_2 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_3 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_cst_5 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_cst_6 : Ref sig .tc := ⟨.hbm, 88, rfl⟩
abbrev main_v55 : Ref sig .tc := ⟨.hbm, 89, rfl⟩
abbrev main_v56 : Ref sig .tc := ⟨.hbm, 90, rfl⟩
abbrev main_cst_7 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_8 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_9 : Ref sig .tc := ⟨.hbm, 114, rfl⟩
abbrev main_v78 : Ref sig .tc := ⟨.hbm, 115, rfl⟩
abbrev main_v79 : Ref sig .tc := ⟨.hbm, 116, rfl⟩
abbrev main_cst_10 : Ref sig .tc := ⟨.hbm, 117, rfl⟩
abbrev main_v80 : Ref sig .tc := ⟨.hbm, 118, rfl⟩
abbrev main_v81 : Ref sig .tc := ⟨.hbm, 119, rfl⟩
abbrev main_cst_11 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_12 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_call1_v5 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩

abbrev nD : Nat := 1
abbrev τ : Topo := Topo.v7x

variable {F : FTy → Type} [FloatOps F]
-- ==== InprojCd.lean ====
abbrev S2x16384x1024 : Shape := ⟨3, ![2, 16384, 1024]⟩
abbrev S288x1x1024 : Shape := ⟨3, ![288, 1, 1024]⟩
abbrev S4x3x1024 : Shape := ⟨3, ![4, 3, 1024]⟩
abbrev S2x1024x3584 : Shape := ⟨3, ![2, 1024, 3584]⟩
abbrev S1x1x1024 : Shape := ⟨3, ![1, 1, 1024]⟩
abbrev S1024 : Shape := ⟨1, ![1024]⟩
abbrev S1x1024 : Shape := ⟨2, ![1, 1024]⟩
abbrev S1x1024x3584 : Shape := ⟨3, ![1, 1024, 3584]⟩
abbrev S1024x3584 : Shape := ⟨2, ![1024, 3584]⟩
abbrev S2x16384x512 : Shape := ⟨3, ![2, 16384, 512]⟩
abbrev S1x512x1024 : Shape := ⟨3, ![1, 512, 1024]⟩
abbrev S1024x512 : Shape := ⟨2, ![1024, 512]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩

abbrev nBuf : Space → Nat
  | .hbm => 16
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S4x3x1024, .f32⟩
  | .hbm, ⟨3, _⟩ => ⟨S2x1024x3584, .f32⟩
  | .hbm, ⟨4, _⟩ => ⟨S1x1x1024, .f32⟩
  | .hbm, ⟨5, _⟩ => ⟨S1024, .f32⟩
  | .hbm, ⟨6, _⟩ => ⟨S1x1024, .f32⟩
  | .hbm, ⟨7, _⟩ => ⟨S1x1024x3584, .f32⟩
  | .hbm, ⟨8, _⟩ => ⟨S1024x3584, .f32⟩
  | .hbm, ⟨9, _⟩ => ⟨S1024x3584, .bf16⟩
  | .hbm, ⟨10, _⟩ => ⟨S2x16384x512, .f32⟩
  | .hbm, ⟨11, _⟩ => ⟨S2x16384x512, .f32⟩
  | .hbm, ⟨12, _⟩ => ⟨S2x16384x512, .f32⟩
  | .hbm, ⟨13, _⟩ => ⟨S2x16384x512, .f32⟩
  | .hbm, ⟨14, _⟩ => ⟨S2x16384x512, .f32⟩
  | .hbm, ⟨15, _⟩ => ⟨S2x16384x512, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .f32⟩
  | .local _ .vmem, ⟨22, _⟩ => ⟨S1x512x512, .f32⟩
  | .local _ .vmem, ⟨23, _⟩ => ⟨S1x512x512, .f32⟩
  | .local _ .vmem, ⟨24, _⟩ => ⟨S1x512x512, .f32⟩
  | .local _ .vmem, ⟨25, _⟩ => ⟨S1x512x512, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev main_v6_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c96_i32 : BitVec 32 := 96#32
  let v0 : BitVec 32 := Scalar.addi c96_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c104_i32 : BitVec 32 := 104#32
  let v0 : BitVec 32 := Scalar.addi c104_i32 arg0
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![c0_i32.toNat, c5_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![c0_i32.toNat, c6_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InprojCdRefIdeal.lean ====
abbrev S2x16384x1024 : Shape := ⟨3, ![2, 16384, 1024]⟩
abbrev S288x1x1024 : Shape := ⟨3, ![288, 1, 1024]⟩
abbrev S4x3x1024 : Shape := ⟨3, ![4, 3, 1024]⟩
abbrev S2x1024x3584 : Shape := ⟨3, ![2, 1024, 3584]⟩
abbrev S1x1x1024 : Shape := ⟨3, ![1, 1, 1024]⟩
abbrev S1024 : Shape := ⟨1, ![1024]⟩
abbrev S4x3x3x8x1024 : Shape := ⟨5, ![4, 3, 3, 8, 1024]⟩
abbrev S1x3x3x2x1024 : Shape := ⟨5, ![1, 3, 3, 2, 1024]⟩
abbrev S3x3x2x1024 : Shape := ⟨4, ![3, 3, 2, 1024]⟩
abbrev S2x3x3x1024 : Shape := ⟨4, ![2, 3, 3, 1024]⟩
abbrev S_ : Shape := ⟨0, ![]⟩
abbrev S2x16384 : Shape := ⟨2, ![2, 16384]⟩
abbrev S2x16384x1 : Shape := ⟨3, ![2, 16384, 1]⟩
abbrev S2x1x1x1024 : Shape := ⟨4, ![2, 1, 1, 1024]⟩
abbrev S2x1024 : Shape := ⟨2, ![2, 1024]⟩
abbrev S2x1x1024 : Shape := ⟨3, ![2, 1, 1024]⟩
abbrev S1x1024x3584 : Shape := ⟨3, ![1, 1024, 3584]⟩
abbrev S1024x3584 : Shape := ⟨2, ![1024, 3584]⟩
abbrev S2x16384x3584 : Shape := ⟨3, ![2, 16384, 3584]⟩
abbrev S2x16384x512 : Shape := ⟨3, ![2, 16384, 512]⟩

abbrev nBuf : Space → Nat
  | .hbm => 59
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S288x1x1024, .f32⟩
  | .hbm, ⟨2, _⟩ => ⟨S4x3x1024, .f32⟩
  | .hbm, ⟨3, _⟩ => ⟨S2x1024x3584, .f32⟩
  | .hbm, ⟨4, _⟩ => ⟨S1x1x1024, .f32⟩
  | .hbm, ⟨5, _⟩ => ⟨S1024, .f32⟩
  | .hbm, ⟨6, _⟩ => ⟨S4x3x3x8x1024, .f32⟩
  | .hbm, ⟨7, _⟩ => ⟨S1x3x3x2x1024, .f32⟩
  | .hbm, ⟨8, _⟩ => ⟨S3x3x2x1024, .f32⟩
  | .hbm, ⟨9, _⟩ => ⟨S2x3x3x1024, .f32⟩
  | .hbm, ⟨10, _⟩ => ⟨S2x16384x1024, .f32⟩
  | .hbm, ⟨11, _⟩ => ⟨S_, .f32⟩
  | .hbm, ⟨12, _⟩ => ⟨S2x16384, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S2x16384x1, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S2x1x1x1024, .f32⟩
  | .hbm, ⟨27, _⟩ => ⟨S2x1024, .f32⟩
  | .hbm, ⟨28, _⟩ => ⟨S2x1x1024, .f32⟩
  | .hbm, ⟨29, _⟩ => ⟨S_, .f32⟩
  | .hbm, ⟨30, _⟩ => ⟨S2x1x1024, .f32⟩
  | .hbm, ⟨31, _⟩ => ⟨S2x1x1024, .f32⟩
  | .hbm, ⟨32, _⟩ => ⟨S2x16384x1024, .f32⟩
  | .hbm, ⟨33, _⟩ => ⟨S2x16384x1024, .f32⟩
  | .hbm, ⟨34, _⟩ => ⟨S2x1x1x1024, .f32⟩
  | .hbm, ⟨35, _⟩ => ⟨S2x1024, .f32⟩
  | .hbm, ⟨36, _⟩ => ⟨S2x1x1024, .f32⟩
  | .hbm, ⟨37, _⟩ => ⟨S2x16384x1024, .f32⟩
  | .hbm, ⟨38, _⟩ => ⟨S2x16384x1024, .f32⟩
  | .hbm, ⟨39, _⟩ => ⟨S1x1024x3584, .f32⟩
  | .hbm, ⟨40, _⟩ => ⟨S1024x3584, .f32⟩
  | .hbm, ⟨41, _⟩ => ⟨S2x16384x3584, .f32⟩
  | .hbm, ⟨42, _⟩ => ⟨S2x16384x1024, .f32⟩
  | .hbm, ⟨43, _⟩ => ⟨S2x16384x512, .f32⟩
  | .hbm, ⟨44, _⟩ => ⟨S2x16384x512, .f32⟩
  | .hbm, ⟨45, _⟩ => ⟨S2x16384x512, .f32⟩
  | .hbm, ⟨46, _⟩ => ⟨S2x16384x512, .f32⟩
  | .hbm, ⟨47, _⟩ => ⟨S_, .f32⟩
  | .hbm, ⟨48, _⟩ => ⟨S2x16384x512, .f32⟩
  | .hbm, ⟨49, _⟩ => ⟨S2x16384x512, .f32⟩
  | .hbm, ⟨50, _⟩ => ⟨S_, .f32⟩
  | .hbm, ⟨51, _⟩ => ⟨S2x16384x512, .f32⟩
  | .hbm, ⟨52, _⟩ => ⟨S2x16384x512, .f32⟩
  | .hbm, ⟨53, _⟩ => ⟨S2x16384x512, .f32⟩
  | .hbm, ⟨54, _⟩ => ⟨S2x16384x512, .f32⟩
  | .hbm, ⟨55, _⟩ => ⟨S2x16384x512, .f32⟩
  | .hbm, ⟨56, _⟩ => ⟨S2x16384x512, .f32⟩
  | .hbm, ⟨57, _⟩ => ⟨S2x16384x512, .f32⟩
  | .hbm, ⟨58, _⟩ => ⟨S2x16384x512, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩

abbrev nD : Nat := 1
abbrev τ : Topo := Topo.v7x

variable {F : FTy → Type} [FloatOps F]
-- ==== Proof.Layer.lean ====
/- The layer's arithmetic for ONE token, as functions of rows of extended reals: the adaptive RMS norm of a row, a dense
   product of a row, and the gated feed-forward block. Both programs of each claim are read against these. -/
module

public import Idealize.ShloMosaic.Lib.Pointwise

@[expose] public section

set_option maxRecDepth 16384

noncomputable section

namespace Cert.Layer

open Idealize.ShloMosaic

/-- A row over the root of its mean square (1024 entries, with the layer's epsilon), times a weight. -/
def rowNorm (x g : Fin 1024 → EReal) (k : Fin 1024) : EReal :=
  x k * Ideal.rsqrt (Ideal.div (∑ i, x i * x i) (Ideal.ofBits .f32 1149239296#32) + Ideal.ofBits .f32 897988541#32) * g k

/-- The adaptive norm: the normed row scaled by one plus the conditioning scale and shifted. -/
def adaRow (x g sc sh : Fin 1024 → EReal) (k : Fin 1024) : EReal :=
  rowNorm x g k * (1 + sc k) + sh k

/-- The product of a row with a matrix. -/
def dense {a b : ℕ} (x : Fin a → EReal) (w : Fin a → Fin b → EReal) (f : Fin b) : EReal := ∑ k, x k * w k f

/-- A value times its logistic. -/
def swish (x : EReal) : EReal := x * Ideal.logistic x

/-- One hidden unit's contribution to an output entry: gate column `g`, value column `u`, output row `d`. -/
def ffnTerm (x : Fin 1024 → EReal) (wu : Fin 1024 → Fin 5632 → EReal) (wd : Fin 2816 → EReal)
    (g u : Fin 5632) (d : Fin 2816) : EReal :=
  swish (dense x wu g) * dense x wu u * wd d

/-- The gated feed-forward block of a row, at one output entry: the sum over the 2816 hidden units. -/
def ffn (x : Fin 1024 → EReal) (wu : Fin 1024 → Fin 5632 → EReal) (wd : Fin 2816 → EReal) : EReal :=
  ∑ f : Fin 2816, ffnTerm x wu wd ⟨f, by omega⟩ ⟨2816 + f, by omega⟩ f

/-- Hidden units `o`, …, `o + 255` of the feed-forward block. -/
def ffnSlice (x : Fin 1024 → EReal) (wu : Fin 1024 → Fin 5632 → EReal) (wd : Fin 2816 → EReal) (o p : ℕ)
    (ho : o + 256 ≤ 2816) (hp : p + 256 ≤ 5632) : EReal :=
  ∑ f : Fin 256, ffnTerm x wu wd ⟨o + f, by omega⟩ ⟨p + f, by omega⟩ ⟨o + f, by omega⟩

/-- The first slice, its offset not written. -/
def ffnSlice0 (x : Fin 1024 → EReal) (wu : Fin 1024 → Fin 5632 → EReal) (wd : Fin 2816 → EReal) : EReal :=
  ∑ f : Fin 256, ffnTerm x wu wd ⟨f, by omega⟩ ⟨2816 + f, by omega⟩ ⟨f, by omega⟩

/-- The feed-forward block is the sum of its eleven slices, first to last. -/
theorem ffn_slices (x : Fin 1024 → EReal) (wu : Fin 1024 → Fin 5632 → EReal) (wd : Fin 2816 → EReal) :
    ffn x wu wd = ffnSlice0 x wu wd
      + ffnSlice x wu wd 256 3072 (by omega) (by omega) + ffnSlice x wu wd 512 3328 (by omega) (by omega)
      + ffnSlice x wu wd 768 3584 (by omega) (by omega) + ffnSlice x wu wd 1024 3840 (by omega) (by omega)
      + ffnSlice x wu wd 1280 4096 (by omega) (by omega) + ffnSlice x wu wd 1536 4352 (by omega) (by omega)
      + ffnSlice x wu wd 1792 4608 (by omega) (by omega) + ffnSlice x wu wd 2048 4864 (by omega) (by omega)
      + ffnSlice x wu wd 2304 5120 (by omega) (by omega) + ffnSlice x wu wd 2560 5376 (by omega) (by omega) := by
  have h (s : Fin 11) (o p : ℕ) (ho : o + 256 ≤ 2816) (hp : p + 256 ≤ 5632) (e : s.val * 256 = o) (e' : 2816 + o = p) :
      (∑ f : Fin 256, ffnTerm x wu wd ⟨s.val * 256 + f, by omega⟩ ⟨2816 + (s.val * 256 + f), by omega⟩ ⟨s.val * 256 + f, by omega⟩)
        = ffnSlice x wu wd o p ho hp := by
    subst e e'
    unfold ffnSlice
    refine Finset.sum_congr rfl fun f _ => ?_
    congr 2
    omega
  have h0 : ffnSlice0 x wu wd = ffnSlice x wu wd 0 2816 (by omega) (by omega) := by
    unfold ffnSlice ffnSlice0
    refine Finset.sum_congr rfl fun f _ => ?_
    congr 2 <;> omega
  have e (F : Fin 11 → EReal) : ∑ s, F s = F 0 + F 1 + F 2 + F 3 + F 4 + F 5 + F 6 + F 7 + F 8 + F 9 + F 10 := by
    simp only [Fin.sum_univ_castSucc, Fin.sum_univ_zero, zero_add]
    rfl
  rw [ffn, Fin.sum_univ_tiles 11 256 rfl, h0, e]
  rw [← h 0 0 2816 (by omega) (by omega) rfl rfl, ← h 1 256 3072 (by omega) (by omega) rfl rfl, ← h 2 512 3328 (by omega) (by omega) rfl rfl,
    ← h 3 768 3584 (by omega) (by omega) rfl rfl, ← h 4 1024 3840 (by omega) (by omega) rfl rfl, ← h 5 1280 4096 (by omega) (by omega) rfl rfl,
    ← h 6 1536 4352 (by omega) (by omega) rfl rfl, ← h 7 1792 4608 (by omega) (by omega) rfl rfl, ← h 8 2048 4864 (by omega) (by omega) rfl rfl,
    ← h 9 2304 5120 (by omega) (by omega) rfl rfl, ← h 10 2560 5376 (by omega) (by omega) rfl rfl]

/-- Channel `d` of the head that starts at channel `o` of a mixer's output: the head over the root of its mean square, times
    the shared weight, times the swish of the gate. -/
def headAt (x gate : Fin 512 → EReal) (g : Fin 128 → EReal) (o : ℕ) (ho : o + 128 ≤ 512) (d : Fin 128) : EReal :=
  x ⟨o + d, by omega⟩ * Ideal.rsqrt (Ideal.div (∑ i : Fin 128, x ⟨o + i, by omega⟩ * x ⟨o + i, by omega⟩) (Ideal.ofBits .f32 1124073472#32)
    + Ideal.ofBits .f32 897988541#32) * g d * swish (gate ⟨o + d, by omega⟩)

/-- All four heads, normed and gated. -/
def headMix (x gate : Fin 512 → EReal) (g : Fin 128 → EReal) (k : Fin 512) : EReal :=
  headAt x gate g (k / 128 * 128) (by omega) ⟨k % 128, by omega⟩

/-- The channel at offset `d` of the head that starts at `o`. -/
theorem headMix_eq (x gate : Fin 512 → EReal) (g : Fin 128 → EReal) (k : Fin 512) (o : ℕ) (d : Fin 128) (ho : o + 128 ≤ 512)
    (h : o % 128 = 0) (hk : (k : ℕ) = o + d) : headMix x gate g k = headAt x gate g o ho d := by
  have e : (k : ℕ) / 128 * 128 = o := by omega
  have e' : (⟨k % 128, by omega⟩ : Fin 128) = d := Fin.ext (by show (k : ℕ) % 128 = d; omega)
  unfold headMix
  rw [e']
  congr 1

/-- Two rows side by side. -/
def joined (a b : Fin 512 → EReal) (k : Fin 1024) : EReal :=
  if h : (k : ℕ) < 512 then a ⟨k, h⟩ else b ⟨k - 512, by omega⟩

/-- A row of the residual plus the gated output projection of a row of mixer outputs. -/
def mixRow (h gate : Fin 1024 → EReal) (x : Fin 1024 → EReal) (w : Fin 1024 → Fin 1024 → EReal) (j : Fin 1024) : EReal :=
  h j + gate j * dense x w j

/-- A row of the residual plus half its gate times the feed-forward block of its adaptive norm. -/
def ffnRow (h gate g sc sh : Fin 1024 → EReal) (wu : Fin 1024 → Fin 5632 → EReal) (wd : Fin 2816 → Fin 1024 → EReal)
    (j : Fin 1024) : EReal :=
  h j + Ideal.ofBits .f32 0x3F000000#32 * gate j * ffn (adaRow h g sc sh) wu (fun f => wd f j)

/-- Four quarters of a row side by side. -/
def quarters (a b c d : Fin 128 → EReal) (k : Fin 512) : EReal :=
  if h : (k : ℕ) < 128 then a ⟨k, h⟩ else if h' : (k : ℕ) - 128 < 128 then b ⟨k - 128, h'⟩
  else if h'' : (k : ℕ) - 128 - 128 < 128 then c ⟨k - 128 - 128, h''⟩ else d ⟨k - 128 - 128 - 128, by omega⟩

/-- The hyperbolic-tangent form of the Gaussian linear unit. -/
def gelu (x : EReal) : EReal :=
  x * (Ideal.ofBits .f32 0x3F000000#32 * (1 + Ideal.tanh (Ideal.ofBits .f32 0x3F4C422A#32
    * (x + Ideal.ofBits .f32 0x3D372713#32 * (x * x * x)))))

/-- The gated linear unit of a row: the activated row times the logistic of its affine image. -/
def gluRow (x : Fin 512 → EReal) (w : Fin 512 → Fin 512 → EReal) (b : Fin 512 → EReal) (k : Fin 512) : EReal :=
  gelu (x k) * Ideal.logistic (dense (fun i => gelu (x i)) w k + b k)

end Cert.Layer

end
-- ==== Proof.FfnRefAt.lean ====
/- The plain feed-forward reference, entry by entry. -/
module

public import proofs.«01_k».proof.Proof.Layer
public import proofs.«01_k».proof.Proof.Gen.FfnRefIdeal.Run

@[expose] public section

set_option maxRecDepth 16384

noncomputable section

namespace Cert.FfnRefIdeal.Value

open Cert.FfnRefIdeal Cert.FfnRefIdeal.Gen Idealize.ShloMosaic Idealize.ShloMosaic.TcCoe Idealize.SL.Sem

/-- The conditioning array of the layer: sample, sublayer, kind, channel. -/
def modOf (mod : FVec Ideal S288x1x1024 .f32) : FVec Ideal S2x3x3x1024 .f32 :=
  transpose S2x3x3x1024 [2, 0, 1, 3] (shapeCast _ (extractStridedSlice S1x3x3x2x1024 ![0, 0, 0, 0, 0] (shapeCast _ mod shapeCasts_S288x1x1024_S4x3x3x8x1024) slices_S4x3x3x8x1024_S1x3x3x2x1024_0_0_0_0_0) shapeCasts_S1x3x3x2x1024_S3x3x2x1024) transposes_S3x3x2x1024_S2x3x3x1024_2_0_1_3

/-- The root-mean-square norm of every row, times a weight. -/
def rms (h : FVec Ideal S2x16384x1024 .f32) (g : FVec Ideal S1024 .f32) : FVec Ideal S2x16384x1024 .f32 :=
  mulf (mulf h (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf h h) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- The normed rows scaled by one plus the conditioning scale, and shifted. -/
def ada (n : FVec Ideal S2x16384x1024 .f32) (sc sh : FVec Ideal S2x1024 .f32) : FVec Ideal S2x16384x1024 .f32 :=
  addf (mulf n (broadcastInDim S2x16384x1024 ![0, 1, 2] bcast_S2x1x1024_S2x16384x1024_0_1_2 (addf (broadcastInDim S2x1x1024 ![] bcast_S_S2x1x1024 (constant S_ .f32 0x3F800000#32)) (broadcastInDim S2x1x1024 ![0, 2] bcast_S2x1024_S2x1x1024_0_2 sc)))) (broadcastInDim S2x16384x1024 ![0, 1, 2] bcast_S2x1x1024_S2x16384x1024_0_1_2 (broadcastInDim S2x1x1024 ![0, 2] bcast_S2x1024_S2x1x1024_0_2 sh))

/-- The hidden units before the gate: the rows times the first matrix. -/
def hidden (x : FVec Ideal S2x16384x1024 .f32) (wu : FVec Ideal S1024x5632 .f32) : FVec Ideal S2x16384x5632 .f32 :=
  Host.dotGeneral (F := Ideal) dot_S2x16384x1024_S1024x5632_S2x16384x5632_2_0_01_1_n_n none x wu

/-- The gated units times the second matrix. -/
def down (u : FVec Ideal S2x16384x5632 .f32) (wd : FVec Ideal S2816x1024 .f32) : FVec Ideal S2x16384x1024 .f32 :=
  Host.dotGeneral (F := Ideal) dot_S2x16384x2816_S2816x1024_S2x16384x1024_2_0_01_1_n_n none
    (mulf (mulf (extractStridedSlice S2x16384x2816 ![0, 0, 0] u slices_S2x16384x5632_S2x16384x2816_0_0_0) (Host.divf (broadcastInDim S2x16384x2816 ![] bcast_S_S2x16384x2816 (constant S_ .f32 0x3F800000#32)) (addf (broadcastInDim S2x16384x2816 ![] bcast_S_S2x16384x2816 (constant S_ .f32 0x3F800000#32)) (Host.exp (Host.negf (extractStridedSlice S2x16384x2816 ![0, 0, 0] u slices_S2x16384x5632_S2x16384x2816_0_0_0))))))
      (extractStridedSlice S2x16384x2816 ![0, 0, 2816] u slices_S2x16384x5632_S2x16384x2816_0_0_2816)) wd

/-- The residual rows plus half the conditioning gate times the block. -/
def resid (h y : FVec Ideal S2x16384x1024 .f32) (gate : FVec Ideal S2x1024 .f32) : FVec Ideal S2x16384x1024 .f32 :=
  addf h (mulf (broadcastInDim S2x16384x1024 ![0, 1, 2] bcast_S2x1x1024_S2x16384x1024_0_1_2 (mulf (broadcastInDim S2x1x1024 ![] bcast_S_S2x1x1024 (constant S_ .f32 0x3F000000#32)) (broadcastInDim S2x1x1024 ![0, 2] bcast_S2x1024_S2x1x1024_0_2 gate))) y)

/-- Half-step feed-forward sublayer of the rows `h`: its norm's weight, its conditioning, its matrices. -/
def sublayer (h : FVec Ideal S2x16384x1024 .f32) (g : FVec Ideal S1024 .f32) (sh sc gate : FVec Ideal S2x1024 .f32)
    (wu : FVec Ideal S1024x5632 .f32) (wd : FVec Ideal S2816x1024 .f32) : FVec Ideal S2x16384x1024 .f32 :=
  resid h (down (hidden (ada (rms h g) sc sh) wu) wd) gate

theorem rms_at (h : FVec Ideal S2x16384x1024 .f32) (g : FVec Ideal S1024 .f32) (b : Fin 2) (r : Fin 16384) (k : Fin 1024) :
    rms h g (ix3 b r k) = Layer.rowNorm (fun k => h (ix3 b r k)) (fun k => g (ix1 k)) k := by
  pointwise [rms, Layer.rowNorm]

theorem ada_at (n : FVec Ideal S2x16384x1024 .f32) (sc sh : FVec Ideal S2x1024 .f32) (b : Fin 2) (r : Fin 16384) (k : Fin 1024) :
    ada n sc sh (ix3 b r k) = n (ix3 b r k) * (1 + sc (ix2 b k)) + sh (ix2 b k) := by
  pointwise [ada]

theorem hidden_at (x : FVec Ideal S2x16384x1024 .f32) (wu : FVec Ideal S1024x5632 .f32) (b : Fin 2) (r : Fin 16384) (f : Fin 5632) :
    hidden x wu (ix3 b r f) = Layer.dense (fun k => x (ix3 b r k)) (fun k f => wu (ix2 k f)) f := by
  pointwise [hidden, Layer.dense]

theorem down_at (u : FVec Ideal S2x16384x5632 .f32) (wd : FVec Ideal S2816x1024 .f32) (b : Fin 2) (r : Fin 16384) (j : Fin 1024) :
    down u wd (ix3 b r j) = ∑ f : Fin 2816, Layer.swish (u (ix3 b r ⟨f, by omega⟩)) * u (ix3 b r ⟨2816 + f, by omega⟩) * wd (ix2 f j) := by
  pointwise [down, Layer.swish, Ideal.logistic]

theorem resid_at (h y : FVec Ideal S2x16384x1024 .f32) (gate : FVec Ideal S2x1024 .f32) (b : Fin 2) (r : Fin 16384) (j : Fin 1024) :
    resid h y gate (ix3 b r j) = h (ix3 b r j) + Ideal.ofBits .f32 0x3F000000#32 * gate (ix2 b j) * y (ix3 b r j) := by
  pointwise [resid]

/-- The sublayer at an entry, in the layer's own terms. -/
theorem sublayer_at (h : FVec Ideal S2x16384x1024 .f32) (g : FVec Ideal S1024 .f32) (sh sc gate : FVec Ideal S2x1024 .f32)
    (wu : FVec Ideal S1024x5632 .f32) (wd : FVec Ideal S2816x1024 .f32) (b : Fin 2) (r : Fin 16384) (j : Fin 1024) :
    sublayer h g sh sc gate wu wd (ix3 b r j) = h (ix3 b r j) + Ideal.ofBits .f32 0x3F000000#32 * gate (ix2 b j)
      * Layer.ffn (Layer.adaRow (fun k => h (ix3 b r k)) (fun k => g (ix1 k)) (fun k => sc (ix2 b k)) (fun k => sh (ix2 b k)))
          (fun k f => wu (ix2 k f)) (fun f => wd (ix2 f j)) := by
  unfold sublayer
  rw [resid_at, down_at]
  simp only [hidden_at, ada_at, rms_at]
  rfl

/-- The reference's result is the sublayer of its arguments. -/
theorem res_eq (m : (ℓ : Loc nD τ sig) → Buf (Elt Ideal) ℓ) (c : Dev nD) :
    res_out0 m c = sublayer (m ((c.tc : Thread nD τ).loc main_arg0))
      (shapeCast _ (extractStridedSlice S1x1x1024 ![0, 0, 0] (m ((c.tc : Thread nD τ).loc main_arg2)) slices_S4x3x1024_S1x1x1024_0_0_0) shapeCasts_S1x1x1024_S1024)
      (shapeCast _ (extractStridedSlice S2x1x1x1024 ![0, 0, 0, 0] (modOf (m ((c.tc : Thread nD τ).loc main_arg1))) slices_S2x3x3x1024_S2x1x1x1024_0_0_0_0) shapeCasts_S2x1x1x1024_S2x1024)
      (shapeCast _ (extractStridedSlice S2x1x1x1024 ![0, 0, 1, 0] (modOf (m ((c.tc : Thread nD τ).loc main_arg1))) slices_S2x3x3x1024_S2x1x1x1024_0_0_1_0) shapeCasts_S2x1x1x1024_S2x1024)
      (shapeCast _ (extractStridedSlice S2x1x1x1024 ![0, 0, 2, 0] (modOf (m ((c.tc : Thread nD τ).loc main_arg1))) slices_S2x3x3x1024_S2x1x1x1024_0_0_2_0) shapeCasts_S2x1x1x1024_S2x1024)
      (shapeCast _ (extractStridedSlice S1x1x1024x5632 ![0, 0, 0, 0] (m ((c.tc : Thread nD τ).loc main_arg3)) slices_S4x2x1024x5632_S1x1x1024x5632_0_0_0_0) shapeCasts_S1x1x1024x5632_S1024x5632)
      (shapeCast _ (extractStridedSlice S1x1x2816x1024 ![0, 0, 0, 0] (m ((c.tc : Thread nD τ).loc main_arg4)) slices_S4x2x2816x1024_S1x1x2816x1024_0_0_0_0) shapeCasts_S1x1x2816x1024_S2816x1024) := rfl

/-- The reference's result at an entry, read from its argument arrays. -/
theorem res_at (m : (ℓ : Loc nD τ sig) → Buf (Elt Ideal) ℓ) (c : Dev nD) (h : FVec Ideal S2x16384x1024 .f32)
    (mod : FVec Ideal S288x1x1024 .f32) (ng : FVec Ideal S4x3x1024 .f32) (wu : FVec Ideal S4x2x1024x5632 .f32) (wd : FVec Ideal S4x2x2816x1024 .f32)
    (e0 : m ((c.tc : Thread nD τ).loc main_arg0) = h) (e1 : m ((c.tc : Thread nD τ).loc main_arg1) = mod)
    (e2 : m ((c.tc : Thread nD τ).loc main_arg2) = ng) (e3 : m ((c.tc : Thread nD τ).loc main_arg3) = wu)
    (e4 : m ((c.tc : Thread nD τ).loc main_arg4) = wd) (b : Fin 2) (r : Fin 16384) (j : Fin 1024) :
    (show EReal from res_out0 m c (ix3 b r j)) = h (ix3 b r j) + Ideal.ofBits .f32 0x3F000000#32 * mod (ix3 ⟨16 + b, by omega⟩ 0 j)
      * Layer.ffn (Layer.adaRow (fun k => h (ix3 b r k)) (fun k => ng (ix3 0 0 k)) (fun k => mod (ix3 ⟨8 + b, by omega⟩ 0 k))
          (fun k => mod (ix3 ⟨b, by omega⟩ 0 k))) (fun k f => wu (ix4 0 0 k f)) (fun f => wd (ix4 0 0 f j)) := by
  rw [res_eq, e0, e1, e2, e3, e4, sublayer_at]
  pointwise [modOf]

end Cert.FfnRefIdeal.Value

end
-- ==== Proof.FfnOut.lean ====
/- What one grid point of the plain feed-forward call leaves in its output block, entry by entry. -/
module

public import proofs.«01_k».proof.Proof.Layer
public import proofs.«01_k».proof.Proof.Gen.FfnIdeal.Value
public import Idealize.ShloMosaic.Lib.Pipeline.ValueKit

@[expose] public section

set_option maxRecDepth 16384

noncomputable section

namespace Cert.FfnIdeal.Value

open Cert.FfnIdeal Cert.FfnIdeal.Gen Idealize.ShloMosaic Idealize.ShloMosaic.TcCoe Idealize.SL.Sem

/-- The normed block is the adaptive norm of each of its rows. -/
theorem norm_at (x : Vec Ideal S1x512x1024 .f32) (g : Vec Ideal S1x1024 .f32) (sc sh : Vec Ideal S1x1x1024 .f32)
    (r : Fin 512) (k : Fin 1024) :
    k0_pay3 x g sc sh (ix2 r k) = Layer.adaRow (fun k => x (ix3 0 r k)) (fun k => g (ix2 0 k)) (fun k => sc (ix3 0 0 k))
      (fun k => sh (ix3 0 0 k)) k := by
  pointwise [k0_pay3, k0_pay2, Layer.adaRow, Layer.rowNorm]

/-- The same of the block as the body computes it from the staged inputs. -/
theorem normed_at (x0 : Vec Ideal S1x512x1024 .f32) (x1 x2 x3 : Vec Ideal S1x1x1024 .f32) (x4 : Vec Ideal S1x1024 .f32)
    (x5 : Vec Ideal S1x1x1024x5632 .bf16) (x6 : Vec Ideal S1x1x2816x1024 .bf16) (r : Fin 512) (k : Fin 1024) :
    k0_pay17 x0 x1 x2 x3 x4 x5 x6 (ix2 r k) = Layer.adaRow (fun k => x0 (ix3 0 r k)) (fun k => x4 (ix2 0 k))
      (fun k => x2 (ix3 0 0 k)) (fun k => x1 (ix3 0 0 k)) k := by
  unfold k0_pay17
  rw [norm_at]
  pointwise

set_option maxHeartbeats 1600000 in
/-- The stored block, at an entry: the residual row plus half the conditioning gate times the feed-forward block of the
    normed row. -/
theorem out_at (x0 : Vec Ideal S1x512x1024 .f32) (x1 x2 x3 : Vec Ideal S1x1x1024 .f32) (x4 : Vec Ideal S1x1024 .f32)
    (x5 : Vec Ideal S1x1x1024x5632 .bf16) (x6 : Vec Ideal S1x1x2816x1024 .bf16) (r : Fin 512) (j : Fin 1024) :
    out0_7 x0 x1 x2 x3 x4 x5 x6 (ix3 0 r j) = (x0 (ix3 0 r j) + Ideal.ofBits .f32 0x3F000000#32 * x3 (ix3 0 0 j)
      * Layer.ffn (Layer.adaRow (fun k => x0 (ix3 0 r k)) (fun k => x4 (ix2 0 k)) (fun k => x2 (ix3 0 0 k)) (fun k => x1 (ix3 0 0 k)))
          (fun k f => x5 (ix4 0 0 k f)) (fun f => x6 (ix4 0 0 f j)) : EReal) := by
  rw [Layer.ffn_slices]
  frame_out
  pointwise [k0_pay1, k0_pay2, k0_pay4, k0_pay5, k0_pay6, k0_pay7, k0_pay8, k0_pay9, k0_pay10, k0_pay11, k0_pay12, k0_pay13,
    k0_pay14, k0_pay15, k0_pay16]
  simp only [normed_at, norm_at]
  simp only [Layer.ffnSlice0, Layer.ffnSlice, Layer.ffnTerm, Layer.swish, Layer.dense]

end Cert.FfnIdeal.Value

end
-- ==== Proof.FfnValue.lean ====
/- The plain feed-forward call's result array, as a function of its argument arrays. -/
module

public import proofs.«01_k».proof.Proof.FfnOut

@[expose] public section

set_option maxRecDepth 16384

noncomputable section

namespace Cert.FfnIdeal.Value

open Cert.FfnIdeal Cert.FfnIdeal.Gen Idealize.ShloMosaic Idealize.ShloMosaic.TcCoe Idealize.SL.Sem
open Idealize.ShloMosaic.Pipeline (Dat)

variable (m : (ℓ : Loc nD τ sig) → Buf (Elt Ideal) ℓ)

/-- The result at sample `b`, token `r`, channel `j`, from the argument arrays. -/
def resAt (h : FVec Ideal S2x16384x1024 .f32) (mod : FVec Ideal S288x1x1024 .f32) (ng : FVec Ideal S4x3x1024 .f32)
    (wu : FVec Ideal S4x2x1024x5632 .f32) (wd : FVec Ideal S4x2x2816x1024 .f32) (b : Fin 2) (r : Fin 16384) (j : Fin 1024) : EReal :=
  h (ix3 b r j) + Ideal.ofBits .f32 0x3F000000#32 * mod (ix3 ⟨16 + b, by omega⟩ 0 j)
      * Layer.ffn (Layer.adaRow (fun k => h (ix3 b r k)) (fun k => ng (ix3 0 0 k)) (fun k => mod (ix3 ⟨8 + b, by omega⟩ 0 k))
          (fun k => mod (ix3 ⟨b, by omega⟩ 0 k))) (fun k f => wu (ix4 0 0 k f)) (fun f => wd (ix4 0 0 f j))

/-- The same as an array. -/
def resArr (h : FVec Ideal S2x16384x1024 .f32) (mod : FVec Ideal S288x1x1024 .f32) (ng : FVec Ideal S4x3x1024 .f32)
    (wu : FVec Ideal S4x2x1024x5632 .f32) (wd : FVec Ideal S4x2x2816x1024 .f32) : FVec Ideal S2x16384x1024 .f32 :=
  fun i => resAt h mod ng wu wd (i 0) (i 1) (i 2)

/-- Every window's block index at a grid point: 32 token tiles per sample. -/
theorem idx : ∀ t : Fin cfg0.N, win0_0.index t = ![t.val / 32, t.val % 32, 0] ∧ win0_1.index t = ![t.val / 32, 0, 0]
    ∧ win0_2.index t = ![8 + t.val / 32, 0, 0] ∧ win0_3.index t = ![16 + t.val / 32, 0, 0] ∧ win0_4.index t = ![0, 0]
    ∧ win0_5.index t = ![0, 0, 0, 0] ∧ win0_6.index t = ![0, 0, 0, 0] ∧ win0_7.index t = ![t.val / 32, t.val % 32, 0] :=
  (by decide +kernel : ∀ t : Fin grid0.N, _)

set_option maxHeartbeats 1600000 in
/-- The result array after the run. -/
theorem final (c : Dev nD) : (dats m 0 c).arrAt 7 (cfgs 0).N
    = resArr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  idx_vars y
  rw [Subsingleton.elim y0 0]
  refine (out_at _ _ _ _ _ _ _ y1 y2).trans ?_
  simp only [resArr, resAt, Layer.ffn, Layer.ffnTerm, Layer.swish, Layer.dense, Layer.adaRow, Layer.rowNorm]
  blk_point [iblk, V, idx t]

end Cert.FfnIdeal.Value

end
-- ==== Proof.FfnClaim.lean ====
/- The algebraic claim of the plain feed-forward sublayer. -/
module

public import proofs.«01_k».proof.Defs
public import proofs.«01_k».proof.Proof.FfnRefAt
public import proofs.«01_k».proof.Proof.FfnValue
public import proofs.«01_k».proof.Proof.Gen.FfnIdeal
public import proofs.«01_k».proof.Proof.Gen.FfnRefIdeal

@[expose] public section

set_option maxRecDepth 16384

noncomputable section

namespace Cert.Proof.FfnClaim

open Idealize.ShloMosaic Idealize.ShloMosaic.TcCoe Idealize.SL.Sem

/-- Run on the same arguments, the reference's result array is the array the kernel leaves. -/
theorem res_arr (m : (ℓ : Loc Cert.FfnIdeal.nD Cert.FfnIdeal.τ Cert.FfnIdeal.sig) → Buf (Elt Ideal) ℓ) (m' : (ℓ : Loc Cert.FfnRefIdeal.nD Cert.FfnRefIdeal.τ Cert.FfnRefIdeal.sig) → Buf (Elt Ideal) ℓ)
    (c : Dev Cert.FfnIdeal.nD)
    (e0 : m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0))
    (e1 : m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1))
    (e2 : m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2))
    (e3 : m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3))
    (e4 : m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) :
    Cert.FfnRefIdeal.Value.res_out0 m' c = Cert.FfnIdeal.Value.resArr (m ((c : Thread Cert.FfnIdeal.nD Cert.FfnIdeal.τ).loc Cert.FfnIdeal.main_arg0)) (m ((c : Thread Cert.FfnIdeal.nD Cert.FfnIdeal.τ).loc Cert.FfnIdeal.main_arg1)) (m ((c : Thread Cert.FfnIdeal.nD Cert.FfnIdeal.τ).loc Cert.FfnIdeal.main_arg2)) (m ((c : Thread Cert.FfnIdeal.nD Cert.FfnIdeal.τ).loc Cert.FfnIdeal.main_arg3)) (m ((c : Thread Cert.FfnIdeal.nD Cert.FfnIdeal.τ).loc Cert.FfnIdeal.main_arg4)) := by
  funext i
  idx_vars i
  exact Cert.FfnRefIdeal.Value.res_at m' c _ _ _ _ _ e0 e1 e2 e3 e4 i0 i1 i2

/-- The kernel and the plain sublayer leave the same array. -/
theorem algebraic : Cert.algebraic_FfnIdeal_FfnRefIdeal (hFfnIdeal := Cert.FfnIdeal.Gen.facts) (hFfnRefIdeal := Cert.FfnRefIdeal.Gen.facts) :=
  fun m ρ m' ρ' _ hag => ⟨fun c => (Cert.FfnIdeal.Gen.dats m 0 c).arrAt 7 Cert.FfnIdeal.cfg0.N, Cert.FfnIdeal.Value.run_blocks m ρ,
    (θ_run _ _ _).mono (fun _ h c => by
      obtain ⟨e0, e1, e2, e3, e4⟩ := hag c
      exact ⟨(h c).1.trans ((res_arr m m' c e0 e1 e2 e3 e4).trans (Cert.FfnIdeal.Value.final m c).symm), (h c).2⟩)
      (Cert.FfnRefIdeal.Value.run m' ρ')⟩

end Cert.Proof.FfnClaim

end
-- ==== Proof.MixRefAt.lean ====
/- The mixer part of the sublayer references, stage by stage: the head norms, the gated linear unit over the S5 output, and the
   projection onto the residual, each as a function of arrays with its value at an entry. -/
module

public import proofs.«01_k».proof.Proof.Layer
public import proofs.«01_k».proof.Proof.Gen.FfnAbRefIdeal.Run
public import Idealize.ShloMosaic.Lib.Pipeline.ValueKit

@[expose] public section

set_option maxRecDepth 16384

noncomputable section

namespace Cert.FfnAbRefIdeal.Value

open Cert.FfnAbRefIdeal Cert.FfnAbRefIdeal.Gen Idealize.ShloMosaic Idealize.ShloMosaic.TcCoe Idealize.SL.Sem

/-- Channels split into four heads. -/
def heads (x : FVec Ideal S2x16384x512 .f32) : FVec Ideal S2x16384x4x128 .f32 :=
  shapeCast _ x shapeCasts_S2x16384x512_S2x16384x4x128

/-- The head norm of the heads `x`, times the weight and the swish of the gate's heads, as channels again. -/
def headNorm (x z : FVec Ideal S2x16384x4x128 .f32) (g : FVec Ideal S128 .f32) : FVec Ideal S2x16384x512 .f32 :=
  shapeCast _ (mulf (mulf (mulf x (broadcastInDim S2x16384x4x128 ![0, 1, 2, 3] bcast_S2x16384x4x1_S2x16384x4x128_0_1_2_3 (Host.rsqrt (addf (Host.divf (broadcastInDim S2x16384x4x1 ![0, 1, 2] bcast_S2x16384x4_S2x16384x4x1_0_1_2 (Host.reduceAdd (mulf x x) (constant S_ .f32 0x00000000#32) reducesTo_S2x16384x4x128_S2x16384x4_d3 h_S_)) (broadcastInDim S2x16384x4x1 ![] bcast_S_S2x16384x4x1 (constant S_ .f32 0x43000000#32))) (broadcastInDim S2x16384x4x1 ![] bcast_S_S2x16384x4x1 (constant S_ .f32 0x358637BD#32)))))) (broadcastInDim S2x16384x4x128 ![0, 1, 2, 3] bcast_S1x1x1x128_S2x16384x4x128_0_1_2_3 (broadcastInDim S1x1x1x128 ![3] bcast_S128_S1x1x1x128_3 g))) (mulf z (Host.divf (broadcastInDim S2x16384x4x128 ![] bcast_S_S2x16384x4x128 (constant S_ .f32 0x3F800000#32)) (addf (broadcastInDim S2x16384x4x128 ![] bcast_S_S2x16384x4x128 (constant S_ .f32 0x3F800000#32)) (Host.exp (Host.negf z)))))) shapeCasts_S2x16384x4x128_S2x16384x512

/-- The residual plus the gated projection of two mixers side by side. -/
def project (h : FVec Ideal S2x16384x1024 .f32) (gate : FVec Ideal S2x1024 .f32) (a b : FVec Ideal S2x16384x512 .f32)
    (w : FVec Ideal S1024x1024 .f32) : FVec Ideal S2x16384x1024 .f32 :=
  addf h (mulf (broadcastInDim S2x16384x1024 ![0, 1, 2] bcast_S2x1x1024_S2x16384x1024_0_1_2 (broadcastInDim S2x1x1024 ![0, 2] bcast_S2x1024_S2x1x1024_0_2 gate)) (Host.dotGeneral (F := Ideal) dot_S2x16384x1024_S1024x1024_S2x16384x1024_2_0_01_1_n_n none (concatenate S2x16384x1024 2 [⟨S2x16384x512, a⟩, ⟨S2x16384x512, b⟩] concatenates_S2x16384x512_S2x16384x512_S2x16384x1024_d2) w))

theorem heads_at (x : FVec Ideal S2x16384x512 .f32) (b : Fin 2) (r : Fin 16384) (o : Fin 4) (d : Fin 128) :
    heads x (ix4 b r o d) = x (ix3 b r ⟨o * 128 + d, by omega⟩) := by
  pointwise [heads]

theorem headNorm_at (x z : FVec Ideal S2x16384x512 .f32) (g : FVec Ideal S128 .f32) (b : Fin 2) (r : Fin 16384) (k : Fin 512) :
    headNorm (heads x) (heads z) g (ix3 b r k) = Layer.headMix (fun k => x (ix3 b r k)) (fun k => z (ix3 b r k)) (fun d => g (ix1 d)) k := by
  pointwise [headNorm]
  simp only [heads_at]
  unfold Layer.headMix
  simp only [Layer.headAt, Layer.swish, Ideal.logistic]

theorem project_at (h : FVec Ideal S2x16384x1024 .f32) (gate : FVec Ideal S2x1024 .f32) (a e : FVec Ideal S2x16384x512 .f32)
    (w : FVec Ideal S1024x1024 .f32) (b : Fin 2) (r : Fin 16384) (j : Fin 1024) :
    project h gate a e w (ix3 b r j) = Layer.mixRow (fun j => h (ix3 b r j)) (fun j => gate (ix2 b j))
      (Layer.joined (fun k => a (ix3 b r k)) (fun k => e (ix3 b r k))) (fun k j => w (ix2 k j)) j := by
  pointwise [project, Layer.mixRow, Layer.dense, Layer.joined]

end Cert.FfnAbRefIdeal.Value

end
-- ==== Proof.FfnCdOut.lean ====
/- What one grid point of the feed-forward call that closes a convolution/HGRN sublayer leaves in its output block, entry by
   entry: the two mixers joined, the output projection, the residual, and the feed-forward block of the result. -/
module

public import proofs.«01_k».proof.Proof.Layer
public import proofs.«01_k».proof.Proof.Gen.FfnCdIdeal.Value
public import Idealize.ShloMosaic.Lib.Pipeline.ValueKit

@[expose] public section

set_option maxRecDepth 16384

noncomputable section

namespace Cert.FfnCdIdeal.Value

open Cert.FfnCdIdeal Cert.FfnCdIdeal.Gen Idealize.ShloMosaic Idealize.ShloMosaic.TcCoe Idealize.SL.Sem

/-- The convolution's output beside the four heads of the HGRN output, normed and gated, at a channel. -/
theorem mix_at (cv of ob gt : Vec Ideal S1x512x512 .f32) (g : Vec Ideal S1x128 .f32) (r : Fin 512) (k : Fin 1024) :
    k0_pay10 (k0_pay4 of ob) (k0_pay5 gt) (k0_pay6 g) (k0_pay7 of ob gt g) (k0_pay8 of ob) (k0_pay9 of ob) cv (ix2 r k)
      = Layer.joined (fun k => cv (ix3 0 r k)) (Layer.headMix (fun k => of (ix3 0 r k) + ob (ix3 0 r k))
          (fun k => gt (ix3 0 r k)) (fun d => g (ix2 0 d))) k := by
  unfold Layer.joined
  pointwise [k0_pay10, k0_pay4, k0_pay5, k0_pay6, k0_pay7, k0_pay8, k0_pay9]
  split
  · rfl
  split
  · rw [Layer.headMix_eq _ _ _ _ 0 ⟨k - 512, by omega⟩ (by omega) rfl (by simp)]
    simp only [Layer.headAt, Layer.swish, zero_add]
  split
  · rw [Layer.headMix_eq _ _ _ _ 128 ⟨k - 512 - 128, by omega⟩ (by omega) rfl (by simp only []; omega)]
    simp only [Layer.headAt, Layer.swish]
  split
  · rw [Layer.headMix_eq _ _ _ _ 256 ⟨k - 512 - 128 - 128, by omega⟩ (by omega) rfl (by simp only []; omega)]
    simp only [Layer.headAt, Layer.swish]
  · rw [Layer.headMix_eq _ _ _ _ 384 ⟨k - 512 - 128 - 128 - 128, by omega⟩ (by omega) rfl (by simp only []; omega)]
    simp only [Layer.headAt, Layer.swish]

/-- The residual with the projected mixers, from the row they are read from. -/
theorem h2_at (v1 : FVec Ideal S512x1024 .f32) (v3 : FVec Ideal S1x1024 .f32) (mx : FVec Ideal S512x1024 .f32)
    (w : Vec Ideal S1024x1024 .bf16) (r : Fin 512) (j : Fin 1024) :
    k0_pay11 v1 v3 mx w (ix2 r j)
      = v1 (ix2 r j) + v3 (ix2 0 j) * Layer.dense (fun k => mx (ix2 r k)) (fun k j => w (ix2 k j)) j := by
  pointwise [k0_pay11, Layer.dense]

/-- Its adaptive norm. -/
theorem norm_at (v1 : FVec Ideal S512x1024 .f32) (v3 : FVec Ideal S1x1024 .f32) (mx : FVec Ideal S512x1024 .f32)
    (w : Vec Ideal S1024x1024 .bf16) (g : Vec Ideal S1x1024 .f32) (sc sh : Vec Ideal S1x1x1024 .f32) (r : Fin 512) (k : Fin 1024) :
    k0_pay12 v1 v3 mx w g sc sh (ix2 r k) = Layer.adaRow (fun k => k0_pay11 v1 v3 mx w (ix2 r k)) (fun k => g (ix2 0 k))
      (fun k => sc (ix3 0 0 k)) (fun k => sh (ix3 0 0 k)) k := by
  pointwise [k0_pay12, Layer.adaRow, Layer.rowNorm]

/-- One row of the residual with the projected mixers, from the staged inputs. -/
def h2Row (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (r : Fin 512) (j : Fin 1024) : EReal :=
  x0 (ix3 0 r j) + x1 (ix3 0 0 j) * Layer.dense (Layer.joined (fun k => x2 (ix3 0 r k))
    (Layer.headMix (fun k => x3 (ix3 0 r k) + x4 (ix3 0 r k)) (fun k => x5 (ix3 0 r k)) (fun d => x6 (ix2 0 d))))
    (fun k j => x7 (ix2 k j)) j

/-- That row, as the body computes it. -/
theorem h2_row (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (r : Fin 512) (j : Fin 1024) :
    k0_pay11 (k0_pay2 x0) (k0_pay3 x1) (k0_pay10 (k0_pay4 x3 x4) (k0_pay5 x5) (k0_pay6 x6) (k0_pay7 x3 x4 x5 x6) (k0_pay8 x3 x4)
      (k0_pay9 x3 x4) x2) x7 (ix2 r j) = h2Row x0 x1 x2 x3 x4 x5 x6 x7 r j := by
  rw [h2_at]
  simp only [mix_at]
  unfold h2Row
  pointwise [k0_pay2, k0_pay3]

/-- The residual row at a grid point, from the staged inputs. -/
theorem resid_at (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (r : Fin 512) (j : Fin 1024) :
    k0_pay11 (k0_pay27 x0 x1 x2 x3 x4 x5 x6 x7 x8 x9 x10 x11 x12 x13) (k0_pay28 x0 x1 x2 x3 x4 x5 x6 x7 x8 x9 x10 x11 x12 x13)
      (k0_pay29 x0 x1 x2 x3 x4 x5 x6 x7 x8 x9 x10 x11 x12 x13) (View.ld x7 r0_4) (ix2 r j) = h2Row x0 x1 x2 x3 x4 x5 x6 x7 r j := by
  unfold k0_pay27 k0_pay28 k0_pay29
  rw [h2_row]
  unfold h2Row
  pointwise

/-- The residual row at a grid point, with the projection's weights read whole. -/
theorem resid_at' (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (r : Fin 512) (j : Fin 1024) :
    k0_pay11 (k0_pay27 x0 x1 x2 x3 x4 x5 x6 x7 x8 x9 x10 x11 x12 x13) (k0_pay28 x0 x1 x2 x3 x4 x5 x6 x7 x8 x9 x10 x11 x12 x13)
      (k0_pay29 x0 x1 x2 x3 x4 x5 x6 x7 x8 x9 x10 x11 x12 x13) x7 (ix2 r j) = h2Row x0 x1 x2 x3 x4 x5 x6 x7 r j := by
  unfold k0_pay27 k0_pay28 k0_pay29
  rw [h2_row]
  unfold h2Row
  pointwise

/-- The normed residual block at a grid point, from the staged inputs. -/
theorem normed_at (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (r : Fin 512) (k : Fin 1024) :
    k0_pay30 x0 x1 x2 x3 x4 x5 x6 x7 x8 x9 x10 x11 x12 x13 (ix2 r k)
      = Layer.adaRow (h2Row x0 x1 x2 x3 x4 x5 x6 x7 r) (fun k => x11 (ix2 0 k)) (fun k => x9 (ix3 0 0 k)) (fun k => x8 (ix3 0 0 k)) k := by
  unfold k0_pay30
  rw [norm_at]
  simp only [resid_at]
  pointwise

/-- The normed residual block at its first use. -/
theorem normed_at' (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (r : Fin 512) (k : Fin 1024) :
    k0_pay12 (k0_pay27 x0 x1 x2 x3 x4 x5 x6 x7 x8 x9 x10 x11 x12 x13) (k0_pay28 x0 x1 x2 x3 x4 x5 x6 x7 x8 x9 x10 x11 x12 x13)
        (k0_pay29 x0 x1 x2 x3 x4 x5 x6 x7 x8 x9 x10 x11 x12 x13) x7 x11 x9 x8 (ix2 r k)
      = Layer.adaRow (h2Row x0 x1 x2 x3 x4 x5 x6 x7 r) (fun k => x11 (ix2 0 k)) (fun k => x9 (ix3 0 0 k)) (fun k => x8 (ix3 0 0 k)) k := by
  rw [norm_at]
  simp only [resid_at']

set_option maxHeartbeats 1600000 in
/-- The stored block, at an entry: the residual row plus half the conditioning gate times the feed-forward block of the
    normed row. -/
theorem out_at (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (r : Fin 512) (j : Fin 1024) :
    out0_14 x0 x1 x2 x3 x4 x5 x6 x7 x8 x9 x10 x11 x12 x13 (ix3 0 r j) = (h2Row x0 x1 x2 x3 x4 x5 x6 x7 r j
      + Ideal.ofBits .f32 0x3F000000#32 * x10 (ix3 0 0 j)
      * Layer.ffn (Layer.adaRow (h2Row x0 x1 x2 x3 x4 x5 x6 x7 r) (fun k => x11 (ix2 0 k)) (fun k => x9 (ix3 0 0 k)) (fun k => x8 (ix3 0 0 k)))
          (fun k f => x12 (ix4 0 0 k f)) (fun f => x13 (ix4 0 0 f j)) : EReal) := by
  rw [Layer.ffn_slices]
  frame_out
  pointwise [k0_pay1, k0_pay13, k0_pay14, k0_pay15, k0_pay16, k0_pay17, k0_pay18, k0_pay19, k0_pay20, k0_pay21, k0_pay22, k0_pay23,
    k0_pay24, k0_pay25, k0_pay26]
  simp only [normed_at, normed_at', resid_at']
  simp only [Layer.ffnSlice0, Layer.ffnSlice, Layer.ffnTerm, Layer.swish, Layer.dense]

end Cert.FfnCdIdeal.Value

end
-- ==== Proof.FfnCdValue.lean ====
/- The feed-forward call that closes a convolution/HGRN sublayer: its result array, as a function of its argument arrays. -/
module

public import proofs.«01_k».proof.Proof.FfnCdOut

@[expose] public section

set_option maxRecDepth 16384

noncomputable section

namespace Cert.FfnCdIdeal.Value

open Cert.FfnCdIdeal Cert.FfnCdIdeal.Gen Idealize.ShloMosaic Idealize.ShloMosaic.TcCoe Idealize.SL.Sem
open Idealize.ShloMosaic.Pipeline (Dat)

variable (m : (ℓ : Loc nD τ sig) → Buf (Elt Ideal) ℓ)

/-- The result at sample `b`, token `r`, channel `j`, from the argument arrays. -/
def resAt (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32)
    (b : Fin 2) (r : Fin 16384) (j : Fin 1024) : EReal :=
  Layer.ffnRow (Layer.mixRow (fun j => h (ix3 b r j)) (fun j => mod (ix3 ⟨112 + b, by omega⟩ 0 j))
      (Layer.joined (fun k => cv (ix3 b r k)) (Layer.headMix (fun k => of (ix3 b r k) + ob (ix3 b r k)) (fun k => gt (ix3 b r k))
        (fun d => hg (ix2 0 d)))) (fun k j => wo (ix3 0 k j)))
      (fun j => mod (ix3 ⟨136 + b, by omega⟩ 0 j)) (fun k => ng (ix3 1 2 k)) (fun k => mod (ix3 ⟨128 + b, by omega⟩ 0 k))
      (fun k => mod (ix3 ⟨120 + b, by omega⟩ 0 k)) (fun k f => wu (ix4 1 1 k f)) (fun f j => wd (ix4 1 1 f j)) j

/-- The same as an array. -/
def resArr (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32) : FVec Ideal S2x16384x1024 .f32 :=
  fun i => resAt h mod cv of ob gt hg wo ng wu wd (i 0) (i 1) (i 2)

/-- Every window's block index at a grid point: 32 token tiles per sample. -/
theorem idx : ∀ t : Fin cfg0.N, win0_0.index t = ![t.val / 32, t.val % 32, 0]
    ∧ win0_1.index t = ![112 + t.val / 32, 0, 0]
    ∧ win0_2.index t = ![t.val / 32, t.val % 32, 0]
    ∧ win0_3.index t = ![t.val / 32, t.val % 32, 0]
    ∧ win0_4.index t = ![t.val / 32, t.val % 32, 0]
    ∧ win0_5.index t = ![t.val / 32, t.val % 32, 0]
    ∧ win0_6.index t = ![0, 0]
    ∧ win0_7.index t = ![0, 0]
    ∧ win0_8.index t = ![120 + t.val / 32, 0, 0]
    ∧ win0_9.index t = ![128 + t.val / 32, 0, 0]
    ∧ win0_10.index t = ![136 + t.val / 32, 0, 0]
    ∧ win0_11.index t = ![0, 0]
    ∧ win0_12.index t = ![1, 1, 0, 0]
    ∧ win0_13.index t = ![1, 1, 0, 0]
    ∧ win0_14.index t = ![t.val / 32, t.val % 32, 0] :=
  (by decide +kernel : ∀ t : Fin grid0.N, _)

set_option maxHeartbeats 1600000 in
/-- The result array after the run. -/
theorem final (c : Dev nD) : (dats m 0 c).arrAt 14 (cfgs 0).N
    = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after0_14]
  idx_vars y
  rw [Subsingleton.elim y0 0]
  refine (out_at _ _ _ _ _ _ _ _ _ _ _ _ _ _ y1 y2).trans ?_
  simp only [resArr, resAt, Layer.ffnRow, Layer.mixRow, h2Row, Layer.headMix, Layer.headAt, Layer.joined, Layer.ffn,
    Layer.ffnTerm, Layer.swish, Layer.dense, Layer.adaRow, Layer.rowNorm]
  blk_point [iblk, V, idx t]

end Cert.FfnCdIdeal.Value

end
-- ==== Proof.FfnCdRefAt.lean ====
/- The reference of the feed-forward call that closes a convolution/HGRN sublayer: its result at an entry, read from its argument arrays. -/
module

public import proofs.«01_k».proof.Proof.MixRefAt
public import proofs.«01_k».proof.Proof.FfnRefAt
public import proofs.«01_k».proof.Proof.Gen.FfnCdRefIdeal.Run
public import proofs.«01_k».proof.Proof.FfnCdValue

@[expose] public section

set_option maxRecDepth 16384

noncomputable section

namespace Cert.FfnCdRefIdeal.Value

open Cert.FfnCdRefIdeal Cert.FfnCdRefIdeal.Gen Idealize.ShloMosaic Idealize.ShloMosaic.TcCoe Idealize.SL.Sem

/-- The conditioning array of the layer: sample, sublayer, kind, channel. -/
def modOf (mod : FVec Ideal S288x1x1024 .f32) : FVec Ideal S2x3x3x1024 .f32 :=
  transpose S2x3x3x1024 [2, 0, 1, 3] (shapeCast _ (extractStridedSlice S1x3x3x2x1024 ![1, 0, 0, 0, 0] (shapeCast _ mod shapeCasts_S288x1x1024_S4x3x3x8x1024) slices_S4x3x3x8x1024_S1x3x3x2x1024_1_0_0_0_0) shapeCasts_S1x3x3x2x1024_S3x3x2x1024) transposes_S3x3x2x1024_S2x3x3x1024_2_0_1_3

/-- The residual with the projected mixers. -/
def mixed (m : (ℓ : Loc nD τ sig) → Buf (Elt Ideal) ℓ) (c : Dev nD) : FVec Ideal S2x16384x1024 .f32 :=
  Cert.FfnAbRefIdeal.Value.project (m ((c.tc : Thread nD τ).loc main_arg0))
    (shapeCast _ (extractStridedSlice S2x1x1x1024 ![0, 1, 2, 0] (modOf (m ((c.tc : Thread nD τ).loc main_arg1))) slices_S2x3x3x1024_S2x1x1x1024_0_1_2_0) shapeCasts_S2x1x1x1024_S2x1024)
    (m ((c.tc : Thread nD τ).loc main_arg2)) (Cert.FfnAbRefIdeal.Value.headNorm (Cert.FfnAbRefIdeal.Value.heads (addf (F := Ideal) (s := S2x16384x512) (φ := .f32) (m ((c.tc : Thread nD τ).loc main_arg3)) (m ((c.tc : Thread nD τ).loc main_arg4))))
      (Cert.FfnAbRefIdeal.Value.heads (m ((c.tc : Thread nD τ).loc main_arg5)))
      (shapeCast _ (extractStridedSlice S1x128 ![0, 0] (m ((c.tc : Thread nD τ).loc main_arg6)) slices_S2x128_S1x128_0_0) shapeCasts_S1x128_S128))
    (shapeCast _ (extractStridedSlice S1x1024x1024 ![0, 0, 0] (m ((c.tc : Thread nD τ).loc main_arg7)) slices_S2x1024x1024_S1x1024x1024_0_0_0) shapeCasts_S1x1024x1024_S1024x1024)

/-- The feed-forward sublayer after it. -/
def after (m : (ℓ : Loc nD τ sig) → Buf (Elt Ideal) ℓ) (c : Dev nD) : FVec Ideal S2x16384x1024 .f32 :=
  Cert.FfnRefIdeal.Value.sublayer (mixed m c)
      (shapeCast _ (extractStridedSlice S1x1x1024 ![1, 2, 0] (m ((c.tc : Thread nD τ).loc main_arg8)) slices_S4x3x1024_S1x1x1024_1_2_0) shapeCasts_S1x1x1024_S1024)
      (shapeCast _ (extractStridedSlice S2x1x1x1024 ![0, 2, 0, 0] (modOf (m ((c.tc : Thread nD τ).loc main_arg1))) slices_S2x3x3x1024_S2x1x1x1024_0_2_0_0) shapeCasts_S2x1x1x1024_S2x1024)
      (shapeCast _ (extractStridedSlice S2x1x1x1024 ![0, 2, 1, 0] (modOf (m ((c.tc : Thread nD τ).loc main_arg1))) slices_S2x3x3x1024_S2x1x1x1024_0_2_1_0) shapeCasts_S2x1x1x1024_S2x1024)
      (shapeCast _ (extractStridedSlice S2x1x1x1024 ![0, 2, 2, 0] (modOf (m ((c.tc : Thread nD τ).loc main_arg1))) slices_S2x3x3x1024_S2x1x1x1024_0_2_2_0) shapeCasts_S2x1x1x1024_S2x1024)
      (shapeCast _ (extractStridedSlice S1x1x1024x5632 ![1, 1, 0, 0] (m ((c.tc : Thread nD τ).loc main_arg9)) slices_S4x2x1024x5632_S1x1x1024x5632_1_1_0_0) shapeCasts_S1x1x1024x5632_S1024x5632)
      (shapeCast _ (extractStridedSlice S1x1x2816x1024 ![1, 1, 0, 0] (m ((c.tc : Thread nD τ).loc main_arg10)) slices_S4x2x2816x1024_S1x1x2816x1024_1_1_0_0) shapeCasts_S1x1x2816x1024_S2816x1024)

/-- The reference's result is that sublayer. -/
theorem res_eq (m : (ℓ : Loc nD τ sig) → Buf (Elt Ideal) ℓ) (c : Dev nD) :
    res_out0 m c = after m c := rfl

/-- That array at an entry is the kernel's. -/
theorem res_at (m : (ℓ : Loc nD τ sig) → Buf (Elt Ideal) ℓ) (c : Dev nD) (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32)
    (e0 : m ((c.tc : Thread nD τ).loc main_arg0) = h) (e1 : m ((c.tc : Thread nD τ).loc main_arg1) = mod) (e2 : m ((c.tc : Thread nD τ).loc main_arg2) = cv) (e3 : m ((c.tc : Thread nD τ).loc main_arg3) = of) (e4 : m ((c.tc : Thread nD τ).loc main_arg4) = ob) (e5 : m ((c.tc : Thread nD τ).loc main_arg5) = gt) (e6 : m ((c.tc : Thread nD τ).loc main_arg6) = hg) (e7 : m ((c.tc : Thread nD τ).loc main_arg7) = wo) (e8 : m ((c.tc : Thread nD τ).loc main_arg8) = ng) (e9 : m ((c.tc : Thread nD τ).loc main_arg9) = wu) (e10 : m ((c.tc : Thread nD τ).loc main_arg10) = wd)
    (b : Fin 2) (r : Fin 16384) (j : Fin 1024) :
    after m c (ix3 b r j) = Cert.FfnCdIdeal.Value.resAt h mod cv of ob gt hg wo ng wu wd b r j := by
  unfold after
  rw [Cert.FfnRefIdeal.Value.sublayer_at]
  unfold mixed
  simp only [Cert.FfnAbRefIdeal.Value.project_at, Cert.FfnAbRefIdeal.Value.headNorm_at, e0, e1, e2, e3, e4, e5, e6, e7, e8, e9, e10]
  unfold Cert.FfnCdIdeal.Value.resAt Layer.ffnRow
  pointwise [modOf]

end Cert.FfnCdRefIdeal.Value

end
-- ==== Proof.FfnCdClaim.lean ====
/- The algebraic claim of the feed-forward call that closes a convolution/HGRN sublayer. -/
module

public import proofs.«01_k».proof.Defs
public import proofs.«01_k».proof.Proof.FfnCdRefAt
public import proofs.«01_k».proof.Proof.FfnCdValue
public import proofs.«01_k».proof.Proof.Gen.FfnCdIdeal
public import proofs.«01_k».proof.Proof.Gen.FfnCdRefIdeal

@[expose] public section

set_option maxRecDepth 16384

noncomputable section

namespace Cert.Proof.FfnCdClaim

open Idealize.ShloMosaic Idealize.ShloMosaic.TcCoe Idealize.SL.Sem

/-- Run on the same arguments, the reference's result array is the array the kernel leaves. -/
theorem res_arr (m : (ℓ : Loc Cert.FfnCdIdeal.nD Cert.FfnCdIdeal.τ Cert.FfnCdIdeal.sig) → Buf (Elt Ideal) ℓ) (m' : (ℓ : Loc Cert.FfnCdRefIdeal.nD Cert.FfnCdRefIdeal.τ Cert.FfnCdRefIdeal.sig) → Buf (Elt Ideal) ℓ)
    (c : Dev Cert.FfnCdIdeal.nD)
    (e0 : m' ((c.tc : Thread Cert.FfnCdRefIdeal.nD Cert.FfnCdRefIdeal.τ).loc Cert.FfnCdRefIdeal.main_arg0) = m ((c.tc : Thread Cert.FfnCdIdeal.nD Cert.FfnCdIdeal.τ).loc Cert.FfnCdIdeal.main_arg0))
    (e1 : m' ((c.tc : Thread Cert.FfnCdRefIdeal.nD Cert.FfnCdRefIdeal.τ).loc Cert.FfnCdRefIdeal.main_arg1) = m ((c.tc : Thread Cert.FfnCdIdeal.nD Cert.FfnCdIdeal.τ).loc Cert.FfnCdIdeal.main_arg1))
    (e2 : m' ((c.tc : Thread Cert.FfnCdRefIdeal.nD Cert.FfnCdRefIdeal.τ).loc Cert.FfnCdRefIdeal.main_arg2) = m ((c.tc : Thread Cert.FfnCdIdeal.nD Cert.FfnCdIdeal.τ).loc Cert.FfnCdIdeal.main_arg2))
    (e3 : m' ((c.tc : Thread Cert.FfnCdRefIdeal.nD Cert.FfnCdRefIdeal.τ).loc Cert.FfnCdRefIdeal.main_arg3) = m ((c.tc : Thread Cert.FfnCdIdeal.nD Cert.FfnCdIdeal.τ).loc Cert.FfnCdIdeal.main_arg3))
    (e4 : m' ((c.tc : Thread Cert.FfnCdRefIdeal.nD Cert.FfnCdRefIdeal.τ).loc Cert.FfnCdRefIdeal.main_arg4) = m ((c.tc : Thread Cert.FfnCdIdeal.nD Cert.FfnCdIdeal.τ).loc Cert.FfnCdIdeal.main_arg4))
    (e5 : m' ((c.tc : Thread Cert.FfnCdRefIdeal.nD Cert.FfnCdRefIdeal.τ).loc Cert.FfnCdRefIdeal.main_arg5) = m ((c.tc : Thread Cert.FfnCdIdeal.nD Cert.FfnCdIdeal.τ).loc Cert.FfnCdIdeal.main_arg5))
    (e6 : m' ((c.tc : Thread Cert.FfnCdRefIdeal.nD Cert.FfnCdRefIdeal.τ).loc Cert.FfnCdRefIdeal.main_arg6) = m ((c.tc : Thread Cert.FfnCdIdeal.nD Cert.FfnCdIdeal.τ).loc Cert.FfnCdIdeal.main_arg6))
    (e7 : m' ((c.tc : Thread Cert.FfnCdRefIdeal.nD Cert.FfnCdRefIdeal.τ).loc Cert.FfnCdRefIdeal.main_arg7) = m ((c.tc : Thread Cert.FfnCdIdeal.nD Cert.FfnCdIdeal.τ).loc Cert.FfnCdIdeal.main_arg7))
    (e8 : m' ((c.tc : Thread Cert.FfnCdRefIdeal.nD Cert.FfnCdRefIdeal.τ).loc Cert.FfnCdRefIdeal.main_arg8) = m ((c.tc : Thread Cert.FfnCdIdeal.nD Cert.FfnCdIdeal.τ).loc Cert.FfnCdIdeal.main_arg8))
    (e9 : m' ((c.tc : Thread Cert.FfnCdRefIdeal.nD Cert.FfnCdRefIdeal.τ).loc Cert.FfnCdRefIdeal.main_arg9) = m ((c.tc : Thread Cert.FfnCdIdeal.nD Cert.FfnCdIdeal.τ).loc Cert.FfnCdIdeal.main_arg9))
    (e10 : m' ((c.tc : Thread Cert.FfnCdRefIdeal.nD Cert.FfnCdRefIdeal.τ).loc Cert.FfnCdRefIdeal.main_arg10) = m ((c.tc : Thread Cert.FfnCdIdeal.nD Cert.FfnCdIdeal.τ).loc Cert.FfnCdIdeal.main_arg10)) :
    Cert.FfnCdRefIdeal.Value.after m' c = Cert.FfnCdIdeal.Value.resArr (m ((c : Thread Cert.FfnCdIdeal.nD Cert.FfnCdIdeal.τ).loc Cert.FfnCdIdeal.main_arg0)) (m ((c : Thread Cert.FfnCdIdeal.nD Cert.FfnCdIdeal.τ).loc Cert.FfnCdIdeal.main_arg1)) (m ((c : Thread Cert.FfnCdIdeal.nD Cert.FfnCdIdeal.τ).loc Cert.FfnCdIdeal.main_arg2)) (m ((c : Thread Cert.FfnCdIdeal.nD Cert.FfnCdIdeal.τ).loc Cert.FfnCdIdeal.main_arg3)) (m ((c : Thread Cert.FfnCdIdeal.nD Cert.FfnCdIdeal.τ).loc Cert.FfnCdIdeal.main_arg4)) (m ((c : Thread Cert.FfnCdIdeal.nD Cert.FfnCdIdeal.τ).loc Cert.FfnCdIdeal.main_arg5)) (m ((c : Thread Cert.FfnCdIdeal.nD Cert.FfnCdIdeal.τ).loc Cert.FfnCdIdeal.main_arg6)) (m ((c : Thread Cert.FfnCdIdeal.nD Cert.FfnCdIdeal.τ).loc Cert.FfnCdIdeal.main_arg7)) (m ((c : Thread Cert.FfnCdIdeal.nD Cert.FfnCdIdeal.τ).loc Cert.FfnCdIdeal.main_arg8)) (m ((c : Thread Cert.FfnCdIdeal.nD Cert.FfnCdIdeal.τ).loc Cert.FfnCdIdeal.main_arg9)) (m ((c : Thread Cert.FfnCdIdeal.nD Cert.FfnCdIdeal.τ).loc Cert.FfnCdIdeal.main_arg10)) := by
  funext i
  idx_vars i
  exact Cert.FfnCdRefIdeal.Value.res_at m' c _ _ _ _ _ _ _ _ _ _ _ e0 e1 e2 e3 e4 e5 e6 e7 e8 e9 e10 i0 i1 i2

/-- The kernel and the plain layer leave the same array. -/
theorem algebraic : Cert.algebraic_FfnCdIdeal_FfnCdRefIdeal (hFfnCdIdeal := Cert.FfnCdIdeal.Gen.facts) (hFfnCdRefIdeal := Cert.FfnCdRefIdeal.Gen.facts) :=
  fun m ρ m' ρ' _ hag => ⟨fun c => (Cert.FfnCdIdeal.Gen.dats m 0 c).arrAt 14 Cert.FfnCdIdeal.cfg0.N, Cert.FfnCdIdeal.Value.run_blocks m ρ,
    (θ_run _ _ _).mono (fun _ h c => by
      obtain ⟨e0, e1, e2, e3, e4, e5, e6, e7, e8, e9, e10⟩ := hag c
      exact ⟨(h c).1.trans ((res_arr m m' c e0 e1 e2 e3 e4 e5 e6 e7 e8 e9 e10).trans (Cert.FfnCdIdeal.Value.final m c).symm), (h c).2⟩)
      (Cert.FfnCdRefIdeal.Value.run m' ρ')⟩

end Cert.Proof.FfnCdClaim

end
-- ==== Proof.FfnLastOut.lean ====
/- What one grid point of the last feed-forward call leaves in its output block: the block of the convolution/HGRN
   sublayer's feed-forward call, each row normed with the final weight. -/
module

public import proofs.«01_k».proof.Proof.FfnCdOut
public import proofs.«01_k».proof.Proof.Gen.FfnLastIdeal.Value

@[expose] public section

set_option maxRecDepth 16384

noncomputable section

namespace Cert.FfnLastIdeal.Value

open Cert.FfnLastIdeal Cert.FfnLastIdeal.Gen Idealize.ShloMosaic Idealize.ShloMosaic.TcCoe Idealize.SL.Sem

/-- The stored value is the row norm of the other call's stored value. -/
theorem pay1_at (v91 v255 : FVec Ideal S512x1024 .f32) (v265 : FVec Ideal S512x256 .bf16) (v266 : Vec Ideal S1x1x256x1024 .bf16)
    (v270 : Vec Ideal S1x1x1024 .f32) (g : Vec Ideal S1x1024 .f32) (r : Fin 512) (j : Fin 1024) :
    k0_pay1 v91 v255 v265 v266 v270 g (ix3 0 r j)
      = Layer.rowNorm (fun k => Cert.FfnCdIdeal.Gen.k0_pay1 v91 v255 v265 v266 v270 (ix3 0 r k)) (fun k => g (ix2 0 k)) j := by
  pointwise [k0_pay1, Cert.FfnCdIdeal.Gen.k0_pay1, Layer.rowNorm]

/-- The stored block, at an entry. -/
theorem out_at (x0 : Vec Ideal S1x512x1024 .f32) (x1 : Vec Ideal S1x1x1024 .f32) (x2 x3 x4 x5 : Vec Ideal S1x512x512 .f32)
    (x6 : Vec Ideal S1x128 .f32) (x7 : Vec Ideal S1024x1024 .bf16) (x8 x9 x10 : Vec Ideal S1x1x1024 .f32) (x11 : Vec Ideal S1x1024 .f32)
    (x12 : Vec Ideal S1x1x1024x5632 .bf16) (x13 : Vec Ideal S1x1x2816x1024 .bf16) (x14 : Vec Ideal S1x1024 .f32) (r : Fin 512)
    (j : Fin 1024) :
    out0_15 x0 x1 x2 x3 x4 x5 x6 x7 x8 x9 x10 x11 x12 x13 x14 (ix3 0 r j)
      = Layer.rowNorm (fun k => Cert.FfnCdIdeal.Gen.out0_14 (F := Ideal) x0 x1 x2 x3 x4 x5 x6 x7 x8 x9 x10 x11 x12 x13 (ix3 0 r k))
          (fun k => x14 (ix2 0 k)) j := by
  frame_out
  rw [pay1_at]
  congr 1

end Cert.FfnLastIdeal.Value

end
-- ==== Proof.FfnLastValue.lean ====
/- The last feed-forward call: its result array, as a function of its argument arrays. -/
module

public import proofs.«01_k».proof.Proof.FfnLastOut

@[expose] public section

set_option maxRecDepth 16384

noncomputable section

namespace Cert.FfnLastIdeal.Value

open Cert.FfnLastIdeal Cert.FfnLastIdeal.Gen Idealize.ShloMosaic Idealize.ShloMosaic.TcCoe Idealize.SL.Sem
open Idealize.ShloMosaic.Pipeline (Dat)

variable (m : (ℓ : Loc nD τ sig) → Buf (Elt Ideal) ℓ)

/-- The result at sample `b`, token `r`, channel `j`, from the argument arrays. -/
def resAt (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32) (fg : FVec Ideal S1024 .f32)
    (b : Fin 2) (r : Fin 16384) (j : Fin 1024) : EReal :=
  Layer.rowNorm (Layer.ffnRow (Layer.mixRow (fun j => h (ix3 b r j)) (fun j => mod (ix3 ⟨256 + b, by omega⟩ 0 j))
      (Layer.joined (fun k => cv (ix3 b r k)) (Layer.headMix (fun k => of (ix3 b r k) + ob (ix3 b r k)) (fun k => gt (ix3 b r k))
        (fun d => hg (ix2 1 d)))) (fun k j => wo (ix3 1 k j)))
      (fun j => mod (ix3 ⟨280 + b, by omega⟩ 0 j)) (fun k => ng (ix3 3 2 k)) (fun k => mod (ix3 ⟨272 + b, by omega⟩ 0 k))
      (fun k => mod (ix3 ⟨264 + b, by omega⟩ 0 k)) (fun k f => wu (ix4 3 1 k f)) (fun f j => wd (ix4 3 1 f j)))
    (fun k => fg (ix1 k)) j

/-- The same as an array. -/
def resArr (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32) (fg : FVec Ideal S1024 .f32) : FVec Ideal S2x16384x1024 .f32 :=
  fun i => resAt h mod cv of ob gt hg wo ng wu wd fg (i 0) (i 1) (i 2)

/-- Every window's block index at a grid point: 32 token tiles per sample. -/
theorem idx : ∀ t : Fin cfg0.N, win0_0.index t = ![t.val / 32, t.val % 32, 0]
    ∧ win0_1.index t = ![256 + t.val / 32, 0, 0]
    ∧ win0_2.index t = ![t.val / 32, t.val % 32, 0]
    ∧ win0_3.index t = ![t.val / 32, t.val % 32, 0]
    ∧ win0_4.index t = ![t.val / 32, t.val % 32, 0]
    ∧ win0_5.index t = ![t.val / 32, t.val % 32, 0]
    ∧ win0_6.index t = ![0, 0]
    ∧ win0_7.index t = ![0, 0]
    ∧ win0_8.index t = ![264 + t.val / 32, 0, 0]
    ∧ win0_9.index t = ![272 + t.val / 32, 0, 0]
    ∧ win0_10.index t = ![280 + t.val / 32, 0, 0]
    ∧ win0_11.index t = ![0, 0]
    ∧ win0_12.index t = ![3, 1, 0, 0]
    ∧ win0_13.index t = ![3, 1, 0, 0]
    ∧ win0_14.index t = ![0, 0]
    ∧ win0_15.index t = ![t.val / 32, t.val % 32, 0] :=
  (by decide +kernel : ∀ t : Fin grid0.N, _)

set_option maxHeartbeats 1600000 in
/-- The result array after the run. -/
theorem final (c : Dev nD) : (dats m 0 c).arrAt 15 (cfgs 0).N
    = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 15 _ (by decide +kernel) fun t _ y => ?_
  blk_simp
  rw [after0_15]
  idx_vars y
  rw [Subsingleton.elim y0 0]
  refine (out_at _ _ _ _ _ _ _ _ _ _ _ _ _ _ _ y1 y2).trans ?_
  simp only [Cert.FfnCdIdeal.Value.out_at, resArr, resAt, Layer.ffnRow, Layer.mixRow, Cert.FfnCdIdeal.Value.h2Row, Layer.headMix, Layer.headAt, Layer.joined, Layer.ffn,
    Layer.ffnTerm, Layer.swish, Layer.dense, Layer.adaRow, Layer.rowNorm]
  blk_point [iblk, V, idx t]

end Cert.FfnLastIdeal.Value

end
-- ==== Proof.FfnLastRefAt.lean ====
/- The reference of the last feed-forward call: its result at an entry, read from its argument arrays. -/
module

public import proofs.«01_k».proof.Proof.MixRefAt
public import proofs.«01_k».proof.Proof.FfnRefAt
public import proofs.«01_k».proof.Proof.Gen.FfnLastRefIdeal.Run
public import proofs.«01_k».proof.Proof.FfnLastValue

@[expose] public section

set_option maxRecDepth 16384

noncomputable section

namespace Cert.FfnLastRefIdeal.Value

open Cert.FfnLastRefIdeal Cert.FfnLastRefIdeal.Gen Idealize.ShloMosaic Idealize.ShloMosaic.TcCoe Idealize.SL.Sem
open Idealize.ShloMosaic.StableHlo (launchContents)

/-- The conditioning array of the layer: sample, sublayer, kind, channel. -/
def modOf (mod : FVec Ideal S288x1x1024 .f32) : FVec Ideal S2x3x3x1024 .f32 :=
  transpose S2x3x3x1024 [2, 0, 1, 3] (shapeCast _ (extractStridedSlice S1x3x3x2x1024 ![3, 0, 0, 0, 0] (shapeCast _ mod shapeCasts_S288x1x1024_S4x3x3x8x1024) slices_S4x3x3x8x1024_S1x3x3x2x1024_3_0_0_0_0) shapeCasts_S1x3x3x2x1024_S3x3x2x1024) transposes_S3x3x2x1024_S2x3x3x1024_2_0_1_3

/-- The residual with the projected mixers. -/
def mixed (m : (ℓ : Loc nD τ sig) → Buf (Elt Ideal) ℓ) (c : Dev nD) : FVec Ideal S2x16384x1024 .f32 :=
  Cert.FfnAbRefIdeal.Value.project (m ((c.tc : Thread nD τ).loc main_arg0))
    (shapeCast _ (extractStridedSlice S2x1x1x1024 ![0, 1, 2, 0] (modOf (m ((c.tc : Thread nD τ).loc main_arg1))) slices_S2x3x3x1024_S2x1x1x1024_0_1_2_0) shapeCasts_S2x1x1x1024_S2x1024)
    (m ((c.tc : Thread nD τ).loc main_arg2)) (Cert.FfnAbRefIdeal.Value.headNorm (Cert.FfnAbRefIdeal.Value.heads (addf (F := Ideal) (s := S2x16384x512) (φ := .f32) (m ((c.tc : Thread nD τ).loc main_arg3)) (m ((c.tc : Thread nD τ).loc main_arg4))))
      (Cert.FfnAbRefIdeal.Value.heads (m ((c.tc : Thread nD τ).loc main_arg5)))
      (shapeCast _ (extractStridedSlice S1x128 ![1, 0] (m ((c.tc : Thread nD τ).loc main_arg6)) slices_S2x128_S1x128_1_0) shapeCasts_S1x128_S128))
    (shapeCast _ (extractStridedSlice S1x1024x1024 ![1, 0, 0] (m ((c.tc : Thread nD τ).loc main_arg7)) slices_S2x1024x1024_S1x1024x1024_1_0_0) shapeCasts_S1x1024x1024_S1024x1024)

/-- The feed-forward sublayer after it. -/
def after (m : (ℓ : Loc nD τ sig) → Buf (Elt Ideal) ℓ) (c : Dev nD) : FVec Ideal S2x16384x1024 .f32 :=
  Cert.FfnRefIdeal.Value.sublayer (mixed m c)
      (shapeCast _ (extractStridedSlice S1x1x1024 ![3, 2, 0] (m ((c.tc : Thread nD τ).loc main_arg8)) slices_S4x3x1024_S1x1x1024_3_2_0) shapeCasts_S1x1x1024_S1024)
      (shapeCast _ (extractStridedSlice S2x1x1x1024 ![0, 2, 0, 0] (modOf (m ((c.tc : Thread nD τ).loc main_arg1))) slices_S2x3x3x1024_S2x1x1x1024_0_2_0_0) shapeCasts_S2x1x1x1024_S2x1024)
      (shapeCast _ (extractStridedSlice S2x1x1x1024 ![0, 2, 1, 0] (modOf (m ((c.tc : Thread nD τ).loc main_arg1))) slices_S2x3x3x1024_S2x1x1x1024_0_2_1_0) shapeCasts_S2x1x1x1024_S2x1024)
      (shapeCast _ (extractStridedSlice S2x1x1x1024 ![0, 2, 2, 0] (modOf (m ((c.tc : Thread nD τ).loc main_arg1))) slices_S2x3x3x1024_S2x1x1x1024_0_2_2_0) shapeCasts_S2x1x1x1024_S2x1024)
      (shapeCast _ (extractStridedSlice S1x1x1024x5632 ![3, 1, 0, 0] (m ((c.tc : Thread nD τ).loc main_arg9)) slices_S4x2x1024x5632_S1x1x1024x5632_3_1_0_0) shapeCasts_S1x1x1024x5632_S1024x5632)
      (shapeCast _ (extractStridedSlice S1x1x2816x1024 ![3, 1, 0, 0] (m ((c.tc : Thread nD τ).loc main_arg10)) slices_S4x2x2816x1024_S1x1x2816x1024_3_1_0_0) shapeCasts_S1x1x2816x1024_S2816x1024)

/-- The reference's result array. -/
def res (m : (ℓ : Loc nD τ sig) → Buf (Elt Ideal) ℓ) (c : Dev nD) : FVec Ideal S2x16384x1024 .f32 :=
  Cert.FfnRefIdeal.Value.rms (after m c) (m ((c.tc : Thread nD τ).loc main_arg11))

/-- The reference's run leaves that array in its result. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v92) = res m c :=
  (θ_run defs _ _).mono (fun r h c => (h c).1) (run m ρ)

/-- That array at an entry is the kernel's. -/
theorem res_at (m : (ℓ : Loc nD τ sig) → Buf (Elt Ideal) ℓ) (c : Dev nD) (h : FVec Ideal S2x16384x1024 .f32) (mod : FVec Ideal S288x1x1024 .f32) (cv : FVec Ideal S2x16384x512 .f32) (of : FVec Ideal S2x16384x512 .f32) (ob : FVec Ideal S2x16384x512 .f32) (gt : FVec Ideal S2x16384x512 .f32) (hg : FVec Ideal S2x128 .f32) (wo : FVec Ideal S2x1024x1024 .f32) (ng : FVec Ideal S4x3x1024 .f32) (wu : FVec Ideal S4x2x1024x5632 .f32) (wd : FVec Ideal S4x2x2816x1024 .f32) (fg : FVec Ideal S1024 .f32)
    (e0 : m ((c.tc : Thread nD τ).loc main_arg0) = h) (e1 : m ((c.tc : Thread nD τ).loc main_arg1) = mod) (e2 : m ((c.tc : Thread nD τ).loc main_arg2) = cv) (e3 : m ((c.tc : Thread nD τ).loc main_arg3) = of) (e4 : m ((c.tc : Thread nD τ).loc main_arg4) = ob) (e5 : m ((c.tc : Thread nD τ).loc main_arg5) = gt) (e6 : m ((c.tc : Thread nD τ).loc main_arg6) = hg) (e7 : m ((c.tc : Thread nD τ).loc main_arg7) = wo) (e8 : m ((c.tc : Thread nD τ).loc main_arg8) = ng) (e9 : m ((c.tc : Thread nD τ).loc main_arg9) = wu) (e10 : m ((c.tc : Thread nD τ).loc main_arg10) = wd) (e11 : m ((c.tc : Thread nD τ).loc main_arg11) = fg)
    (b : Fin 2) (r : Fin 16384) (j : Fin 1024) :
    res m c (ix3 b r j) = Cert.FfnLastIdeal.Value.resAt h mod cv of ob gt hg wo ng wu wd fg b r j := by
  unfold res
  rw [Cert.FfnRefIdeal.Value.rms_at]
  unfold after
  simp only [Cert.FfnRefIdeal.Value.sublayer_at]
  unfold mixed
  simp only [Cert.FfnAbRefIdeal.Value.project_at, Cert.FfnAbRefIdeal.Value.headNorm_at, e0, e1, e2, e3, e4, e5, e6, e7, e8, e9, e10, e11]
  unfold Cert.FfnLastIdeal.Value.resAt Layer.ffnRow
  pointwise [modOf]

end Cert.FfnLastRefIdeal.Value

end
-- ==== Proof.FfnLastClaim.lean ====
/- The algebraic claim of the last feed-forward call, whose result is the layer's. -/
module

public import proofs.«01_k».proof.Defs
public import proofs.«01_k».proof.Proof.FfnLastRefAt
public import proofs.«01_k».proof.Proof.FfnLastValue
public import proofs.«01_k».proof.Proof.Gen.FfnLastIdeal
public import proofs.«01_k».proof.Proof.Gen.FfnLastRefIdeal

@[expose] public section

set_option maxRecDepth 16384

noncomputable section

namespace Cert.Proof.FfnLastClaim

open Idealize.ShloMosaic Idealize.ShloMosaic.TcCoe Idealize.SL.Sem

/-- Run on the same arguments, the reference's result array is the array the kernel leaves. -/
theorem res_arr (m : (ℓ : Loc Cert.FfnLastIdeal.nD Cert.FfnLastIdeal.τ Cert.FfnLastIdeal.sig) → Buf (Elt Ideal) ℓ) (m' : (ℓ : Loc Cert.FfnLastRefIdeal.nD Cert.FfnLastRefIdeal.τ Cert.FfnLastRefIdeal.sig) → Buf (Elt Ideal) ℓ)
    (c : Dev Cert.FfnLastIdeal.nD)
    (e0 : m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0))
    (e1 : m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1))
    (e2 : m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2))
    (e3 : m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3))
    (e4 : m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4))
    (e5 : m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5))
    (e6 : m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6))
    (e7 : m' ((c.tc : Thread Cert.FfnLastRefIdeal.nD Cert.FfnLastRefIdeal.τ).loc Cert.FfnLastRefIdeal.main_arg7) = m ((c.tc : Thread Cert.FfnLastIdeal.nD Cert.FfnLastIdeal.τ).loc Cert.FfnLastIdeal.main_arg7))
    (e8 : m' ((c.tc : Thread Cert.FfnLastRefIdeal.nD Cert.FfnLastRefIdeal.τ).loc Cert.FfnLastRefIdeal.main_arg8) = m ((c.tc : Thread Cert.FfnLastIdeal.nD Cert.FfnLastIdeal.τ).loc Cert.FfnLastIdeal.main_arg8))
    (e9 : m' ((c.tc : Thread Cert.FfnLastRefIdeal.nD Cert.FfnLastRefIdeal.τ).loc Cert.FfnLastRefIdeal.main_arg9) = m ((c.tc : Thread Cert.FfnLastIdeal.nD Cert.FfnLastIdeal.τ).loc Cert.FfnLastIdeal.main_arg9))
    (e10 : m' ((c.tc : Thread Cert.FfnLastRefIdeal.nD Cert.FfnLastRefIdeal.τ).loc Cert.FfnLastRefIdeal.main_arg10) = m ((c.tc : Thread Cert.FfnLastIdeal.nD Cert.FfnLastIdeal.τ).loc Cert.FfnLastIdeal.main_arg10))
    (e11 : m' ((c.tc : Thread Cert.FfnLastRefIdeal.nD Cert.FfnLastRefIdeal.τ).loc Cert.FfnLastRefIdeal.main_arg11) = m ((c.tc : Thread Cert.FfnLastIdeal.nD Cert.FfnLastIdeal.τ).loc Cert.FfnLastIdeal.main_arg11)) :
    Cert.FfnLastRefIdeal.Value.res m' c = Cert.FfnLastIdeal.Value.resArr (m ((c : Thread Cert.FfnLastIdeal.nD Cert.FfnLastIdeal.τ).loc Cert.FfnLastIdeal.main_arg0)) (m ((c : Thread Cert.FfnLastIdeal.nD Cert.FfnLastIdeal.τ).loc Cert.FfnLastIdeal.main_arg1)) (m ((c : Thread Cert.FfnLastIdeal.nD Cert.FfnLastIdeal.τ).loc Cert.FfnLastIdeal.main_arg2)) (m ((c : Thread Cert.FfnLastIdeal.nD Cert.FfnLastIdeal.τ).loc Cert.FfnLastIdeal.main_arg3)) (m ((c : Thread Cert.FfnLastIdeal.nD Cert.FfnLastIdeal.τ).loc Cert.FfnLastIdeal.main_arg4)) (m ((c : Thread Cert.FfnLastIdeal.nD Cert.FfnLastIdeal.τ).loc Cert.FfnLastIdeal.main_arg5)) (m ((c : Thread Cert.FfnLastIdeal.nD Cert.FfnLastIdeal.τ).loc Cert.FfnLastIdeal.main_arg6)) (m ((c : Thread Cert.FfnLastIdeal.nD Cert.FfnLastIdeal.τ).loc Cert.FfnLastIdeal.main_arg7)) (m ((c : Thread Cert.FfnLastIdeal.nD Cert.FfnLastIdeal.τ).loc Cert.FfnLastIdeal.main_arg8)) (m ((c : Thread Cert.FfnLastIdeal.nD Cert.FfnLastIdeal.τ).loc Cert.FfnLastIdeal.main_arg9)) (m ((c : Thread Cert.FfnLastIdeal.nD Cert.FfnLastIdeal.τ).loc Cert.FfnLastIdeal.main_arg10)) (m ((c : Thread Cert.FfnLastIdeal.nD Cert.FfnLastIdeal.τ).loc Cert.FfnLastIdeal.main_arg11)) := by
  funext i
  idx_vars i
  exact Cert.FfnLastRefIdeal.Value.res_at m' c _ _ _ _ _ _ _ _ _ _ _ _ e0 e1 e2 e3 e4 e5 e6 e7 e8 e9 e10 e11 i0 i1 i2

/-- The kernel and the plain layer leave the same array. -/
theorem algebraic : Cert.algebraic_FfnLastIdeal_FfnLastRefIdeal (hFfnLastIdeal := Cert.FfnLastIdeal.Gen.facts) (hFfnLastRefIdeal := Cert.FfnLastRefIdeal.Gen.facts) :=
  fun m ρ m' ρ' _ hag => ⟨fun c => (Cert.FfnLastIdeal.Gen.dats m 0 c).arrAt 15 Cert.FfnLastIdeal.cfg0.N, Cert.FfnLastIdeal.Value.run_blocks m ρ,
    (θ_run _ _ _).mono (fun _ h c => by
      obtain ⟨e0, e1, e2, e3, e4, e5, e6, e7, e8, e9, e10, e11⟩ := hag c
      exact ⟨(h c).1.trans ((res_arr m m' c e0 e1 e2 e3 e4 e5 e6 e7 e8 e9 e10 e11).trans (Cert.FfnLastIdeal.Value.final m c).symm), (h c).2⟩)
      (Cert.FfnLastRefIdeal.Value.run m' ρ')⟩

end Cert.Proof.FfnLastClaim

end
-- ==== Proof.FfnAbOut.lean ====
/- What one grid point of the feed-forward call that closes a delta-rule/S5 sublayer leaves in its output block, entry by
   entry: the head norms, the gated linear unit, the output projection, the residual, and the feed-forward block. -/
module

public import proofs.«01_k».proof.Proof.FfnCdOut
public import proofs.«01_k».proof.Proof.Gen.FfnAbIdeal.Value

@[expose] public section

set_option maxRecDepth 16384

noncomputable section

namespace Cert.FfnAbIdeal.Value

open Cert.FfnAbIdeal Cert.FfnAbIdeal.Gen Idealize.ShloMosaic Idealize.ShloMosaic.TcCoe Idealize.SL.Sem

/-- The four heads of the delta rule's output, normed and gated, at a channel. -/
theorem heads_at (of ob gt : Vec Ideal S1x512x512 .f32) (g : Vec Ideal S1x128 .f32) (r : Fin 512) (k : Fin 512) :
    k0_pay10 (k0_pay4 of ob) (k0_pay5 gt) (k0_pay6 g) (k0_pay7 of ob gt g) (k0_pay8 of ob) (k0_pay9 of ob) (ix2 r k)
      = Layer.headMix (fun k => of (ix3 0 r k) + ob (ix3 0 r k)) (fun k => gt (ix3 0 r k)) (fun d => g (ix2 0 d)) k := by
  pointwise [k0_pay10, k0_pay4, k0_pay5, k0_pay6, k0_pay7, k0_pay8, k0_pay9]
  split
  · rw [Layer.headMix_eq _ _ _ _ 0 ⟨k, by omega⟩ (by omega) rfl (by simp)]
    simp only [Layer.headAt, Layer.swish, zero_add]
  split
  · rw [Layer.headMix_eq _ _ _ _ 128 ⟨k - 128, by omega⟩ (by omega) rfl (by simp only []; omega)]
    simp only [Layer.headAt, Layer.swish]
  split
  · rw [Layer.headMix_eq _ _ _ _ 256 ⟨k - 128 - 128, by omega⟩ (by omega) rfl (by simp only []; omega)]
    simp only [Layer.headAt, Layer.swish]
  · rw [Layer.headMix_eq _ _ _ _ 384 ⟨k - 128 - 128 - 128, by omega⟩ (by omega) rfl (by simp only []; omega)]
    simp only [Layer.headAt, Layer.swish]

/-- The activation as the body multiplies it out. -/
theorem gelu_eq (x : EReal) : Ideal.ofBits .f32 0x3F000000#32 * x * (1 + Ideal.tanh (Ideal.ofBits .f32 0x3F4C422A#32
    * (x + Ideal.ofBits .f32 0x3D372713#32 * (x * x * x)))) = Layer.gelu x := by
  unfold Layer.gelu
  rw [mul_comm (Ideal.ofBits .f32 0x3F000000#32) x, mul_assoc]

/-- The heads beside the gated linear unit of the S5 output, at a channel. -/
theorem mix_at (v81 : FVec Ideal S512x512 .f32) (ya yb yc yd : Vec Ideal S1x512x128 .f32) (d : Vec Ideal S1x512 .f32)
    (u : Vec Ideal S1x512x512 .f32) (w : Vec Ideal S512x512 .bf16) (bi : Vec Ideal S1x512 .f32) (r : Fin 512) (k : Fin 1024) :
    k0_pay12 v81 (k0_pay11 ya) yb yc yd d u w bi (ix2 r k)
      = Layer.joined (fun k => v81 (ix2 r k)) (Layer.gluRow (fun k => Layer.quarters (fun k => ya (ix3 0 r k)) (fun k => yb (ix3 0 r k))
          (fun k => yc (ix3 0 r k)) (fun k => yd (ix3 0 r k)) k + d (ix2 0 k) * u (ix3 0 r k)) (fun i k => w (ix2 i k)) (fun k => bi (ix2 0 k))) k := by
  unfold Layer.joined
  pointwise [k0_pay12, k0_pay11]
  split
  · rfl
  simp only [Layer.gluRow, ← gelu_eq, Layer.quarters, Layer.dense]

/-- One row of the residual with the projected mixers, from the staged inputs. -/
def h2Row (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (r : Fin 512) (j : Fin 1024) : EReal :=
  Layer.mixRow (fun j => x0 (ix3 0 r j)) (fun j => x1 (ix3 0 0 j)) (Layer.joined
    (Layer.headMix (fun k => x2 (ix3 0 r k) + x3 (ix3 0 r k)) (fun k => x4 (ix3 0 r k)) (fun d => x10 (ix2 0 d)))
    (Layer.gluRow (fun k => Layer.quarters (fun k => x5 (ix3 0 r k)) (fun k => x6 (ix3 0 r k))
          (fun k => x7 (ix3 0 r k)) (fun k => x8 (ix3 0 r k)) k + x11 (ix2 0 k) * x9 (ix3 0 r k)) (fun i k => x12 (ix2 i k)) (fun k => x13 (ix2 0 k))))
    (fun k j => x14 (ix2 k j)) j

/-- That row, as the body computes it. -/
theorem h2_row (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16)
    (r : Fin 512) (j : Fin 1024) :
    k0_pay13 (k0_pay2 x0) (k0_pay3 x1) (k0_pay12 (k0_pay10 (k0_pay4 x2 x3) (k0_pay5 x4) (k0_pay6 x10) (k0_pay7 x2 x3 x4 x10)
      (k0_pay8 x2 x3) (k0_pay9 x2 x3)) (k0_pay11 x5) x6 x7 x8 x11 x9 x12 x13) x14 (ix2 r j) = h2Row x0 x1 x2 x3 x4 x5 x6 x7 x8 x9 x10 x11 x12 x13 x14 r j := by
  refine (Cert.FfnCdIdeal.Value.h2_at _ _ _ _ r j).trans ?_
  simp only [mix_at, heads_at]
  unfold h2Row Layer.mixRow
  pointwise [k0_pay2, k0_pay3]

/-- The residual row at a grid point, from the staged inputs. -/
theorem resid_at (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (j : Fin 1024) :
    k0_pay13 (k0_pay29 x0 x1 x2 x3 x4 x5 x6 x7 x8 x9 x10 x11 x12 x13 x14 x15 x16 x17 x18 x19 x20) (k0_pay30 x0 x1 x2 x3 x4 x5 x6 x7 x8 x9 x10 x11 x12 x13 x14 x15 x16 x17 x18 x19 x20)
      (k0_pay31 x0 x1 x2 x3 x4 x5 x6 x7 x8 x9 x10 x11 x12 x13 x14 x15 x16 x17 x18 x19 x20) x14 (ix2 r j) = h2Row x0 x1 x2 x3 x4 x5 x6 x7 x8 x9 x10 x11 x12 x13 x14 r j := by
  unfold k0_pay29 k0_pay30 k0_pay31
  rw [h2_row]
  unfold h2Row Layer.mixRow
  pointwise

/-- The residual row at a grid point, with the projection's weights read by rows. -/
theorem resid_at' (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (j : Fin 1024) :
    k0_pay13 (k0_pay29 x0 x1 x2 x3 x4 x5 x6 x7 x8 x9 x10 x11 x12 x13 x14 x15 x16 x17 x18 x19 x20) (k0_pay30 x0 x1 x2 x3 x4 x5 x6 x7 x8 x9 x10 x11 x12 x13 x14 x15 x16 x17 x18 x19 x20)
      (k0_pay31 x0 x1 x2 x3 x4 x5 x6 x7 x8 x9 x10 x11 x12 x13 x14 x15 x16 x17 x18 x19 x20) (View.ld x14 r0_7) (ix2 r j) = h2Row x0 x1 x2 x3 x4 x5 x6 x7 x8 x9 x10 x11 x12 x13 x14 r j := by
  unfold k0_pay29 k0_pay30 k0_pay31
  rw [h2_row]
  unfold h2Row Layer.mixRow
  pointwise

/-- The normed residual block, wherever the body reads it. -/
theorem normed_at (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (k : Fin 1024) :
    k0_pay14 (k0_pay29 x0 x1 x2 x3 x4 x5 x6 x7 x8 x9 x10 x11 x12 x13 x14 x15 x16 x17 x18 x19 x20) (k0_pay30 x0 x1 x2 x3 x4 x5 x6 x7 x8 x9 x10 x11 x12 x13 x14 x15 x16 x17 x18 x19 x20)
      (k0_pay31 x0 x1 x2 x3 x4 x5 x6 x7 x8 x9 x10 x11 x12 x13 x14 x15 x16 x17 x18 x19 x20) x14 x18 x16 x15 (ix2 r k) = Layer.adaRow (h2Row x0 x1 x2 x3 x4 x5 x6 x7 x8 x9 x10 x11 x12 x13 x14 r) (fun k => x18 (ix2 0 k)) (fun k => x16 (ix3 0 0 k)) (fun k => x15 (ix3 0 0 k)) k := by
  refine (Cert.FfnCdIdeal.Value.norm_at _ _ _ _ _ _ _ r k).trans ?_
  congr 1
  funext k
  exact resid_at x0 x1 x2 x3 x4 x5 x6 x7 x8 x9 x10 x11 x12 x13 x14 x15 x16 x17 x18 x19 x20 r k

/-- The same block, as the value named apart. -/
theorem normed_at' (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (k : Fin 1024) :
    k0_pay32 x0 x1 x2 x3 x4 x5 x6 x7 x8 x9 x10 x11 x12 x13 x14 x15 x16 x17 x18 x19 x20 (ix2 r k) = Layer.adaRow (h2Row x0 x1 x2 x3 x4 x5 x6 x7 x8 x9 x10 x11 x12 x13 x14 r) (fun k => x18 (ix2 0 k)) (fun k => x16 (ix3 0 0 k)) (fun k => x15 (ix3 0 0 k)) k := by
  unfold k0_pay32
  refine (Cert.FfnCdIdeal.Value.norm_at _ _ _ _ _ _ _ r k).trans ?_
  have e : ∀ k, Cert.FfnCdIdeal.Gen.k0_pay11 (F := Ideal) _ _ _ _ (ix2 r k) = _ :=
    resid_at' x0 x1 x2 x3 x4 x5 x6 x7 x8 x9 x10 x11 x12 x13 x14 x15 x16 x17 x18 x19 x20 r
  simp only [e]
  pointwise

set_option maxHeartbeats 1600000 in
/-- The stored block, at an entry: the residual row plus half the conditioning gate times the feed-forward block of the
    normed row. -/
theorem out_at (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (j : Fin 1024) :
    out0_21 x0 x1 x2 x3 x4 x5 x6 x7 x8 x9 x10 x11 x12 x13 x14 x15 x16 x17 x18 x19 x20 (ix3 0 r j) = (h2Row x0 x1 x2 x3 x4 x5 x6 x7 x8 x9 x10 x11 x12 x13 x14 r j
      + Ideal.ofBits .f32 0x3F000000#32 * x17 (ix3 0 0 j)
      * Layer.ffn (Layer.adaRow (h2Row x0 x1 x2 x3 x4 x5 x6 x7 x8 x9 x10 x11 x12 x13 x14 r) (fun k => x18 (ix2 0 k)) (fun k => x16 (ix3 0 0 k)) (fun k => x15 (ix3 0 0 k)))
          (fun k f => x19 (ix4 0 0 k f)) (fun f => x20 (ix4 0 0 f j)) : EReal) := by
  rw [Layer.ffn_slices]
  frame_out
  pointwise [k0_pay1, k0_pay15, k0_pay16, k0_pay17, k0_pay18, k0_pay19, k0_pay20, k0_pay21, k0_pay22, k0_pay23,
    k0_pay24, k0_pay25, k0_pay26, k0_pay27, k0_pay28]
  simp only [normed_at, normed_at', resid_at]
  simp only [Layer.ffnSlice0, Layer.ffnSlice, Layer.ffnTerm, Layer.swish, Layer.dense]

/-- The same, as a row of the layer. -/
theorem out_row (x0 : Vec Ideal S1x512x1024 .f32) (x1 : Vec Ideal S1x1x1024 .f32) (x2 x3 x4 : Vec Ideal S1x512x512 .f32)
    (x5 x6 x7 x8 : Vec Ideal S1x512x128 .f32) (x9 : Vec Ideal S1x512x512 .f32) (x10 : Vec Ideal S1x128 .f32) (x11 : Vec Ideal S1x512 .f32)
    (x12 : Vec Ideal S512x512 .bf16) (x13 : Vec Ideal S1x512 .f32) (x14 : Vec Ideal S1024x1024 .bf16) (x15 x16 x17 : Vec Ideal S1x1x1024 .f32)
    (x18 : Vec Ideal S1x1024 .f32) (x19 : Vec Ideal S1x1x1024x5632 .bf16) (x20 : Vec Ideal S1x1x2816x1024 .bf16)
    (r : Fin 512) (j : Fin 1024) :
    out0_21 x0 x1 x2 x3 x4 x5 x6 x7 x8 x9 x10 x11 x12 x13 x14 x15 x16 x17 x18 x19 x20 (ix3 0 r j) = Layer.ffnRow (h2Row x0 x1 x2 x3 x4 x5 x6 x7 x8 x9 x10 x11 x12 x13 x14 r) (fun j => x17 (ix3 0 0 j))
      (fun k => x18 (ix2 0 k)) (fun k => x16 (ix3 0 0 k)) (fun k => x15 (ix3 0 0 k)) (fun k f => x19 (ix4 0 0 k f))
      (fun f j => x20 (ix4 0 0 f j)) j :=
  out_at x0 x1 x2 x3 x4 x5 x6 x7 x8 x9 x10 x11 x12 x13 x14 x15 x16 x17 x18 x19 x20 r j

end Cert.FfnAbIdeal.Value

end
-- ==== Proof.LayerCongr.lean ====
/- The layer's row functions agree on rows that agree entry by entry. -/
module

public import proofs.«01_k».proof.Proof.Layer

@[expose] public section

noncomputable section

namespace Cert.Layer

open Idealize.ShloMosaic

theorem ffnRow_congr {h h' gate gate' g g' sc sc' sh sh' : Fin 1024 → EReal} {wu wu' : Fin 1024 → Fin 5632 → EReal}
    {wd wd' : Fin 2816 → Fin 1024 → EReal} {j j' : Fin 1024} (eh : ∀ k, h k = h' k) (et : ∀ k, gate k = gate' k)
    (eg : ∀ k, g k = g' k) (ec : ∀ k, sc k = sc' k) (es : ∀ k, sh k = sh' k) (eu : ∀ k f, wu k f = wu' k f)
    (ed : ∀ f j, wd f j = wd' f j) (ej : j = j') : ffnRow h gate g sc sh wu wd j = ffnRow h' gate' g' sc' sh' wu' wd' j' := by
  rw [funext eh, funext et, funext eg, funext ec, funext es, funext fun k => funext (eu k), funext fun f => funext (ed f), ej]

theorem mixRow_congr {h h' gate gate' x x' : Fin 1024 → EReal} {w w' : Fin 1024 → Fin 1024 → EReal} {j j' : Fin 1024}
    (eh : ∀ k, h k = h' k) (et : ∀ k, gate k = gate' k) (ex : ∀ k, x k = x' k) (ew : ∀ k j, w k j = w' k j) (ej : j = j') :
    mixRow h gate x w j = mixRow h' gate' x' w' j' := by
  rw [funext eh, funext et, funext ex, funext fun k => funext (ew k), ej]

theorem joined_congr {a a' b b' : Fin 512 → EReal} (ea : ∀ k, a k = a' k) (eb : ∀ k, b k = b' k) (k : Fin 1024) :
    joined a b k = joined a' b' k := by
  rw [funext ea, funext eb]

theorem headMix_congr {x x' z z' : Fin 512 → EReal} {g g' : Fin 128 → EReal} (ex : ∀ k, x k = x' k) (ez : ∀ k, z k = z' k)
    (eg : ∀ k, g k = g' k) (k : Fin 512) : headMix x z g k = headMix x' z' g' k := by
  rw [funext ex, funext ez, funext eg]

theorem quarters_congr {a a' b b' c c' d d' : Fin 128 → EReal} (ea : ∀ k, a k = a' k) (eb : ∀ k, b k = b' k)
    (ec : ∀ k, c k = c' k) (ed : ∀ k, d k = d' k) (k : Fin 512) : quarters a b c d k = quarters a' b' c' d' k := by
  rw [funext ea, funext eb, funext ec, funext ed]

theorem gluRow_congr {x x' b b' : Fin 512 → EReal} {w w' : Fin 512 → Fin 512 → EReal} (ex : ∀ k, x k = x' k)
    (ew : ∀ i k, w i k = w' i k) (eb : ∀ k, b k = b' k) (k : Fin 512) : gluRow x w b k = gluRow x' w' b' k := by
  rw [funext ex, funext eb, funext fun i => funext (ew i)]

theorem rowNorm_congr {x x' g g' : Fin 1024 → EReal} {j j' : Fin 1024} (ex : ∀ k, x k = x' k) (eg : ∀ k, g k = g' k) (ej : j = j') :
    rowNorm x g j = rowNorm x' g' j' := by
  rw [funext ex, funext eg, ej]

end Cert.Layer

end
-- ==== Proof.FfnAbValue.lean ====
/- The feed-forward call that closes a delta-rule/S5 sublayer: its result array, as a function of its argument arrays. -/
module

public import proofs.«01_k».proof.Proof.FfnAbOut
public import proofs.«01_k».proof.Proof.LayerCongr

@[expose] public section

set_option maxRecDepth 16384

noncomputable section

namespace Cert.FfnAbIdeal.Value

open Cert.FfnAbIdeal Cert.FfnAbIdeal.Gen Idealize.ShloMosaic Idealize.ShloMosaic.TcCoe Idealize.SL.Sem
open Idealize.ShloMosaic.Pipeline (Dat)

variable (m : (ℓ : Loc nD τ sig) → Buf (Elt Ideal) ℓ)

/-- The result at sample `b`, token `r`, channel `j`, from the argument arrays. -/
def resAt (h : FVec Ideal S2x16384x1024 .f32) (mod : FVec Ideal S288x1x1024 .f32) (of : FVec Ideal S2x16384x512 .f32) (ob : FVec Ideal S2x16384x512 .f32) (z : FVec Ideal S2x16384x512 .f32) (ya : FVec Ideal S2x16384x128 .f32) (yb : FVec Ideal S2x16384x128 .f32) (yc : FVec Ideal S2x16384x128 .f32) (yd : FVec Ideal S2x16384x128 .f32) (u : FVec Ideal S2x16384x512 .f32) (gg : FVec Ideal S2x128 .f32) (sd : FVec Ideal S2x512 .f32) (gw : FVec Ideal S2x512x512 .f32) (gb : FVec Ideal S2x512 .f32) (wo : FVec Ideal S2x1024x1024 .f32) (ng : FVec Ideal S4x3x1024 .f32) (wu : FVec Ideal S4x2x1024x5632 .f32) (wd : FVec Ideal S4x2x2816x1024 .f32)
    (b : Fin 2) (r : Fin 16384) (j : Fin 1024) : EReal :=
  Layer.ffnRow (Layer.mixRow (fun j => h (ix3 b r j)) (fun j => mod (ix3 ⟨40 + b, by omega⟩ 0 j))
      (Layer.joined (Layer.headMix (fun k => of (ix3 b r k) + ob (ix3 b r k)) (fun k => z (ix3 b r k)) (fun d => gg (ix2 0 d)))
        (Layer.gluRow (fun k => Layer.quarters (fun k => ya (ix3 b r k)) (fun k => yb (ix3 b r k)) (fun k => yc (ix3 b r k))
          (fun k => yd (ix3 b r k)) k + sd (ix2 0 k) * u (ix3 b r k)) (fun i k => gw (ix3 0 i k)) (fun k => gb (ix2 0 k))))
      (fun k j => wo (ix3 0 k j)))
      (fun j => mod (ix3 ⟨64 + b, by omega⟩ 0 j)) (fun k => ng (ix3 0 2 k)) (fun k => mod (ix3 ⟨56 + b, by omega⟩ 0 k))
      (fun k => mod (ix3 ⟨48 + b, by omega⟩ 0 k)) (fun k f => wu (ix4 0 1 k f)) (fun f j => wd (ix4 0 1 f j)) j

/-- The same as an array. -/
def resArr (h : FVec Ideal S2x16384x1024 .f32) (mod : FVec Ideal S288x1x1024 .f32) (of : FVec Ideal S2x16384x512 .f32) (ob : FVec Ideal S2x16384x512 .f32) (z : FVec Ideal S2x16384x512 .f32) (ya : FVec Ideal S2x16384x128 .f32) (yb : FVec Ideal S2x16384x128 .f32) (yc : FVec Ideal S2x16384x128 .f32) (yd : FVec Ideal S2x16384x128 .f32) (u : FVec Ideal S2x16384x512 .f32) (gg : FVec Ideal S2x128 .f32) (sd : FVec Ideal S2x512 .f32) (gw : FVec Ideal S2x512x512 .f32) (gb : FVec Ideal S2x512 .f32) (wo : FVec Ideal S2x1024x1024 .f32) (ng : FVec Ideal S4x3x1024 .f32) (wu : FVec Ideal S4x2x1024x5632 .f32) (wd : FVec Ideal S4x2x2816x1024 .f32) : FVec Ideal S2x16384x1024 .f32 :=
  fun i => resAt h mod of ob z ya yb yc yd u gg sd gw gb wo ng wu wd (i 0) (i 1) (i 2)

/-- Every window's block index at a grid point: 32 token tiles per sample. -/
theorem idx : ∀ t : Fin cfg0.N, win0_0.index t = ![t.val / 32, t.val % 32, 0]
    ∧ win0_1.index t = ![40 + t.val / 32, 0, 0]
    ∧ win0_2.index t = ![t.val / 32, t.val % 32, 0]
    ∧ win0_3.index t = ![t.val / 32, t.val % 32, 0]
    ∧ win0_4.index t = ![t.val / 32, t.val % 32, 0]
    ∧ win0_5.index t = ![t.val / 32, t.val % 32, 0]
    ∧ win0_6.index t = ![t.val / 32, t.val % 32, 0]
    ∧ win0_7.index t = ![t.val / 32, t.val % 32, 0]
    ∧ win0_8.index t = ![t.val / 32, t.val % 32, 0]
    ∧ win0_9.index t = ![t.val / 32, t.val % 32, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![48 + t.val / 32, 0, 0]
    ∧ win0_16.index t = ![56 + t.val / 32, 0, 0]
    ∧ win0_17.index t = ![64 + t.val / 32, 0, 0]
    ∧ win0_18.index t = ![0, 0]
    ∧ win0_19.index t = ![0, 1, 0, 0]
    ∧ win0_20.index t = ![0, 1, 0, 0]
    ∧ win0_21.index t = ![t.val / 32, t.val % 32, 0] :=
  (by decide +kernel : ∀ t : Fin grid0.N, _)

set_option maxHeartbeats 1600000 in
/-- The result array after the run. -/
theorem final (c : Dev nD) : (dats m 0 c).arrAt 21 (cfgs 0).N
    = resArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) := by
  refine (dats m 0 c).arrAt_eq_of_covers 21 _ (by decide +kernel) fun t _ y => ?_
  blk_simp
  rw [after0_21]
  idx_vars y
  rw [Subsingleton.elim y0 0]
  refine (out_row _ _ _ _ _ _ _ _ _ _ _ _ _ _ _ _ _ _ _ _ _ y1 y2).trans ?_
  unfold resArr resAt
  refine Layer.ffnRow_congr (fun k => ?_) (fun k => ?_) (fun k => ?_) (fun k => ?_) (fun k => ?_) (fun k f => ?_) (fun f j => ?_) ?_
  · unfold h2Row
    refine Layer.mixRow_congr (fun k => ?_) (fun k => ?_) (fun k => Layer.joined_congr (fun k => ?_) (fun k => ?_) k) (fun k j => ?_) rfl
    · blk_point [iblk, V, idx t]
    · blk_point [iblk, V, idx t]
    · refine Layer.headMix_congr (fun k => ?_) (fun k => ?_) (fun k => ?_) k <;> blk_point [iblk, V, idx t]
    · refine Layer.gluRow_congr (fun k => ?_) (fun i k => ?_) (fun k => ?_) k
      · refine congrArg₂ (· + ·) (Layer.quarters_congr (fun k => ?_) (fun k => ?_) (fun k => ?_) (fun k => ?_) k) ?_
          <;> blk_point [iblk, V, idx t]
      · blk_point [iblk, V, idx t]
      · blk_point [iblk, V, idx t]
    · blk_point [iblk, V, idx t]
  · blk_point [iblk, V, idx t]
  · blk_point [iblk, V, idx t]
  · blk_point [iblk, V, idx t]
  · blk_point [iblk, V, idx t]
  · blk_point [iblk, V, idx t]
  · blk_point [iblk, V, idx t]
  · apply Fin.ext
    blk_simp
    simp [idx t]

end Cert.FfnAbIdeal.Value

end
-- ==== Proof.FfnAbRefAt.lean ====
/- The reference of the feed-forward call that closes a delta-rule/S5 sublayer: its result at an entry, read from its argument
   arrays. -/
module

public import proofs.«01_k».proof.Proof.MixRefAt
public import proofs.«01_k».proof.Proof.FfnRefAt
public import proofs.«01_k».proof.Proof.FfnAbValue

@[expose] public section

set_option maxRecDepth 16384

noncomputable section

namespace Cert.FfnAbRefIdeal.Value

open Cert.FfnAbRefIdeal Cert.FfnAbRefIdeal.Gen Idealize.ShloMosaic Idealize.ShloMosaic.TcCoe Idealize.SL.Sem
open Idealize.ShloMosaic.StableHlo (launchContents)

/-- The S5 output: its four pieces joined, plus the skip term. -/
def s5out (ya yb yc yd : FVec Ideal S2x16384x128 .f32) (d : FVec Ideal S512 .f32) (u : FVec Ideal S2x16384x512 .f32) :
    FVec Ideal S2x16384x512 .f32 :=
  addf (concatenate S2x16384x512 2 [⟨S2x16384x128, (ya : (⟨S2x16384x128, .f32⟩ : BufTy).Contents (Elt Ideal))⟩, ⟨S2x16384x128, (yb : (⟨S2x16384x128, .f32⟩ : BufTy).Contents (Elt Ideal))⟩, ⟨S2x16384x128, (yc : (⟨S2x16384x128, .f32⟩ : BufTy).Contents (Elt Ideal))⟩, ⟨S2x16384x128, (yd : (⟨S2x16384x128, .f32⟩ : BufTy).Contents (Elt Ideal))⟩] concatenates_S2x16384x128_S2x16384x128_S2x16384x128_S2x16384x128_S2x16384x512_d2) (mulf (broadcastInDim S2x16384x512 ![0, 1, 2] bcast_S1x1x512_S2x16384x512_0_1_2 (broadcastInDim S1x1x512 ![2] bcast_S512_S1x1x512_2 d)) u)

/-- The activation of every entry. -/
def act (x : FVec Ideal S2x16384x512 .f32) : FVec Ideal S2x16384x512 .f32 :=
  mulf x (mulf (broadcastInDim S2x16384x512 ![] bcast_S_S2x16384x512 (constant S_ .f32 0x3F000000#32)) (addf (broadcastInDim S2x16384x512 ![] bcast_S_S2x16384x512 (constant S_ .f32 0x3F800000#32)) (Host.tanh (mulf (broadcastInDim S2x16384x512 ![] bcast_S_S2x16384x512 (constant S_ .f32 0x3F4C422A#32)) (addf x (mulf (broadcastInDim S2x16384x512 ![] bcast_S_S2x16384x512 (constant S_ .f32 0x3D372713#32)) (mulf (mulf x x) x)))))))

/-- The activated rows times the logistic of their affine image. -/
def glu (x : FVec Ideal S2x16384x512 .f32) (w : FVec Ideal S512x512 .f32) (bi : FVec Ideal S512 .f32) : FVec Ideal S2x16384x512 .f32 :=
  mulf x (Host.divf (broadcastInDim S2x16384x512 ![] bcast_S_S2x16384x512 (constant S_ .f32 0x3F800000#32)) (addf (broadcastInDim S2x16384x512 ![] bcast_S_S2x16384x512 (constant S_ .f32 0x3F800000#32)) (Host.exp (Host.negf (addf (Host.dotGeneral dot_S2x16384x512_S512x512_S2x16384x512_2_0_01_1_n_n none x w) (broadcastInDim S2x16384x512 ![0, 1, 2] bcast_S1x1x512_S2x16384x512_0_1_2 (broadcastInDim S1x1x512 ![2] bcast_S512_S1x1x512_2 bi)))))))

theorem s5out_at (ya yb yc yd : FVec Ideal S2x16384x128 .f32) (d : FVec Ideal S512 .f32) (u : FVec Ideal S2x16384x512 .f32)
    (b : Fin 2) (r : Fin 16384) (k : Fin 512) : s5out ya yb yc yd d u (ix3 b r k)
      = Layer.quarters (fun k => ya (ix3 b r k)) (fun k => yb (ix3 b r k)) (fun k => yc (ix3 b r k)) (fun k => yd (ix3 b r k)) k
        + d (ix1 k) * u (ix3 b r k) := by
  pointwise [s5out, Layer.quarters]

theorem act_at (x : FVec Ideal S2x16384x512 .f32) (b : Fin 2) (r : Fin 16384) (k : Fin 512) :
    act x (ix3 b r k) = Layer.gelu (x (ix3 b r k)) := by
  pointwise [act, Layer.gelu]

theorem glu_at (x : FVec Ideal S2x16384x512 .f32) (w : FVec Ideal S512x512 .f32) (bi : FVec Ideal S512 .f32)
    (b : Fin 2) (r : Fin 16384) (k : Fin 512) : glu (act x) w bi (ix3 b r k)
      = Layer.gluRow (fun k => x (ix3 b r k)) (fun i k => w (ix2 i k)) (fun k => bi (ix1 k)) k := by
  pointwise [glu]
  simp only [act_at]
  simp only [Layer.gluRow, Layer.dense, Ideal.logistic]

/-- The residual with the projected mixers. -/
def mixed (m : (ℓ : Loc nD τ sig) → Buf (Elt Ideal) ℓ) (c : Dev nD) : FVec Ideal S2x16384x1024 .f32 :=
  project (m ((c.tc : Thread nD τ).loc main_arg0))
    (shapeCast _ (extractStridedSlice S2x1x1x1024 ![0, 1, 2, 0] (Cert.FfnRefIdeal.Value.modOf (m ((c.tc : Thread nD τ).loc main_arg1))) slices_S2x3x3x1024_S2x1x1x1024_0_1_2_0) shapeCasts_S2x1x1x1024_S2x1024)
    (headNorm (heads (addf (F := Ideal) (s := S2x16384x512) (φ := .f32) (m ((c.tc : Thread nD τ).loc main_arg2)) (m ((c.tc : Thread nD τ).loc main_arg3)))) (heads (m ((c.tc : Thread nD τ).loc main_arg4)))
      (shapeCast _ (extractStridedSlice S1x128 ![0, 0] (m ((c.tc : Thread nD τ).loc main_arg10)) slices_S2x128_S1x128_0_0) shapeCasts_S1x128_S128))
    (glu (act (s5out (m ((c.tc : Thread nD τ).loc main_arg5)) (m ((c.tc : Thread nD τ).loc main_arg6)) (m ((c.tc : Thread nD τ).loc main_arg7)) (m ((c.tc : Thread nD τ).loc main_arg8))
        (shapeCast _ (extractStridedSlice S1x512 ![0, 0] (m ((c.tc : Thread nD τ).loc main_arg11)) slices_S2x512_S1x512_0_0) shapeCasts_S1x512_S512) (m ((c.tc : Thread nD τ).loc main_arg9))))
      (shapeCast _ (extractStridedSlice S1x512x512 ![0, 0, 0] (m ((c.tc : Thread nD τ).loc main_arg12)) slices_S2x512x512_S1x512x512_0_0_0) shapeCasts_S1x512x512_S512x512)
      (shapeCast _ (extractStridedSlice S1x512 ![0, 0] (m ((c.tc : Thread nD τ).loc main_arg13)) slices_S2x512_S1x512_0_0) shapeCasts_S1x512_S512))
    (shapeCast _ (extractStridedSlice S1x1024x1024 ![0, 0, 0] (m ((c.tc : Thread nD τ).loc main_arg14)) slices_S2x1024x1024_S1x1024x1024_0_0_0) shapeCasts_S1x1024x1024_S1024x1024)

/-- The feed-forward sublayer after it. -/
def after (m : (ℓ : Loc nD τ sig) → Buf (Elt Ideal) ℓ) (c : Dev nD) : FVec Ideal S2x16384x1024 .f32 :=
  Cert.FfnRefIdeal.Value.sublayer (mixed m c)
      (shapeCast _ (extractStridedSlice S1x1x1024 ![0, 2, 0] (m ((c.tc : Thread nD τ).loc main_arg15)) slices_S4x3x1024_S1x1x1024_0_2_0) shapeCasts_S1x1x1024_S1024)
      (shapeCast _ (extractStridedSlice S2x1x1x1024 ![0, 2, 0, 0] (Cert.FfnRefIdeal.Value.modOf (m ((c.tc : Thread nD τ).loc main_arg1))) slices_S2x3x3x1024_S2x1x1x1024_0_2_0_0) shapeCasts_S2x1x1x1024_S2x1024)
      (shapeCast _ (extractStridedSlice S2x1x1x1024 ![0, 2, 1, 0] (Cert.FfnRefIdeal.Value.modOf (m ((c.tc : Thread nD τ).loc main_arg1))) slices_S2x3x3x1024_S2x1x1x1024_0_2_1_0) shapeCasts_S2x1x1x1024_S2x1024)
      (shapeCast _ (extractStridedSlice S2x1x1x1024 ![0, 2, 2, 0] (Cert.FfnRefIdeal.Value.modOf (m ((c.tc : Thread nD τ).loc main_arg1))) slices_S2x3x3x1024_S2x1x1x1024_0_2_2_0) shapeCasts_S2x1x1x1024_S2x1024)
      (shapeCast _ (extractStridedSlice S1x1x1024x5632 ![0, 1, 0, 0] (m ((c.tc : Thread nD τ).loc main_arg16)) slices_S4x2x1024x5632_S1x1x1024x5632_0_1_0_0) shapeCasts_S1x1x1024x5632_S1024x5632)
      (shapeCast _ (extractStridedSlice S1x1x2816x1024 ![0, 1, 0, 0] (m ((c.tc : Thread nD τ).loc main_arg17)) slices_S4x2x2816x1024_S1x1x2816x1024_0_1_0_0) shapeCasts_S1x1x2816x1024_S2816x1024)

/-- The reference's run leaves that sublayer in its result. -/
theorem run_after (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v114) = after m c :=
  (θ_run defs _ _).mono (fun r h c => (h c).1) (run m ρ)

/-- That array at an entry is the kernel's. -/
theorem res_at (m : (ℓ : Loc nD τ sig) → Buf (Elt Ideal) ℓ) (c : Dev nD) (h : FVec Ideal S2x16384x1024 .f32) (mod : FVec Ideal S288x1x1024 .f32) (of : FVec Ideal S2x16384x512 .f32) (ob : FVec Ideal S2x16384x512 .f32) (z : FVec Ideal S2x16384x512 .f32) (ya : FVec Ideal S2x16384x128 .f32) (yb : FVec Ideal S2x16384x128 .f32) (yc : FVec Ideal S2x16384x128 .f32) (yd : FVec Ideal S2x16384x128 .f32) (u : FVec Ideal S2x16384x512 .f32) (gg : FVec Ideal S2x128 .f32) (sd : FVec Ideal S2x512 .f32) (gw : FVec Ideal S2x512x512 .f32) (gb : FVec Ideal S2x512 .f32) (wo : FVec Ideal S2x1024x1024 .f32) (ng : FVec Ideal S4x3x1024 .f32) (wu : FVec Ideal S4x2x1024x5632 .f32) (wd : FVec Ideal S4x2x2816x1024 .f32)
    (e0 : m ((c.tc : Thread nD τ).loc main_arg0) = h) (e1 : m ((c.tc : Thread nD τ).loc main_arg1) = mod) (e2 : m ((c.tc : Thread nD τ).loc main_arg2) = of) (e3 : m ((c.tc : Thread nD τ).loc main_arg3) = ob) (e4 : m ((c.tc : Thread nD τ).loc main_arg4) = z) (e5 : m ((c.tc : Thread nD τ).loc main_arg5) = ya) (e6 : m ((c.tc : Thread nD τ).loc main_arg6) = yb) (e7 : m ((c.tc : Thread nD τ).loc main_arg7) = yc) (e8 : m ((c.tc : Thread nD τ).loc main_arg8) = yd) (e9 : m ((c.tc : Thread nD τ).loc main_arg9) = u) (e10 : m ((c.tc : Thread nD τ).loc main_arg10) = gg) (e11 : m ((c.tc : Thread nD τ).loc main_arg11) = sd) (e12 : m ((c.tc : Thread nD τ).loc main_arg12) = gw) (e13 : m ((c.tc : Thread nD τ).loc main_arg13) = gb) (e14 : m ((c.tc : Thread nD τ).loc main_arg14) = wo) (e15 : m ((c.tc : Thread nD τ).loc main_arg15) = ng) (e16 : m ((c.tc : Thread nD τ).loc main_arg16) = wu) (e17 : m ((c.tc : Thread nD τ).loc main_arg17) = wd)
    (b : Fin 2) (r : Fin 16384) (j : Fin 1024) :
    after m c (ix3 b r j) = Cert.FfnAbIdeal.Value.resAt h mod of ob z ya yb yc yd u gg sd gw gb wo ng wu wd b r j := by
  unfold after
  rw [Cert.FfnRefIdeal.Value.sublayer_at]
  unfold mixed
  simp only [project_at, headNorm_at, glu_at, s5out_at, e0, e1, e2, e3, e4, e5, e6, e7, e8, e9, e10, e11, e12, e13, e14, e15, e16, e17]
  unfold Cert.FfnAbIdeal.Value.resAt Layer.ffnRow
  pointwise [Cert.FfnRefIdeal.Value.modOf]

end Cert.FfnAbRefIdeal.Value

end
-- ==== Proof.FfnAbClaim.lean ====
/- The algebraic claim of the feed-forward call that closes a delta-net/S5 sublayer. -/
module

public import proofs.«01_k».proof.Defs
public import proofs.«01_k».proof.Proof.FfnAbRefAt
public import proofs.«01_k».proof.Proof.FfnAbValue
public import proofs.«01_k».proof.Proof.Gen.FfnAbIdeal
public import proofs.«01_k».proof.Proof.Gen.FfnAbRefIdeal

@[expose] public section

set_option maxRecDepth 16384

noncomputable section

namespace Cert.Proof.FfnAbClaim

open Idealize.ShloMosaic Idealize.ShloMosaic.TcCoe Idealize.SL.Sem

/-- Run on the same arguments, the reference's result array is the array the kernel leaves. -/
theorem res_arr (m : (ℓ : Loc Cert.FfnAbIdeal.nD Cert.FfnAbIdeal.τ Cert.FfnAbIdeal.sig) → Buf (Elt Ideal) ℓ) (m' : (ℓ : Loc Cert.FfnAbRefIdeal.nD Cert.FfnAbRefIdeal.τ Cert.FfnAbRefIdeal.sig) → Buf (Elt Ideal) ℓ)
    (c : Dev Cert.FfnAbIdeal.nD)
    (e0 : m' ((c.tc : Thread Cert.FfnAbRefIdeal.nD Cert.FfnAbRefIdeal.τ).loc Cert.FfnAbRefIdeal.main_arg0) = m ((c.tc : Thread Cert.FfnAbIdeal.nD Cert.FfnAbIdeal.τ).loc Cert.FfnAbIdeal.main_arg0))
    (e1 : m' ((c.tc : Thread Cert.FfnAbRefIdeal.nD Cert.FfnAbRefIdeal.τ).loc Cert.FfnAbRefIdeal.main_arg1) = m ((c.tc : Thread Cert.FfnAbIdeal.nD Cert.FfnAbIdeal.τ).loc Cert.FfnAbIdeal.main_arg1))
    (e2 : m' ((c.tc : Thread Cert.FfnAbRefIdeal.nD Cert.FfnAbRefIdeal.τ).loc Cert.FfnAbRefIdeal.main_arg2) = m ((c.tc : Thread Cert.FfnAbIdeal.nD Cert.FfnAbIdeal.τ).loc Cert.FfnAbIdeal.main_arg2))
    (e3 : m' ((c.tc : Thread Cert.FfnAbRefIdeal.nD Cert.FfnAbRefIdeal.τ).loc Cert.FfnAbRefIdeal.main_arg3) = m ((c.tc : Thread Cert.FfnAbIdeal.nD Cert.FfnAbIdeal.τ).loc Cert.FfnAbIdeal.main_arg3))
    (e4 : m' ((c.tc : Thread Cert.FfnAbRefIdeal.nD Cert.FfnAbRefIdeal.τ).loc Cert.FfnAbRefIdeal.main_arg4) = m ((c.tc : Thread Cert.FfnAbIdeal.nD Cert.FfnAbIdeal.τ).loc Cert.FfnAbIdeal.main_arg4))
    (e5 : m' ((c.tc : Thread Cert.FfnAbRefIdeal.nD Cert.FfnAbRefIdeal.τ).loc Cert.FfnAbRefIdeal.main_arg5) = m ((c.tc : Thread Cert.FfnAbIdeal.nD Cert.FfnAbIdeal.τ).loc Cert.FfnAbIdeal.main_arg5))
    (e6 : m' ((c.tc : Thread Cert.FfnAbRefIdeal.nD Cert.FfnAbRefIdeal.τ).loc Cert.FfnAbRefIdeal.main_arg6) = m ((c.tc : Thread Cert.FfnAbIdeal.nD Cert.FfnAbIdeal.τ).loc Cert.FfnAbIdeal.main_arg6))
    (e7 : m' ((c.tc : Thread Cert.FfnAbRefIdeal.nD Cert.FfnAbRefIdeal.τ).loc Cert.FfnAbRefIdeal.main_arg7) = m ((c.tc : Thread Cert.FfnAbIdeal.nD Cert.FfnAbIdeal.τ).loc Cert.FfnAbIdeal.main_arg7))
    (e8 : m' ((c.tc : Thread Cert.FfnAbRefIdeal.nD Cert.FfnAbRefIdeal.τ).loc Cert.FfnAbRefIdeal.main_arg8) = m ((c.tc : Thread Cert.FfnAbIdeal.nD Cert.FfnAbIdeal.τ).loc Cert.FfnAbIdeal.main_arg8))
    (e9 : m' ((c.tc : Thread Cert.FfnAbRefIdeal.nD Cert.FfnAbRefIdeal.τ).loc Cert.FfnAbRefIdeal.main_arg9) = m ((c.tc : Thread Cert.FfnAbIdeal.nD Cert.FfnAbIdeal.τ).loc Cert.FfnAbIdeal.main_arg9))
    (e10 : m' ((c.tc : Thread Cert.FfnAbRefIdeal.nD Cert.FfnAbRefIdeal.τ).loc Cert.FfnAbRefIdeal.main_arg10) = m ((c.tc : Thread Cert.FfnAbIdeal.nD Cert.FfnAbIdeal.τ).loc Cert.FfnAbIdeal.main_arg10))
    (e11 : m' ((c.tc : Thread Cert.FfnAbRefIdeal.nD Cert.FfnAbRefIdeal.τ).loc Cert.FfnAbRefIdeal.main_arg11) = m ((c.tc : Thread Cert.FfnAbIdeal.nD Cert.FfnAbIdeal.τ).loc Cert.FfnAbIdeal.main_arg11))
    (e12 : m' ((c.tc : Thread Cert.FfnAbRefIdeal.nD Cert.FfnAbRefIdeal.τ).loc Cert.FfnAbRefIdeal.main_arg12) = m ((c.tc : Thread Cert.FfnAbIdeal.nD Cert.FfnAbIdeal.τ).loc Cert.FfnAbIdeal.main_arg12))
    (e13 : m' ((c.tc : Thread Cert.FfnAbRefIdeal.nD Cert.FfnAbRefIdeal.τ).loc Cert.FfnAbRefIdeal.main_arg13) = m ((c.tc : Thread Cert.FfnAbIdeal.nD Cert.FfnAbIdeal.τ).loc Cert.FfnAbIdeal.main_arg13))
    (e14 : m' ((c.tc : Thread Cert.FfnAbRefIdeal.nD Cert.FfnAbRefIdeal.τ).loc Cert.FfnAbRefIdeal.main_arg14) = m ((c.tc : Thread Cert.FfnAbIdeal.nD Cert.FfnAbIdeal.τ).loc Cert.FfnAbIdeal.main_arg14))
    (e15 : m' ((c.tc : Thread Cert.FfnAbRefIdeal.nD Cert.FfnAbRefIdeal.τ).loc Cert.FfnAbRefIdeal.main_arg15) = m ((c.tc : Thread Cert.FfnAbIdeal.nD Cert.FfnAbIdeal.τ).loc Cert.FfnAbIdeal.main_arg15))
    (e16 : m' ((c.tc : Thread Cert.FfnAbRefIdeal.nD Cert.FfnAbRefIdeal.τ).loc Cert.FfnAbRefIdeal.main_arg16) = m ((c.tc : Thread Cert.FfnAbIdeal.nD Cert.FfnAbIdeal.τ).loc Cert.FfnAbIdeal.main_arg16))
    (e17 : m' ((c.tc : Thread Cert.FfnAbRefIdeal.nD Cert.FfnAbRefIdeal.τ).loc Cert.FfnAbRefIdeal.main_arg17) = m ((c.tc : Thread Cert.FfnAbIdeal.nD Cert.FfnAbIdeal.τ).loc Cert.FfnAbIdeal.main_arg17)) :
    Cert.FfnAbRefIdeal.Value.after m' c = Cert.FfnAbIdeal.Value.resArr (m ((c : Thread Cert.FfnAbIdeal.nD Cert.FfnAbIdeal.τ).loc Cert.FfnAbIdeal.main_arg0)) (m ((c : Thread Cert.FfnAbIdeal.nD Cert.FfnAbIdeal.τ).loc Cert.FfnAbIdeal.main_arg1)) (m ((c : Thread Cert.FfnAbIdeal.nD Cert.FfnAbIdeal.τ).loc Cert.FfnAbIdeal.main_arg2)) (m ((c : Thread Cert.FfnAbIdeal.nD Cert.FfnAbIdeal.τ).loc Cert.FfnAbIdeal.main_arg3)) (m ((c : Thread Cert.FfnAbIdeal.nD Cert.FfnAbIdeal.τ).loc Cert.FfnAbIdeal.main_arg4)) (m ((c : Thread Cert.FfnAbIdeal.nD Cert.FfnAbIdeal.τ).loc Cert.FfnAbIdeal.main_arg5)) (m ((c : Thread Cert.FfnAbIdeal.nD Cert.FfnAbIdeal.τ).loc Cert.FfnAbIdeal.main_arg6)) (m ((c : Thread Cert.FfnAbIdeal.nD Cert.FfnAbIdeal.τ).loc Cert.FfnAbIdeal.main_arg7)) (m ((c : Thread Cert.FfnAbIdeal.nD Cert.FfnAbIdeal.τ).loc Cert.FfnAbIdeal.main_arg8)) (m ((c : Thread Cert.FfnAbIdeal.nD Cert.FfnAbIdeal.τ).loc Cert.FfnAbIdeal.main_arg9)) (m ((c : Thread Cert.FfnAbIdeal.nD Cert.FfnAbIdeal.τ).loc Cert.FfnAbIdeal.main_arg10)) (m ((c : Thread Cert.FfnAbIdeal.nD Cert.FfnAbIdeal.τ).loc Cert.FfnAbIdeal.main_arg11)) (m ((c : Thread Cert.FfnAbIdeal.nD Cert.FfnAbIdeal.τ).loc Cert.FfnAbIdeal.main_arg12)) (m ((c : Thread Cert.FfnAbIdeal.nD Cert.FfnAbIdeal.τ).loc Cert.FfnAbIdeal.main_arg13)) (m ((c : Thread Cert.FfnAbIdeal.nD Cert.FfnAbIdeal.τ).loc Cert.FfnAbIdeal.main_arg14)) (m ((c : Thread Cert.FfnAbIdeal.nD Cert.FfnAbIdeal.τ).loc Cert.FfnAbIdeal.main_arg15)) (m ((c : Thread Cert.FfnAbIdeal.nD Cert.FfnAbIdeal.τ).loc Cert.FfnAbIdeal.main_arg16)) (m ((c : Thread Cert.FfnAbIdeal.nD Cert.FfnAbIdeal.τ).loc Cert.FfnAbIdeal.main_arg17)) := by
  funext i
  idx_vars i
  exact Cert.FfnAbRefIdeal.Value.res_at m' c _ _ _ _ _ _ _ _ _ _ _ _ _ _ _ _ _ _ e0 e1 e2 e3 e4 e5 e6 e7 e8 e9 e10 e11 e12 e13 e14 e15 e16 e17 i0 i1 i2

/-- The kernel and the plain layer leave the same array. -/
theorem algebraic : Cert.algebraic_FfnAbIdeal_FfnAbRefIdeal (hFfnAbIdeal := Cert.FfnAbIdeal.Gen.facts) (hFfnAbRefIdeal := Cert.FfnAbRefIdeal.Gen.facts) :=
  fun m ρ m' ρ' _ hag => ⟨fun c => (Cert.FfnAbIdeal.Gen.dats m 0 c).arrAt 21 Cert.FfnAbIdeal.cfg0.N, Cert.FfnAbIdeal.Value.run_blocks m ρ,
    (θ_run _ _ _).mono (fun _ h c => by
      obtain ⟨e0, e1, e2, e3, e4, e5, e6, e7, e8, e9, e10, e11, e12, e13, e14, e15, e16, e17⟩ := hag c
      exact ⟨(h c).1.trans ((res_arr m m' c e0 e1 e2 e3 e4 e5 e6 e7 e8 e9 e10 e11 e12 e13 e14 e15 e16 e17).trans (Cert.FfnAbIdeal.Value.final m c).symm), (h c).2⟩)
      (Cert.FfnAbRefIdeal.Value.run m' ρ')⟩

end Cert.Proof.FfnAbClaim

end
-- ==== Proof.InprojCdOut.lean ====
/- What one grid point of the input projection of the convolution/HGRN sublayer leaves in its six output blocks. -/
module

public import proofs.«01_k».proof.Proof.LayerCongr
public import proofs.«01_k».proof.Proof.Gen.InprojCdIdeal.Value
public import Idealize.ShloMosaic.Lib.Pipeline.ValueKit

@[expose] public section

set_option maxRecDepth 16384

noncomputable section

namespace Cert.InprojCdIdeal.Value

open Cert.InprojCdIdeal Cert.InprojCdIdeal.Gen Idealize.ShloMosaic Idealize.ShloMosaic.TcCoe Idealize.SL.Sem

/-- The normed block is the adaptive norm of each of its rows. -/
theorem norm_at (x : Vec Ideal S1x512x1024 .f32) (g : Vec Ideal S1x1024 .f32) (sc sh : Vec Ideal S1x1x1024 .f32)
    (r : Fin 512) (k : Fin 1024) :
    k0_pay3 x g sc sh (ix2 r k) = Layer.adaRow (fun k => x (ix3 0 r k)) (fun k => g (ix2 0 k)) (fun k => sc (ix3 0 0 k))
      (fun k => sh (ix3 0 0 k)) k := by
  pointwise [k0_pay3, Layer.adaRow, Layer.rowNorm]

/-- The same of the block as the body computes it from the staged inputs. -/
theorem normed_at (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (k : Fin 1024) :
    k0_pay13 x0 x1 x2 x3 x4 x5 x6 x7 x8 x9 x10 (ix2 r k) = Layer.adaRow (fun k => x0 (ix3 0 r k)) (fun k => x3 (ix2 0 k)) (fun k => x2 (ix3 0 0 k)) (fun k => x1 (ix3 0 0 k)) k := by
  unfold k0_pay13
  rw [norm_at]
  pointwise

/-- Output 0's block, at an entry. -/
theorem out_at_11 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_11 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x4 (ix2 k j)) j * Ideal.logistic (Layer.dense (Layer.adaRow (fun k => x0 (ix3 0 r k)) (fun k => x3 (ix2 0 k)) (fun k => x2 (ix3 0 0 k)) (fun k => x1 (ix3 0 0 k))) (fun k j => x5 (ix2 k j)) j) := by
  frame_out
  pointwise [k0_pay9, k0_pay4, k0_pay5]
  simp only [normed_at, norm_at, Layer.dense]

/-- Output 1's block, at an entry. -/
theorem out_at_12 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_12 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x6 (ix2 k j)) j := by
  frame_out
  pointwise [k0_pay10, k0_pay6]
  simp only [normed_at, norm_at, Layer.dense]

/-- Output 2's block, at an entry. -/
theorem out_at_13 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_13 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x7 (ix2 k j)) j := by
  frame_out
  pointwise [k0_pay11]
  simp only [normed_at, norm_at, Layer.dense]

/-- Output 3's block, at an entry. -/
theorem out_at_14 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_14 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x8 (ix2 k j)) j := by
  frame_out
  pointwise [k0_pay12]
  simp only [normed_at, norm_at, Layer.dense]

/-- Output 4's block, at an entry. -/
theorem out_at_15 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_15 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x9 (ix2 k j)) j := by
  frame_out
  pointwise [k0_pay1, k0_pay7]
  simp only [normed_at, norm_at, Layer.dense]

/-- Output 5's block, at an entry. -/
theorem out_at_16 (x0 : Vec Ideal S1x512x1024 .f32) (x1 x2 : Vec Ideal S1x1x1024 .f32) (x3 : Vec Ideal S1x1024 .f32)
    (x4 x5 x6 x7 x8 x9 x10 : Vec Ideal S1024x512 .bf16) (r : Fin 512) (j : Fin 512) :
    out0_16 x0 x1 x2 x3 x4 x5 x6 x7 x8 x9 x10 (ix3 0 r j) = Layer.dense (Layer.adaRow (fun k => x0 (ix3 0 r k)) (fun k => x3 (ix2 0 k)) (fun k => x2 (ix3 0 0 k)) (fun k => x1 (ix3 0 0 k))) (fun k j => x10 (ix2 k j)) j := by
  frame_out
  pointwise [k0_pay2, k0_pay8]
  simp only [normed_at, norm_at, Layer.dense]

end Cert.InprojCdIdeal.Value

end
-- ==== Proof.InprojCdValue.lean ====
/- The six result arrays of the input projection of the convolution/HGRN sublayer, as functions of its argument arrays. -/
module

public import proofs.«01_k».proof.Proof.InprojCdOut

@[expose] public section

set_option maxRecDepth 16384

noncomputable section

namespace Cert.InprojCdIdeal.Value

open Cert.InprojCdIdeal Cert.InprojCdIdeal.Gen Idealize.ShloMosaic Idealize.ShloMosaic.TcCoe Idealize.SL.Sem
open Idealize.ShloMosaic.Pipeline (Dat)

variable (m : (ℓ : Loc nD τ sig) → Buf (Elt Ideal) ℓ)

/-- Channel `n` of the projected row at sample `b`, token `r`. -/
def projAt (h : FVec Ideal S2x16384x1024 .f32) (mod : FVec Ideal S288x1x1024 .f32) (ng : FVec Ideal S4x3x1024 .f32) (w : FVec Ideal S2x1024x3584 .f32) (b : Fin 2) (r : Fin 16384) (n : Fin 3584) : EReal :=
  Layer.dense (Layer.adaRow (fun k => h (ix3 b r k)) (fun k => ng (ix3 1 1 k)) (fun k => mod (ix3 ⟨104 + b, by omega⟩ 0 k))
    (fun k => mod (ix3 ⟨96 + b, by omega⟩ 0 k))) (fun k n => w (ix3 0 k n)) n

/-- An entry of the gated first result. -/
def gluAt (h : FVec Ideal S2x16384x1024 .f32) (mod : FVec Ideal S288x1x1024 .f32) (ng : FVec Ideal S4x3x1024 .f32) (w : FVec Ideal S2x1024x3584 .f32) (b : Fin 2) (r : Fin 16384) (j : Fin 512) : EReal :=
  projAt h mod ng w b r ⟨j, by omega⟩ * Ideal.logistic (projAt h mod ng w b r ⟨512 + j, by omega⟩)

/-- An entry of the result that holds the 512 channels from channel `o` on. -/
def sliceAt (o : ℕ) (ho : o + 512 ≤ 3584) (h : FVec Ideal S2x16384x1024 .f32) (mod : FVec Ideal S288x1x1024 .f32) (ng : FVec Ideal S4x3x1024 .f32) (w : FVec Ideal S2x1024x3584 .f32) (b : Fin 2) (r : Fin 16384) (j : Fin 512) : EReal :=
  projAt h mod ng w b r ⟨o + j, by omega⟩

/-- The gated first result. -/
def gluArr (h : FVec Ideal S2x16384x1024 .f32) (mod : FVec Ideal S288x1x1024 .f32) (ng : FVec Ideal S4x3x1024 .f32) (w : FVec Ideal S2x1024x3584 .f32) : FVec Ideal S2x16384x512 .f32 := fun i => gluAt h mod ng w (i 0) (i 1) (i 2)

/-- The result that holds the 512 channels from channel `o` on. -/
def sliceArr (o : ℕ) (ho : o + 512 ≤ 3584) (h : FVec Ideal S2x16384x1024 .f32) (mod : FVec Ideal S288x1x1024 .f32) (ng : FVec Ideal S4x3x1024 .f32) (w : FVec Ideal S2x1024x3584 .f32) : FVec Ideal S2x16384x512 .f32 :=
  fun i => sliceAt o ho h mod ng w (i 0) (i 1) (i 2)

/-- Two projected entries are equal when their rows, their modulations and their weight columns are. -/
theorem dense_congr {h h' g g' sc sc' sh sh' : Fin 1024 → EReal} {w : Fin 1024 → Fin 512 → EReal} {w' : Fin 1024 → Fin 3584 → EReal}
    {j : Fin 512} {j' : Fin 3584} (eh : ∀ k, h k = h' k) (eg : ∀ k, g k = g' k) (ec : ∀ k, sc k = sc' k) (es : ∀ k, sh k = sh' k)
    (ew : ∀ k, w k j = w' k j') : Layer.dense (Layer.adaRow h g sc sh) w j = Layer.dense (Layer.adaRow h' g' sc' sh') w' j' := by
  rw [funext eh, funext eg, funext ec, funext es]
  unfold Layer.dense
  exact Finset.sum_congr rfl fun k _ => by rw [ew]

/-- Every window's block index at a grid point: 32 token tiles per sample. -/
theorem idx : ∀ t : Fin cfg0.N, win0_0.index t = ![t.val / 32, t.val % 32, 0] ∧ win0_1.index t = ![96 + t.val / 32, 0, 0]
    ∧ win0_2.index t = ![104 + t.val / 32, 0, 0] ∧ win0_3.index t = ![0, 0] ∧ win0_4.index t = ![0, 0] ∧ win0_5.index t = ![0, 1]
    ∧ win0_6.index t = ![0, 2] ∧ win0_7.index t = ![0, 3] ∧ win0_8.index t = ![0, 4] ∧ win0_9.index t = ![0, 5] ∧ win0_10.index t = ![0, 6]
    ∧ win0_11.index t = ![t.val / 32, t.val % 32, 0] ∧ win0_12.index t = ![t.val / 32, t.val % 32, 0]
    ∧ win0_13.index t = ![t.val / 32, t.val % 32, 0] ∧ win0_14.index t = ![t.val / 32, t.val % 32, 0]
    ∧ win0_15.index t = ![t.val / 32, t.val % 32, 0] ∧ win0_16.index t = ![t.val / 32, t.val % 32, 0] :=
  (by decide +kernel : ∀ t : Fin grid0.N, _)

set_option maxHeartbeats 1600000 in
/-- Result 0 after the run. -/
theorem final11 (c : Dev nD) : (dats m 0 c).arrAt 11 (cfgs 0).N = gluArr (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t _ y => ?_
  blk_simp
  rw [after0_11]
  idx_vars y
  rw [Subsingleton.elim y0 0]
  refine (out_at_11 _ _ _ _ _ _ _ _ _ _ _ y1 y2).trans ?_
  unfold gluArr gluAt projAt
  · refine congrArg₂ (· * ·) (dense_congr (fun k => ?_) (fun k => ?_) (fun k => ?_) (fun k => ?_) (fun k => ?_)) (congrArg Ideal.logistic (dense_congr (fun k => ?_) (fun k => ?_) (fun k => ?_) (fun k => ?_) (fun k => ?_))) <;> blk_point [iblk, V, idx t]

set_option maxHeartbeats 1600000 in
/-- Result 1 after the run. -/
theorem final12 (c : Dev nD) : (dats m 0 c).arrAt 12 (cfgs 0).N = sliceArr 1024 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 12 _ (by decide +kernel) fun t _ y => ?_
  blk_simp
  rw [after0_12]
  idx_vars y
  rw [Subsingleton.elim y0 0]
  refine (out_at_12 _ _ _ _ _ _ _ _ _ _ _ y1 y2).trans ?_
  unfold sliceArr sliceAt projAt
  · refine dense_congr (fun k => ?_) (fun k => ?_) (fun k => ?_) (fun k => ?_) (fun k => ?_) <;> blk_point [iblk, V, idx t]

set_option maxHeartbeats 1600000 in
/-- Result 2 after the run. -/
theorem final13 (c : Dev nD) : (dats m 0 c).arrAt 13 (cfgs 0).N = sliceArr 1536 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  idx_vars y
  rw [Subsingleton.elim y0 0]
  refine (out_at_13 _ _ _ _ _ _ _ _ _ _ _ y1 y2).trans ?_
  unfold sliceArr sliceAt projAt
  · refine dense_congr (fun k => ?_) (fun k => ?_) (fun k => ?_) (fun k => ?_) (fun k => ?_) <;> blk_point [iblk, V, idx t]

set_option maxHeartbeats 1600000 in
/-- Result 3 after the run. -/
theorem final14 (c : Dev nD) : (dats m 0 c).arrAt 14 (cfgs 0).N = sliceArr 2048 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 14 _ (by decide +kernel) fun t _ y => ?_
  blk_simp
  rw [after0_14]
  idx_vars y
  rw [Subsingleton.elim y0 0]
  refine (out_at_14 _ _ _ _ _ _ _ _ _ _ _ y1 y2).trans ?_
  unfold sliceArr sliceAt projAt
  · refine dense_congr (fun k => ?_) (fun k => ?_) (fun k => ?_) (fun k => ?_) (fun k => ?_) <;> blk_point [iblk, V, idx t]

set_option maxHeartbeats 1600000 in
/-- Result 4 after the run. -/
theorem final15 (c : Dev nD) : (dats m 0 c).arrAt 15 (cfgs 0).N = sliceArr 2560 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 15 _ (by decide +kernel) fun t _ y => ?_
  blk_simp
  rw [after0_15]
  idx_vars y
  rw [Subsingleton.elim y0 0]
  refine (out_at_15 _ _ _ _ _ _ _ _ _ _ _ y1 y2).trans ?_
  unfold sliceArr sliceAt projAt
  · refine dense_congr (fun k => ?_) (fun k => ?_) (fun k => ?_) (fun k => ?_) (fun k => ?_) <;> blk_point [iblk, V, idx t]

set_option maxHeartbeats 1600000 in
/-- Result 5 after the run. -/
theorem final16 (c : Dev nD) : (dats m 0 c).arrAt 16 (cfgs 0).N = sliceArr 3072 (by omega) (m ((c : Thread nD τ).loc main_arg0)) (m ((c : Thread nD τ).loc main_arg1)) (m ((c : Thread nD τ).loc main_arg2)) (m ((c : Thread nD τ).loc main_arg3)) := by
  refine (dats m 0 c).arrAt_eq_of_covers 16 _ (by decide +kernel) fun t _ y => ?_
  blk_simp
  rw [after0_16]
  idx_vars y
  rw [Subsingleton.elim y0 0]
  refine (out_at_16 _ _ _ _ _ _ _ _ _ _ _ y1 y2).trans ?_
  unfold sliceArr sliceAt projAt
  · refine dense_congr (fun k => ?_) (fun k => ?_) (fun k => ?_) (fun k => ?_) (fun k => ?_) <;> blk_point [iblk, V, idx t]

end Cert.InprojCdIdeal.Value

end
-- ==== Proof.InprojCdRefAt.lean ====
/- The reference of the input projection of the convolution/HGRN sublayer: its six results at an entry, read from its argument arrays. -/
module

public import proofs.«01_k».proof.Proof.FfnCdRefAt
public import proofs.«01_k».proof.Proof.Gen.InprojCdRefIdeal.Run
public import proofs.«01_k».proof.Proof.InprojCdValue

@[expose] public section

set_option maxRecDepth 16384

noncomputable section

namespace Cert.InprojCdRefIdeal.Value

open Cert.InprojCdRefIdeal Cert.InprojCdRefIdeal.Gen Idealize.ShloMosaic Idealize.ShloMosaic.TcCoe Idealize.SL.Sem

/-- A row array times the projection matrix. -/
def project (x : FVec Ideal S2x16384x1024 .f32) (w : FVec Ideal S1024x3584 .f32) : FVec Ideal S2x16384x3584 .f32 :=
  Host.dotGeneral (F := Ideal) dot_S2x16384x1024_S1024x3584_S2x16384x3584_2_0_01_1_n_n none x w

theorem project_at (x : FVec Ideal S2x16384x1024 .f32) (w : FVec Ideal S1024x3584 .f32) (b : Fin 2) (r : Fin 16384) (n : Fin 3584) :
    project x w (ix3 b r n) = Layer.dense (fun k => x (ix3 b r k)) (fun k n => w (ix2 k n)) n := by
  pointwise [project, Layer.dense]

/-- The projected rows, from the argument arrays. -/
def proj (m : (ℓ : Loc nD τ sig) → Buf (Elt Ideal) ℓ) (c : Dev nD) : FVec Ideal S2x16384x3584 .f32 :=
  project (Cert.FfnRefIdeal.Value.ada (Cert.FfnRefIdeal.Value.rms (m ((c.tc : Thread nD τ).loc main_arg0))
      (shapeCast _ (extractStridedSlice S1x1x1024 ![1, 1, 0] (m ((c.tc : Thread nD τ).loc main_arg2)) slices_S4x3x1024_S1x1x1024_1_1_0) shapeCasts_S1x1x1024_S1024))
      (shapeCast _ (extractStridedSlice S2x1x1x1024 ![0, 1, 1, 0] (Cert.FfnCdRefIdeal.Value.modOf (m ((c.tc : Thread nD τ).loc main_arg1))) slices_S2x3x3x1024_S2x1x1x1024_0_1_1_0) shapeCasts_S2x1x1x1024_S2x1024)
      (shapeCast _ (extractStridedSlice S2x1x1x1024 ![0, 1, 0, 0] (Cert.FfnCdRefIdeal.Value.modOf (m ((c.tc : Thread nD τ).loc main_arg1))) slices_S2x3x3x1024_S2x1x1x1024_0_1_0_0) shapeCasts_S2x1x1x1024_S2x1024))
    (shapeCast _ (extractStridedSlice S1x1024x3584 ![0, 0, 0] (m ((c.tc : Thread nD τ).loc main_arg3)) slices_S2x1024x3584_S1x1024x3584_0_0_0) shapeCasts_S1x1024x3584_S1024x3584)

/-- The projected row at an entry is the kernel's. -/
theorem proj_at (m : (ℓ : Loc nD τ sig) → Buf (Elt Ideal) ℓ) (c : Dev nD) (h : FVec Ideal S2x16384x1024 .f32)
    (mod : FVec Ideal S288x1x1024 .f32) (ng : FVec Ideal S4x3x1024 .f32) (w : FVec Ideal S2x1024x3584 .f32)
    (e0 : m ((c.tc : Thread nD τ).loc main_arg0) = h) (e1 : m ((c.tc : Thread nD τ).loc main_arg1) = mod)
    (e2 : m ((c.tc : Thread nD τ).loc main_arg2) = ng) (e3 : m ((c.tc : Thread nD τ).loc main_arg3) = w)
    (b : Fin 2) (r : Fin 16384) (n : Fin 3584) : proj m c (ix3 b r n) = Cert.InprojCdIdeal.Value.projAt h mod ng w b r n := by
  unfold proj
  simp only [project_at, Cert.FfnRefIdeal.Value.ada_at, Cert.FfnRefIdeal.Value.rms_at, e0, e1, e2, e3]
  unfold Cert.InprojCdIdeal.Value.projAt
  pointwise [Cert.FfnCdRefIdeal.Value.modOf, Layer.dense, Layer.adaRow, Layer.rowNorm]

/-- The gated first result of a projected array. -/
def glu (p : FVec Ideal S2x16384x3584 .f32) : FVec Ideal S2x16384x512 .f32 :=
  mulf (extractStridedSlice S2x16384x512 ![0, 0, 0] (extractStridedSlice S2x16384x1024 ![0, 0, 0] p slices_S2x16384x3584_S2x16384x1024_0_0_0) slices_S2x16384x1024_S2x16384x512_0_0_0)
    (Host.divf (broadcastInDim S2x16384x512 ![] bcast_S_S2x16384x512 (constant S_ .f32 0x3F800000#32)) (addf (broadcastInDim S2x16384x512 ![] bcast_S_S2x16384x512 (constant S_ .f32 0x3F800000#32))
      (Host.exp (Host.negf (extractStridedSlice S2x16384x512 ![0, 0, 512] (extractStridedSlice S2x16384x1024 ![0, 0, 0] p slices_S2x16384x3584_S2x16384x1024_0_0_0) slices_S2x16384x1024_S2x16384x512_0_0_512)))))

theorem glu_at (p : FVec Ideal S2x16384x3584 .f32) (b : Fin 2) (r : Fin 16384) (j : Fin 512) :
    glu p (ix3 b r j) = p (ix3 b r ⟨j, by omega⟩) * Ideal.logistic (p (ix3 b r ⟨512 + j, by omega⟩)) := by
  pointwise [glu, Ideal.logistic]

/-- The slice of a projected array from channel 1024 on. -/
def part1024 (p : FVec Ideal S2x16384x3584 .f32) : FVec Ideal S2x16384x512 .f32 :=
  extractStridedSlice S2x16384x512 ![0, 0, 1024] p slices_S2x16384x3584_S2x16384x512_0_0_1024

theorem part1024_at (p : FVec Ideal S2x16384x3584 .f32) (b : Fin 2) (r : Fin 16384) (j : Fin 512) :
    part1024 p (ix3 b r j) = p (ix3 b r ⟨1024 + j, by omega⟩) := by
  pointwise [part1024]

/-- The slice of a projected array from channel 1536 on. -/
def part1536 (p : FVec Ideal S2x16384x3584 .f32) : FVec Ideal S2x16384x512 .f32 :=
  extractStridedSlice S2x16384x512 ![0, 0, 1536] p slices_S2x16384x3584_S2x16384x512_0_0_1536

theorem part1536_at (p : FVec Ideal S2x16384x3584 .f32) (b : Fin 2) (r : Fin 16384) (j : Fin 512) :
    part1536 p (ix3 b r j) = p (ix3 b r ⟨1536 + j, by omega⟩) := by
  pointwise [part1536]

/-- The slice of a projected array from channel 2048 on. -/
def part2048 (p : FVec Ideal S2x16384x3584 .f32) : FVec Ideal S2x16384x512 .f32 :=
  extractStridedSlice S2x16384x512 ![0, 0, 2048] p slices_S2x16384x3584_S2x16384x512_0_0_2048

theorem part2048_at (p : FVec Ideal S2x16384x3584 .f32) (b : Fin 2) (r : Fin 16384) (j : Fin 512) :
    part2048 p (ix3 b r j) = p (ix3 b r ⟨2048 + j, by omega⟩) := by
  pointwise [part2048]

/-- The slice of a projected array from channel 2560 on. -/
def part2560 (p : FVec Ideal S2x16384x3584 .f32) : FVec Ideal S2x16384x512 .f32 :=
  extractStridedSlice S2x16384x512 ![0, 0, 2560] p slices_S2x16384x3584_S2x16384x512_0_0_2560

theorem part2560_at (p : FVec Ideal S2x16384x3584 .f32) (b : Fin 2) (r : Fin 16384) (j : Fin 512) :
    part2560 p (ix3 b r j) = p (ix3 b r ⟨2560 + j, by omega⟩) := by
  pointwise [part2560]

/-- The slice of a projected array from channel 3072 on. -/
def part3072 (p : FVec Ideal S2x16384x3584 .f32) : FVec Ideal S2x16384x512 .f32 :=
  extractStridedSlice S2x16384x512 ![0, 0, 3072] p slices_S2x16384x3584_S2x16384x512_0_0_3072

theorem part3072_at (p : FVec Ideal S2x16384x3584 .f32) (b : Fin 2) (r : Fin 16384) (j : Fin 512) :
    part3072 p (ix3 b r j) = p (ix3 b r ⟨3072 + j, by omega⟩) := by
  pointwise [part3072]

/-- The reference's run leaves these arrays in its results. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v43) = glu (proj m c)
      ∧ r.2.mem ((c.tc : Thread nD τ).loc main_v44) = part1024 (proj m c)
      ∧ r.2.mem ((c.tc : Thread nD τ).loc main_v45) = part1536 (proj m c)
      ∧ r.2.mem ((c.tc : Thread nD τ).loc main_v46) = part2048 (proj m c)
      ∧ r.2.mem ((c.tc : Thread nD τ).loc main_v47) = part2560 (proj m c)
      ∧ r.2.mem ((c.tc : Thread nD τ).loc main_v48) = part3072 (proj m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨h0, h1, h2, h3, h4, h5, hs⟩ := h c
    refine ⟨h0.trans ?_, h1.trans ?_, h2.trans ?_, h3.trans ?_, h4.trans ?_, h5.trans ?_, hs⟩
    · unfold res_main_v43 glu proj project Cert.FfnRefIdeal.Value.ada Cert.FfnRefIdeal.Value.rms Cert.FfnCdRefIdeal.Value.modOf
      rfl
    · unfold part1024 proj project Cert.FfnRefIdeal.Value.ada Cert.FfnRefIdeal.Value.rms Cert.FfnCdRefIdeal.Value.modOf
      rfl
    · unfold part1536 proj project Cert.FfnRefIdeal.Value.ada Cert.FfnRefIdeal.Value.rms Cert.FfnCdRefIdeal.Value.modOf
      rfl
    · unfold part2048 proj project Cert.FfnRefIdeal.Value.ada Cert.FfnRefIdeal.Value.rms Cert.FfnCdRefIdeal.Value.modOf
      rfl
    · unfold part2560 proj project Cert.FfnRefIdeal.Value.ada Cert.FfnRefIdeal.Value.rms Cert.FfnCdRefIdeal.Value.modOf
      rfl
    · unfold part3072 proj project Cert.FfnRefIdeal.Value.ada Cert.FfnRefIdeal.Value.rms Cert.FfnCdRefIdeal.Value.modOf
      rfl) (run m ρ)

end Cert.InprojCdRefIdeal.Value

end
-- ==== Proof.InprojCdClaim.lean ====
/- The algebraic claim of the input projection of the convolution/HGRN sublayer. -/
module

public import proofs.«01_k».proof.Defs
public import proofs.«01_k».proof.Proof.InprojCdRefAt
public import proofs.«01_k».proof.Proof.InprojCdValue
public import proofs.«01_k».proof.Proof.Gen.InprojCdIdeal
public import proofs.«01_k».proof.Proof.Gen.InprojCdRefIdeal

@[expose] public section

set_option maxRecDepth 16384

noncomputable section

namespace Cert.Proof.InprojCdClaim

open Idealize.ShloMosaic Idealize.ShloMosaic.TcCoe Idealize.SL.Sem

variable (m : (ℓ : Loc Cert.InprojCdIdeal.nD Cert.InprojCdIdeal.τ Cert.InprojCdIdeal.sig) → Buf (Elt Ideal) ℓ) (m' : (ℓ : Loc Cert.InprojCdRefIdeal.nD Cert.InprojCdRefIdeal.τ Cert.InprojCdRefIdeal.sig) → Buf (Elt Ideal) ℓ)
    (c : Dev Cert.InprojCdIdeal.nD)

/-- Run on the same arguments, the reference's gated result is the array the kernel leaves. -/
theorem glu_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.glu (Cert.InprojCdRefIdeal.Value.proj m' c) = Cert.InprojCdIdeal.Value.gluArr (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.glu_at, Cert.InprojCdRefIdeal.Value.proj_at m' c _ _ _ _ e0 e1 e2 e3, Cert.InprojCdRefIdeal.Value.proj_at m' c _ _ _ _ e0 e1 e2 e3]
  rfl

/-- The same of the slice from channel 1024 on. -/
theorem part1024_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.part1024 (Cert.InprojCdRefIdeal.Value.proj m' c) = Cert.InprojCdIdeal.Value.sliceArr 1024 (by omega) (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.part1024_at, Cert.InprojCdRefIdeal.Value.proj_at m' c _ _ _ _ e0 e1 e2 e3]
  rfl

/-- The same of the slice from channel 1536 on. -/
theorem part1536_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.part1536 (Cert.InprojCdRefIdeal.Value.proj m' c) = Cert.InprojCdIdeal.Value.sliceArr 1536 (by omega) (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.part1536_at, Cert.InprojCdRefIdeal.Value.proj_at m' c _ _ _ _ e0 e1 e2 e3]
  rfl

/-- The same of the slice from channel 2048 on. -/
theorem part2048_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.part2048 (Cert.InprojCdRefIdeal.Value.proj m' c) = Cert.InprojCdIdeal.Value.sliceArr 2048 (by omega) (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.part2048_at, Cert.InprojCdRefIdeal.Value.proj_at m' c _ _ _ _ e0 e1 e2 e3]
  rfl

/-- The same of the slice from channel 2560 on. -/
theorem part2560_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.part2560 (Cert.InprojCdRefIdeal.Value.proj m' c) = Cert.InprojCdIdeal.Value.sliceArr 2560 (by omega) (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.part2560_at, Cert.InprojCdRefIdeal.Value.proj_at m' c _ _ _ _ e0 e1 e2 e3]
  rfl

/-- The same of the slice from channel 3072 on. -/
theorem part3072_arr
    (e0 : m' ((c.tc : Thread Cert.InprojCdRefIdeal.nD Cert.InprojCdRefIdeal.τ).loc Cert.InprojCdRefIdeal.main_arg0) = m ((c.tc : Thread Cert.InprojCdIdeal.nD Cert.InprojCdIdeal.τ).loc Cert.InprojCdIdeal.main_arg0))
    (e1 : m' ((c.tc : Thread Cert.InprojCdRefIdeal.nD Cert.InprojCdRefIdeal.τ).loc Cert.InprojCdRefIdeal.main_arg1) = m ((c.tc : Thread Cert.InprojCdIdeal.nD Cert.InprojCdIdeal.τ).loc Cert.InprojCdIdeal.main_arg1))
    (e2 : m' ((c.tc : Thread Cert.InprojCdRefIdeal.nD Cert.InprojCdRefIdeal.τ).loc Cert.InprojCdRefIdeal.main_arg2) = m ((c.tc : Thread Cert.InprojCdIdeal.nD Cert.InprojCdIdeal.τ).loc Cert.InprojCdIdeal.main_arg2))
    (e3 : m' ((c.tc : Thread Cert.InprojCdRefIdeal.nD Cert.InprojCdRefIdeal.τ).loc Cert.InprojCdRefIdeal.main_arg3) = m ((c.tc : Thread Cert.InprojCdIdeal.nD Cert.InprojCdIdeal.τ).loc Cert.InprojCdIdeal.main_arg3)) :
    Cert.InprojCdRefIdeal.Value.part3072 (Cert.InprojCdRefIdeal.Value.proj m' c) = Cert.InprojCdIdeal.Value.sliceArr 3072 (by omega) (m ((c : Thread Cert.InprojCdIdeal.nD Cert.InprojCdIdeal.τ).loc Cert.InprojCdIdeal.main_arg0)) (m ((c : Thread Cert.InprojCdIdeal.nD Cert.InprojCdIdeal.τ).loc Cert.InprojCdIdeal.main_arg1)) (m ((c : Thread Cert.InprojCdIdeal.nD Cert.InprojCdIdeal.τ).loc Cert.InprojCdIdeal.main_arg2)) (m ((c : Thread Cert.InprojCdIdeal.nD Cert.InprojCdIdeal.τ).loc Cert.InprojCdIdeal.main_arg3)) := by
  funext i
  idx_vars i
  rw [Cert.InprojCdRefIdeal.Value.part3072_at, Cert.InprojCdRefIdeal.Value.proj_at m' c _ _ _ _ e0 e1 e2 e3]
  rfl

/-- The kernel and the plain projection leave the same six arrays. -/
theorem algebraic : Cert.algebraic_InprojCdIdeal_InprojCdRefIdeal (hInprojCdIdeal := Cert.InprojCdIdeal.Gen.facts) (hInprojCdRefIdeal := Cert.InprojCdRefIdeal.Gen.facts) :=
  fun m ρ m' ρ' _ hag => ⟨fun c => (Cert.InprojCdIdeal.Gen.dats m 0 c).arrAt 11 Cert.InprojCdIdeal.cfg0.N, fun c => (Cert.InprojCdIdeal.Gen.dats m 0 c).arrAt 12 Cert.InprojCdIdeal.cfg0.N, fun c => (Cert.InprojCdIdeal.Gen.dats m 0 c).arrAt 13 Cert.InprojCdIdeal.cfg0.N, fun c => (Cert.InprojCdIdeal.Gen.dats m 0 c).arrAt 14 Cert.InprojCdIdeal.cfg0.N, fun c => (Cert.InprojCdIdeal.Gen.dats m 0 c).arrAt 15 Cert.InprojCdIdeal.cfg0.N, fun c => (Cert.InprojCdIdeal.Gen.dats m 0 c).arrAt 16 Cert.InprojCdIdeal.cfg0.N,
    Cert.InprojCdIdeal.Value.run_blocks m ρ,
    (θ_run _ _ _).mono (fun _ h c => by
      obtain ⟨e0, e1, e2, e3⟩ := hag c
      exact ⟨(h c).1.trans ((glu_arr m m' c e0 e1 e2 e3).trans (Cert.InprojCdIdeal.Value.final11 m c).symm),
        (h c).2.1.trans ((part1024_arr m m' c e0 e1 e2 e3).trans (Cert.InprojCdIdeal.Value.final12 m c).symm),
        (h c).2.2.1.trans ((part1536_arr m m' c e0 e1 e2 e3).trans (Cert.InprojCdIdeal.Value.final13 m c).symm),
        (h c).2.2.2.1.trans ((part2048_arr m m' c e0 e1 e2 e3).trans (Cert.InprojCdIdeal.Value.final14 m c).symm),
        (h c).2.2.2.2.1.trans ((part2560_arr m m' c e0 e1 e2 e3).trans (Cert.InprojCdIdeal.Value.final15 m c).symm),
        (h c).2.2.2.2.2.1.trans ((part3072_arr m m' c e0 e1 e2 e3).trans (Cert.InprojCdIdeal.Value.final16 m c).symm),
        (h c).2.2.2.2.2.2⟩)
      (Cert.InprojCdRefIdeal.Value.run_res m' ρ')⟩

end Cert.Proof.InprojCdClaim

end
-- ==== Proof.HgrnCore.lean ====
/- The gated linear recurrence: the scalar recurrence behind every entry of a state, and how its steps compose. -/
module

public import proofs.«01_k».proof.Proof.Layer

@[expose] public section

noncomputable section

namespace Cert.Hgrn

open Idealize.ShloMosaic

/-- One entry of the state after `n` chunks: start at `s`, decay by `a i` and add `b i` at chunk `i`. -/
def fold (a b : ℕ → EReal) (s : EReal) : ℕ → EReal
  | 0 => s
  | n + 1 => fold a b s n * a n + b n

/-- Running `i + n` chunks is running `n` chunks, shifted by `i`, from the state after `i`. -/
theorem fold_add (a b : ℕ → EReal) (s : EReal) (i n : ℕ) :
    fold a b s (i + n) = fold (fun k => a (i + k)) (fun k => b (i + k)) (fold a b s i) n := by
  induction n with
  | zero => rfl
  | succ n ih => rw [← Nat.add_assoc]; simp only [fold, ih]

/-- The recurrence depends on its coefficients below `n` only. -/
theorem fold_congr {a a' b b' : ℕ → EReal} {s s' : EReal} (n : ℕ) (hs : s = s') (ha : ∀ i, i < n → a i = a' i)
    (hb : ∀ i, i < n → b i = b' i) : fold a b s n = fold a' b' s' n := by
  induction n with
  | zero => exact hs
  | succ n ih =>
    simp only [fold]
    rw [ih (fun i h => ha i (by omega)) (fun i h => hb i (by omega)), ha n (by omega), hb n (by omega)]

/-- Row `r` of chunk `n` in a block of 256 rows. -/
def rowOf (n : ℕ) (r : ℕ) : Fin 256 := ⟨(16 * n + r) % 256, Nat.mod_lt _ (by decide)⟩

/-- Channel `d` of head `h` among the 512. -/
def colOf (h : ℕ) (d : Fin 128) : Fin 512 := ⟨(128 * h + d.val) % 512, Nat.mod_lt _ (by decide)⟩

/-- Head `h` of the four. -/
def hdOf (h : ℕ) : Fin 4 := ⟨h % 4, Nat.mod_lt _ (by decide)⟩

end Cert.Hgrn

end
-- ==== Proof.HgrnSpec.lean ====
/- The gated recurrence in plain formulas, over rows and columns numbered from zero. -/
module

public import proofs.«01_k».proof.Proof.HgrnCore
public import Idealize.ShloMosaic.Lib.Pointwise

@[expose] public section

noncomputable section

namespace Cert.Hgrn

open Idealize.ShloMosaic

/-- The forget gate from its lower bound and its pre-activation. -/
def gate (lb g : EReal) : EReal := lb + (1 - lb) * Ideal.logistic g

/-- The log gates summed from the start of a row's chunk up to the row. -/
def bc (L : ℕ → ℕ → EReal) (t c : ℕ) : EReal := ∑ j : Fin 16, if j.val ≤ t % 16 then L (16 * (t / 16) + j.val) c else 0

/-- The query scaled by the decay from the start of its chunk. -/
def qi (Q L : ℕ → ℕ → EReal) (t c : ℕ) : EReal := Q t c * Ideal.exp (bc L t c)

/-- The key scaled by the inverse of that decay. -/
def ki (K L : ℕ → ℕ → EReal) (t c : ℕ) : EReal := K t c * Ideal.exp (- bc L t c)

/-- The key scaled by the decay to the end of its chunk. -/
def ko (K L : ℕ → ℕ → EReal) (t c : ℕ) : EReal := K t c * Ideal.exp (bc L (16 * (t / 16) + 15) c - bc L t c)

/-- The decay of a whole chunk. -/
def dc (L : ℕ → ℕ → EReal) (n c : ℕ) : EReal := Ideal.exp (bc L (16 * n + 15) c)

/-- A row's output from the rows of its own chunk. -/
def oi (Q K L V : ℕ → ℕ → EReal) (t h e : ℕ) : EReal :=
  ∑ j : Fin 16, (if j.val ≤ t % 16 then ∑ d : Fin 128, qi Q L t (128 * h + d.val) * ki K L (16 * (t / 16) + j.val) (128 * h + d.val) else 0)
    * V (16 * (t / 16) + j.val) (128 * h + e)

/-- One chunk's addition to a state entry (value `e`, key `d`). -/
def kvs (K L V : ℕ → ℕ → EReal) (h e d n : ℕ) : EReal :=
  ∑ r : Fin 16, V (16 * n + r.val) (128 * h + e) * ko K L (16 * n + r.val) (128 * h + d)

/-- A state entry before chunk `n`. -/
def st (K L V : ℕ → ℕ → EReal) (s : EReal) (h e d n : ℕ) : EReal :=
  fold (fun i => dc L i (128 * h + d)) (kvs K L V h e d) s n

/-- A row's output. -/
def orow (Q K L V : ℕ → ℕ → EReal) (s : Fin 128 → EReal) (t h e : ℕ) : EReal :=
  (∑ d : Fin 128, qi Q L t (128 * h + d.val) * st K L V (s d) h e d.val (t / 16)) + oi Q K L V t h e

/-- The logarithm is plus infinity at plus infinity only. -/
theorem log_ne_top {x : EReal} (h : x ≠ ⊤) : Ideal.log x ≠ ⊤ := by
  induction x using EReal.rec with
  | bot => show (⊥ : EReal) ≠ ⊤; simp
  | top => exact absurd rfl h
  | coe r =>
    show (if r ≤ 0 then (⊥ : EReal) else (Real.log r : EReal)) ≠ ⊤
    by_cases hr : r ≤ 0
    · rw [if_pos hr]
      simp
    · rw [if_neg hr]
      exact EReal.coe_ne_top _

/-- Below plus infinity, a lower bound keeps its gate there. -/
theorem gate_ne_top {lb : EReal} (h : lb ≠ ⊤) (g : EReal) : gate lb g ≠ ⊤ := by
  unfold gate
  induction lb using EReal.rec with
  | bot => simp
  | top => exact absurd rfl h
  | coe r =>
    have hr : ∃ s : ℝ, Ideal.logistic g = (s : EReal) := by
      induction g using EReal.rec with
      | bot => exact ⟨0, by simp⟩
      | top => exact ⟨1, by simp⟩
      | coe x => exact ⟨_, Ideal.logistic_coe x⟩
    obtain ⟨s, hs⟩ := hr
    rw [hs]
    have e : (r : EReal) + (1 - (r : EReal)) * (s : EReal) = ((r + (1 - r) * s : ℝ) : EReal) := by
      push_cast
      rfl
    rw [e]
    exact EReal.coe_ne_top _

/-- A value split in three parts of shrinking remainders is the value. -/
theorem split3 {x : EReal} (h : x ≠ ⊤) : x + (x - x) + (x - x - (x - x)) = x := by
  induction x using EReal.rec with
  | bot => simp
  | top => exact absurd rfl h
  | coe r =>
    have e : (r : EReal) - (r : EReal) = ((0 : ℝ) : EReal) := by rw [← EReal.coe_sub, sub_self]
    rw [e]
    simp

/-- A sum over a block's rows kept on one row's chunk up to the row. -/
theorem chunk_sum (R : Fin 256) (f : Fin 256 → EReal) :
    (∑ J : Fin 256, if R.val / 16 = J.val / 16 ∧ J.val ≤ R.val then f J else 0)
      = ∑ j : Fin 16, if j.val ≤ R.val % 16 then f ⟨16 * (R.val / 16) + j.val, by omega⟩ else 0 := by
  rw [Fin.sum_univ_tiles 16 16 rfl, Finset.sum_eq_single (⟨R.val / 16, by omega⟩ : Fin 16)]
  · refine Finset.sum_congr rfl fun j _ => ?_
    by_cases hj : j.val ≤ R.val % 16
    · rw [if_pos hj, if_pos ⟨by dsimp only; omega, by dsimp only; omega⟩]
      exact congrArg f (Fin.ext (by dsimp only; omega))
    · rw [if_neg hj, if_neg]
      dsimp only
      omega
  · intro a _ ha
    refine Finset.sum_eq_zero fun j _ => if_neg ?_
    have : a.val ≠ R.val / 16 := fun h => ha (Fin.ext h)
    dsimp only
    omega
  · intro h
    exact absurd (Finset.mem_univ _) h

/-- A sum over three blocks of rows. -/
theorem sum3 (f : Fin 768 → EReal) :
    (∑ k, f k) = (∑ k : Fin 256, f ⟨k.val, by omega⟩) + (∑ k : Fin 256, f ⟨256 + k.val, by omega⟩) + ∑ k : Fin 256, f ⟨512 + k.val, by omega⟩ := by
  rw [Fin.sum_univ_tiles 3 256 rfl, Fin.sum_univ_three]
  refine congrArg₂ (· + ·) (congrArg₂ (· + ·) ?_ ?_) ?_ <;>
    exact Finset.sum_congr rfl fun k _ => congrArg f (Fin.ext (by simp))

end Cert.Hgrn

end
-- ==== Proof.HgrnArr.lean ====
/- The recurrence's results as arrays of the argument arrays. -/
module

public import proofs.«01_k».proof.Proof.HgrnSpec

@[expose] public section

noncomputable section

namespace Cert.Hgrn

open Idealize.ShloMosaic

/-- A sample's rows of an argument array. -/
def rowsOf (X : FVec Ideal (⟨3, ![2, 16384, 512]⟩ : Shape) .f32) (b : Fin 2) (t c : ℕ) : EReal :=
  X (ix3 b (⟨t % 16384, Nat.mod_lt _ (by decide)⟩ : Fin 16384) (⟨c % 512, Nat.mod_lt _ (by decide)⟩ : Fin 512))

/-- A column's lower bound. -/
def lbOf (B : FVec Ideal (⟨2, ![1, 512]⟩ : Shape) .f32) (c : ℕ) : EReal := B (ix2 (0 : Fin 1) (⟨c % 512, Nat.mod_lt _ (by decide)⟩ : Fin 512))

/-- A sample's log gates. -/
def logsOf (G : FVec Ideal (⟨3, ![2, 16384, 512]⟩ : Shape) .f32) (B : FVec Ideal (⟨2, ![1, 512]⟩ : Shape) .f32) (b : Fin 2) (t c : ℕ) : EReal :=
  Ideal.log (gate (lbOf B c) (rowsOf G b t c))

/-- A sample's keys. -/
def keysOf (G : FVec Ideal (⟨3, ![2, 16384, 512]⟩ : Shape) .f32) (B : FVec Ideal (⟨2, ![1, 512]⟩ : Shape) .f32) (b : Fin 2) (t c : ℕ) : EReal :=
  1 - gate (lbOf B c) (rowsOf G b t c)

/-- The output at sample `b`, row `t`, head `h`, channel `e`. -/
def outV (X G W : FVec Ideal (⟨3, ![2, 16384, 512]⟩ : Shape) .f32) (B : FVec Ideal (⟨2, ![1, 512]⟩ : Shape) .f32) (S : FVec Ideal (⟨4, ![2, 4, 128, 128]⟩ : Shape) .f32)
    (b : Fin 2) (t : ℕ) (h : Fin 4) (e : Fin 128) : EReal :=
  orow (rowsOf X b) (keysOf G B b) (logsOf G B b) (rowsOf W b) (fun d => S (ix4 b h e d)) t h.val e.val

/-- The state entry of sample `b`, head `h`, value `j`, key `k` before chunk `n`. -/
def stV (G W : FVec Ideal (⟨3, ![2, 16384, 512]⟩ : Shape) .f32) (B : FVec Ideal (⟨2, ![1, 512]⟩ : Shape) .f32) (S : FVec Ideal (⟨4, ![2, 4, 128, 128]⟩ : Shape) .f32)
    (b : Fin 2) (h : Fin 4) (j k : Fin 128) (n : ℕ) : EReal :=
  st (keysOf G B b) (logsOf G B b) (rowsOf W b) (S (ix4 b h j k)) h.val j.val k.val n

/-- The outputs as an array. -/
def outF (X G W : FVec Ideal (⟨3, ![2, 16384, 512]⟩ : Shape) .f32) (B : FVec Ideal (⟨2, ![1, 512]⟩ : Shape) .f32) (S : FVec Ideal (⟨4, ![2, 4, 128, 128]⟩ : Shape) .f32) :
    FVec Ideal (⟨3, ![2, 16384, 512]⟩ : Shape) .f32 := fun i =>
  outV X G W B S (i 0) (i 1).val ⟨(i 2).val / 128, by have : (i 2).val < 512 := (i 2).isLt; omega⟩ ⟨(i 2).val % 128, Nat.mod_lt _ (by decide)⟩

/-- The final states as an array. -/
def finF (G W : FVec Ideal (⟨3, ![2, 16384, 512]⟩ : Shape) .f32) (B : FVec Ideal (⟨2, ![1, 512]⟩ : Shape) .f32) (S : FVec Ideal (⟨4, ![2, 4, 128, 128]⟩ : Shape) .f32) :
    FVec Ideal (⟨4, ![2, 4, 128, 128]⟩ : Shape) .f32 := fun i => stV G W B S (i 0) (i 1) (i 2) (i 3) 1024

/-- A row of a block among the sample's rows. -/
theorem rowsOf_blk (X : FVec Ideal (⟨3, ![2, 16384, 512]⟩ : Shape) .f32) (b : Fin 2) (p : ℕ) (hp : p < 64) (R : Fin 256) (c : Fin 512) :
    rowsOf X b (256 * p + R.val) c.val = X (ix3 b (⟨256 * p + R.val, by omega⟩ : Fin 16384) c) := by
  unfold rowsOf
  have e1 : (⟨(256 * p + R.val) % 16384, Nat.mod_lt _ (by decide)⟩ : Fin 16384) = ⟨256 * p + R.val, by omega⟩ := Fin.ext (by simp only; omega)
  have e2 : (⟨c.val % 512, Nat.mod_lt _ (by decide)⟩ : Fin 512) = c := Fin.ext (by simp only; omega)
  rw [e1, e2]

/-- A lower bound by its column. -/
theorem lbOf_col (B : FVec Ideal (⟨2, ![1, 512]⟩ : Shape) .f32) (c : Fin 512) : lbOf B c.val = B (ix2 0 c) := by
  unfold lbOf
  have e2 : (⟨c.val % 512, Nat.mod_lt _ (by decide)⟩ : Fin 512) = c := Fin.ext (by simp only; omega)
  rw [e2]

end Cert.Hgrn

end
-- ==== Proof.HgrnPre.lean ====
/- What the precondition on the lower bounds gives: none of them is plus infinity. -/
module

public import proofs.«01_k».proof.Pre_lower_bound_finite
public import proofs.«01_k».proof.Proof.HgrnArr
public import Idealize.ShloMosaic.Lib.ReduceAll

@[expose] public section

set_option maxRecDepth 16384

noncomputable section

namespace Cert.Hgrn.Pre

open Idealize.ShloMosaic Cert.Pre_lower_bound_finite

/-- The precondition's shape facts. -/
theorem facts : Cert.Pre_lower_bound_finite.Facts where
  bcast_S_S1x512 := by decide
  reducesTo_S1x512_S_d0_1 := by decide
  h_S_ := by decide

/-- Nothing is below plus infinity and equal to it. -/
theorem lt_inf {x : EReal} (h : FloatOps.cmpf (F := Ideal) (φ := .f32) .olt x (FloatOps.ofBits .f32 0x7F800000#32) = 1#1) : x ≠ ⊤ := by
  intro hx
  subst hx
  have hb : FloatOps.ofBits (F := Ideal) FTy.f32 0x7F800000#32 = (⊤ : EReal) := by simp [Ideal.ofBits, Ideal.ieee]
  rw [hb] at h
  have h' : (BitVec.ofBool (decide ((⊤ : EReal) < ⊤))) = 1#1 := h
  simp at h'

/-- No lower bound is plus infinity. -/
theorem lb_ne_top (X G W : FVec Ideal S2x16384x512 .f32) (B : FVec Ideal S1x512 .f32) (S : FVec Ideal S2x4x128x128 .f32)
    (h : @Cert.Pre_lower_bound_finite.fn facts Ideal _ X G W B S = fun _ => 1#1) (j : ℕ) : lbOf B j ≠ ⊤ := by
  haveI := facts
  haveI : Subsingleton S_.Idx := ⟨fun a b => funext fun i => i.elim0⟩
  have e := congrFun h (Shape.Idx.first facts.h_S_)
  have e' := Host.reduce_andi_all _ _ _ _ _ e (ix2 (0 : Fin 1) (⟨j % 512, Nat.mod_lt _ (by decide)⟩ : Fin 512))
  exact lt_inf e'

end Cert.Hgrn.Pre

end
-- ==== Proof.HgrnState.lean ====
/- The products of one chunk and the states between chunks, as arrays over a block of 256 rows. -/
module

public import proofs.«01_k».proof.Proof.HgrnCore
public import proofs.«01_k».proof.Proof.Gen.KernelIdeal.Frame
public import Idealize.ShloMosaic.Lib.Pipeline.ValueKit

@[expose] public section

noncomputable section

namespace Cert.Hgrn

open Cert.KernelIdeal Cert.KernelIdeal.Gen Idealize.ShloMosaic Idealize.ShloMosaic.TcCoe Idealize.SL.Sem

/-- Entry (value `j`, key `k`) of chunk `n`'s product `vᵀ k` in head `h`. -/
def kvE (V K : FVec Ideal S256x512 .f32) (h n : ℕ) (j k : Fin 128) : EReal :=
  ∑ r : Fin 16, V (ix2 (rowOf n r) (colOf h j)) * K (ix2 (rowOf n r) (colOf h k))

/-- That product as the piece the kernel stores. -/
def kvBlk (V K : FVec Ideal S256x512 .f32) (h n : ℕ) : FVec Ideal S1x1x128x128 .f32 := fun y => kvE V K h n (y 2) (y 3)

/-- All 64 products of a block. -/
def kvArr (V K : FVec Ideal S256x512 .f32) : FVec Ideal S4x16x128x128 .f32 := fun y => kvE V K (y 0).val (y 1).val (y 2) (y 3)

/-- Entry (value `j`, key `k`) of head `h`'s state before chunk `n` of the block, from the state `s` before the block. -/
def stE (V K D : FVec Ideal S256x512 .f32) (s : FVec Ideal S4x128x128 .f32) (h n : ℕ) (j k : Fin 128) : EReal :=
  fold (fun i => D (ix2 (rowOf i 0) (colOf h k))) (fun i => kvE V K h i j k) (s (ix3 (hdOf h) j k)) n

/-- One head's state before chunk `n`. -/
def stHd (V K D : FVec Ideal S256x512 .f32) (s : FVec Ideal S4x128x128 .f32) (h n : ℕ) : FVec Ideal S128x128 .f32 :=
  fun y => stE V K D s h n (y 0) (y 1)

/-- One head's state before chunk `n`, as the piece the kernel stores. -/
def stBlk (V K D : FVec Ideal S256x512 .f32) (s : FVec Ideal S4x128x128 .f32) (h n : ℕ) : FVec Ideal S1x1x128x128 .f32 :=
  fun y => stE V K D s h n (y 2) (y 3)

/-- All 64 states of a block. -/
def stArr (V K D : FVec Ideal S256x512 .f32) (s : FVec Ideal S4x128x128 .f32) : FVec Ideal S4x16x128x128 .f32 :=
  fun y => stE V K D s (y 0).val (y 1).val (y 2) (y 3)

/-- One head's slice of the states before the block, as loaded. -/
def ldHd (s : FVec Ideal S4x128x128 .f32) (h : ℕ) : FVec Ideal S1x128x128 .f32 := fun y => s (ix3 (hdOf h) (y 1) (y 2))

/-- One head's state after the block, as the piece the kernel stores. -/
def stFin (V K D : FVec Ideal S256x512 .f32) (s : FVec Ideal S4x128x128 .f32) (h : ℕ) : FVec Ideal S1x128x128 .f32 :=
  fun y => stE V K D s h 16 (y 1) (y 2)

/-- The states after a block. -/
def stEnd (V K D : FVec Ideal S256x512 .f32) (s : FVec Ideal S4x128x128 .f32) : FVec Ideal S4x128x128 .f32 :=
  fun y => stE V K D s (y 0).val 16 (y 1) (y 2)

/-- A term of a chunk's product, whatever the spelling of the indices. -/
theorem kv_term (V K : FVec Ideal S256x512 .f32) (h n : ℕ) (r : Fin 16) (j k : Fin 128) (row : Fin 256) (cj ck : Fin 512)
    (hn : n < 16) (hh : h < 4) (hr : row.val = 16 * n + r.val) (hj : cj.val = 128 * h + j.val)
    (hk : ck.val = 128 * h + k.val) :
    V (ix2 row cj) * K (ix2 row ck) = V (ix2 (rowOf n r.val) (colOf h j)) * K (ix2 (rowOf n r.val) (colOf h k)) := by
  have e1 : cj = colOf h j := Fin.ext (by simp only [colOf]; omega)
  have e2 : ck = colOf h k := Fin.ext (by simp only [colOf]; omega)
  have e3 : row = rowOf n r.val := Fin.ext (by simp only [rowOf]; omega)
  rw [e1, e2, e3]

/-- One chunk's step of a state entry. -/
theorem stE_succ (V K D : FVec Ideal S256x512 .f32) (s : FVec Ideal S4x128x128 .f32) (h n : ℕ) (j k : Fin 128) (row : Fin 256)
    (ck : Fin 512) (hn : n < 16) (hh : h < 4) (hr : row.val = 16 * n) (hk : ck.val = 128 * h + k.val) :
    stE V K D s h n j k * D (ix2 row ck) + kvE V K h n j k = stE V K D s h (n + 1) j k := by
  have e2 : ck = colOf h k := Fin.ext (by simp only [colOf]; omega)
  have e3 : row = rowOf n 0 := Fin.ext (by simp only [rowOf]; omega)
  simp only [stE, fold, e2, e3]

end Cert.Hgrn

end
-- ==== Proof.HgrnKv.lean ====
/- Each stored chunk product is the chunk's sum of value times key. -/
module

public import proofs.«01_k».proof.Proof.HgrnState

@[expose] public section

set_option maxRecDepth 16384

noncomputable section

namespace Cert.Hgrn

open Cert.KernelIdeal Cert.KernelIdeal.Gen Idealize.ShloMosaic Idealize.ShloMosaic.TcCoe Idealize.SL.Sem

/-- The stored product of head 0, chunk 0. -/
theorem kv_0_0 (V K : FVec Ideal S256x512 .f32) : k0_pay23 K V = kvBlk V K 0 0 := by
  funext y
  idx_vars y
  pointwise [k0_pay23, kvBlk]
  unfold kvE
  refine Finset.sum_congr rfl fun r _ => ?_
  exact kv_term V K 0 0 _ _ _ _ _ _ (by omega) (by omega) (by first | omega | (dsimp only; omega) | rfl) (by first | omega | (dsimp only; omega) | rfl) (by first | omega | (dsimp only; omega) | rfl)

/-- The stored product of head 1, chunk 0. -/
theorem kv_1_0 (V K : FVec Ideal S256x512 .f32) : k0_pay24 K V = kvBlk V K 1 0 := by
  funext y
  idx_vars y
  pointwise [k0_pay24, kvBlk]
  unfold kvE
  refine Finset.sum_congr rfl fun r _ => ?_
  exact kv_term V K 1 0 _ _ _ _ _ _ (by omega) (by omega) (by first | omega | (dsimp only; omega) | rfl) (by first | omega | (dsimp only; omega) | rfl) (by first | omega | (dsimp only; omega) | rfl)

/-- The stored product of head 2, chunk 0. -/
theorem kv_2_0 (V K : FVec Ideal S256x512 .f32) : k0_pay25 K V = kvBlk V K 2 0 := by
  funext y
  idx_vars y
  pointwise [k0_pay25, kvBlk]
  unfold kvE
  refine Finset.sum_congr rfl fun r _ => ?_
  exact kv_term V K 2 0 _ _ _ _ _ _ (by omega) (by omega) (by first | omega | (dsimp only; omega) | rfl) (by first | omega | (dsimp only; omega) | rfl) (by first | omega | (dsimp only; omega) | rfl)

/-- The stored product of head 3, chunk 0. -/
theorem kv_3_0 (V K : FVec Ideal S256x512 .f32) : k0_pay27 (k0_pay26 K V) = kvBlk V K 3 0 := by
  funext y
  idx_vars y
  pointwise [k0_pay26, k0_pay27, kvBlk]
  unfold kvE
  refine Finset.sum_congr rfl fun r _ => ?_
  exact kv_term V K 3 0 _ _ _ _ _ _ (by omega) (by omega) (by first | omega | (dsimp only; omega) | rfl) (by first | omega | (dsimp only; omega) | rfl) (by first | omega | (dsimp only; omega) | rfl)

/-- The stored product of head 0, chunk 1. -/
theorem kv_0_1 (V K : FVec Ideal S256x512 .f32) : k0_pay28 K V = kvBlk V K 0 1 := by
  funext y
  idx_vars y
  pointwise [k0_pay28, kvBlk]
  unfold kvE
  refine Finset.sum_congr rfl fun r _ => ?_
  exact kv_term V K 0 1 _ _ _ _ _ _ (by omega) (by omega) (by first | omega | (dsimp only; omega) | rfl) (by first | omega | (dsimp only; omega) | rfl) (by first | omega | (dsimp only; omega) | rfl)

/-- The stored product of head 1, chunk 1. -/
theorem kv_1_1 (V K : FVec Ideal S256x512 .f32) : k0_pay29 K V = kvBlk V K 1 1 := by
  funext y
  idx_vars y
  pointwise [k0_pay29, kvBlk]
  unfold kvE
  refine Finset.sum_congr rfl fun r _ => ?_
  exact kv_term V K 1 1 _ _ _ _ _ _ (by omega) (by omega) (by first | omega | (dsimp only; omega) | rfl) (by first | omega | (dsimp only; omega) | rfl) (by first | omega | (dsimp only; omega) | rfl)

/-- The stored product of head 2, chunk 1. -/
theorem kv_2_1 (V K : FVec Ideal S256x512 .f32) : k0_pay30 K V = kvBlk V K 2 1 := by
  funext y
  idx_vars y
  pointwise [k0_pay30, kvBlk]
  unfold kvE
  refine Finset.sum_congr rfl fun r _ => ?_
  exact kv_term V K 2 1 _ _ _ _ _ _ (by omega) (by omega) (by first | omega | (dsimp only; omega) | rfl) (by first | omega | (dsimp only; omega) | rfl) (by first | omega | (dsimp only; omega) | rfl)

/-- The stored product of head 3, chunk 1. -/
theorem kv_3_1 (V K : FVec Ideal S256x512 .f32) : k0_pay32 (k0_pay31 K V) = kvBlk V K 3 1 := by
  funext y
  idx_vars y
  pointwise [k0_pay31, k0_pay32, kvBlk]
  unfold kvE
  refine Finset.sum_congr rfl fun r _ => ?_
  exact kv_term V K 3 1 _ _ _ _ _ _ (by omega) (by omega) (by first | omega | (dsimp only; omega) | rfl) (by first | omega | (dsimp only; omega) | rfl) (by first | omega | (dsimp only; omega) | rfl)

/-- The stored product of head 0, chunk 2. -/
theorem kv_0_2 (V K : FVec Ideal S256x512 .f32) : k0_pay33 K V = kvBlk V K 0 2 := by
  funext y
  idx_vars y
  pointwise [k0_pay33, kvBlk]
  unfold kvE
  refine Finset.sum_congr rfl fun r _ => ?_
  exact kv_term V K 0 2 _ _ _ _ _ _ (by omega) (by omega) (by first | omega | (dsimp only; omega) | rfl) (by first | omega | (dsimp only; omega) | rfl) (by first | omega | (dsimp only; omega) | rfl)

/-- The stored product of head 1, chunk 2. -/
theorem kv_1_2 (V K : FVec Ideal S256x512 .f32) : k0_pay34 K V = kvBlk V K 1 2 := by
  funext y
  idx_vars y
  pointwise [k0_pay34, kvBlk]
  unfold kvE
  refine Finset.sum_congr rfl fun r _ => ?_
  exact kv_term V K 1 2 _ _ _ _ _ _ (by omega) (by omega) (by first | omega | (dsimp only; omega) | rfl) (by first | omega | (dsimp only; omega) | rfl) (by first | omega | (dsimp only; omega) | rfl)

/-- The stored product of head 2, chunk 2. -/
theorem kv_2_2 (V K : FVec Ideal S256x512 .f32) : k0_pay35 K V = kvBlk V K 2 2 := by
  funext y
  idx_vars y
  pointwise [k0_pay35, kvBlk]
  unfold kvE
  refine Finset.sum_congr rfl fun r _ => ?_
  exact kv_term V K 2 2 _ _ _ _ _ _ (by omega) (by omega) (by first | omega | (dsimp only; omega) | rfl) (by first | omega | (dsimp only; omega) | rfl) (by first | omega | (dsimp only; omega) | rfl)

/-- The stored product of head 3, chunk 2. -/
theorem kv_3_2 (V K : FVec Ideal S256x512 .f32) : k0_pay36 K V = kvBlk V K 3 2 := by
  funext y
  idx_vars y
  pointwise [k0_pay36, kvBlk]
  unfold kvE
  refine Finset.sum_congr rfl fun r _ => ?_
  exact kv_term V K 3 2 _ _ _ _ _ _ (by omega) (by omega) (by first | omega | (dsimp only; omega) | rfl) (by first | omega | (dsimp only; omega) | rfl) (by first | omega | (dsimp only; omega) | rfl)

/-- The stored product of head 0, chunk 3. -/
theorem kv_0_3 (V K : FVec Ideal S256x512 .f32) : k0_pay37 K V = kvBlk V K 0 3 := by
  funext y
  idx_vars y
  pointwise [k0_pay37, kvBlk]
  unfold kvE
  refine Finset.sum_congr rfl fun r _ => ?_
  exact kv_term V K 0 3 _ _ _ _ _ _ (by omega) (by omega) (by first | omega | (dsimp only; omega) | rfl) (by first | omega | (dsimp only; omega) | rfl) (by first | omega | (dsimp only; omega) | rfl)

/-- The stored product of head 1, chunk 3. -/
theorem kv_1_3 (V K : FVec Ideal S256x512 .f32) : k0_pay38 K V = kvBlk V K 1 3 := by
  funext y
  idx_vars y
  pointwise [k0_pay38, kvBlk]
  unfold kvE
  refine Finset.sum_congr rfl fun r _ => ?_
  exact kv_term V K 1 3 _ _ _ _ _ _ (by omega) (by omega) (by first | omega | (dsimp only; omega) | rfl) (by first | omega | (dsimp only; omega) | rfl) (by first | omega | (dsimp only; omega) | rfl)

/-- The stored product of head 2, chunk 3. -/
theorem kv_2_3 (V K : FVec Ideal S256x512 .f32) : k0_pay39 K V = kvBlk V K 2 3 := by
  funext y
  idx_vars y
  pointwise [k0_pay39, kvBlk]
  unfold kvE
  refine Finset.sum_congr rfl fun r _ => ?_
  exact kv_term V K 2 3 _ _ _ _ _ _ (by omega) (by omega) (by first | omega | (dsimp only; omega) | rfl) (by first | omega | (dsimp only; omega) | rfl) (by first | omega | (dsimp only; omega) | rfl)

/-- The stored product of head 3, chunk 3. -/
theorem kv_3_3 (V K : FVec Ideal S256x512 .f32) : k0_pay40 K V = kvBlk V K 3 3 := by
  funext y
  idx_vars y
  pointwise [k0_pay40, kvBlk]
  unfold kvE
  refine Finset.sum_congr rfl fun r _ => ?_
  exact kv_term V K 3 3 _ _ _ _ _ _ (by omega) (by omega) (by first | omega | (dsimp only; omega) | rfl) (by first | omega | (dsimp only; omega) | rfl) (by first | omega | (dsimp only; omega) | rfl)

/-- The stored product of head 0, chunk 4. -/
theorem kv_0_4 (V K : FVec Ideal S256x512 .f32) : k0_pay43 (k0_pay41 V) (k0_pay42 K) = kvBlk V K 0 4 := by
  funext y
  idx_vars y
  pointwise [k0_pay41, k0_pay42, k0_pay43, kvBlk]
  unfold kvE
  refine Finset.sum_congr rfl fun r _ => ?_
  exact kv_term V K 0 4 _ _ _ _ _ _ (by omega) (by omega) (by first | omega | (dsimp only; omega) | rfl) (by first | omega | (dsimp only; omega) | rfl) (by first | omega | (dsimp only; omega) | rfl)

/-- The stored product of head 1, chunk 4. -/
theorem kv_1_4 (V K : FVec Ideal S256x512 .f32) : k0_pay44 K V = kvBlk V K 1 4 := by
  funext y
  idx_vars y
  pointwise [k0_pay44, kvBlk]
  unfold kvE
  refine Finset.sum_congr rfl fun r _ => ?_
  exact kv_term V K 1 4 _ _ _ _ _ _ (by omega) (by omega) (by first | omega | (dsimp only; omega) | rfl) (by first | omega | (dsimp only; omega) | rfl) (by first | omega | (dsimp only; omega) | rfl)

/-- The stored product of head 2, chunk 4. -/
theorem kv_2_4 (V K : FVec Ideal S256x512 .f32) : k0_pay45 K V = kvBlk V K 2 4 := by
  funext y
  idx_vars y
  pointwise [k0_pay45, kvBlk]
  unfold kvE
  refine Finset.sum_congr rfl fun r _ => ?_
  exact kv_term V K 2 4 _ _ _ _ _ _ (by omega) (by omega) (by first | omega | (dsimp only; omega) | rfl) (by first | omega | (dsimp only; omega) | rfl) (by first | omega | (dsimp only; omega) | rfl)

/-- The stored product of head 3, chunk 4. -/
theorem kv_3_4 (V K : FVec Ideal S256x512 .f32) : k0_pay46 K V = kvBlk V K 3 4 := by
  funext y
  idx_vars y
  pointwise [k0_pay46, kvBlk]
  unfold kvE
  refine Finset.sum_congr rfl fun r _ => ?_
  exact kv_term V K 3 4 _ _ _ _ _ _ (by omega) (by omega) (by first | omega | (dsimp only; omega) | rfl) (by first | omega | (dsimp only; omega) | rfl) (by first | omega | (dsimp only; omega) | rfl)

/-- The stored product of head 0, chunk 5. -/
theorem kv_0_5 (V K : FVec Ideal S256x512 .f32) : k0_pay48 (k0_pay47 K V) = kvBlk V K 0 5 := by
  funext y
  idx_vars y
  pointwise [k0_pay47, k0_pay48, kvBlk]
  unfold kvE
  refine Finset.sum_congr rfl fun r _ => ?_
  exact kv_term V K 0 5 _ _ _ _ _ _ (by omega) (by omega) (by first | omega | (dsimp only; omega) | rfl) (by first | omega | (dsimp only; omega) | rfl) (by first | omega | (dsimp only; omega) | rfl)

/-- The stored product of head 1, chunk 5. -/
theorem kv_1_5 (V K : FVec Ideal S256x512 .f32) : k0_pay49 K V = kvBlk V K 1 5 := by
  funext y
  idx_vars y
  pointwise [k0_pay49, kvBlk]
  unfold kvE
  refine Finset.sum_congr rfl fun r _ => ?_
  exact kv_term V K 1 5 _ _ _ _ _ _ (by omega) (by omega) (by first | omega | (dsimp only; omega) | rfl) (by first | omega | (dsimp only; omega) | rfl) (by first | omega | (dsimp only; omega) | rfl)

/-- The stored product of head 2, chunk 5. -/
theorem kv_2_5 (V K : FVec Ideal S256x512 .f32) : k0_pay50 K V = kvBlk V K 2 5 := by
  funext y
  idx_vars y
  pointwise [k0_pay50, kvBlk]
  unfold kvE
  refine Finset.sum_congr rfl fun r _ => ?_
  exact kv_term V K 2 5 _ _ _ _ _ _ (by omega) (by omega) (by first | omega | (dsimp only; omega) | rfl) (by first | omega | (dsimp only; omega) | rfl) (by first | omega | (dsimp only; omega) | rfl)

/-- The stored product of head 3, chunk 5. -/
theorem kv_3_5 (V K : FVec Ideal S256x512 .f32) : k0_pay51 K V = kvBlk V K 3 5 := by
  funext y
  idx_vars y
  pointwise [k0_pay51, kvBlk]
  unfold kvE
  refine Finset.sum_congr rfl fun r _ => ?_
  exact kv_term V K 3 5 _ _ _ _ _ _ (by omega) (by omega) (by first | omega | (dsimp only; omega) | rfl) (by first | omega | (dsimp only; omega) | rfl) (by first | omega | (dsimp only; omega) | rfl)

/-- The stored product of head 0, chunk 6. -/
theorem kv_0_6 (V K : FVec Ideal S256x512 .f32) : k0_pay53 (k0_pay52 K V) = kvBlk V K 0 6 := by
  funext y
  idx_vars y
  pointwise [k0_pay52, k0_pay53, kvBlk]
  unfold kvE
  refine Finset.sum_congr rfl fun r _ => ?_
  exact kv_term V K 0 6 _ _ _ _ _ _ (by omega) (by omega) (by first | omega | (dsimp only; omega) | rfl) (by first | omega | (dsimp only; omega) | rfl) (by first | omega | (dsimp only; omega) | rfl)

/-- The stored product of head 1, chunk 6. -/
theorem kv_1_6 (V K : FVec Ideal S256x512 .f32) : k0_pay54 K V = kvBlk V K 1 6 := by
  funext y
  idx_vars y
  pointwise [k0_pay54, kvBlk]
  unfold kvE
  refine Finset.sum_congr rfl fun r _ => ?_
  exact kv_term V K 1 6 _ _ _ _ _ _ (by omega) (by omega) (by first | omega | (dsimp only; omega) | rfl) (by first | omega | (dsimp only; omega) | rfl) (by first | omega | (dsimp only; omega) | rfl)

/-- The stored product of head 2, chunk 6. -/
theorem kv_2_6 (V K : FVec Ideal S256x512 .f32) : k0_pay55 K V = kvBlk V K 2 6 := by
  funext y
  idx_vars y
  pointwise [k0_pay55, kvBlk]
  unfold kvE
  refine Finset.sum_congr rfl fun r _ => ?_
  exact kv_term V K 2 6 _ _ _ _ _ _ (by omega) (by omega) (by first | omega | (dsimp only; omega) | rfl) (by first | omega | (dsimp only; omega) | rfl) (by first | omega | (dsimp only; omega) | rfl)

/-- The stored product of head 3, chunk 6. -/
theorem kv_3_6 (V K : FVec Ideal S256x512 .f32) : k0_pay56 K V = kvBlk V K 3 6 := by
  funext y
  idx_vars y
  pointwise [k0_pay56, kvBlk]
  unfold kvE
  refine Finset.sum_congr rfl fun r _ => ?_
  exact kv_term V K 3 6 _ _ _ _ _ _ (by omega) (by omega) (by first | omega | (dsimp only; omega) | rfl) (by first | omega | (dsimp only; omega) | rfl) (by first | omega | (dsimp only; omega) | rfl)

/-- The stored product of head 0, chunk 7. -/
theorem kv_0_7 (V K : FVec Ideal S256x512 .f32) : k0_pay57 K V = kvBlk V K 0 7 := by
  funext y
  idx_vars y
  pointwise [k0_pay57, kvBlk]
  unfold kvE
  refine Finset.sum_congr rfl fun r _ => ?_
  exact kv_term V K 0 7 _ _ _ _ _ _ (by omega) (by omega) (by first | omega | (dsimp only; omega) | rfl) (by first | omega | (dsimp only; omega) | rfl) (by first | omega | (dsimp only; omega) | rfl)

/-- The stored product of head 1, chunk 7. -/
theorem kv_1_7 (V K : FVec Ideal S256x512 .f32) : k0_pay60 (k0_pay58 V) (k0_pay59 K) = kvBlk V K 1 7 := by
  funext y
  idx_vars y
  pointwise [k0_pay58, k0_pay59, k0_pay60, kvBlk]
  unfold kvE
  refine Finset.sum_congr rfl fun r _ => ?_
  exact kv_term V K 1 7 _ _ _ _ _ _ (by omega) (by omega) (by first | omega | (dsimp only; omega) | rfl) (by first | omega | (dsimp only; omega) | rfl) (by first | omega | (dsimp only; omega) | rfl)

/-- The stored product of head 2, chunk 7. -/
theorem kv_2_7 (V K : FVec Ideal S256x512 .f32) : k0_pay61 K V = kvBlk V K 2 7 := by
  funext y
  idx_vars y
  pointwise [k0_pay61, kvBlk]
  unfold kvE
  refine Finset.sum_congr rfl fun r _ => ?_
  exact kv_term V K 2 7 _ _ _ _ _ _ (by omega) (by omega) (by first | omega | (dsimp only; omega) | rfl) (by first | omega | (dsimp only; omega) | rfl) (by first | omega | (dsimp only; omega) | rfl)

/-- The stored product of head 3, chunk 7. -/
theorem kv_3_7 (V K : FVec Ideal S256x512 .f32) : k0_pay62 K V = kvBlk V K 3 7 := by
  funext y
  idx_vars y
  pointwise [k0_pay62, kvBlk]
  unfold kvE
  refine Finset.sum_congr rfl fun r _ => ?_
  exact kv_term V K 3 7 _ _ _ _ _ _ (by omega) (by omega) (by first | omega | (dsimp only; omega) | rfl) (by first | omega | (dsimp only; omega) | rfl) (by first | omega | (dsimp only; omega) | rfl)

/-- The stored product of head 0, chunk 8. -/
theorem kv_0_8 (V K : FVec Ideal S256x512 .f32) : k0_pay63 K V = kvBlk V K 0 8 := by
  funext y
  idx_vars y
  pointwise [k0_pay63, kvBlk]
  unfold kvE
  refine Finset.sum_congr rfl fun r _ => ?_
  exact kv_term V K 0 8 _ _ _ _ _ _ (by omega) (by omega) (by first | omega | (dsimp only; omega) | rfl) (by first | omega | (dsimp only; omega) | rfl) (by first | omega | (dsimp only; omega) | rfl)

/-- The stored product of head 1, chunk 8. -/
theorem kv_1_8 (V K : FVec Ideal S256x512 .f32) : k0_pay65 (k0_pay64 K V) = kvBlk V K 1 8 := by
  funext y
  idx_vars y
  pointwise [k0_pay64, k0_pay65, kvBlk]
  unfold kvE
  refine Finset.sum_congr rfl fun r _ => ?_
  exact kv_term V K 1 8 _ _ _ _ _ _ (by omega) (by omega) (by first | omega | (dsimp only; omega) | rfl) (by first | omega | (dsimp only; omega) | rfl) (by first | omega | (dsimp only; omega) | rfl)

/-- The stored product of head 2, chunk 8. -/
theorem kv_2_8 (V K : FVec Ideal S256x512 .f32) : k0_pay66 K V = kvBlk V K 2 8 := by
  funext y
  idx_vars y
  pointwise [k0_pay66, kvBlk]
  unfold kvE
  refine Finset.sum_congr rfl fun r _ => ?_
  exact kv_term V K 2 8 _ _ _ _ _ _ (by omega) (by omega) (by first | omega | (dsimp only; omega) | rfl) (by first | omega | (dsimp only; omega) | rfl) (by first | omega | (dsimp only; omega) | rfl)

/-- The stored product of head 3, chunk 8. -/
theorem kv_3_8 (V K : FVec Ideal S256x512 .f32) : k0_pay67 K V = kvBlk V K 3 8 := by
  funext y
  idx_vars y
  pointwise [k0_pay67, kvBlk]
  unfold kvE
  refine Finset.sum_congr rfl fun r _ => ?_
  exact kv_term V K 3 8 _ _ _ _ _ _ (by omega) (by omega) (by first | omega | (dsimp only; omega) | rfl) (by first | omega | (dsimp only; omega) | rfl) (by first | omega | (dsimp only; omega) | rfl)

/-- The stored product of head 0, chunk 9. -/
theorem kv_0_9 (V K : FVec Ideal S256x512 .f32) : k0_pay68 K V = kvBlk V K 0 9 := by
  funext y
  idx_vars y
  pointwise [k0_pay68, kvBlk]
  unfold kvE
  refine Finset.sum_congr rfl fun r _ => ?_
  exact kv_term V K 0 9 _ _ _ _ _ _ (by omega) (by omega) (by first | omega | (dsimp only; omega) | rfl) (by first | omega | (dsimp only; omega) | rfl) (by first | omega | (dsimp only; omega) | rfl)

/-- The stored product of head 1, chunk 9. -/
theorem kv_1_9 (V K : FVec Ideal S256x512 .f32) : k0_pay70 (k0_pay69 K V) = kvBlk V K 1 9 := by
  funext y
  idx_vars y
  pointwise [k0_pay69, k0_pay70, kvBlk]
  unfold kvE
  refine Finset.sum_congr rfl fun r _ => ?_
  exact kv_term V K 1 9 _ _ _ _ _ _ (by omega) (by omega) (by first | omega | (dsimp only; omega) | rfl) (by first | omega | (dsimp only; omega) | rfl) (by first | omega | (dsimp only; omega) | rfl)

/-- The stored product of head 2, chunk 9. -/
theorem kv_2_9 (V K : FVec Ideal S256x512 .f32) : k0_pay71 K V = kvBlk V K 2 9 := by
  funext y
  idx_vars y
  pointwise [k0_pay71, kvBlk]
  unfold kvE
  refine Finset.sum_congr rfl fun r _ => ?_
  exact kv_term V K 2 9 _ _ _ _ _ _ (by omega) (by omega) (by first | omega | (dsimp only; omega) | rfl) (by first | omega | (dsimp only; omega) | rfl) (by first | omega | (dsimp only; omega) | rfl)

/-- The stored product of head 3, chunk 9. -/
theorem kv_3_9 (V K : FVec Ideal S256x512 .f32) : k0_pay72 K V = kvBlk V K 3 9 := by
  funext y
  idx_vars y
  pointwise [k0_pay72, kvBlk]
  unfold kvE
  refine Finset.sum_congr rfl fun r _ => ?_
  exact kv_term V K 3 9 _ _ _ _ _ _ (by omega) (by omega) (by first | omega | (dsimp only; omega) | rfl) (by first | omega | (dsimp only; omega) | rfl) (by first | omega | (dsimp only; omega) | rfl)

/-- The stored product of head 0, chunk 10. -/
theorem kv_0_10 (V K : FVec Ideal S256x512 .f32) : k0_pay73 K V = kvBlk V K 0 10 := by
  funext y
  idx_vars y
  pointwise [k0_pay73, kvBlk]
  unfold kvE
  refine Finset.sum_congr rfl fun r _ => ?_
  exact kv_term V K 0 10 _ _ _ _ _ _ (by omega) (by omega) (by first | omega | (dsimp only; omega) | rfl) (by first | omega | (dsimp only; omega) | rfl) (by first | omega | (dsimp only; omega) | rfl)

/-- The stored product of head 1, chunk 10. -/
theorem kv_1_10 (V K : FVec Ideal S256x512 .f32) : k0_pay74 K V = kvBlk V K 1 10 := by
  funext y
  idx_vars y
  pointwise [k0_pay74, kvBlk]
  unfold kvE
  refine Finset.sum_congr rfl fun r _ => ?_
  exact kv_term V K 1 10 _ _ _ _ _ _ (by omega) (by omega) (by first | omega | (dsimp only; omega) | rfl) (by first | omega | (dsimp only; omega) | rfl) (by first | omega | (dsimp only; omega) | rfl)

/-- The stored product of head 2, chunk 10. -/
theorem kv_2_10 (V K : FVec Ideal S256x512 .f32) : k0_pay75 K V = kvBlk V K 2 10 := by
  funext y
  idx_vars y
  pointwise [k0_pay75, kvBlk]
  unfold kvE
  refine Finset.sum_congr rfl fun r _ => ?_
  exact kv_term V K 2 10 _ _ _ _ _ _ (by omega) (by omega) (by first | omega | (dsimp only; omega) | rfl) (by first | omega | (dsimp only; omega) | rfl) (by first | omega | (dsimp only; omega) | rfl)

/-- The stored product of head 3, chunk 10. -/
theorem kv_3_10 (V K : FVec Ideal S256x512 .f32) : k0_pay76 K V = kvBlk V K 3 10 := by
  funext y
  idx_vars y
  pointwise [k0_pay76, kvBlk]
  unfold kvE
  refine Finset.sum_congr rfl fun r _ => ?_
  exact kv_term V K 3 10 _ _ _ _ _ _ (by omega) (by omega) (by first | omega | (dsimp only; omega) | rfl) (by first | omega | (dsimp only; omega) | rfl) (by first | omega | (dsimp only; omega) | rfl)

/-- The stored product of head 0, chunk 11. -/
theorem kv_0_11 (V K : FVec Ideal S256x512 .f32) : k0_pay77 K V = kvBlk V K 0 11 := by
  funext y
  idx_vars y
  pointwise [k0_pay77, kvBlk]
  unfold kvE
  refine Finset.sum_congr rfl fun r _ => ?_
  exact kv_term V K 0 11 _ _ _ _ _ _ (by omega) (by omega) (by first | omega | (dsimp only; omega) | rfl) (by first | omega | (dsimp only; omega) | rfl) (by first | omega | (dsimp only; omega) | rfl)

/-- The stored product of head 1, chunk 11. -/
theorem kv_1_11 (V K : FVec Ideal S256x512 .f32) : k0_pay78 K V = kvBlk V K 1 11 := by
  funext y
  idx_vars y
  pointwise [k0_pay78, kvBlk]
  unfold kvE
  refine Finset.sum_congr rfl fun r _ => ?_
  exact kv_term V K 1 11 _ _ _ _ _ _ (by omega) (by omega) (by first | omega | (dsimp only; omega) | rfl) (by first | omega | (dsimp only; omega) | rfl) (by first | omega | (dsimp only; omega) | rfl)

/-- The stored product of head 2, chunk 11. -/
theorem kv_2_11 (V K : FVec Ideal S256x512 .f32) : k0_pay81 (k0_pay79 V) (k0_pay80 K) = kvBlk V K 2 11 := by
  funext y
  idx_vars y
  pointwise [k0_pay79, k0_pay80, k0_pay81, kvBlk]
  unfold kvE
  refine Finset.sum_congr rfl fun r _ => ?_
  exact kv_term V K 2 11 _ _ _ _ _ _ (by omega) (by omega) (by first | omega | (dsimp only; omega) | rfl) (by first | omega | (dsimp only; omega) | rfl) (by first | omega | (dsimp only; omega) | rfl)

/-- The stored product of head 3, chunk 11. -/
theorem kv_3_11 (V K : FVec Ideal S256x512 .f32) : k0_pay82 K V = kvBlk V K 3 11 := by
  funext y
  idx_vars y
  pointwise [k0_pay82, kvBlk]
  unfold kvE
  refine Finset.sum_congr rfl fun r _ => ?_
  exact kv_term V K 3 11 _ _ _ _ _ _ (by omega) (by omega) (by first | omega | (dsimp only; omega) | rfl) (by first | omega | (dsimp only; omega) | rfl) (by first | omega | (dsimp only; omega) | rfl)

/-- The stored product of head 0, chunk 12. -/
theorem kv_0_12 (V K : FVec Ideal S256x512 .f32) : k0_pay83 K V = kvBlk V K 0 12 := by
  funext y
  idx_vars y
  pointwise [k0_pay83, kvBlk]
  unfold kvE
  refine Finset.sum_congr rfl fun r _ => ?_
  exact kv_term V K 0 12 _ _ _ _ _ _ (by omega) (by omega) (by first | omega | (dsimp only; omega) | rfl) (by first | omega | (dsimp only; omega) | rfl) (by first | omega | (dsimp only; omega) | rfl)

/-- The stored product of head 1, chunk 12. -/
theorem kv_1_12 (V K : FVec Ideal S256x512 .f32) : k0_pay84 K V = kvBlk V K 1 12 := by
  funext y
  idx_vars y
  pointwise [k0_pay84, kvBlk]
  unfold kvE
  refine Finset.sum_congr rfl fun r _ => ?_
  exact kv_term V K 1 12 _ _ _ _ _ _ (by omega) (by omega) (by first | omega | (dsimp only; omega) | rfl) (by first | omega | (dsimp only; omega) | rfl) (by first | omega | (dsimp only; omega) | rfl)

/-- The stored product of head 2, chunk 12. -/
theorem kv_2_12 (V K : FVec Ideal S256x512 .f32) : k0_pay86 (k0_pay85 K V) = kvBlk V K 2 12 := by
  funext y
  idx_vars y
  pointwise [k0_pay85, k0_pay86, kvBlk]
  unfold kvE
  refine Finset.sum_congr rfl fun r _ => ?_
  exact kv_term V K 2 12 _ _ _ _ _ _ (by omega) (by omega) (by first | omega | (dsimp only; omega) | rfl) (by first | omega | (dsimp only; omega) | rfl) (by first | omega | (dsimp only; omega) | rfl)

/-- The stored product of head 3, chunk 12. -/
theorem kv_3_12 (V K : FVec Ideal S256x512 .f32) : k0_pay87 K V = kvBlk V K 3 12 := by
  funext y
  idx_vars y
  pointwise [k0_pay87, kvBlk]
  unfold kvE
  refine Finset.sum_congr rfl fun r _ => ?_
  exact kv_term V K 3 12 _ _ _ _ _ _ (by omega) (by omega) (by first | omega | (dsimp only; omega) | rfl) (by first | omega | (dsimp only; omega) | rfl) (by first | omega | (dsimp only; omega) | rfl)

/-- The stored product of head 0, chunk 13. -/
theorem kv_0_13 (V K : FVec Ideal S256x512 .f32) : k0_pay88 K V = kvBlk V K 0 13 := by
  funext y
  idx_vars y
  pointwise [k0_pay88, kvBlk]
  unfold kvE
  refine Finset.sum_congr rfl fun r _ => ?_
  exact kv_term V K 0 13 _ _ _ _ _ _ (by omega) (by omega) (by first | omega | (dsimp only; omega) | rfl) (by first | omega | (dsimp only; omega) | rfl) (by first | omega | (dsimp only; omega) | rfl)

/-- The stored product of head 1, chunk 13. -/
theorem kv_1_13 (V K : FVec Ideal S256x512 .f32) : k0_pay89 K V = kvBlk V K 1 13 := by
  funext y
  idx_vars y
  pointwise [k0_pay89, kvBlk]
  unfold kvE
  refine Finset.sum_congr rfl fun r _ => ?_
  exact kv_term V K 1 13 _ _ _ _ _ _ (by omega) (by omega) (by first | omega | (dsimp only; omega) | rfl) (by first | omega | (dsimp only; omega) | rfl) (by first | omega | (dsimp only; omega) | rfl)

/-- The stored product of head 2, chunk 13. -/
theorem kv_2_13 (V K : FVec Ideal S256x512 .f32) : k0_pay91 (k0_pay90 K V) = kvBlk V K 2 13 := by
  funext y
  idx_vars y
  pointwise [k0_pay90, k0_pay91, kvBlk]
  unfold kvE
  refine Finset.sum_congr rfl fun r _ => ?_
  exact kv_term V K 2 13 _ _ _ _ _ _ (by omega) (by omega) (by first | omega | (dsimp only; omega) | rfl) (by first | omega | (dsimp only; omega) | rfl) (by first | omega | (dsimp only; omega) | rfl)

/-- The stored product of head 3, chunk 13. -/
theorem kv_3_13 (V K : FVec Ideal S256x512 .f32) : k0_pay92 K V = kvBlk V K 3 13 := by
  funext y
  idx_vars y
  pointwise [k0_pay92, kvBlk]
  unfold kvE
  refine Finset.sum_congr rfl fun r _ => ?_
  exact kv_term V K 3 13 _ _ _ _ _ _ (by omega) (by omega) (by first | omega | (dsimp only; omega) | rfl) (by first | omega | (dsimp only; omega) | rfl) (by first | omega | (dsimp only; omega) | rfl)

/-- The stored product of head 0, chunk 14. -/
theorem kv_0_14 (V K : FVec Ideal S256x512 .f32) : k0_pay93 K V = kvBlk V K 0 14 := by
  funext y
  idx_vars y
  pointwise [k0_pay93, kvBlk]
  unfold kvE
  refine Finset.sum_congr rfl fun r _ => ?_
  exact kv_term V K 0 14 _ _ _ _ _ _ (by omega) (by omega) (by first | omega | (dsimp only; omega) | rfl) (by first | omega | (dsimp only; omega) | rfl) (by first | omega | (dsimp only; omega) | rfl)

/-- The stored product of head 1, chunk 14. -/
theorem kv_1_14 (V K : FVec Ideal S256x512 .f32) : k0_pay94 K V = kvBlk V K 1 14 := by
  funext y
  idx_vars y
  pointwise [k0_pay94, kvBlk]
  unfold kvE
  refine Finset.sum_congr rfl fun r _ => ?_
  exact kv_term V K 1 14 _ _ _ _ _ _ (by omega) (by omega) (by first | omega | (dsimp only; omega) | rfl) (by first | omega | (dsimp only; omega) | rfl) (by first | omega | (dsimp only; omega) | rfl)

/-- The stored product of head 2, chunk 14. -/
theorem kv_2_14 (V K : FVec Ideal S256x512 .f32) : k0_pay95 K V = kvBlk V K 2 14 := by
  funext y
  idx_vars y
  pointwise [k0_pay95, kvBlk]
  unfold kvE
  refine Finset.sum_congr rfl fun r _ => ?_
  exact kv_term V K 2 14 _ _ _ _ _ _ (by omega) (by omega) (by first | omega | (dsimp only; omega) | rfl) (by first | omega | (dsimp only; omega) | rfl) (by first | omega | (dsimp only; omega) | rfl)

/-- The stored product of head 3, chunk 14. -/
theorem kv_3_14 (V K : FVec Ideal S256x512 .f32) : k0_pay98 (k0_pay96 V) (k0_pay97 K) = kvBlk V K 3 14 := by
  funext y
  idx_vars y
  pointwise [k0_pay96, k0_pay97, k0_pay98, kvBlk]
  unfold kvE
  refine Finset.sum_congr rfl fun r _ => ?_
  exact kv_term V K 3 14 _ _ _ _ _ _ (by omega) (by omega) (by first | omega | (dsimp only; omega) | rfl) (by first | omega | (dsimp only; omega) | rfl) (by first | omega | (dsimp only; omega) | rfl)

/-- The stored product of head 0, chunk 15. -/
theorem kv_0_15 (V K : FVec Ideal S256x512 .f32) : k0_pay99 K V = kvBlk V K 0 15 := by
  funext y
  idx_vars y
  pointwise [k0_pay99, kvBlk]
  unfold kvE
  refine Finset.sum_congr rfl fun r _ => ?_
  exact kv_term V K 0 15 _ _ _ _ _ _ (by omega) (by omega) (by first | omega | (dsimp only; omega) | rfl) (by first | omega | (dsimp only; omega) | rfl) (by first | omega | (dsimp only; omega) | rfl)

/-- The stored product of head 1, chunk 15. -/
theorem kv_1_15 (V K : FVec Ideal S256x512 .f32) : k0_pay100 K V = kvBlk V K 1 15 := by
  funext y
  idx_vars y
  pointwise [k0_pay100, kvBlk]
  unfold kvE
  refine Finset.sum_congr rfl fun r _ => ?_
  exact kv_term V K 1 15 _ _ _ _ _ _ (by omega) (by omega) (by first | omega | (dsimp only; omega) | rfl) (by first | omega | (dsimp only; omega) | rfl) (by first | omega | (dsimp only; omega) | rfl)

/-- The stored product of head 2, chunk 15. -/
theorem kv_2_15 (V K : FVec Ideal S256x512 .f32) : k0_pay101 K V = kvBlk V K 2 15 := by
  funext y
  idx_vars y
  pointwise [k0_pay101, kvBlk]
  unfold kvE
  refine Finset.sum_congr rfl fun r _ => ?_
  exact kv_term V K 2 15 _ _ _ _ _ _ (by omega) (by omega) (by first | omega | (dsimp only; omega) | rfl) (by first | omega | (dsimp only; omega) | rfl) (by first | omega | (dsimp only; omega) | rfl)

/-- The stored product of head 3, chunk 15. -/
theorem kv_3_15 (V K : FVec Ideal S256x512 .f32) : k0_pay103 (k0_pay102 K V) = kvBlk V K 3 15 := by
  funext y
  idx_vars y
  pointwise [k0_pay102, k0_pay103, kvBlk]
  unfold kvE
  refine Finset.sum_congr rfl fun r _ => ?_
  exact kv_term V K 3 15 _ _ _ _ _ _ (by omega) (by omega) (by first | omega | (dsimp only; omega) | rfl) (by first | omega | (dsimp only; omega) | rfl) (by first | omega | (dsimp only; omega) | rfl)

end Cert.Hgrn

end
-- ==== Proof.HgrnSteps.lean ====
/- Each state the kernel keeps between chunks is the recurrence run so far. -/
module

public import proofs.«01_k».proof.Proof.HgrnState

@[expose] public section

set_option maxRecDepth 16384

noncomputable section

namespace Cert.Hgrn

open Cert.KernelIdeal Cert.KernelIdeal.Gen Idealize.ShloMosaic Idealize.ShloMosaic.TcCoe Idealize.SL.Sem

/-- Head 2's state before chunk 0. -/
theorem st_2_0 (V K D : FVec Ideal S256x512 .f32) (s : FVec Ideal S4x128x128 .f32) : k0_pay106 (ldHd s 2) = stHd V K D s 2 0 := by
  funext y
  idx_vars y
  pointwise [k0_pay106, kvBlk, stHd, stBlk, stFin, ldHd]
  rfl

/-- Head 3's state before chunk 0. -/
theorem st_3_0 (V K D : FVec Ideal S256x512 .f32) (s : FVec Ideal S4x128x128 .f32) : k0_pay107 (ldHd s 3) = stHd V K D s 3 0 := by
  funext y
  idx_vars y
  pointwise [k0_pay107, kvBlk, stHd, stBlk, stFin, ldHd]
  rfl

/-- Head 0's state before chunk 1. -/
theorem st_0_1 (V K D : FVec Ideal S256x512 .f32) (s : FVec Ideal S4x128x128 .f32) : k0_pay109 D (ldHd s 0) (kvBlk V K 0 0) = stHd V K D s 0 1 := by
  funext y
  idx_vars y
  pointwise [k0_pay104, k0_pay109, kvBlk, stHd, stBlk, stFin, ldHd]
  exact stE_succ V K D s 0 0 _ _ _ _ (by omega) (by omega) (by first | omega | rfl) (by first | omega | (dsimp only; omega) | rfl)

/-- Head 1's state before chunk 1. -/
theorem st_1_1 (V K D : FVec Ideal S256x512 .f32) (s : FVec Ideal S4x128x128 .f32) : k0_pay112 (k0_pay111 D (ldHd s 1)) (kvBlk V K 1 0) = stHd V K D s 1 1 := by
  funext y
  idx_vars y
  pointwise [k0_pay105, k0_pay111, k0_pay112, kvBlk, stHd, stBlk, stFin, ldHd]
  exact stE_succ V K D s 1 0 _ _ _ _ (by omega) (by omega) (by first | omega | rfl) (by first | omega | (dsimp only; omega) | rfl)

/-- Head 2's state before chunk 1. -/
theorem st_2_1 (V K D : FVec Ideal S256x512 .f32) (s : FVec Ideal S4x128x128 .f32) : k0_pay114 D (stHd V K D s 2 0) (kvBlk V K 2 0) = stHd V K D s 2 1 := by
  funext y
  idx_vars y
  pointwise [k0_pay114, kvBlk, stHd, stBlk, stFin, ldHd]
  exact stE_succ V K D s 2 0 _ _ _ _ (by omega) (by omega) (by first | omega | rfl) (by first | omega | (dsimp only; omega) | rfl)

/-- Head 3's state before chunk 1. -/
theorem st_3_1 (V K D : FVec Ideal S256x512 .f32) (s : FVec Ideal S4x128x128 .f32) : k0_pay116 D (stHd V K D s 3 0) (kvBlk V K 3 0) = stHd V K D s 3 1 := by
  funext y
  idx_vars y
  pointwise [k0_pay116, kvBlk, stHd, stBlk, stFin, ldHd]
  exact stE_succ V K D s 3 0 _ _ _ _ (by omega) (by omega) (by first | omega | rfl) (by first | omega | (dsimp only; omega) | rfl)

/-- Head 0's state before chunk 2. -/
theorem st_0_2 (V K D : FVec Ideal S256x512 .f32) (s : FVec Ideal S4x128x128 .f32) : k0_pay118 D (stHd V K D s 0 1) (kvBlk V K 0 1) = stHd V K D s 0 2 := by
  funext y
  idx_vars y
  pointwise [k0_pay118, kvBlk, stHd, stBlk, stFin, ldHd]
  exact stE_succ V K D s 0 1 _ _ _ _ (by omega) (by omega) (by first | omega | rfl) (by first | omega | (dsimp only; omega) | rfl)

/-- Head 1's state before chunk 2. -/
theorem st_1_2 (V K D : FVec Ideal S256x512 .f32) (s : FVec Ideal S4x128x128 .f32) : k0_pay120 D (stHd V K D s 1 1) (kvBlk V K 1 1) = stHd V K D s 1 2 := by
  funext y
  idx_vars y
  pointwise [k0_pay120, kvBlk, stHd, stBlk, stFin, ldHd]
  exact stE_succ V K D s 1 1 _ _ _ _ (by omega) (by omega) (by first | omega | rfl) (by first | omega | (dsimp only; omega) | rfl)

/-- Head 2's state before chunk 2. -/
theorem st_2_2 (V K D : FVec Ideal S256x512 .f32) (s : FVec Ideal S4x128x128 .f32) : k0_pay122 D (stHd V K D s 2 1) (kvBlk V K 2 1) = stHd V K D s 2 2 := by
  funext y
  idx_vars y
  pointwise [k0_pay122, kvBlk, stHd, stBlk, stFin, ldHd]
  exact stE_succ V K D s 2 1 _ _ _ _ (by omega) (by omega) (by first | omega | rfl) (by first | omega | (dsimp only; omega) | rfl)

/-- Head 3's state before chunk 2. -/
theorem st_3_2 (V K D : FVec Ideal S256x512 .f32) (s : FVec Ideal S4x128x128 .f32) : k0_pay124 D (stHd V K D s 3 1) (kvBlk V K 3 1) = stHd V K D s 3 2 := by
  funext y
  idx_vars y
  pointwise [k0_pay124, kvBlk, stHd, stBlk, stFin, ldHd]
  exact stE_succ V K D s 3 1 _ _ _ _ (by omega) (by omega) (by first | omega | rfl) (by first | omega | (dsimp only; omega) | rfl)

/-- Head 0's state before chunk 3. -/
theorem st_0_3 (V K D : FVec Ideal S256x512 .f32) (s : FVec Ideal S4x128x128 .f32) : k0_pay126 D (stHd V K D s 0 2) (kvBlk V K 0 2) = stHd V K D s 0 3 := by
  funext y
  idx_vars y
  pointwise [k0_pay126, kvBlk, stHd, stBlk, stFin, ldHd]
  exact stE_succ V K D s 0 2 _ _ _ _ (by omega) (by omega) (by first | omega | rfl) (by first | omega | (dsimp only; omega) | rfl)

/-- Head 1's state before chunk 3. -/
theorem st_1_3 (V K D : FVec Ideal S256x512 .f32) (s : FVec Ideal S4x128x128 .f32) : k0_pay128 D (stHd V K D s 1 2) (kvBlk V K 1 2) = stHd V K D s 1 3 := by
  funext y
  idx_vars y
  pointwise [k0_pay128, kvBlk, stHd, stBlk, stFin, ldHd]
  exact stE_succ V K D s 1 2 _ _ _ _ (by omega) (by omega) (by first | omega | rfl) (by first | omega | (dsimp only; omega) | rfl)

/-- Head 2's state before chunk 3. -/
theorem st_2_3 (V K D : FVec Ideal S256x512 .f32) (s : FVec Ideal S4x128x128 .f32) : k0_pay130 D (stHd V K D s 2 2) (kvBlk V K 2 2) = stHd V K D s 2 3 := by
  funext y
  idx_vars y
  pointwise [k0_pay130, kvBlk, stHd, stBlk, stFin, ldHd]
  exact stE_succ V K D s 2 2 _ _ _ _ (by omega) (by omega) (by first | omega | rfl) (by first | omega | (dsimp only; omega) | rfl)

/-- Head 3's state before chunk 3. -/
theorem st_3_3 (V K D : FVec Ideal S256x512 .f32) (s : FVec Ideal S4x128x128 .f32) : k0_pay133 (k0_pay132 D (stHd V K D s 3 2)) (kvBlk V K 3 2) = stHd V K D s 3 3 := by
  funext y
  idx_vars y
  pointwise [k0_pay132, k0_pay133, kvBlk, stHd, stBlk, stFin, ldHd]
  exact stE_succ V K D s 3 2 _ _ _ _ (by omega) (by omega) (by first | omega | rfl) (by first | omega | (dsimp only; omega) | rfl)

/-- Head 0's state before chunk 4. -/
theorem st_0_4 (V K D : FVec Ideal S256x512 .f32) (s : FVec Ideal S4x128x128 .f32) : k0_pay135 D (stHd V K D s 0 3) (kvBlk V K 0 3) = stHd V K D s 0 4 := by
  funext y
  idx_vars y
  pointwise [k0_pay135, kvBlk, stHd, stBlk, stFin, ldHd]
  exact stE_succ V K D s 0 3 _ _ _ _ (by omega) (by omega) (by first | omega | rfl) (by first | omega | (dsimp only; omega) | rfl)

/-- Head 1's state before chunk 4. -/
theorem st_1_4 (V K D : FVec Ideal S256x512 .f32) (s : FVec Ideal S4x128x128 .f32) : k0_pay137 D (stHd V K D s 1 3) (kvBlk V K 1 3) = stHd V K D s 1 4 := by
  funext y
  idx_vars y
  pointwise [k0_pay137, kvBlk, stHd, stBlk, stFin, ldHd]
  exact stE_succ V K D s 1 3 _ _ _ _ (by omega) (by omega) (by first | omega | rfl) (by first | omega | (dsimp only; omega) | rfl)

/-- Head 2's state before chunk 4. -/
theorem st_2_4 (V K D : FVec Ideal S256x512 .f32) (s : FVec Ideal S4x128x128 .f32) : k0_pay139 D (stHd V K D s 2 3) (kvBlk V K 2 3) = stHd V K D s 2 4 := by
  funext y
  idx_vars y
  pointwise [k0_pay139, kvBlk, stHd, stBlk, stFin, ldHd]
  exact stE_succ V K D s 2 3 _ _ _ _ (by omega) (by omega) (by first | omega | rfl) (by first | omega | (dsimp only; omega) | rfl)

/-- Head 3's state before chunk 4. -/
theorem st_3_4 (V K D : FVec Ideal S256x512 .f32) (s : FVec Ideal S4x128x128 .f32) : k0_pay141 D (stHd V K D s 3 3) (kvBlk V K 3 3) = stHd V K D s 3 4 := by
  funext y
  idx_vars y
  pointwise [k0_pay141, kvBlk, stHd, stBlk, stFin, ldHd]
  exact stE_succ V K D s 3 3 _ _ _ _ (by omega) (by omega) (by first | omega | rfl) (by first | omega | (dsimp only; omega) | rfl)

/-- Head 0's state before chunk 5. -/
theorem st_0_5 (V K D : FVec Ideal S256x512 .f32) (s : FVec Ideal S4x128x128 .f32) : k0_pay143 D (stHd V K D s 0 4) (kvBlk V K 0 4) = stHd V K D s 0 5 := by
  funext y
  idx_vars y
  pointwise [k0_pay143, kvBlk, stHd, stBlk, stFin, ldHd]
  exact stE_succ V K D s 0 4 _ _ _ _ (by omega) (by omega) (by first | omega | rfl) (by first | omega | (dsimp only; omega) | rfl)

/-- Head 1's state before chunk 5. -/
theorem st_1_5 (V K D : FVec Ideal S256x512 .f32) (s : FVec Ideal S4x128x128 .f32) : k0_pay145 D (stHd V K D s 1 4) (kvBlk V K 1 4) = stHd V K D s 1 5 := by
  funext y
  idx_vars y
  pointwise [k0_pay145, kvBlk, stHd, stBlk, stFin, ldHd]
  exact stE_succ V K D s 1 4 _ _ _ _ (by omega) (by omega) (by first | omega | rfl) (by first | omega | (dsimp only; omega) | rfl)

/-- Head 2's state before chunk 5. -/
theorem st_2_5 (V K D : FVec Ideal S256x512 .f32) (s : FVec Ideal S4x128x128 .f32) : k0_pay147 D (stHd V K D s 2 4) (kvBlk V K 2 4) = stHd V K D s 2 5 := by
  funext y
  idx_vars y
  pointwise [k0_pay147, kvBlk, stHd, stBlk, stFin, ldHd]
  exact stE_succ V K D s 2 4 _ _ _ _ (by omega) (by omega) (by first | omega | rfl) (by first | omega | (dsimp only; omega) | rfl)

/-- Head 3's state before chunk 5. -/
theorem st_3_5 (V K D : FVec Ideal S256x512 .f32) (s : FVec Ideal S4x128x128 .f32) : k0_pay149 D (stHd V K D s 3 4) (kvBlk V K 3 4) = stHd V K D s 3 5 := by
  funext y
  idx_vars y
  pointwise [k0_pay149, kvBlk, stHd, stBlk, stFin, ldHd]
  exact stE_succ V K D s 3 4 _ _ _ _ (by omega) (by omega) (by first | omega | rfl) (by first | omega | (dsimp only; omega) | rfl)

/-- Head 0's state before chunk 6. -/
theorem st_0_6 (V K D : FVec Ideal S256x512 .f32) (s : FVec Ideal S4x128x128 .f32) : k0_pay151 D (stHd V K D s 0 5) (kvBlk V K 0 5) = stHd V K D s 0 6 := by
  funext y
  idx_vars y
  pointwise [k0_pay151, kvBlk, stHd, stBlk, stFin, ldHd]
  exact stE_succ V K D s 0 5 _ _ _ _ (by omega) (by omega) (by first | omega | rfl) (by first | omega | (dsimp only; omega) | rfl)

/-- Head 1's state before chunk 6. -/
theorem st_1_6 (V K D : FVec Ideal S256x512 .f32) (s : FVec Ideal S4x128x128 .f32) : k0_pay154 (k0_pay153 D (stHd V K D s 1 5)) (kvBlk V K 1 5) = stHd V K D s 1 6 := by
  funext y
  idx_vars y
  pointwise [k0_pay153, k0_pay154, kvBlk, stHd, stBlk, stFin, ldHd]
  exact stE_succ V K D s 1 5 _ _ _ _ (by omega) (by omega) (by first | omega | rfl) (by first | omega | (dsimp only; omega) | rfl)

/-- Head 2's state before chunk 6. -/
theorem st_2_6 (V K D : FVec Ideal S256x512 .f32) (s : FVec Ideal S4x128x128 .f32) : k0_pay156 D (stHd V K D s 2 5) (kvBlk V K 2 5) = stHd V K D s 2 6 := by
  funext y
  idx_vars y
  pointwise [k0_pay156, kvBlk, stHd, stBlk, stFin, ldHd]
  exact stE_succ V K D s 2 5 _ _ _ _ (by omega) (by omega) (by first | omega | rfl) (by first | omega | (dsimp only; omega) | rfl)

/-- Head 3's state before chunk 6. -/
theorem st_3_6 (V K D : FVec Ideal S256x512 .f32) (s : FVec Ideal S4x128x128 .f32) : k0_pay158 D (stHd V K D s 3 5) (kvBlk V K 3 5) = stHd V K D s 3 6 := by
  funext y
  idx_vars y
  pointwise [k0_pay158, kvBlk, stHd, stBlk, stFin, ldHd]
  exact stE_succ V K D s 3 5 _ _ _ _ (by omega) (by omega) (by first | omega | rfl) (by first | omega | (dsimp only; omega) | rfl)

/-- Head 0's state before chunk 7. -/
theorem st_0_7 (V K D : FVec Ideal S256x512 .f32) (s : FVec Ideal S4x128x128 .f32) : k0_pay160 D (stHd V K D s 0 6) (kvBlk V K 0 6) = stHd V K D s 0 7 := by
  funext y
  idx_vars y
  pointwise [k0_pay160, kvBlk, stHd, stBlk, stFin, ldHd]
  exact stE_succ V K D s 0 6 _ _ _ _ (by omega) (by omega) (by first | omega | rfl) (by first | omega | (dsimp only; omega) | rfl)

/-- Head 1's state before chunk 7. -/
theorem st_1_7 (V K D : FVec Ideal S256x512 .f32) (s : FVec Ideal S4x128x128 .f32) : k0_pay162 D (stHd V K D s 1 6) (kvBlk V K 1 6) = stHd V K D s 1 7 := by
  funext y
  idx_vars y
  pointwise [k0_pay162, kvBlk, stHd, stBlk, stFin, ldHd]
  exact stE_succ V K D s 1 6 _ _ _ _ (by omega) (by omega) (by first | omega | rfl) (by first | omega | (dsimp only; omega) | rfl)

/-- Head 2's state before chunk 7. -/
theorem st_2_7 (V K D : FVec Ideal S256x512 .f32) (s : FVec Ideal S4x128x128 .f32) : k0_pay164 D (stHd V K D s 2 6) (kvBlk V K 2 6) = stHd V K D s 2 7 := by
  funext y
  idx_vars y
  pointwise [k0_pay164, kvBlk, stHd, stBlk, stFin, ldHd]
  exact stE_succ V K D s 2 6 _ _ _ _ (by omega) (by omega) (by first | omega | rfl) (by first | omega | (dsimp only; omega) | rfl)

/-- Head 3's state before chunk 7. -/
theorem st_3_7 (V K D : FVec Ideal S256x512 .f32) (s : FVec Ideal S4x128x128 .f32) : k0_pay166 D (stHd V K D s 3 6) (kvBlk V K 3 6) = stHd V K D s 3 7 := by
  funext y
  idx_vars y
  pointwise [k0_pay166, kvBlk, stHd, stBlk, stFin, ldHd]
  exact stE_succ V K D s 3 6 _ _ _ _ (by omega) (by omega) (by first | omega | rfl) (by first | omega | (dsimp only; omega) | rfl)

/-- Head 0's state before chunk 8. -/
theorem st_0_8 (V K D : FVec Ideal S256x512 .f32) (s : FVec Ideal S4x128x128 .f32) : k0_pay168 D (stHd V K D s 0 7) (kvBlk V K 0 7) = stHd V K D s 0 8 := by
  funext y
  idx_vars y
  pointwise [k0_pay168, kvBlk, stHd, stBlk, stFin, ldHd]
  exact stE_succ V K D s 0 7 _ _ _ _ (by omega) (by omega) (by first | omega | rfl) (by first | omega | (dsimp only; omega) | rfl)

/-- Head 1's state before chunk 8. -/
theorem st_1_8 (V K D : FVec Ideal S256x512 .f32) (s : FVec Ideal S4x128x128 .f32) : k0_pay170 D (stHd V K D s 1 7) (kvBlk V K 1 7) = stHd V K D s 1 8 := by
  funext y
  idx_vars y
  pointwise [k0_pay170, kvBlk, stHd, stBlk, stFin, ldHd]
  exact stE_succ V K D s 1 7 _ _ _ _ (by omega) (by omega) (by first | omega | rfl) (by first | omega | (dsimp only; omega) | rfl)

/-- Head 2's state before chunk 8. -/
theorem st_2_8 (V K D : FVec Ideal S256x512 .f32) (s : FVec Ideal S4x128x128 .f32) : k0_pay172 D (stHd V K D s 2 7) (kvBlk V K 2 7) = stHd V K D s 2 8 := by
  funext y
  idx_vars y
  pointwise [k0_pay172, kvBlk, stHd, stBlk, stFin, ldHd]
  exact stE_succ V K D s 2 7 _ _ _ _ (by omega) (by omega) (by first | omega | rfl) (by first | omega | (dsimp only; omega) | rfl)

/-- Head 3's state before chunk 8. -/
theorem st_3_8 (V K D : FVec Ideal S256x512 .f32) (s : FVec Ideal S4x128x128 .f32) : k0_pay175 (k0_pay174 D (stHd V K D s 3 7)) (kvBlk V K 3 7) = stHd V K D s 3 8 := by
  funext y
  idx_vars y
  pointwise [k0_pay174, k0_pay175, kvBlk, stHd, stBlk, stFin, ldHd]
  exact stE_succ V K D s 3 7 _ _ _ _ (by omega) (by omega) (by first | omega | rfl) (by first | omega | (dsimp only; omega) | rfl)

/-- Head 0's state before chunk 9. -/
theorem st_0_9 (V K D : FVec Ideal S256x512 .f32) (s : FVec Ideal S4x128x128 .f32) : k0_pay177 D (stHd V K D s 0 8) (kvBlk V K 0 8) = stHd V K D s 0 9 := by
  funext y
  idx_vars y
  pointwise [k0_pay177, kvBlk, stHd, stBlk, stFin, ldHd]
  exact stE_succ V K D s 0 8 _ _ _ _ (by omega) (by omega) (by first | omega | rfl) (by first | omega | (dsimp only; omega) | rfl)

/-- Head 1's state before chunk 9. -/
theorem st_1_9 (V K D : FVec Ideal S256x512 .f32) (s : FVec Ideal S4x128x128 .f32) : k0_pay179 D (stHd V K D s 1 8) (kvBlk V K 1 8) = stHd V K D s 1 9 := by
  funext y
  idx_vars y
  pointwise [k0_pay179, kvBlk, stHd, stBlk, stFin, ldHd]
  exact stE_succ V K D s 1 8 _ _ _ _ (by omega) (by omega) (by first | omega | rfl) (by first | omega | (dsimp only; omega) | rfl)

/-- Head 2's state before chunk 9. -/
theorem st_2_9 (V K D : FVec Ideal S256x512 .f32) (s : FVec Ideal S4x128x128 .f32) : k0_pay181 D (stHd V K D s 2 8) (kvBlk V K 2 8) = stHd V K D s 2 9 := by
  funext y
  idx_vars y
  pointwise [k0_pay181, kvBlk, stHd, stBlk, stFin, ldHd]
  exact stE_succ V K D s 2 8 _ _ _ _ (by omega) (by omega) (by first | omega | rfl) (by first | omega | (dsimp only; omega) | rfl)

/-- Head 3's state before chunk 9. -/
theorem st_3_9 (V K D : FVec Ideal S256x512 .f32) (s : FVec Ideal S4x128x128 .f32) : k0_pay183 D (stHd V K D s 3 8) (kvBlk V K 3 8) = stHd V K D s 3 9 := by
  funext y
  idx_vars y
  pointwise [k0_pay183, kvBlk, stHd, stBlk, stFin, ldHd]
  exact stE_succ V K D s 3 8 _ _ _ _ (by omega) (by omega) (by first | omega | rfl) (by first | omega | (dsimp only; omega) | rfl)

/-- Head 0's state before chunk 10. -/
theorem st_0_10 (V K D : FVec Ideal S256x512 .f32) (s : FVec Ideal S4x128x128 .f32) : k0_pay185 D (stHd V K D s 0 9) (kvBlk V K 0 9) = stHd V K D s 0 10 := by
  funext y
  idx_vars y
  pointwise [k0_pay185, kvBlk, stHd, stBlk, stFin, ldHd]
  exact stE_succ V K D s 0 9 _ _ _ _ (by omega) (by omega) (by first | omega | rfl) (by first | omega | (dsimp only; omega) | rfl)

/-- Head 1's state before chunk 10. -/
theorem st_1_10 (V K D : FVec Ideal S256x512 .f32) (s : FVec Ideal S4x128x128 .f32) : k0_pay187 D (stHd V K D s 1 9) (kvBlk V K 1 9) = stHd V K D s 1 10 := by
  funext y
  idx_vars y
  pointwise [k0_pay187, kvBlk, stHd, stBlk, stFin, ldHd]
  exact stE_succ V K D s 1 9 _ _ _ _ (by omega) (by omega) (by first | omega | rfl) (by first | omega | (dsimp only; omega) | rfl)

/-- Head 2's state before chunk 10. -/
theorem st_2_10 (V K D : FVec Ideal S256x512 .f32) (s : FVec Ideal S4x128x128 .f32) : k0_pay189 D (stHd V K D s 2 9) (kvBlk V K 2 9) = stHd V K D s 2 10 := by
  funext y
  idx_vars y
  pointwise [k0_pay189, kvBlk, stHd, stBlk, stFin, ldHd]
  exact stE_succ V K D s 2 9 _ _ _ _ (by omega) (by omega) (by first | omega | rfl) (by first | omega | (dsimp only; omega) | rfl)

/-- Head 3's state before chunk 10. -/
theorem st_3_10 (V K D : FVec Ideal S256x512 .f32) (s : FVec Ideal S4x128x128 .f32) : k0_pay191 D (stHd V K D s 3 9) (kvBlk V K 3 9) = stHd V K D s 3 10 := by
  funext y
  idx_vars y
  pointwise [k0_pay191, kvBlk, stHd, stBlk, stFin, ldHd]
  exact stE_succ V K D s 3 9 _ _ _ _ (by omega) (by omega) (by first | omega | rfl) (by first | omega | (dsimp only; omega) | rfl)

/-- Head 0's state before chunk 11. -/
theorem st_0_11 (V K D : FVec Ideal S256x512 .f32) (s : FVec Ideal S4x128x128 .f32) : k0_pay193 D (stHd V K D s 0 10) (kvBlk V K 0 10) = stHd V K D s 0 11 := by
  funext y
  idx_vars y
  pointwise [k0_pay193, kvBlk, stHd, stBlk, stFin, ldHd]
  exact stE_succ V K D s 0 10 _ _ _ _ (by omega) (by omega) (by first | omega | rfl) (by first | omega | (dsimp only; omega) | rfl)

/-- Head 1's state before chunk 11. -/
theorem st_1_11 (V K D : FVec Ideal S256x512 .f32) (s : FVec Ideal S4x128x128 .f32) : k0_pay196 (k0_pay195 D (stHd V K D s 1 10)) (kvBlk V K 1 10) = stHd V K D s 1 11 := by
  funext y
  idx_vars y
  pointwise [k0_pay195, k0_pay196, kvBlk, stHd, stBlk, stFin, ldHd]
  exact stE_succ V K D s 1 10 _ _ _ _ (by omega) (by omega) (by first | omega | rfl) (by first | omega | (dsimp only; omega) | rfl)

/-- Head 2's state before chunk 11. -/
theorem st_2_11 (V K D : FVec Ideal S256x512 .f32) (s : FVec Ideal S4x128x128 .f32) : k0_pay198 D (stHd V K D s 2 10) (kvBlk V K 2 10) = stHd V K D s 2 11 := by
  funext y
  idx_vars y
  pointwise [k0_pay198, kvBlk, stHd, stBlk, stFin, ldHd]
  exact stE_succ V K D s 2 10 _ _ _ _ (by omega) (by omega) (by first | omega | rfl) (by first | omega | (dsimp only; omega) | rfl)

/-- Head 3's state before chunk 11. -/
theorem st_3_11 (V K D : FVec Ideal S256x512 .f32) (s : FVec Ideal S4x128x128 .f32) : k0_pay200 D (stHd V K D s 3 10) (kvBlk V K 3 10) = stHd V K D s 3 11 := by
  funext y
  idx_vars y
  pointwise [k0_pay200, kvBlk, stHd, stBlk, stFin, ldHd]
  exact stE_succ V K D s 3 10 _ _ _ _ (by omega) (by omega) (by first | omega | rfl) (by first | omega | (dsimp only; omega) | rfl)

/-- Head 0's state before chunk 12. -/
theorem st_0_12 (V K D : FVec Ideal S256x512 .f32) (s : FVec Ideal S4x128x128 .f32) : k0_pay202 D (stHd V K D s 0 11) (kvBlk V K 0 11) = stHd V K D s 0 12 := by
  funext y
  idx_vars y
  pointwise [k0_pay202, kvBlk, stHd, stBlk, stFin, ldHd]
  exact stE_succ V K D s 0 11 _ _ _ _ (by omega) (by omega) (by first | omega | rfl) (by first | omega | (dsimp only; omega) | rfl)

/-- Head 1's state before chunk 12. -/
theorem st_1_12 (V K D : FVec Ideal S256x512 .f32) (s : FVec Ideal S4x128x128 .f32) : k0_pay204 D (stHd V K D s 1 11) (kvBlk V K 1 11) = stHd V K D s 1 12 := by
  funext y
  idx_vars y
  pointwise [k0_pay204, kvBlk, stHd, stBlk, stFin, ldHd]
  exact stE_succ V K D s 1 11 _ _ _ _ (by omega) (by omega) (by first | omega | rfl) (by first | omega | (dsimp only; omega) | rfl)

/-- Head 2's state before chunk 12. -/
theorem st_2_12 (V K D : FVec Ideal S256x512 .f32) (s : FVec Ideal S4x128x128 .f32) : k0_pay206 D (stHd V K D s 2 11) (kvBlk V K 2 11) = stHd V K D s 2 12 := by
  funext y
  idx_vars y
  pointwise [k0_pay206, kvBlk, stHd, stBlk, stFin, ldHd]
  exact stE_succ V K D s 2 11 _ _ _ _ (by omega) (by omega) (by first | omega | rfl) (by first | omega | (dsimp only; omega) | rfl)

/-- Head 3's state before chunk 12. -/
theorem st_3_12 (V K D : FVec Ideal S256x512 .f32) (s : FVec Ideal S4x128x128 .f32) : k0_pay208 D (stHd V K D s 3 11) (kvBlk V K 3 11) = stHd V K D s 3 12 := by
  funext y
  idx_vars y
  pointwise [k0_pay208, kvBlk, stHd, stBlk, stFin, ldHd]
  exact stE_succ V K D s 3 11 _ _ _ _ (by omega) (by omega) (by first | omega | rfl) (by first | omega | (dsimp only; omega) | rfl)

/-- Head 0's state before chunk 13. -/
theorem st_0_13 (V K D : FVec Ideal S256x512 .f32) (s : FVec Ideal S4x128x128 .f32) : k0_pay210 D (stHd V K D s 0 12) (kvBlk V K 0 12) = stHd V K D s 0 13 := by
  funext y
  idx_vars y
  pointwise [k0_pay210, kvBlk, stHd, stBlk, stFin, ldHd]
  exact stE_succ V K D s 0 12 _ _ _ _ (by omega) (by omega) (by first | omega | rfl) (by first | omega | (dsimp only; omega) | rfl)

/-- Head 1's state before chunk 13. -/
theorem st_1_13 (V K D : FVec Ideal S256x512 .f32) (s : FVec Ideal S4x128x128 .f32) : k0_pay212 D (stHd V K D s 1 12) (kvBlk V K 1 12) = stHd V K D s 1 13 := by
  funext y
  idx_vars y
  pointwise [k0_pay212, kvBlk, stHd, stBlk, stFin, ldHd]
  exact stE_succ V K D s 1 12 _ _ _ _ (by omega) (by omega) (by first | omega | rfl) (by first | omega | (dsimp only; omega) | rfl)

/-- Head 2's state before chunk 13. -/
theorem st_2_13 (V K D : FVec Ideal S256x512 .f32) (s : FVec Ideal S4x128x128 .f32) : k0_pay214 D (stHd V K D s 2 12) (kvBlk V K 2 12) = stHd V K D s 2 13 := by
  funext y
  idx_vars y
  pointwise [k0_pay214, kvBlk, stHd, stBlk, stFin, ldHd]
  exact stE_succ V K D s 2 12 _ _ _ _ (by omega) (by omega) (by first | omega | rfl) (by first | omega | (dsimp only; omega) | rfl)

/-- Head 3's state before chunk 13. -/
theorem st_3_13 (V K D : FVec Ideal S256x512 .f32) (s : FVec Ideal S4x128x128 .f32) : k0_pay217 (k0_pay216 D (stHd V K D s 3 12)) (kvBlk V K 3 12) = stHd V K D s 3 13 := by
  funext y
  idx_vars y
  pointwise [k0_pay216, k0_pay217, kvBlk, stHd, stBlk, stFin, ldHd]
  exact stE_succ V K D s 3 12 _ _ _ _ (by omega) (by omega) (by first | omega | rfl) (by first | omega | (dsimp only; omega) | rfl)

/-- Head 0's state before chunk 14. -/
theorem st_0_14 (V K D : FVec Ideal S256x512 .f32) (s : FVec Ideal S4x128x128 .f32) : k0_pay219 D (stHd V K D s 0 13) (kvBlk V K 0 13) = stHd V K D s 0 14 := by
  funext y
  idx_vars y
  pointwise [k0_pay219, kvBlk, stHd, stBlk, stFin, ldHd]
  exact stE_succ V K D s 0 13 _ _ _ _ (by omega) (by omega) (by first | omega | rfl) (by first | omega | (dsimp only; omega) | rfl)

/-- Head 1's state before chunk 14. -/
theorem st_1_14 (V K D : FVec Ideal S256x512 .f32) (s : FVec Ideal S4x128x128 .f32) : k0_pay221 D (stHd V K D s 1 13) (kvBlk V K 1 13) = stHd V K D s 1 14 := by
  funext y
  idx_vars y
  pointwise [k0_pay221, kvBlk, stHd, stBlk, stFin, ldHd]
  exact stE_succ V K D s 1 13 _ _ _ _ (by omega) (by omega) (by first | omega | rfl) (by first | omega | (dsimp only; omega) | rfl)

/-- Head 2's state before chunk 14. -/
theorem st_2_14 (V K D : FVec Ideal S256x512 .f32) (s : FVec Ideal S4x128x128 .f32) : k0_pay223 D (stHd V K D s 2 13) (kvBlk V K 2 13) = stHd V K D s 2 14 := by
  funext y
  idx_vars y
  pointwise [k0_pay223, kvBlk, stHd, stBlk, stFin, ldHd]
  exact stE_succ V K D s 2 13 _ _ _ _ (by omega) (by omega) (by first | omega | rfl) (by first | omega | (dsimp only; omega) | rfl)

/-- Head 3's state before chunk 14. -/
theorem st_3_14 (V K D : FVec Ideal S256x512 .f32) (s : FVec Ideal S4x128x128 .f32) : k0_pay225 D (stHd V K D s 3 13) (kvBlk V K 3 13) = stHd V K D s 3 14 := by
  funext y
  idx_vars y
  pointwise [k0_pay225, kvBlk, stHd, stBlk, stFin, ldHd]
  exact stE_succ V K D s 3 13 _ _ _ _ (by omega) (by omega) (by first | omega | rfl) (by first | omega | (dsimp only; omega) | rfl)

/-- Head 0's state before chunk 15. -/
theorem st_0_15 (V K D : FVec Ideal S256x512 .f32) (s : FVec Ideal S4x128x128 .f32) : k0_pay227 D (stHd V K D s 0 14) (kvBlk V K 0 14) = stHd V K D s 0 15 := by
  funext y
  idx_vars y
  pointwise [k0_pay227, kvBlk, stHd, stBlk, stFin, ldHd]
  exact stE_succ V K D s 0 14 _ _ _ _ (by omega) (by omega) (by first | omega | rfl) (by first | omega | (dsimp only; omega) | rfl)

/-- Head 1's state before chunk 15. -/
theorem st_1_15 (V K D : FVec Ideal S256x512 .f32) (s : FVec Ideal S4x128x128 .f32) : k0_pay229 D (stHd V K D s 1 14) (kvBlk V K 1 14) = stHd V K D s 1 15 := by
  funext y
  idx_vars y
  pointwise [k0_pay229, kvBlk, stHd, stBlk, stFin, ldHd]
  exact stE_succ V K D s 1 14 _ _ _ _ (by omega) (by omega) (by first | omega | rfl) (by first | omega | (dsimp only; omega) | rfl)

/-- Head 2's state before chunk 15. -/
theorem st_2_15 (V K D : FVec Ideal S256x512 .f32) (s : FVec Ideal S4x128x128 .f32) : k0_pay231 D (stHd V K D s 2 14) (kvBlk V K 2 14) = stHd V K D s 2 15 := by
  funext y
  idx_vars y
  pointwise [k0_pay231, kvBlk, stHd, stBlk, stFin, ldHd]
  exact stE_succ V K D s 2 14 _ _ _ _ (by omega) (by omega) (by first | omega | rfl) (by first | omega | (dsimp only; omega) | rfl)

/-- Head 3's state before chunk 15. -/
theorem st_3_15 (V K D : FVec Ideal S256x512 .f32) (s : FVec Ideal S4x128x128 .f32) : k0_pay233 D (stHd V K D s 3 14) (kvBlk V K 3 14) = stHd V K D s 3 15 := by
  funext y
  idx_vars y
  pointwise [k0_pay233, kvBlk, stHd, stBlk, stFin, ldHd]
  exact stE_succ V K D s 3 14 _ _ _ _ (by omega) (by omega) (by first | omega | rfl) (by first | omega | (dsimp only; omega) | rfl)

/-- The stored state of head 0 before chunk 0. -/
theorem blk_0_0 (V K D : FVec Ideal S256x512 .f32) (s : FVec Ideal S4x128x128 .f32) : k0_pay108 (ldHd s 0) = stBlk V K D s 0 0 := by
  funext y
  idx_vars y
  pointwise [k0_pay104, k0_pay108, kvBlk, stHd, stBlk, stFin, ldHd]
  rfl

/-- The stored state of head 1 before chunk 0. -/
theorem blk_1_0 (V K D : FVec Ideal S256x512 .f32) (s : FVec Ideal S4x128x128 .f32) : k0_pay110 (ldHd s 1) = stBlk V K D s 1 0 := by
  funext y
  idx_vars y
  pointwise [k0_pay105, k0_pay110, kvBlk, stHd, stBlk, stFin, ldHd]
  rfl

/-- The stored state of head 2 before chunk 0. -/
theorem blk_2_0 (V K D : FVec Ideal S256x512 .f32) (s : FVec Ideal S4x128x128 .f32) : k0_pay113 (stHd V K D s 2 0) = stBlk V K D s 2 0 := by
  funext y
  idx_vars y
  pointwise [k0_pay113, kvBlk, stHd, stBlk, stFin, ldHd]

/-- The stored state of head 3 before chunk 0. -/
theorem blk_3_0 (V K D : FVec Ideal S256x512 .f32) (s : FVec Ideal S4x128x128 .f32) : k0_pay115 (stHd V K D s 3 0) = stBlk V K D s 3 0 := by
  funext y
  idx_vars y
  pointwise [k0_pay115, kvBlk, stHd, stBlk, stFin, ldHd]

/-- The stored state of head 0 before chunk 1. -/
theorem blk_0_1 (V K D : FVec Ideal S256x512 .f32) (s : FVec Ideal S4x128x128 .f32) : k0_pay117 (stHd V K D s 0 1) = stBlk V K D s 0 1 := by
  funext y
  idx_vars y
  pointwise [k0_pay117, kvBlk, stHd, stBlk, stFin, ldHd]

/-- The stored state of head 1 before chunk 1. -/
theorem blk_1_1 (V K D : FVec Ideal S256x512 .f32) (s : FVec Ideal S4x128x128 .f32) : k0_pay119 (stHd V K D s 1 1) = stBlk V K D s 1 1 := by
  funext y
  idx_vars y
  pointwise [k0_pay119, kvBlk, stHd, stBlk, stFin, ldHd]

/-- The stored state of head 2 before chunk 1. -/
theorem blk_2_1 (V K D : FVec Ideal S256x512 .f32) (s : FVec Ideal S4x128x128 .f32) : k0_pay121 (stHd V K D s 2 1) = stBlk V K D s 2 1 := by
  funext y
  idx_vars y
  pointwise [k0_pay121, kvBlk, stHd, stBlk, stFin, ldHd]

/-- The stored state of head 3 before chunk 1. -/
theorem blk_3_1 (V K D : FVec Ideal S256x512 .f32) (s : FVec Ideal S4x128x128 .f32) : k0_pay123 (stHd V K D s 3 1) = stBlk V K D s 3 1 := by
  funext y
  idx_vars y
  pointwise [k0_pay123, kvBlk, stHd, stBlk, stFin, ldHd]

/-- The stored state of head 0 before chunk 2. -/
theorem blk_0_2 (V K D : FVec Ideal S256x512 .f32) (s : FVec Ideal S4x128x128 .f32) : k0_pay125 (stHd V K D s 0 2) = stBlk V K D s 0 2 := by
  funext y
  idx_vars y
  pointwise [k0_pay125, kvBlk, stHd, stBlk, stFin, ldHd]

/-- The stored state of head 1 before chunk 2. -/
theorem blk_1_2 (V K D : FVec Ideal S256x512 .f32) (s : FVec Ideal S4x128x128 .f32) : k0_pay127 (stHd V K D s 1 2) = stBlk V K D s 1 2 := by
  funext y
  idx_vars y
  pointwise [k0_pay127, kvBlk, stHd, stBlk, stFin, ldHd]

/-- The stored state of head 2 before chunk 2. -/
theorem blk_2_2 (V K D : FVec Ideal S256x512 .f32) (s : FVec Ideal S4x128x128 .f32) : k0_pay129 (stHd V K D s 2 2) = stBlk V K D s 2 2 := by
  funext y
  idx_vars y
  pointwise [k0_pay129, kvBlk, stHd, stBlk, stFin, ldHd]

/-- The stored state of head 3 before chunk 2. -/
theorem blk_3_2 (V K D : FVec Ideal S256x512 .f32) (s : FVec Ideal S4x128x128 .f32) : k0_pay131 (stHd V K D s 3 2) = stBlk V K D s 3 2 := by
  funext y
  idx_vars y
  pointwise [k0_pay131, kvBlk, stHd, stBlk, stFin, ldHd]

/-- The stored state of head 0 before chunk 3. -/
theorem blk_0_3 (V K D : FVec Ideal S256x512 .f32) (s : FVec Ideal S4x128x128 .f32) : k0_pay134 (stHd V K D s 0 3) = stBlk V K D s 0 3 := by
  funext y
  idx_vars y
  pointwise [k0_pay134, kvBlk, stHd, stBlk, stFin, ldHd]

/-- The stored state of head 1 before chunk 3. -/
theorem blk_1_3 (V K D : FVec Ideal S256x512 .f32) (s : FVec Ideal S4x128x128 .f32) : k0_pay136 (stHd V K D s 1 3) = stBlk V K D s 1 3 := by
  funext y
  idx_vars y
  pointwise [k0_pay136, kvBlk, stHd, stBlk, stFin, ldHd]

/-- The stored state of head 2 before chunk 3. -/
theorem blk_2_3 (V K D : FVec Ideal S256x512 .f32) (s : FVec Ideal S4x128x128 .f32) : k0_pay138 (stHd V K D s 2 3) = stBlk V K D s 2 3 := by
  funext y
  idx_vars y
  pointwise [k0_pay138, kvBlk, stHd, stBlk, stFin, ldHd]

/-- The stored state of head 3 before chunk 3. -/
theorem blk_3_3 (V K D : FVec Ideal S256x512 .f32) (s : FVec Ideal S4x128x128 .f32) : k0_pay140 (stHd V K D s 3 3) = stBlk V K D s 3 3 := by
  funext y
  idx_vars y
  pointwise [k0_pay140, kvBlk, stHd, stBlk, stFin, ldHd]

/-- The stored state of head 0 before chunk 4. -/
theorem blk_0_4 (V K D : FVec Ideal S256x512 .f32) (s : FVec Ideal S4x128x128 .f32) : k0_pay142 (stHd V K D s 0 4) = stBlk V K D s 0 4 := by
  funext y
  idx_vars y
  pointwise [k0_pay142, kvBlk, stHd, stBlk, stFin, ldHd]

/-- The stored state of head 1 before chunk 4. -/
theorem blk_1_4 (V K D : FVec Ideal S256x512 .f32) (s : FVec Ideal S4x128x128 .f32) : k0_pay144 (stHd V K D s 1 4) = stBlk V K D s 1 4 := by
  funext y
  idx_vars y
  pointwise [k0_pay144, kvBlk, stHd, stBlk, stFin, ldHd]

/-- The stored state of head 2 before chunk 4. -/
theorem blk_2_4 (V K D : FVec Ideal S256x512 .f32) (s : FVec Ideal S4x128x128 .f32) : k0_pay146 (stHd V K D s 2 4) = stBlk V K D s 2 4 := by
  funext y
  idx_vars y
  pointwise [k0_pay146, kvBlk, stHd, stBlk, stFin, ldHd]

/-- The stored state of head 3 before chunk 4. -/
theorem blk_3_4 (V K D : FVec Ideal S256x512 .f32) (s : FVec Ideal S4x128x128 .f32) : k0_pay148 (stHd V K D s 3 4) = stBlk V K D s 3 4 := by
  funext y
  idx_vars y
  pointwise [k0_pay148, kvBlk, stHd, stBlk, stFin, ldHd]

/-- The stored state of head 0 before chunk 5. -/
theorem blk_0_5 (V K D : FVec Ideal S256x512 .f32) (s : FVec Ideal S4x128x128 .f32) : k0_pay150 (stHd V K D s 0 5) = stBlk V K D s 0 5 := by
  funext y
  idx_vars y
  pointwise [k0_pay150, kvBlk, stHd, stBlk, stFin, ldHd]

/-- The stored state of head 1 before chunk 5. -/
theorem blk_1_5 (V K D : FVec Ideal S256x512 .f32) (s : FVec Ideal S4x128x128 .f32) : k0_pay152 (stHd V K D s 1 5) = stBlk V K D s 1 5 := by
  funext y
  idx_vars y
  pointwise [k0_pay152, kvBlk, stHd, stBlk, stFin, ldHd]

/-- The stored state of head 2 before chunk 5. -/
theorem blk_2_5 (V K D : FVec Ideal S256x512 .f32) (s : FVec Ideal S4x128x128 .f32) : k0_pay155 (stHd V K D s 2 5) = stBlk V K D s 2 5 := by
  funext y
  idx_vars y
  pointwise [k0_pay155, kvBlk, stHd, stBlk, stFin, ldHd]

/-- The stored state of head 3 before chunk 5. -/
theorem blk_3_5 (V K D : FVec Ideal S256x512 .f32) (s : FVec Ideal S4x128x128 .f32) : k0_pay157 (stHd V K D s 3 5) = stBlk V K D s 3 5 := by
  funext y
  idx_vars y
  pointwise [k0_pay157, kvBlk, stHd, stBlk, stFin, ldHd]

/-- The stored state of head 0 before chunk 6. -/
theorem blk_0_6 (V K D : FVec Ideal S256x512 .f32) (s : FVec Ideal S4x128x128 .f32) : k0_pay159 (stHd V K D s 0 6) = stBlk V K D s 0 6 := by
  funext y
  idx_vars y
  pointwise [k0_pay159, kvBlk, stHd, stBlk, stFin, ldHd]

/-- The stored state of head 1 before chunk 6. -/
theorem blk_1_6 (V K D : FVec Ideal S256x512 .f32) (s : FVec Ideal S4x128x128 .f32) : k0_pay161 (stHd V K D s 1 6) = stBlk V K D s 1 6 := by
  funext y
  idx_vars y
  pointwise [k0_pay161, kvBlk, stHd, stBlk, stFin, ldHd]

/-- The stored state of head 2 before chunk 6. -/
theorem blk_2_6 (V K D : FVec Ideal S256x512 .f32) (s : FVec Ideal S4x128x128 .f32) : k0_pay163 (stHd V K D s 2 6) = stBlk V K D s 2 6 := by
  funext y
  idx_vars y
  pointwise [k0_pay163, kvBlk, stHd, stBlk, stFin, ldHd]

/-- The stored state of head 3 before chunk 6. -/
theorem blk_3_6 (V K D : FVec Ideal S256x512 .f32) (s : FVec Ideal S4x128x128 .f32) : k0_pay165 (stHd V K D s 3 6) = stBlk V K D s 3 6 := by
  funext y
  idx_vars y
  pointwise [k0_pay165, kvBlk, stHd, stBlk, stFin, ldHd]

/-- The stored state of head 0 before chunk 7. -/
theorem blk_0_7 (V K D : FVec Ideal S256x512 .f32) (s : FVec Ideal S4x128x128 .f32) : k0_pay167 (stHd V K D s 0 7) = stBlk V K D s 0 7 := by
  funext y
  idx_vars y
  pointwise [k0_pay167, kvBlk, stHd, stBlk, stFin, ldHd]

/-- The stored state of head 1 before chunk 7. -/
theorem blk_1_7 (V K D : FVec Ideal S256x512 .f32) (s : FVec Ideal S4x128x128 .f32) : k0_pay169 (stHd V K D s 1 7) = stBlk V K D s 1 7 := by
  funext y
  idx_vars y
  pointwise [k0_pay169, kvBlk, stHd, stBlk, stFin, ldHd]

/-- The stored state of head 2 before chunk 7. -/
theorem blk_2_7 (V K D : FVec Ideal S256x512 .f32) (s : FVec Ideal S4x128x128 .f32) : k0_pay171 (stHd V K D s 2 7) = stBlk V K D s 2 7 := by
  funext y
  idx_vars y
  pointwise [k0_pay171, kvBlk, stHd, stBlk, stFin, ldHd]

/-- The stored state of head 3 before chunk 7. -/
theorem blk_3_7 (V K D : FVec Ideal S256x512 .f32) (s : FVec Ideal S4x128x128 .f32) : k0_pay173 (stHd V K D s 3 7) = stBlk V K D s 3 7 := by
  funext y
  idx_vars y
  pointwise [k0_pay173, kvBlk, stHd, stBlk, stFin, ldHd]

/-- The stored state of head 0 before chunk 8. -/
theorem blk_0_8 (V K D : FVec Ideal S256x512 .f32) (s : FVec Ideal S4x128x128 .f32) : k0_pay176 (stHd V K D s 0 8) = stBlk V K D s 0 8 := by
  funext y
  idx_vars y
  pointwise [k0_pay176, kvBlk, stHd, stBlk, stFin, ldHd]

/-- The stored state of head 1 before chunk 8. -/
theorem blk_1_8 (V K D : FVec Ideal S256x512 .f32) (s : FVec Ideal S4x128x128 .f32) : k0_pay178 (stHd V K D s 1 8) = stBlk V K D s 1 8 := by
  funext y
  idx_vars y
  pointwise [k0_pay178, kvBlk, stHd, stBlk, stFin, ldHd]

/-- The stored state of head 2 before chunk 8. -/
theorem blk_2_8 (V K D : FVec Ideal S256x512 .f32) (s : FVec Ideal S4x128x128 .f32) : k0_pay180 (stHd V K D s 2 8) = stBlk V K D s 2 8 := by
  funext y
  idx_vars y
  pointwise [k0_pay180, kvBlk, stHd, stBlk, stFin, ldHd]

/-- The stored state of head 3 before chunk 8. -/
theorem blk_3_8 (V K D : FVec Ideal S256x512 .f32) (s : FVec Ideal S4x128x128 .f32) : k0_pay182 (stHd V K D s 3 8) = stBlk V K D s 3 8 := by
  funext y
  idx_vars y
  pointwise [k0_pay182, kvBlk, stHd, stBlk, stFin, ldHd]

/-- The stored state of head 0 before chunk 9. -/
theorem blk_0_9 (V K D : FVec Ideal S256x512 .f32) (s : FVec Ideal S4x128x128 .f32) : k0_pay184 (stHd V K D s 0 9) = stBlk V K D s 0 9 := by
  funext y
  idx_vars y
  pointwise [k0_pay184, kvBlk, stHd, stBlk, stFin, ldHd]

/-- The stored state of head 1 before chunk 9. -/
theorem blk_1_9 (V K D : FVec Ideal S256x512 .f32) (s : FVec Ideal S4x128x128 .f32) : k0_pay186 (stHd V K D s 1 9) = stBlk V K D s 1 9 := by
  funext y
  idx_vars y
  pointwise [k0_pay186, kvBlk, stHd, stBlk, stFin, ldHd]

/-- The stored state of head 2 before chunk 9. -/
theorem blk_2_9 (V K D : FVec Ideal S256x512 .f32) (s : FVec Ideal S4x128x128 .f32) : k0_pay188 (stHd V K D s 2 9) = stBlk V K D s 2 9 := by
  funext y
  idx_vars y
  pointwise [k0_pay188, kvBlk, stHd, stBlk, stFin, ldHd]

/-- The stored state of head 3 before chunk 9. -/
theorem blk_3_9 (V K D : FVec Ideal S256x512 .f32) (s : FVec Ideal S4x128x128 .f32) : k0_pay190 (stHd V K D s 3 9) = stBlk V K D s 3 9 := by
  funext y
  idx_vars y
  pointwise [k0_pay190, kvBlk, stHd, stBlk, stFin, ldHd]

/-- The stored state of head 0 before chunk 10. -/
theorem blk_0_10 (V K D : FVec Ideal S256x512 .f32) (s : FVec Ideal S4x128x128 .f32) : k0_pay192 (stHd V K D s 0 10) = stBlk V K D s 0 10 := by
  funext y
  idx_vars y
  pointwise [k0_pay192, kvBlk, stHd, stBlk, stFin, ldHd]

/-- The stored state of head 1 before chunk 10. -/
theorem blk_1_10 (V K D : FVec Ideal S256x512 .f32) (s : FVec Ideal S4x128x128 .f32) : k0_pay194 (stHd V K D s 1 10) = stBlk V K D s 1 10 := by
  funext y
  idx_vars y
  pointwise [k0_pay194, kvBlk, stHd, stBlk, stFin, ldHd]

/-- The stored state of head 2 before chunk 10. -/
theorem blk_2_10 (V K D : FVec Ideal S256x512 .f32) (s : FVec Ideal S4x128x128 .f32) : k0_pay197 (stHd V K D s 2 10) = stBlk V K D s 2 10 := by
  funext y
  idx_vars y
  pointwise [k0_pay197, kvBlk, stHd, stBlk, stFin, ldHd]

/-- The stored state of head 3 before chunk 10. -/
theorem blk_3_10 (V K D : FVec Ideal S256x512 .f32) (s : FVec Ideal S4x128x128 .f32) : k0_pay199 (stHd V K D s 3 10) = stBlk V K D s 3 10 := by
  funext y
  idx_vars y
  pointwise [k0_pay199, kvBlk, stHd, stBlk, stFin, ldHd]

/-- The stored state of head 0 before chunk 11. -/
theorem blk_0_11 (V K D : FVec Ideal S256x512 .f32) (s : FVec Ideal S4x128x128 .f32) : k0_pay201 (stHd V K D s 0 11) = stBlk V K D s 0 11 := by
  funext y
  idx_vars y
  pointwise [k0_pay201, kvBlk, stHd, stBlk, stFin, ldHd]

/-- The stored state of head 1 before chunk 11. -/
theorem blk_1_11 (V K D : FVec Ideal S256x512 .f32) (s : FVec Ideal S4x128x128 .f32) : k0_pay203 (stHd V K D s 1 11) = stBlk V K D s 1 11 := by
  funext y
  idx_vars y
  pointwise [k0_pay203, kvBlk, stHd, stBlk, stFin, ldHd]

/-- The stored state of head 2 before chunk 11. -/
theorem blk_2_11 (V K D : FVec Ideal S256x512 .f32) (s : FVec Ideal S4x128x128 .f32) : k0_pay205 (stHd V K D s 2 11) = stBlk V K D s 2 11 := by
  funext y
  idx_vars y
  pointwise [k0_pay205, kvBlk, stHd, stBlk, stFin, ldHd]

/-- The stored state of head 3 before chunk 11. -/
theorem blk_3_11 (V K D : FVec Ideal S256x512 .f32) (s : FVec Ideal S4x128x128 .f32) : k0_pay207 (stHd V K D s 3 11) = stBlk V K D s 3 11 := by
  funext y
  idx_vars y
  pointwise [k0_pay207, kvBlk, stHd, stBlk, stFin, ldHd]

/-- The stored state of head 0 before chunk 12. -/
theorem blk_0_12 (V K D : FVec Ideal S256x512 .f32) (s : FVec Ideal S4x128x128 .f32) : k0_pay209 (stHd V K D s 0 12) = stBlk V K D s 0 12 := by
  funext y
  idx_vars y
  pointwise [k0_pay209, kvBlk, stHd, stBlk, stFin, ldHd]

/-- The stored state of head 1 before chunk 12. -/
theorem blk_1_12 (V K D : FVec Ideal S256x512 .f32) (s : FVec Ideal S4x128x128 .f32) : k0_pay211 (stHd V K D s 1 12) = stBlk V K D s 1 12 := by
  funext y
  idx_vars y
  pointwise [k0_pay211, kvBlk, stHd, stBlk, stFin, ldHd]

/-- The stored state of head 2 before chunk 12. -/
theorem blk_2_12 (V K D : FVec Ideal S256x512 .f32) (s : FVec Ideal S4x128x128 .f32) : k0_pay213 (stHd V K D s 2 12) = stBlk V K D s 2 12 := by
  funext y
  idx_vars y
  pointwise [k0_pay213, kvBlk, stHd, stBlk, stFin, ldHd]

/-- The stored state of head 3 before chunk 12. -/
theorem blk_3_12 (V K D : FVec Ideal S256x512 .f32) (s : FVec Ideal S4x128x128 .f32) : k0_pay215 (stHd V K D s 3 12) = stBlk V K D s 3 12 := by
  funext y
  idx_vars y
  pointwise [k0_pay215, kvBlk, stHd, stBlk, stFin, ldHd]

/-- The stored state of head 0 before chunk 13. -/
theorem blk_0_13 (V K D : FVec Ideal S256x512 .f32) (s : FVec Ideal S4x128x128 .f32) : k0_pay218 (stHd V K D s 0 13) = stBlk V K D s 0 13 := by
  funext y
  idx_vars y
  pointwise [k0_pay218, kvBlk, stHd, stBlk, stFin, ldHd]

/-- The stored state of head 1 before chunk 13. -/
theorem blk_1_13 (V K D : FVec Ideal S256x512 .f32) (s : FVec Ideal S4x128x128 .f32) : k0_pay220 (stHd V K D s 1 13) = stBlk V K D s 1 13 := by
  funext y
  idx_vars y
  pointwise [k0_pay220, kvBlk, stHd, stBlk, stFin, ldHd]

/-- The stored state of head 2 before chunk 13. -/
theorem blk_2_13 (V K D : FVec Ideal S256x512 .f32) (s : FVec Ideal S4x128x128 .f32) : k0_pay222 (stHd V K D s 2 13) = stBlk V K D s 2 13 := by
  funext y
  idx_vars y
  pointwise [k0_pay222, kvBlk, stHd, stBlk, stFin, ldHd]

/-- The stored state of head 3 before chunk 13. -/
theorem blk_3_13 (V K D : FVec Ideal S256x512 .f32) (s : FVec Ideal S4x128x128 .f32) : k0_pay224 (stHd V K D s 3 13) = stBlk V K D s 3 13 := by
  funext y
  idx_vars y
  pointwise [k0_pay224, kvBlk, stHd, stBlk, stFin, ldHd]

/-- The stored state of head 0 before chunk 14. -/
theorem blk_0_14 (V K D : FVec Ideal S256x512 .f32) (s : FVec Ideal S4x128x128 .f32) : k0_pay226 (stHd V K D s 0 14) = stBlk V K D s 0 14 := by
  funext y
  idx_vars y
  pointwise [k0_pay226, kvBlk, stHd, stBlk, stFin, ldHd]

/-- The stored state of head 1 before chunk 14. -/
theorem blk_1_14 (V K D : FVec Ideal S256x512 .f32) (s : FVec Ideal S4x128x128 .f32) : k0_pay228 (stHd V K D s 1 14) = stBlk V K D s 1 14 := by
  funext y
  idx_vars y
  pointwise [k0_pay228, kvBlk, stHd, stBlk, stFin, ldHd]

/-- The stored state of head 2 before chunk 14. -/
theorem blk_2_14 (V K D : FVec Ideal S256x512 .f32) (s : FVec Ideal S4x128x128 .f32) : k0_pay230 (stHd V K D s 2 14) = stBlk V K D s 2 14 := by
  funext y
  idx_vars y
  pointwise [k0_pay230, kvBlk, stHd, stBlk, stFin, ldHd]

/-- The stored state of head 3 before chunk 14. -/
theorem blk_3_14 (V K D : FVec Ideal S256x512 .f32) (s : FVec Ideal S4x128x128 .f32) : k0_pay232 (stHd V K D s 3 14) = stBlk V K D s 3 14 := by
  funext y
  idx_vars y
  pointwise [k0_pay232, kvBlk, stHd, stBlk, stFin, ldHd]

/-- The stored state of head 0 before chunk 15. -/
theorem blk_0_15 (V K D : FVec Ideal S256x512 .f32) (s : FVec Ideal S4x128x128 .f32) : k0_pay234 (stHd V K D s 0 15) = stBlk V K D s 0 15 := by
  funext y
  idx_vars y
  pointwise [k0_pay234, kvBlk, stHd, stBlk, stFin, ldHd]

/-- The stored state of head 1 before chunk 15. -/
theorem blk_1_15 (V K D : FVec Ideal S256x512 .f32) (s : FVec Ideal S4x128x128 .f32) : k0_pay236 (stHd V K D s 1 15) = stBlk V K D s 1 15 := by
  funext y
  idx_vars y
  pointwise [k0_pay236, kvBlk, stHd, stBlk, stFin, ldHd]

/-- The stored state of head 2 before chunk 15. -/
theorem blk_2_15 (V K D : FVec Ideal S256x512 .f32) (s : FVec Ideal S4x128x128 .f32) : k0_pay238 (stHd V K D s 2 15) = stBlk V K D s 2 15 := by
  funext y
  idx_vars y
  pointwise [k0_pay238, kvBlk, stHd, stBlk, stFin, ldHd]

/-- The stored state of head 3 before chunk 15. -/
theorem blk_3_15 (V K D : FVec Ideal S256x512 .f32) (s : FVec Ideal S4x128x128 .f32) : k0_pay239 (stHd V K D s 3 15) = stBlk V K D s 3 15 := by
  funext y
  idx_vars y
  pointwise [k0_pay239, kvBlk, stHd, stBlk, stFin, ldHd]

/-- The stored final state of head 0. -/
theorem fin_0 (V K D : FVec Ideal S256x512 .f32) (s : FVec Ideal S4x128x128 .f32) : k0_pay241 (k0_pay235 D (stHd V K D s 0 15) (kvBlk V K 0 15)) = stFin V K D s 0 := by
  funext y
  idx_vars y
  pointwise [k0_pay235, k0_pay241, kvBlk, stHd, stBlk, stFin, ldHd]
  exact stE_succ V K D s 0 15 _ _ _ _ (by omega) (by omega) (by first | omega | rfl) (by first | omega | (dsimp only; omega) | rfl)

/-- The stored final state of head 1. -/
theorem fin_1 (V K D : FVec Ideal S256x512 .f32) (s : FVec Ideal S4x128x128 .f32) : k0_pay242 (k0_pay237 D (stHd V K D s 1 15)) (kvBlk V K 1 15) = stFin V K D s 1 := by
  funext y
  idx_vars y
  pointwise [k0_pay237, k0_pay242, kvBlk, stHd, stBlk, stFin, ldHd]
  exact stE_succ V K D s 1 15 _ _ _ _ (by omega) (by omega) (by first | omega | rfl) (by first | omega | (dsimp only; omega) | rfl)

/-- The stored final state of head 2. -/
theorem fin_2 (V K D : FVec Ideal S256x512 .f32) (s : FVec Ideal S4x128x128 .f32) : k0_pay243 D (stHd V K D s 2 15) (kvBlk V K 2 15) = stFin V K D s 2 := by
  funext y
  idx_vars y
  pointwise [k0_pay243, kvBlk, stHd, stBlk, stFin, ldHd]
  exact stE_succ V K D s 2 15 _ _ _ _ (by omega) (by omega) (by first | omega | rfl) (by first | omega | (dsimp only; omega) | rfl)

/-- The stored final state of head 3. -/
theorem fin_3 (V K D : FVec Ideal S256x512 .f32) (s : FVec Ideal S4x128x128 .f32) : k0_pay244 (k0_pay240 D (stHd V K D s 3 15) (kvBlk V K 3 15)) = stFin V K D s 3 := by
  funext y
  idx_vars y
  pointwise [k0_pay240, k0_pay244, kvBlk, stHd, stBlk, stFin, ldHd]
  exact stE_succ V K D s 3 15 _ _ _ _ (by omega) (by omega) (by first | omega | rfl) (by first | omega | (dsimp only; omega) | rfl)

end Cert.Hgrn

end
-- ==== Proof.HgrnO.lean ====
/- The block of outputs: the query against the state before its chunk, plus the sum within the chunk. -/
module

public import proofs.«01_k».proof.Proof.HgrnState

@[expose] public section

set_option maxRecDepth 16384

noncomputable section

namespace Cert.Hgrn

open Cert.KernelIdeal Cert.KernelIdeal.Gen Idealize.ShloMosaic Idealize.ShloMosaic.TcCoe Idealize.SL.Sem

/-- Row `r` of the 64 starting at row `64 b` of the block. -/
def row64 (b : ℕ) (r : Fin 64) : Fin 256 := ⟨(64 * b + r.val) % 256, Nat.mod_lt _ (by decide)⟩

/-- Output entry at row `R` and value channel `e` of head `h`. -/
def oE (QI V K D : FVec Ideal S256x512 .f32) (s : FVec Ideal S4x128x128 .f32) (OI : FVec Ideal S256x128 .f32) (h : ℕ) (R : Fin 256)
    (e : Fin 128) : EReal :=
  (∑ d : Fin 128, QI (ix2 R (colOf h d)) * stE V K D s h (R.val / 16) e d) + OI (ix2 R e)

/-- The outputs of 64 rows of one head, as the piece the kernel stores. -/
def oBlk (QI V K D : FVec Ideal S256x512 .f32) (s : FVec Ideal S4x128x128 .f32) (OI : FVec Ideal S256x128 .f32) (h b : ℕ) :
    FVec Ideal S1x64x128 .f32 := fun y =>
  (∑ d : Fin 128, QI (ix2 (row64 b (y 1)) (colOf h d)) * stE V K D s h (4 * b + (y 1).val / 16) (y 2) d) + OI (ix2 (row64 b (y 1)) (y 2))

/-- The group word of a row: its chunk among the four. -/
theorem grp_word (r : Fin 64) (d : Fin 128) : k0_pay245 (ix2 r d) = BitVec.ofNat 32 (r.val / 16) := by
  have h : ∀ r : Fin 64, ∀ d : Fin 1, k0_pay245 (ix2 r (⟨d.val, by omega⟩ : Fin 128)) = BitVec.ofNat 32 (r.val / 16) := by
    decide +kernel
  rw [← h r 0]
  pointwise [k0_pay245]

/-- A term of the masked sum, whatever the spelling of the indices. -/
theorem q_term (QI : FVec Ideal S256x512 .f32) (S : ℕ → ℕ → Fin 128 → Fin 128 → EReal) (h b : ℕ) (r : Fin 64) (e : Fin 128) (j : ℕ)
    (d d' : Fin 128) (row : Fin 256) (col : Fin 512) (hb : b < 4) (hh : h < 4) (hd : d'.val = d.val) (hr : row.val = 64 * b + r.val)
    (hc : col.val = 128 * h + d.val) :
    Scalar.select (IntOp.cmpi CmpIPredicate.eq (BitVec.ofNat 32 (r.val / 16)) (BitVec.ofNat 32 j)) (QI (ix2 row col)) 0 * S h (4 * b + j) e d'
      = Scalar.select (IntOp.cmpi CmpIPredicate.eq (BitVec.ofNat 32 (r.val / 16)) (BitVec.ofNat 32 j)) (QI (ix2 (row64 b r) (colOf h d))) 0
        * S h (4 * b + j) e d := by
  have e1 : d' = d := Fin.ext hd
  have e2 : row = row64 b r := Fin.ext (by simp only [row64]; omega)
  have e3 : col = colOf h d := Fin.ext (by simp only [colOf]; omega)
  rw [e1, e2, e3]

/-- The summand within the chunk, whatever the spelling of the row. -/
theorem oi_term (OI : FVec Ideal S256x128 .f32) (b : ℕ) (r : Fin 64) (row : Fin 256) (e : Fin 128) (hb : b < 4)
    (hr : row.val = 64 * b + r.val) : OI (ix2 row e) = OI (ix2 (row64 b r) e) := by
  have e2 : row = row64 b r := Fin.ext (by simp only [row64]; omega)
  rw [e2]

/-- The comparison of two small words. -/
theorem sel_word (a j : Fin 4) (x : EReal) :
    Scalar.select (IntOp.cmpi CmpIPredicate.eq (BitVec.ofNat 32 a.val) (BitVec.ofNat 32 j.val)) x (0 : EReal) = if a = j then x else 0 := by
  have h : ∀ a j : Fin 4, IntOp.cmpi CmpIPredicate.eq (BitVec.ofNat 32 a.val) (BitVec.ofNat 32 j.val) = if a = j then 1#1 else 0#1 := by
    decide +kernel
  rw [h]
  split_ifs <;> rfl

/-- A sum over four groups of channels of which a row's own is kept is the sum over that group. -/
theorem grp_sum (QI : FVec Ideal S256x512 .f32) (S : ℕ → ℕ → Fin 128 → Fin 128 → EReal) (h b : ℕ) (r : Fin 64) (e : Fin 128)
    (f : Fin 512 → EReal)
    (h0 : ∀ d : Fin 128, f ⟨128 * 0 + d.val, by omega⟩ = Scalar.select (IntOp.cmpi CmpIPredicate.eq (BitVec.ofNat 32 (r.val / 16)) (BitVec.ofNat 32 0)) (QI (ix2 (row64 b r) (colOf h d))) 0 * S h (4 * b + 0) e d)
    (h1 : ∀ d : Fin 128, f ⟨128 * 1 + d.val, by omega⟩ = Scalar.select (IntOp.cmpi CmpIPredicate.eq (BitVec.ofNat 32 (r.val / 16)) (BitVec.ofNat 32 1)) (QI (ix2 (row64 b r) (colOf h d))) 0 * S h (4 * b + 1) e d)
    (h2 : ∀ d : Fin 128, f ⟨128 * 2 + d.val, by omega⟩ = Scalar.select (IntOp.cmpi CmpIPredicate.eq (BitVec.ofNat 32 (r.val / 16)) (BitVec.ofNat 32 2)) (QI (ix2 (row64 b r) (colOf h d))) 0 * S h (4 * b + 2) e d)
    (h3 : ∀ d : Fin 128, f ⟨128 * 3 + d.val, by omega⟩ = Scalar.select (IntOp.cmpi CmpIPredicate.eq (BitVec.ofNat 32 (r.val / 16)) (BitVec.ofNat 32 3)) (QI (ix2 (row64 b r) (colOf h d))) 0 * S h (4 * b + 3) e d) :
    ∑ x, f x = ∑ d : Fin 128, QI (ix2 (row64 b r) (colOf h d)) * S h (4 * b + r.val / 16) e d := by
  have hf : ∀ (j : Fin 4) (d : Fin 128), f ⟨128 * j.val + d.val, by omega⟩
      = (if (⟨r.val / 16, by omega⟩ : Fin 4) = j then QI (ix2 (row64 b r) (colOf h d)) else 0) * S h (4 * b + j.val) e d := by
    intro j d
    rw [← sel_word]
    fin_cases j
    · exact h0 d
    · exact h1 d
    · exact h2 d
    · exact h3 d
  have hs : ∑ x, f x = ∑ j : Fin 4, ∑ d : Fin 128, f ⟨128 * j.val + d.val, by omega⟩ := by
    rw [Fin.sum_univ_tiles 4 128 rfl]
    refine Finset.sum_congr rfl fun j _ => Finset.sum_congr rfl fun d _ => congrArg f (Fin.ext ?_)
    simp only [Nat.mul_comm]
  rw [hs, Finset.sum_eq_single (⟨r.val / 16, by omega⟩ : Fin 4)]
  · refine Finset.sum_congr rfl fun d _ => ?_
    rw [hf, if_pos rfl]
  · intro j _ hj
    refine Finset.sum_eq_zero fun d _ => ?_
    rw [hf, if_neg (fun h => hj h.symm), zero_mul]
  · intro hn
    exact absurd (Finset.mem_univ _) hn

end Cert.Hgrn

end
-- ==== Proof.HgrnOuts.lean ====
/- Each stored block of outputs is the query times the state before its chunk, plus the sum within the chunk. -/
module

public import proofs.«01_k».proof.Proof.HgrnO

@[expose] public section

set_option maxRecDepth 16384

noncomputable section

namespace Cert.Hgrn

open Cert.KernelIdeal Cert.KernelIdeal.Gen Idealize.ShloMosaic Idealize.ShloMosaic.TcCoe Idealize.SL.Sem

/-- The stored outputs of head 0, rows from 0. -/
theorem out_0_0 (QI V K D : FVec Ideal S256x512 .f32) (s : FVec Ideal S4x128x128 .f32) (OI : FVec Ideal S256x128 .f32) : k0_pay250 OI (k0_pay245) (k0_pay246 QI) (k0_pay247 QI) (k0_pay248 QI) (k0_pay249 QI) 3#32 (stBlk V K D s 0 0) (stBlk V K D s 0 1) (stBlk V K D s 0 2) (stBlk V K D s 0 3) = oBlk QI V K D s OI 0 0 := by
  funext y
  idx_vars y
  pointwise [k0_pay246, k0_pay247, k0_pay248, k0_pay249, k0_pay250, grp_word, stBlk]
  refine (congrArg₂ (· + ·) (grp_sum QI (stE V K D s) 0 0 y1 y2 _ ?_ ?_ ?_ ?_) (oi_term OI 0 y1 _ _ (by omega) (by first | omega | (dsimp only; omega) | rfl))).trans rfl
  · intro d
    dsimp only
    split_ifs <;> first | (exfalso; omega) | exact q_term QI (stE V K D s) 0 0 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 0 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 0 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 0 y1 y2 3 _ _ _ _ (by omega) (by omega) (by first | omega | (dsimp only; omega) | rfl) (by first | omega | (dsimp only; omega) | rfl) (by first | omega | (dsimp only; omega) | rfl)

/-- The stored outputs of head 1, rows from 0. -/
theorem out_1_0 (QI V K D : FVec Ideal S256x512 .f32) (s : FVec Ideal S4x128x128 .f32) (OI : FVec Ideal S256x128 .f32) : k0_pay255 OI (k0_pay245) (k0_pay251 QI) (k0_pay252 QI (k0_pay245)) (k0_pay253 QI (k0_pay245)) (k0_pay254 (k0_pay245)) (stBlk V K D s 1 0) (stBlk V K D s 1 1) (stBlk V K D s 1 2) (stBlk V K D s 1 3) = oBlk QI V K D s OI 1 0 := by
  funext y
  idx_vars y
  pointwise [k0_pay251, k0_pay252, k0_pay253, k0_pay254, k0_pay255, grp_word, stBlk]
  refine (congrArg₂ (· + ·) (grp_sum QI (stE V K D s) 1 0 y1 y2 _ ?_ ?_ ?_ ?_) (oi_term OI 0 y1 _ _ (by omega) (by first | omega | (dsimp only; omega) | rfl))).trans rfl
  · intro d
    dsimp only
    split_ifs <;> first | (exfalso; omega) | exact q_term QI (stE V K D s) 1 0 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 0 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 0 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 0 y1 y2 3 _ _ _ _ (by omega) (by omega) (by first | omega | (dsimp only; omega) | rfl) (by first | omega | (dsimp only; omega) | rfl) (by first | omega | (dsimp only; omega) | rfl)

/-- The stored outputs of head 2, rows from 0. -/
theorem out_2_0 (QI V K D : FVec Ideal S256x512 .f32) (s : FVec Ideal S4x128x128 .f32) (OI : FVec Ideal S256x128 .f32) : k0_pay260 OI (k0_pay245) (k0_pay256 QI) (k0_pay257 QI (k0_pay245)) (k0_pay258 (k0_pay245)) (k0_pay259) (stBlk V K D s 2 0) (stBlk V K D s 2 1) (stBlk V K D s 2 2) (stBlk V K D s 2 3) = oBlk QI V K D s OI 2 0 := by
  funext y
  idx_vars y
  pointwise [k0_pay256, k0_pay257, k0_pay258, k0_pay259, k0_pay260, grp_word, stBlk]
  refine (congrArg₂ (· + ·) (grp_sum QI (stE V K D s) 2 0 y1 y2 _ ?_ ?_ ?_ ?_) (oi_term OI 0 y1 _ _ (by omega) (by first | omega | (dsimp only; omega) | rfl))).trans rfl
  · intro d
    dsimp only
    split_ifs <;> first | (exfalso; omega) | exact q_term QI (stE V K D s) 2 0 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 0 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 0 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 0 y1 y2 3 _ _ _ _ (by omega) (by omega) (by first | omega | (dsimp only; omega) | rfl) (by first | omega | (dsimp only; omega) | rfl) (by first | omega | (dsimp only; omega) | rfl)

/-- The stored outputs of head 3, rows from 0. -/
theorem out_3_0 (QI V K D : FVec Ideal S256x512 .f32) (s : FVec Ideal S4x128x128 .f32) (OI : FVec Ideal S256x128 .f32) : k0_pay263 OI (k0_pay245) (k0_pay261 QI) (k0_pay262 QI (k0_pay245)) 1#32 (stBlk V K D s 3 0) (stBlk V K D s 3 1) (stBlk V K D s 3 2) (stBlk V K D s 3 3) = oBlk QI V K D s OI 3 0 := by
  funext y
  idx_vars y
  pointwise [k0_pay261, k0_pay262, k0_pay263, grp_word, stBlk]
  refine (congrArg₂ (· + ·) (grp_sum QI (stE V K D s) 3 0 y1 y2 _ ?_ ?_ ?_ ?_) (oi_term OI 0 y1 _ _ (by omega) (by first | omega | (dsimp only; omega) | rfl))).trans rfl
  · intro d
    dsimp only
    split_ifs <;> first | (exfalso; omega) | exact q_term QI (stE V K D s) 3 0 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 0 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 0 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 0 y1 y2 3 _ _ _ _ (by omega) (by omega) (by first | omega | (dsimp only; omega) | rfl) (by first | omega | (dsimp only; omega) | rfl) (by first | omega | (dsimp only; omega) | rfl)

/-- The stored outputs of head 0, rows from 64. -/
theorem out_0_1 (QI V K D : FVec Ideal S256x512 .f32) (s : FVec Ideal S4x128x128 .f32) (OI : FVec Ideal S256x128 .f32) : k0_pay266 OI (k0_pay245) (k0_pay264 QI) (k0_pay265 (k0_pay245)) (stBlk V K D s 0 4) (stBlk V K D s 0 5) (stBlk V K D s 0 6) (stBlk V K D s 0 7) = oBlk QI V K D s OI 0 1 := by
  funext y
  idx_vars y
  pointwise [k0_pay264, k0_pay265, k0_pay266, grp_word, stBlk]
  refine (congrArg₂ (· + ·) (grp_sum QI (stE V K D s) 0 1 y1 y2 _ ?_ ?_ ?_ ?_) (oi_term OI 1 y1 _ _ (by omega) (by first | omega | (dsimp only; omega) | rfl))).trans rfl
  · intro d
    dsimp only
    split_ifs <;> first | (exfalso; omega) | exact q_term QI (stE V K D s) 0 1 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 1 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 1 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 1 y1 y2 3 _ _ _ _ (by omega) (by omega) (by first | omega | (dsimp only; omega) | rfl) (by first | omega | (dsimp only; omega) | rfl) (by first | omega | (dsimp only; omega) | rfl)

/-- The stored outputs of head 1, rows from 64. -/
theorem out_1_1 (QI V K D : FVec Ideal S256x512 .f32) (s : FVec Ideal S4x128x128 .f32) (OI : FVec Ideal S256x128 .f32) : k0_pay268 (k0_pay267 QI OI (k0_pay245) (stBlk V K D s 1 4) (stBlk V K D s 1 5) (stBlk V K D s 1 6) (stBlk V K D s 1 7)) = oBlk QI V K D s OI 1 1 := by
  funext y
  idx_vars y
  pointwise [k0_pay267, k0_pay268, grp_word, stBlk]
  refine (congrArg₂ (· + ·) (grp_sum QI (stE V K D s) 1 1 y1 y2 _ ?_ ?_ ?_ ?_) (oi_term OI 1 y1 _ _ (by omega) (by first | omega | (dsimp only; omega) | rfl))).trans rfl
  · intro d
    dsimp only
    split_ifs <;> first | (exfalso; omega) | exact q_term QI (stE V K D s) 1 1 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 1 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 1 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 1 y1 y2 3 _ _ _ _ (by omega) (by omega) (by first | omega | (dsimp only; omega) | rfl) (by first | omega | (dsimp only; omega) | rfl) (by first | omega | (dsimp only; omega) | rfl)

/-- The stored outputs of head 2, rows from 64. -/
theorem out_2_1 (QI V K D : FVec Ideal S256x512 .f32) (s : FVec Ideal S4x128x128 .f32) (OI : FVec Ideal S256x128 .f32) : k0_pay271 (k0_pay269 QI (k0_pay245) (stBlk V K D s 2 4) (stBlk V K D s 2 5) (stBlk V K D s 2 6) (stBlk V K D s 2 7)) (k0_pay270 OI) = oBlk QI V K D s OI 2 1 := by
  funext y
  idx_vars y
  pointwise [k0_pay269, k0_pay270, k0_pay271, grp_word, stBlk]
  refine (congrArg₂ (· + ·) (grp_sum QI (stE V K D s) 2 1 y1 y2 _ ?_ ?_ ?_ ?_) (oi_term OI 1 y1 _ _ (by omega) (by first | omega | (dsimp only; omega) | rfl))).trans rfl
  · intro d
    dsimp only
    split_ifs <;> first | (exfalso; omega) | exact q_term QI (stE V K D s) 2 1 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 1 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 1 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 1 y1 y2 3 _ _ _ _ (by omega) (by omega) (by first | omega | (dsimp only; omega) | rfl) (by first | omega | (dsimp only; omega) | rfl) (by first | omega | (dsimp only; omega) | rfl)

/-- The stored outputs of head 3, rows from 64. -/
theorem out_3_1 (QI V K D : FVec Ideal S256x512 .f32) (s : FVec Ideal S4x128x128 .f32) (OI : FVec Ideal S256x128 .f32) : k0_pay274 OI (k0_pay272 (stBlk V K D s 3 4) (stBlk V K D s 3 5) (stBlk V K D s 3 6) (stBlk V K D s 3 7)) (k0_pay273 QI (k0_pay245)) = oBlk QI V K D s OI 3 1 := by
  funext y
  idx_vars y
  pointwise [k0_pay272, k0_pay273, k0_pay274, grp_word, stBlk]
  refine (congrArg₂ (· + ·) (grp_sum QI (stE V K D s) 3 1 y1 y2 _ ?_ ?_ ?_ ?_) (oi_term OI 1 y1 _ _ (by omega) (by first | omega | (dsimp only; omega) | rfl))).trans rfl
  · intro d
    dsimp only
    split_ifs <;> first | (exfalso; omega) | exact q_term QI (stE V K D s) 3 1 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 1 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 1 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 1 y1 y2 3 _ _ _ _ (by omega) (by omega) (by first | omega | (dsimp only; omega) | rfl) (by first | omega | (dsimp only; omega) | rfl) (by first | omega | (dsimp only; omega) | rfl)

/-- The stored outputs of head 0, rows from 128. -/
theorem out_0_2 (QI V K D : FVec Ideal S256x512 .f32) (s : FVec Ideal S4x128x128 .f32) (OI : FVec Ideal S256x128 .f32) : k0_pay279 OI (k0_pay275 QI (k0_pay245)) (k0_pay276 (stBlk V K D s 0 8)) (k0_pay277 (stBlk V K D s 0 9)) (k0_pay278 (stBlk V K D s 0 10)) (stBlk V K D s 0 11) = oBlk QI V K D s OI 0 2 := by
  funext y
  idx_vars y
  pointwise [k0_pay275, k0_pay276, k0_pay277, k0_pay278, k0_pay279, grp_word, stBlk]
  refine (congrArg₂ (· + ·) (grp_sum QI (stE V K D s) 0 2 y1 y2 _ ?_ ?_ ?_ ?_) (oi_term OI 2 y1 _ _ (by omega) (by first | omega | (dsimp only; omega) | rfl))).trans rfl
  · intro d
    dsimp only
    split_ifs <;> first | (exfalso; omega) | exact q_term QI (stE V K D s) 0 2 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 2 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 2 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 2 y1 y2 3 _ _ _ _ (by omega) (by omega) (by first | omega | (dsimp only; omega) | rfl) (by first | omega | (dsimp only; omega) | rfl) (by first | omega | (dsimp only; omega) | rfl)

/-- The stored outputs of head 1, rows from 128. -/
theorem out_1_2 (QI V K D : FVec Ideal S256x512 .f32) (s : FVec Ideal S4x128x128 .f32) (OI : FVec Ideal S256x128 .f32) : k0_pay284 OI (k0_pay280 QI (k0_pay245)) (k0_pay281 (stBlk V K D s 1 8)) (k0_pay282 (stBlk V K D s 1 9)) (k0_pay283 (stBlk V K D s 1 10)) (stBlk V K D s 1 11) = oBlk QI V K D s OI 1 2 := by
  funext y
  idx_vars y
  pointwise [k0_pay280, k0_pay281, k0_pay282, k0_pay283, k0_pay284, grp_word, stBlk]
  refine (congrArg₂ (· + ·) (grp_sum QI (stE V K D s) 1 2 y1 y2 _ ?_ ?_ ?_ ?_) (oi_term OI 2 y1 _ _ (by omega) (by first | omega | (dsimp only; omega) | rfl))).trans rfl
  · intro d
    dsimp only
    split_ifs <;> first | (exfalso; omega) | exact q_term QI (stE V K D s) 1 2 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 2 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 2 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 2 y1 y2 3 _ _ _ _ (by omega) (by omega) (by first | omega | (dsimp only; omega) | rfl) (by first | omega | (dsimp only; omega) | rfl) (by first | omega | (dsimp only; omega) | rfl)

/-- The stored outputs of head 2, rows from 128. -/
theorem out_2_2 (QI V K D : FVec Ideal S256x512 .f32) (s : FVec Ideal S4x128x128 .f32) (OI : FVec Ideal S256x128 .f32) : k0_pay288 OI (k0_pay285 QI (k0_pay245)) (k0_pay286 (stBlk V K D s 2 8)) (k0_pay287 (stBlk V K D s 2 9)) (stBlk V K D s 2 10) (stBlk V K D s 2 11) = oBlk QI V K D s OI 2 2 := by
  funext y
  idx_vars y
  pointwise [k0_pay285, k0_pay286, k0_pay287, k0_pay288, grp_word, stBlk]
  refine (congrArg₂ (· + ·) (grp_sum QI (stE V K D s) 2 2 y1 y2 _ ?_ ?_ ?_ ?_) (oi_term OI 2 y1 _ _ (by omega) (by first | omega | (dsimp only; omega) | rfl))).trans rfl
  · intro d
    dsimp only
    split_ifs <;> first | (exfalso; omega) | exact q_term QI (stE V K D s) 2 2 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 2 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 2 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 2 y1 y2 3 _ _ _ _ (by omega) (by omega) (by first | omega | (dsimp only; omega) | rfl) (by first | omega | (dsimp only; omega) | rfl) (by first | omega | (dsimp only; omega) | rfl)

/-- The stored outputs of head 3, rows from 128. -/
theorem out_3_2 (QI V K D : FVec Ideal S256x512 .f32) (s : FVec Ideal S4x128x128 .f32) (OI : FVec Ideal S256x128 .f32) : k0_pay291 OI (k0_pay289 QI (k0_pay245)) (k0_pay290 (stBlk V K D s 3 8)) (stBlk V K D s 3 9) (stBlk V K D s 3 10) (stBlk V K D s 3 11) = oBlk QI V K D s OI 3 2 := by
  funext y
  idx_vars y
  pointwise [k0_pay289, k0_pay290, k0_pay291, grp_word, stBlk]
  refine (congrArg₂ (· + ·) (grp_sum QI (stE V K D s) 3 2 y1 y2 _ ?_ ?_ ?_ ?_) (oi_term OI 2 y1 _ _ (by omega) (by first | omega | (dsimp only; omega) | rfl))).trans rfl
  · intro d
    dsimp only
    split_ifs <;> first | (exfalso; omega) | exact q_term QI (stE V K D s) 3 2 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 2 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 2 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 2 y1 y2 3 _ _ _ _ (by omega) (by omega) (by first | omega | (dsimp only; omega) | rfl) (by first | omega | (dsimp only; omega) | rfl) (by first | omega | (dsimp only; omega) | rfl)

/-- The stored outputs of head 0, rows from 192. -/
theorem out_0_3 (QI V K D : FVec Ideal S256x512 .f32) (s : FVec Ideal S4x128x128 .f32) (OI : FVec Ideal S256x128 .f32) : k0_pay294 OI (k0_pay292 QI (k0_pay245)) (k0_pay293 (stBlk V K D s 0 12)) (stBlk V K D s 0 13) (stBlk V K D s 0 14) (stBlk V K D s 0 15) = oBlk QI V K D s OI 0 3 := by
  funext y
  idx_vars y
  pointwise [k0_pay292, k0_pay293, k0_pay294, grp_word, stBlk]
  refine (congrArg₂ (· + ·) (grp_sum QI (stE V K D s) 0 3 y1 y2 _ ?_ ?_ ?_ ?_) (oi_term OI 3 y1 _ _ (by omega) (by first | omega | (dsimp only; omega) | rfl))).trans rfl
  · intro d
    dsimp only
    split_ifs <;> first | (exfalso; omega) | exact q_term QI (stE V K D s) 0 3 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 3 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 3 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 0 3 y1 y2 3 _ _ _ _ (by omega) (by omega) (by first | omega | (dsimp only; omega) | rfl) (by first | omega | (dsimp only; omega) | rfl) (by first | omega | (dsimp only; omega) | rfl)

/-- The stored outputs of head 1, rows from 192. -/
theorem out_1_3 (QI V K D : FVec Ideal S256x512 .f32) (s : FVec Ideal S4x128x128 .f32) (OI : FVec Ideal S256x128 .f32) : k0_pay296 OI (k0_pay295 QI (k0_pay245)) (stBlk V K D s 1 12) (stBlk V K D s 1 13) (stBlk V K D s 1 14) (stBlk V K D s 1 15) = oBlk QI V K D s OI 1 3 := by
  funext y
  idx_vars y
  pointwise [k0_pay295, k0_pay296, grp_word, stBlk]
  refine (congrArg₂ (· + ·) (grp_sum QI (stE V K D s) 1 3 y1 y2 _ ?_ ?_ ?_ ?_) (oi_term OI 3 y1 _ _ (by omega) (by first | omega | (dsimp only; omega) | rfl))).trans rfl
  · intro d
    dsimp only
    split_ifs <;> first | (exfalso; omega) | exact q_term QI (stE V K D s) 1 3 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 3 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 3 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 1 3 y1 y2 3 _ _ _ _ (by omega) (by omega) (by first | omega | (dsimp only; omega) | rfl) (by first | omega | (dsimp only; omega) | rfl) (by first | omega | (dsimp only; omega) | rfl)

/-- The stored outputs of head 2, rows from 192. -/
theorem out_2_3 (QI V K D : FVec Ideal S256x512 .f32) (s : FVec Ideal S4x128x128 .f32) (OI : FVec Ideal S256x128 .f32) : k0_pay303 OI (k0_pay297 QI) (k0_pay298 QI (k0_pay245)) (k0_pay299 QI (k0_pay245)) (k0_pay300 QI (k0_pay245)) (k0_pay301 (k0_pay245)) (k0_pay302) (stBlk V K D s 2 12) (stBlk V K D s 2 13) (stBlk V K D s 2 14) (stBlk V K D s 2 15) = oBlk QI V K D s OI 2 3 := by
  funext y
  idx_vars y
  pointwise [k0_pay297, k0_pay298, k0_pay299, k0_pay300, k0_pay301, k0_pay302, k0_pay303, grp_word, stBlk]
  refine (congrArg₂ (· + ·) (grp_sum QI (stE V K D s) 2 3 y1 y2 _ ?_ ?_ ?_ ?_) (oi_term OI 3 y1 _ _ (by omega) (by first | omega | (dsimp only; omega) | rfl))).trans rfl
  · intro d
    dsimp only
    split_ifs <;> first | (exfalso; omega) | exact q_term QI (stE V K D s) 2 3 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 3 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 3 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 2 3 y1 y2 3 _ _ _ _ (by omega) (by omega) (by first | omega | (dsimp only; omega) | rfl) (by first | omega | (dsimp only; omega) | rfl) (by first | omega | (dsimp only; omega) | rfl)

/-- The stored outputs of head 3, rows from 192. -/
theorem out_3_3 (QI V K D : FVec Ideal S256x512 .f32) (s : FVec Ideal S4x128x128 .f32) (OI : FVec Ideal S256x128 .f32) : k0_pay1 OI (k0_pay308 (k0_pay245) (k0_pay304 QI) (k0_pay305 QI (k0_pay245)) (k0_pay306 QI (k0_pay245)) (k0_pay307 QI (k0_pay245)) 3#32) (stBlk V K D s 3 12) (stBlk V K D s 3 13) (stBlk V K D s 3 14) (stBlk V K D s 3 15) = oBlk QI V K D s OI 3 3 := by
  funext y
  idx_vars y
  pointwise [k0_pay1, k0_pay304, k0_pay305, k0_pay306, k0_pay307, k0_pay308, grp_word, stBlk]
  refine (congrArg₂ (· + ·) (grp_sum QI (stE V K D s) 3 3 y1 y2 _ ?_ ?_ ?_ ?_) (oi_term OI 3 y1 _ _ (by omega) (by first | omega | (dsimp only; omega) | rfl))).trans rfl
  · intro d
    dsimp only
    split_ifs <;> first | (exfalso; omega) | exact q_term QI (stE V K D s) 3 3 y1 y2 0 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 3 y1 y2 1 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 3 y1 y2 2 _ _ _ _ (by omega) (by omega) (by first | omega | (dsimp only; omega) | rfl) (by first | omega | (dsimp only; omega) | rfl) (by first | omega | (dsimp only; omega) | rfl)
  · intro d
    dsimp only
    split_ifs <;> first | (exfalso; omega) | exact q_term QI (stE V K D s) 3 3 y1 y2 3 _ _ _ _ (by omega) (by omega) (by first | omega | (dsimp only; omega) | rfl) (by first | omega | (dsimp only; omega) | rfl) (by first | omega | (dsimp only; omega) | rfl)

end Cert.Hgrn

end
-- ==== Proof.HgrnCanonOut.lean ====
/- The stored pieces of the block, put together. -/
module

public import proofs.«01_k».proof.Proof.HgrnO

@[expose] public section

set_option maxRecDepth 16384

noncomputable section

namespace Cert.Hgrn

open Cert.KernelIdeal Cert.KernelIdeal.Gen Idealize.ShloMosaic Idealize.ShloMosaic.TcCoe Idealize.SL.Sem

/-- A stored final state in the array of final states. -/
theorem stFin_at (V K D : FVec Ideal S256x512 .f32) (s : FVec Ideal S4x128x128 .f32) (h : ℕ) (x : S1x128x128.Idx) (y : S4x128x128.Idx) (h0 : (y 0).val = h)
    (h1 : (y 1).val = (x 1).val) (h2 : (y 2).val = (x 2).val) : stFin V K D s h x = stEnd V K D s y := by
  have e1 : y 1 = x 1 := Fin.ext h1
  have e2 : y 2 = x 2 := Fin.ext h2
  unfold stFin stEnd
  rw [h0, e1, e2]

/-- The four stored final states are the states after the block. -/
theorem fin_canon (V K D : FVec Ideal S256x512 .f32) (s : FVec Ideal S4x128x128 .f32) : View.canon ([⟨Rect.unit ![3, 0, 0] ![1, 128, 128] inb_S4x128x128_S1x128x128_3_0_0, stFin V K D s 3⟩,
      ⟨Rect.unit ![2, 0, 0] ![1, 128, 128] inb_S4x128x128_S1x128x128_2_0_0, stFin V K D s 2⟩,
      ⟨Rect.unit ![1, 0, 0] ![1, 128, 128] inb_S4x128x128_S1x128x128_1_0_0, stFin V K D s 1⟩,
      ⟨Rect.unit ![0, 0, 0] ![1, 128, 128] inb_S4x128x128_S1x128x128_0_0_0, stFin V K D s 0⟩] : List (View.Piece (Elt Ideal) S4x128x128 .f32)) = stEnd V K D s := by
  funext y
  canon_tiles y x
  all_goals exact stFin_at V K D s _ _ _ (by omega) (by omega) (by omega)

/-- The outputs of a block. -/
def oArr (QI V K D : FVec Ideal S256x512 .f32) (s : FVec Ideal S4x128x128 .f32) (OI : ℕ → FVec Ideal S256x128 .f32) : FVec Ideal S1x256x512 .f32 := fun y =>
  oE QI V K D s (OI ((y 2).val / 128)) ((y 2).val / 128) (y 1) ⟨(y 2).val % 128, Nat.mod_lt _ (by decide)⟩

/-- A stored block of outputs in the array of outputs. -/
theorem oBlk_at (QI V K D : FVec Ideal S256x512 .f32) (s : FVec Ideal S4x128x128 .f32) (OI : ℕ → FVec Ideal S256x128 .f32) (h b : ℕ)
    (x : S1x64x128.Idx) (y : S1x256x512.Idx) (hb : b < 4) (hh : h < 4) (h1 : (y 1).val = 64 * b + (x 1).val) (h2 : (y 2).val = 128 * h + (x 2).val) :
    oBlk QI V K D s (OI h) h b x = oArr QI V K D s OI y := by
  have b1 : (x 1).val < 64 := (x 1).isLt
  have b2 : (x 2).val < 128 := (x 2).isLt
  have e0 : (y 2).val / 128 = h := by omega
  have e1 : (⟨(y 2).val % 128, Nat.mod_lt _ (by decide)⟩ : Fin 128) = x 2 := Fin.ext (by dsimp only; omega)
  have e2 : y 1 = row64 b (x 1) := Fin.ext (by simp only [row64]; omega)
  have e3 : (row64 b (x 1)).val / 16 = 4 * b + (x 1).val / 16 := by simp only [row64]; omega
  unfold oBlk oArr oE
  rw [e1, e2, e0, e3]

/-- The sixteen stored blocks are the array of outputs. -/
theorem o_canon (QI V K D : FVec Ideal S256x512 .f32) (s : FVec Ideal S4x128x128 .f32) (OI : ℕ → FVec Ideal S256x128 .f32) : View.canon ([⟨Rect.unit ![0, 192, 384] ![1, 64, 128] inb_S1x256x512_S1x64x128_0_192_384, oBlk QI V K D s (OI 3) 3 3⟩,
      ⟨Rect.unit ![0, 192, 256] ![1, 64, 128] inb_S1x256x512_S1x64x128_0_192_256, oBlk QI V K D s (OI 2) 2 3⟩,
      ⟨Rect.unit ![0, 192, 128] ![1, 64, 128] inb_S1x256x512_S1x64x128_0_192_128, oBlk QI V K D s (OI 1) 1 3⟩,
      ⟨Rect.unit ![0, 192, 0] ![1, 64, 128] inb_S1x256x512_S1x64x128_0_192_0, oBlk QI V K D s (OI 0) 0 3⟩,
      ⟨Rect.unit ![0, 128, 384] ![1, 64, 128] inb_S1x256x512_S1x64x128_0_128_384, oBlk QI V K D s (OI 3) 3 2⟩,
      ⟨Rect.unit ![0, 128, 256] ![1, 64, 128] inb_S1x256x512_S1x64x128_0_128_256, oBlk QI V K D s (OI 2) 2 2⟩,
      ⟨Rect.unit ![0, 128, 128] ![1, 64, 128] inb_S1x256x512_S1x64x128_0_128_128, oBlk QI V K D s (OI 1) 1 2⟩,
      ⟨Rect.unit ![0, 128, 0] ![1, 64, 128] inb_S1x256x512_S1x64x128_0_128_0, oBlk QI V K D s (OI 0) 0 2⟩,
      ⟨Rect.unit ![0, 64, 384] ![1, 64, 128] inb_S1x256x512_S1x64x128_0_64_384, oBlk QI V K D s (OI 3) 3 1⟩,
      ⟨Rect.unit ![0, 64, 256] ![1, 64, 128] inb_S1x256x512_S1x64x128_0_64_256, oBlk QI V K D s (OI 2) 2 1⟩,
      ⟨Rect.unit ![0, 64, 128] ![1, 64, 128] inb_S1x256x512_S1x64x128_0_64_128, oBlk QI V K D s (OI 1) 1 1⟩,
      ⟨Rect.unit ![0, 64, 0] ![1, 64, 128] inb_S1x256x512_S1x64x128_0_64_0, oBlk QI V K D s (OI 0) 0 1⟩,
      ⟨Rect.unit ![0, 0, 384] ![1, 64, 128] inb_S1x256x512_S1x64x128_0_0_384, oBlk QI V K D s (OI 3) 3 0⟩,
      ⟨Rect.unit ![0, 0, 256] ![1, 64, 128] inb_S1x256x512_S1x64x128_0_0_256, oBlk QI V K D s (OI 2) 2 0⟩,
      ⟨Rect.unit ![0, 0, 128] ![1, 64, 128] inb_S1x256x512_S1x64x128_0_0_128, oBlk QI V K D s (OI 1) 1 0⟩,
      ⟨Rect.unit ![0, 0, 0] ![1, 64, 128] inb_S1x256x512_S1x64x128_0_0_0, oBlk QI V K D s (OI 0) 0 0⟩] : List (View.Piece (Elt Ideal) S1x256x512 .f32)) = oArr QI V K D s OI := by
  funext y
  canon_tiles y x
  all_goals exact oBlk_at QI V K D s OI _ _ _ _ (by omega) (by omega) (by omega) (by omega)

end Cert.Hgrn

end
-- ==== Proof.HgrnCanon.lean ====
/- The stored pieces of the block, put together. -/
module

public import proofs.«01_k».proof.Proof.HgrnO

@[expose] public section

set_option maxRecDepth 16384

noncomputable section

namespace Cert.Hgrn

open Cert.KernelIdeal Cert.KernelIdeal.Gen Idealize.ShloMosaic Idealize.ShloMosaic.TcCoe Idealize.SL.Sem

/-- A stored product in the array of products. -/
theorem kvBlk_at (V K : FVec Ideal S256x512 .f32) (h n : ℕ) (x : S1x1x128x128.Idx) (y : S4x16x128x128.Idx) (h0 : (y 0).val = h)
    (h1 : (y 1).val = n) (h2 : (y 2).val = (x 2).val) (h3 : (y 3).val = (x 3).val) : kvBlk V K h n x = kvArr V K y := by
  have e2 : y 2 = x 2 := Fin.ext h2
  have e3 : y 3 = x 3 := Fin.ext h3
  unfold kvBlk kvArr
  rw [h0, h1, e2, e3]

/-- A stored state in the array of states. -/
theorem stBlk_at (V K D : FVec Ideal S256x512 .f32) (s : FVec Ideal S4x128x128 .f32) (h n : ℕ) (x : S1x1x128x128.Idx) (y : S4x16x128x128.Idx) (h0 : (y 0).val = h)
    (h1 : (y 1).val = n) (h2 : (y 2).val = (x 2).val) (h3 : (y 3).val = (x 3).val) : stBlk V K D s h n x = stArr V K D s y := by
  have e2 : y 2 = x 2 := Fin.ext h2
  have e3 : y 3 = x 3 := Fin.ext h3
  unfold stBlk stArr
  rw [h0, h1, e2, e3]

/-- The 64 stored products are the array of products. -/
theorem kv_canon (V K : FVec Ideal S256x512 .f32) : View.canon ([⟨Rect.unit ![3, 15, 0, 0] ![1, 1, 128, 128] inb_S4x16x128x128_S1x1x128x128_3_15_0_0, kvBlk V K 3 15⟩,
      ⟨Rect.unit ![2, 15, 0, 0] ![1, 1, 128, 128] inb_S4x16x128x128_S1x1x128x128_2_15_0_0, kvBlk V K 2 15⟩,
      ⟨Rect.unit ![1, 15, 0, 0] ![1, 1, 128, 128] inb_S4x16x128x128_S1x1x128x128_1_15_0_0, kvBlk V K 1 15⟩,
      ⟨Rect.unit ![0, 15, 0, 0] ![1, 1, 128, 128] inb_S4x16x128x128_S1x1x128x128_0_15_0_0, kvBlk V K 0 15⟩,
      ⟨Rect.unit ![3, 14, 0, 0] ![1, 1, 128, 128] inb_S4x16x128x128_S1x1x128x128_3_14_0_0, kvBlk V K 3 14⟩,
      ⟨Rect.unit ![2, 14, 0, 0] ![1, 1, 128, 128] inb_S4x16x128x128_S1x1x128x128_2_14_0_0, kvBlk V K 2 14⟩,
      ⟨Rect.unit ![1, 14, 0, 0] ![1, 1, 128, 128] inb_S4x16x128x128_S1x1x128x128_1_14_0_0, kvBlk V K 1 14⟩,
      ⟨Rect.unit ![0, 14, 0, 0] ![1, 1, 128, 128] inb_S4x16x128x128_S1x1x128x128_0_14_0_0, kvBlk V K 0 14⟩,
      ⟨Rect.unit ![3, 13, 0, 0] ![1, 1, 128, 128] inb_S4x16x128x128_S1x1x128x128_3_13_0_0, kvBlk V K 3 13⟩,
      ⟨Rect.unit ![2, 13, 0, 0] ![1, 1, 128, 128] inb_S4x16x128x128_S1x1x128x128_2_13_0_0, kvBlk V K 2 13⟩,
      ⟨Rect.unit ![1, 13, 0, 0] ![1, 1, 128, 128] inb_S4x16x128x128_S1x1x128x128_1_13_0_0, kvBlk V K 1 13⟩,
      ⟨Rect.unit ![0, 13, 0, 0] ![1, 1, 128, 128] inb_S4x16x128x128_S1x1x128x128_0_13_0_0, kvBlk V K 0 13⟩,
      ⟨Rect.unit ![3, 12, 0, 0] ![1, 1, 128, 128] inb_S4x16x128x128_S1x1x128x128_3_12_0_0, kvBlk V K 3 12⟩,
      ⟨Rect.unit ![2, 12, 0, 0] ![1, 1, 128, 128] inb_S4x16x128x128_S1x1x128x128_2_12_0_0, kvBlk V K 2 12⟩,
      ⟨Rect.unit ![1, 12, 0, 0] ![1, 1, 128, 128] inb_S4x16x128x128_S1x1x128x128_1_12_0_0, kvBlk V K 1 12⟩,
      ⟨Rect.unit ![0, 12, 0, 0] ![1, 1, 128, 128] inb_S4x16x128x128_S1x1x128x128_0_12_0_0, kvBlk V K 0 12⟩,
      ⟨Rect.unit ![3, 11, 0, 0] ![1, 1, 128, 128] inb_S4x16x128x128_S1x1x128x128_3_11_0_0, kvBlk V K 3 11⟩,
      ⟨Rect.unit ![2, 11, 0, 0] ![1, 1, 128, 128] inb_S4x16x128x128_S1x1x128x128_2_11_0_0, kvBlk V K 2 11⟩,
      ⟨Rect.unit ![1, 11, 0, 0] ![1, 1, 128, 128] inb_S4x16x128x128_S1x1x128x128_1_11_0_0, kvBlk V K 1 11⟩,
      ⟨Rect.unit ![0, 11, 0, 0] ![1, 1, 128, 128] inb_S4x16x128x128_S1x1x128x128_0_11_0_0, kvBlk V K 0 11⟩,
      ⟨Rect.unit ![3, 10, 0, 0] ![1, 1, 128, 128] inb_S4x16x128x128_S1x1x128x128_3_10_0_0, kvBlk V K 3 10⟩,
      ⟨Rect.unit ![2, 10, 0, 0] ![1, 1, 128, 128] inb_S4x16x128x128_S1x1x128x128_2_10_0_0, kvBlk V K 2 10⟩,
      ⟨Rect.unit ![1, 10, 0, 0] ![1, 1, 128, 128] inb_S4x16x128x128_S1x1x128x128_1_10_0_0, kvBlk V K 1 10⟩,
      ⟨Rect.unit ![0, 10, 0, 0] ![1, 1, 128, 128] inb_S4x16x128x128_S1x1x128x128_0_10_0_0, kvBlk V K 0 10⟩,
      ⟨Rect.unit ![3, 9, 0, 0] ![1, 1, 128, 128] inb_S4x16x128x128_S1x1x128x128_3_9_0_0, kvBlk V K 3 9⟩,
      ⟨Rect.unit ![2, 9, 0, 0] ![1, 1, 128, 128] inb_S4x16x128x128_S1x1x128x128_2_9_0_0, kvBlk V K 2 9⟩,
      ⟨Rect.unit ![1, 9, 0, 0] ![1, 1, 128, 128] inb_S4x16x128x128_S1x1x128x128_1_9_0_0, kvBlk V K 1 9⟩,
      ⟨Rect.unit ![0, 9, 0, 0] ![1, 1, 128, 128] inb_S4x16x128x128_S1x1x128x128_0_9_0_0, kvBlk V K 0 9⟩,
      ⟨Rect.unit ![3, 8, 0, 0] ![1, 1, 128, 128] inb_S4x16x128x128_S1x1x128x128_3_8_0_0, kvBlk V K 3 8⟩,
      ⟨Rect.unit ![2, 8, 0, 0] ![1, 1, 128, 128] inb_S4x16x128x128_S1x1x128x128_2_8_0_0, kvBlk V K 2 8⟩,
      ⟨Rect.unit ![1, 8, 0, 0] ![1, 1, 128, 128] inb_S4x16x128x128_S1x1x128x128_1_8_0_0, kvBlk V K 1 8⟩,
      ⟨Rect.unit ![0, 8, 0, 0] ![1, 1, 128, 128] inb_S4x16x128x128_S1x1x128x128_0_8_0_0, kvBlk V K 0 8⟩,
      ⟨Rect.unit ![3, 7, 0, 0] ![1, 1, 128, 128] inb_S4x16x128x128_S1x1x128x128_3_7_0_0, kvBlk V K 3 7⟩,
      ⟨Rect.unit ![2, 7, 0, 0] ![1, 1, 128, 128] inb_S4x16x128x128_S1x1x128x128_2_7_0_0, kvBlk V K 2 7⟩,
      ⟨Rect.unit ![1, 7, 0, 0] ![1, 1, 128, 128] inb_S4x16x128x128_S1x1x128x128_1_7_0_0, kvBlk V K 1 7⟩,
      ⟨Rect.unit ![0, 7, 0, 0] ![1, 1, 128, 128] inb_S4x16x128x128_S1x1x128x128_0_7_0_0, kvBlk V K 0 7⟩,
      ⟨Rect.unit ![3, 6, 0, 0] ![1, 1, 128, 128] inb_S4x16x128x128_S1x1x128x128_3_6_0_0, kvBlk V K 3 6⟩,
      ⟨Rect.unit ![2, 6, 0, 0] ![1, 1, 128, 128] inb_S4x16x128x128_S1x1x128x128_2_6_0_0, kvBlk V K 2 6⟩,
      ⟨Rect.unit ![1, 6, 0, 0] ![1, 1, 128, 128] inb_S4x16x128x128_S1x1x128x128_1_6_0_0, kvBlk V K 1 6⟩,
      ⟨Rect.unit ![0, 6, 0, 0] ![1, 1, 128, 128] inb_S4x16x128x128_S1x1x128x128_0_6_0_0, kvBlk V K 0 6⟩,
      ⟨Rect.unit ![3, 5, 0, 0] ![1, 1, 128, 128] inb_S4x16x128x128_S1x1x128x128_3_5_0_0, kvBlk V K 3 5⟩,
      ⟨Rect.unit ![2, 5, 0, 0] ![1, 1, 128, 128] inb_S4x16x128x128_S1x1x128x128_2_5_0_0, kvBlk V K 2 5⟩,
      ⟨Rect.unit ![1, 5, 0, 0] ![1, 1, 128, 128] inb_S4x16x128x128_S1x1x128x128_1_5_0_0, kvBlk V K 1 5⟩,
      ⟨Rect.unit ![0, 5, 0, 0] ![1, 1, 128, 128] inb_S4x16x128x128_S1x1x128x128_0_5_0_0, kvBlk V K 0 5⟩,
      ⟨Rect.unit ![3, 4, 0, 0] ![1, 1, 128, 128] inb_S4x16x128x128_S1x1x128x128_3_4_0_0, kvBlk V K 3 4⟩,
      ⟨Rect.unit ![2, 4, 0, 0] ![1, 1, 128, 128] inb_S4x16x128x128_S1x1x128x128_2_4_0_0, kvBlk V K 2 4⟩,
      ⟨Rect.unit ![1, 4, 0, 0] ![1, 1, 128, 128] inb_S4x16x128x128_S1x1x128x128_1_4_0_0, kvBlk V K 1 4⟩,
      ⟨Rect.unit ![0, 4, 0, 0] ![1, 1, 128, 128] inb_S4x16x128x128_S1x1x128x128_0_4_0_0, kvBlk V K 0 4⟩,
      ⟨Rect.unit ![3, 3, 0, 0] ![1, 1, 128, 128] inb_S4x16x128x128_S1x1x128x128_3_3_0_0, kvBlk V K 3 3⟩,
      ⟨Rect.unit ![2, 3, 0, 0] ![1, 1, 128, 128] inb_S4x16x128x128_S1x1x128x128_2_3_0_0, kvBlk V K 2 3⟩,
      ⟨Rect.unit ![1, 3, 0, 0] ![1, 1, 128, 128] inb_S4x16x128x128_S1x1x128x128_1_3_0_0, kvBlk V K 1 3⟩,
      ⟨Rect.unit ![0, 3, 0, 0] ![1, 1, 128, 128] inb_S4x16x128x128_S1x1x128x128_0_3_0_0, kvBlk V K 0 3⟩,
      ⟨Rect.unit ![3, 2, 0, 0] ![1, 1, 128, 128] inb_S4x16x128x128_S1x1x128x128_3_2_0_0, kvBlk V K 3 2⟩,
      ⟨Rect.unit ![2, 2, 0, 0] ![1, 1, 128, 128] inb_S4x16x128x128_S1x1x128x128_2_2_0_0, kvBlk V K 2 2⟩,
      ⟨Rect.unit ![1, 2, 0, 0] ![1, 1, 128, 128] inb_S4x16x128x128_S1x1x128x128_1_2_0_0, kvBlk V K 1 2⟩,
      ⟨Rect.unit ![0, 2, 0, 0] ![1, 1, 128, 128] inb_S4x16x128x128_S1x1x128x128_0_2_0_0, kvBlk V K 0 2⟩,
      ⟨Rect.unit ![3, 1, 0, 0] ![1, 1, 128, 128] inb_S4x16x128x128_S1x1x128x128_3_1_0_0, kvBlk V K 3 1⟩,
      ⟨Rect.unit ![2, 1, 0, 0] ![1, 1, 128, 128] inb_S4x16x128x128_S1x1x128x128_2_1_0_0, kvBlk V K 2 1⟩,
      ⟨Rect.unit ![1, 1, 0, 0] ![1, 1, 128, 128] inb_S4x16x128x128_S1x1x128x128_1_1_0_0, kvBlk V K 1 1⟩,
      ⟨Rect.unit ![0, 1, 0, 0] ![1, 1, 128, 128] inb_S4x16x128x128_S1x1x128x128_0_1_0_0, kvBlk V K 0 1⟩,
      ⟨Rect.unit ![3, 0, 0, 0] ![1, 1, 128, 128] inb_S4x16x128x128_S1x1x128x128_3_0_0_0, kvBlk V K 3 0⟩,
      ⟨Rect.unit ![2, 0, 0, 0] ![1, 1, 128, 128] inb_S4x16x128x128_S1x1x128x128_2_0_0_0, kvBlk V K 2 0⟩,
      ⟨Rect.unit ![1, 0, 0, 0] ![1, 1, 128, 128] inb_S4x16x128x128_S1x1x128x128_1_0_0_0, kvBlk V K 1 0⟩,
      ⟨Rect.unit ![0, 0, 0, 0] ![1, 1, 128, 128] inb_S4x16x128x128_S1x1x128x128_0_0_0_0, kvBlk V K 0 0⟩] : List (View.Piece (Elt Ideal) S4x16x128x128 .f32)) = kvArr V K := by
  funext y
  canon_tiles y x
  all_goals exact kvBlk_at V K _ _ _ _ (by omega) (by omega) (by omega) (by omega)

/-- The 64 stored states are the array of states. -/
theorem st_canon (V K D : FVec Ideal S256x512 .f32) (s : FVec Ideal S4x128x128 .f32) : View.canon ([⟨Rect.unit ![3, 15, 0, 0] ![1, 1, 128, 128] inb_S4x16x128x128_S1x1x128x128_3_15_0_0, stBlk V K D s 3 15⟩,
      ⟨Rect.unit ![2, 15, 0, 0] ![1, 1, 128, 128] inb_S4x16x128x128_S1x1x128x128_2_15_0_0, stBlk V K D s 2 15⟩,
      ⟨Rect.unit ![1, 15, 0, 0] ![1, 1, 128, 128] inb_S4x16x128x128_S1x1x128x128_1_15_0_0, stBlk V K D s 1 15⟩,
      ⟨Rect.unit ![0, 15, 0, 0] ![1, 1, 128, 128] inb_S4x16x128x128_S1x1x128x128_0_15_0_0, stBlk V K D s 0 15⟩,
      ⟨Rect.unit ![3, 14, 0, 0] ![1, 1, 128, 128] inb_S4x16x128x128_S1x1x128x128_3_14_0_0, stBlk V K D s 3 14⟩,
      ⟨Rect.unit ![2, 14, 0, 0] ![1, 1, 128, 128] inb_S4x16x128x128_S1x1x128x128_2_14_0_0, stBlk V K D s 2 14⟩,
      ⟨Rect.unit ![1, 14, 0, 0] ![1, 1, 128, 128] inb_S4x16x128x128_S1x1x128x128_1_14_0_0, stBlk V K D s 1 14⟩,
      ⟨Rect.unit ![0, 14, 0, 0] ![1, 1, 128, 128] inb_S4x16x128x128_S1x1x128x128_0_14_0_0, stBlk V K D s 0 14⟩,
      ⟨Rect.unit ![3, 13, 0, 0] ![1, 1, 128, 128] inb_S4x16x128x128_S1x1x128x128_3_13_0_0, stBlk V K D s 3 13⟩,
      ⟨Rect.unit ![2, 13, 0, 0] ![1, 1, 128, 128] inb_S4x16x128x128_S1x1x128x128_2_13_0_0, stBlk V K D s 2 13⟩,
      ⟨Rect.unit ![1, 13, 0, 0] ![1, 1, 128, 128] inb_S4x16x128x128_S1x1x128x128_1_13_0_0, stBlk V K D s 1 13⟩,
      ⟨Rect.unit ![0, 13, 0, 0] ![1, 1, 128, 128] inb_S4x16x128x128_S1x1x128x128_0_13_0_0, stBlk V K D s 0 13⟩,
      ⟨Rect.unit ![3, 12, 0, 0] ![1, 1, 128, 128] inb_S4x16x128x128_S1x1x128x128_3_12_0_0, stBlk V K D s 3 12⟩,
      ⟨Rect.unit ![2, 12, 0, 0] ![1, 1, 128, 128] inb_S4x16x128x128_S1x1x128x128_2_12_0_0, stBlk V K D s 2 12⟩,
      ⟨Rect.unit ![1, 12, 0, 0] ![1, 1, 128, 128] inb_S4x16x128x128_S1x1x128x128_1_12_0_0, stBlk V K D s 1 12⟩,
      ⟨Rect.unit ![0, 12, 0, 0] ![1, 1, 128, 128] inb_S4x16x128x128_S1x1x128x128_0_12_0_0, stBlk V K D s 0 12⟩,
      ⟨Rect.unit ![3, 11, 0, 0] ![1, 1, 128, 128] inb_S4x16x128x128_S1x1x128x128_3_11_0_0, stBlk V K D s 3 11⟩,
      ⟨Rect.unit ![2, 11, 0, 0] ![1, 1, 128, 128] inb_S4x16x128x128_S1x1x128x128_2_11_0_0, stBlk V K D s 2 11⟩,
      ⟨Rect.unit ![1, 11, 0, 0] ![1, 1, 128, 128] inb_S4x16x128x128_S1x1x128x128_1_11_0_0, stBlk V K D s 1 11⟩,
      ⟨Rect.unit ![0, 11, 0, 0] ![1, 1, 128, 128] inb_S4x16x128x128_S1x1x128x128_0_11_0_0, stBlk V K D s 0 11⟩,
      ⟨Rect.unit ![3, 10, 0, 0] ![1, 1, 128, 128] inb_S4x16x128x128_S1x1x128x128_3_10_0_0, stBlk V K D s 3 10⟩,
      ⟨Rect.unit ![2, 10, 0, 0] ![1, 1, 128, 128] inb_S4x16x128x128_S1x1x128x128_2_10_0_0, stBlk V K D s 2 10⟩,
      ⟨Rect.unit ![1, 10, 0, 0] ![1, 1, 128, 128] inb_S4x16x128x128_S1x1x128x128_1_10_0_0, stBlk V K D s 1 10⟩,
      ⟨Rect.unit ![0, 10, 0, 0] ![1, 1, 128, 128] inb_S4x16x128x128_S1x1x128x128_0_10_0_0, stBlk V K D s 0 10⟩,
      ⟨Rect.unit ![3, 9, 0, 0] ![1, 1, 128, 128] inb_S4x16x128x128_S1x1x128x128_3_9_0_0, stBlk V K D s 3 9⟩,
      ⟨Rect.unit ![2, 9, 0, 0] ![1, 1, 128, 128] inb_S4x16x128x128_S1x1x128x128_2_9_0_0, stBlk V K D s 2 9⟩,
      ⟨Rect.unit ![1, 9, 0, 0] ![1, 1, 128, 128] inb_S4x16x128x128_S1x1x128x128_1_9_0_0, stBlk V K D s 1 9⟩,
      ⟨Rect.unit ![0, 9, 0, 0] ![1, 1, 128, 128] inb_S4x16x128x128_S1x1x128x128_0_9_0_0, stBlk V K D s 0 9⟩,
      ⟨Rect.unit ![3, 8, 0, 0] ![1, 1, 128, 128] inb_S4x16x128x128_S1x1x128x128_3_8_0_0, stBlk V K D s 3 8⟩,
      ⟨Rect.unit ![2, 8, 0, 0] ![1, 1, 128, 128] inb_S4x16x128x128_S1x1x128x128_2_8_0_0, stBlk V K D s 2 8⟩,
      ⟨Rect.unit ![1, 8, 0, 0] ![1, 1, 128, 128] inb_S4x16x128x128_S1x1x128x128_1_8_0_0, stBlk V K D s 1 8⟩,
      ⟨Rect.unit ![0, 8, 0, 0] ![1, 1, 128, 128] inb_S4x16x128x128_S1x1x128x128_0_8_0_0, stBlk V K D s 0 8⟩,
      ⟨Rect.unit ![3, 7, 0, 0] ![1, 1, 128, 128] inb_S4x16x128x128_S1x1x128x128_3_7_0_0, stBlk V K D s 3 7⟩,
      ⟨Rect.unit ![2, 7, 0, 0] ![1, 1, 128, 128] inb_S4x16x128x128_S1x1x128x128_2_7_0_0, stBlk V K D s 2 7⟩,
      ⟨Rect.unit ![1, 7, 0, 0] ![1, 1, 128, 128] inb_S4x16x128x128_S1x1x128x128_1_7_0_0, stBlk V K D s 1 7⟩,
      ⟨Rect.unit ![0, 7, 0, 0] ![1, 1, 128, 128] inb_S4x16x128x128_S1x1x128x128_0_7_0_0, stBlk V K D s 0 7⟩,
      ⟨Rect.unit ![3, 6, 0, 0] ![1, 1, 128, 128] inb_S4x16x128x128_S1x1x128x128_3_6_0_0, stBlk V K D s 3 6⟩,
      ⟨Rect.unit ![2, 6, 0, 0] ![1, 1, 128, 128] inb_S4x16x128x128_S1x1x128x128_2_6_0_0, stBlk V K D s 2 6⟩,
      ⟨Rect.unit ![1, 6, 0, 0] ![1, 1, 128, 128] inb_S4x16x128x128_S1x1x128x128_1_6_0_0, stBlk V K D s 1 6⟩,
      ⟨Rect.unit ![0, 6, 0, 0] ![1, 1, 128, 128] inb_S4x16x128x128_S1x1x128x128_0_6_0_0, stBlk V K D s 0 6⟩,
      ⟨Rect.unit ![3, 5, 0, 0] ![1, 1, 128, 128] inb_S4x16x128x128_S1x1x128x128_3_5_0_0, stBlk V K D s 3 5⟩,
      ⟨Rect.unit ![2, 5, 0, 0] ![1, 1, 128, 128] inb_S4x16x128x128_S1x1x128x128_2_5_0_0, stBlk V K D s 2 5⟩,
      ⟨Rect.unit ![1, 5, 0, 0] ![1, 1, 128, 128] inb_S4x16x128x128_S1x1x128x128_1_5_0_0, stBlk V K D s 1 5⟩,
      ⟨Rect.unit ![0, 5, 0, 0] ![1, 1, 128, 128] inb_S4x16x128x128_S1x1x128x128_0_5_0_0, stBlk V K D s 0 5⟩,
      ⟨Rect.unit ![3, 4, 0, 0] ![1, 1, 128, 128] inb_S4x16x128x128_S1x1x128x128_3_4_0_0, stBlk V K D s 3 4⟩,
      ⟨Rect.unit ![2, 4, 0, 0] ![1, 1, 128, 128] inb_S4x16x128x128_S1x1x128x128_2_4_0_0, stBlk V K D s 2 4⟩,
      ⟨Rect.unit ![1, 4, 0, 0] ![1, 1, 128, 128] inb_S4x16x128x128_S1x1x128x128_1_4_0_0, stBlk V K D s 1 4⟩,
      ⟨Rect.unit ![0, 4, 0, 0] ![1, 1, 128, 128] inb_S4x16x128x128_S1x1x128x128_0_4_0_0, stBlk V K D s 0 4⟩,
      ⟨Rect.unit ![3, 3, 0, 0] ![1, 1, 128, 128] inb_S4x16x128x128_S1x1x128x128_3_3_0_0, stBlk V K D s 3 3⟩,
      ⟨Rect.unit ![2, 3, 0, 0] ![1, 1, 128, 128] inb_S4x16x128x128_S1x1x128x128_2_3_0_0, stBlk V K D s 2 3⟩,
      ⟨Rect.unit ![1, 3, 0, 0] ![1, 1, 128, 128] inb_S4x16x128x128_S1x1x128x128_1_3_0_0, stBlk V K D s 1 3⟩,
      ⟨Rect.unit ![0, 3, 0, 0] ![1, 1, 128, 128] inb_S4x16x128x128_S1x1x128x128_0_3_0_0, stBlk V K D s 0 3⟩,
      ⟨Rect.unit ![3, 2, 0, 0] ![1, 1, 128, 128] inb_S4x16x128x128_S1x1x128x128_3_2_0_0, stBlk V K D s 3 2⟩,
      ⟨Rect.unit ![2, 2, 0, 0] ![1, 1, 128, 128] inb_S4x16x128x128_S1x1x128x128_2_2_0_0, stBlk V K D s 2 2⟩,
      ⟨Rect.unit ![1, 2, 0, 0] ![1, 1, 128, 128] inb_S4x16x128x128_S1x1x128x128_1_2_0_0, stBlk V K D s 1 2⟩,
      ⟨Rect.unit ![0, 2, 0, 0] ![1, 1, 128, 128] inb_S4x16x128x128_S1x1x128x128_0_2_0_0, stBlk V K D s 0 2⟩,
      ⟨Rect.unit ![3, 1, 0, 0] ![1, 1, 128, 128] inb_S4x16x128x128_S1x1x128x128_3_1_0_0, stBlk V K D s 3 1⟩,
      ⟨Rect.unit ![2, 1, 0, 0] ![1, 1, 128, 128] inb_S4x16x128x128_S1x1x128x128_2_1_0_0, stBlk V K D s 2 1⟩,
      ⟨Rect.unit ![1, 1, 0, 0] ![1, 1, 128, 128] inb_S4x16x128x128_S1x1x128x128_1_1_0_0, stBlk V K D s 1 1⟩,
      ⟨Rect.unit ![0, 1, 0, 0] ![1, 1, 128, 128] inb_S4x16x128x128_S1x1x128x128_0_1_0_0, stBlk V K D s 0 1⟩,
      ⟨Rect.unit ![3, 0, 0, 0] ![1, 1, 128, 128] inb_S4x16x128x128_S1x1x128x128_3_0_0_0, stBlk V K D s 3 0⟩,
      ⟨Rect.unit ![2, 0, 0, 0] ![1, 1, 128, 128] inb_S4x16x128x128_S1x1x128x128_2_0_0_0, stBlk V K D s 2 0⟩,
      ⟨Rect.unit ![1, 0, 0, 0] ![1, 1, 128, 128] inb_S4x16x128x128_S1x1x128x128_1_0_0_0, stBlk V K D s 1 0⟩,
      ⟨Rect.unit ![0, 0, 0, 0] ![1, 1, 128, 128] inb_S4x16x128x128_S1x1x128x128_0_0_0_0, stBlk V K D s 0 0⟩] : List (View.Piece (Elt Ideal) S4x16x128x128 .f32)) = stArr V K D s := by
  funext y
  canon_tiles y x
  all_goals exact stBlk_at V K D s _ _ _ _ (by omega) (by omega) (by omega) (by omega)

end Cert.Hgrn

end
-- ==== Proof.HgrnReads.lean ====
/- Reading back the pieces a block has stored. -/
module

public import proofs.«01_k».proof.Proof.HgrnCanon

@[expose] public section

set_option maxRecDepth 16384

noncomputable section

namespace Cert.Hgrn

open Cert.KernelIdeal Cert.KernelIdeal.Gen Idealize.ShloMosaic Idealize.ShloMosaic.TcCoe Idealize.SL.Sem

/-- Reading a product back. -/
theorem kv_read (V K : FVec Ideal S256x512 .f32) (off : Fin 4 → ℕ) (inb) :
    (fun j => kvArr V K ((Rect.unit (s := S4x16x128x128) off ![1, 1, 128, 128] inb).toLoadRect.idx j)) = kvBlk V K (off 0) (off 1) := by
  funext j
  have i0 := inb 0
  have i1 := inb 1
  have i2 := inb 2
  have i3 := inb 3
  refine (kvBlk_at V K _ _ j _ ?_ ?_ ?_ ?_).symm
  all_goals
    simp at *
    try omega

/-- Reading a state back. -/
theorem st_read (V K D : FVec Ideal S256x512 .f32) (s : FVec Ideal S4x128x128 .f32) (off : Fin 4 → ℕ) (inb) :
    (fun j => stArr V K D s ((Rect.unit (s := S4x16x128x128) off ![1, 1, 128, 128] inb).toLoadRect.idx j)) = stBlk V K D s (off 0) (off 1) := by
  funext j
  have i0 := inb 0
  have i1 := inb 1
  have i2 := inb 2
  have i3 := inb 3
  refine (stBlk_at V K D s _ _ j _ ?_ ?_ ?_ ?_).symm
  all_goals
    simp at *
    try omega

/-- Loading one head's state. -/
theorem ld_read (s : FVec Ideal S4x128x128 .f32) (off : Fin 3 → ℕ) (inb) :
    View.ld (Val := Elt Ideal) (e' := .f32) s (Rect.unit (s := S4x128x128) off ![1, 128, 128] inb) = ldHd s (off 0) := by
  funext j
  have i0 := inb 0
  have i1 := inb 1
  have i2 := inb 2
  rw [View.ld_apply]
  unfold ldHd
  refine congrArg s ?_
  funext a
  fin_cases a
  · refine Fin.ext ?_
    simp [hdOf] at *
    omega
  · refine Fin.ext ?_
    simp at *
    omega
  · refine Fin.ext ?_
    simp at *
    omega

end Cert.Hgrn

end
-- ==== Proof.HgrnBlockA.lean ====
/- One grid point of the recurrence: the state it leaves and the outputs it writes. -/
module

public import Idealize.ShloMosaic.Lib.Pipeline.CanonAppend
public import proofs.«01_k».proof.Proof.HgrnKv
public import proofs.«01_k».proof.Proof.HgrnSteps
public import proofs.«01_k».proof.Proof.HgrnOuts
public import proofs.«01_k».proof.Proof.HgrnCanonOut
public import proofs.«01_k».proof.Proof.HgrnReads

@[expose] public section

set_option maxRecDepth 16384

noncomputable section

namespace Cert.Hgrn

open Cert.KernelIdeal Cert.KernelIdeal.Gen Idealize.ShloMosaic Idealize.ShloMosaic.TcCoe Idealize.SL.Sem

set_option maxHeartbeats 4000000

/-- The sums within the chunk, per head, as the block computes them. -/
def oiArr (x0 x1 x2 : FVec Ideal S1x256x512 .f32) (x3 : FVec Ideal S1x512 .f32) : ℕ → FVec Ideal S256x128 .f32
  | 0 => k0_pay17 (k0_pay5 x3 x1) k0_pay6 (k0_pay7 x3 x1) (k0_pay9 x0) x2
  | 1 => k0_pay20 (k0_pay18 (k0_pay5 x3 x1) k0_pay6 (k0_pay7 x3 x1) (k0_pay9 x0)) (k0_pay19 x2)
  | 2 => k0_pay21 (k0_pay14 x2) (k0_pay15 (k0_pay5 x3 x1) k0_pay6 (k0_pay7 x3 x1) (k0_pay9 x0))
  | _ + 3 => k0_pay22 (k0_pay14 x2) (k0_pay16 (k0_pay5 x3 x1) k0_pay6 (k0_pay7 x3 x1) (k0_pay9 x0))

/-- The block's decayed keys. -/
def kArr (x1 : FVec Ideal S1x256x512 .f32) (x3 : FVec Ideal S1x512 .f32) : FVec Ideal S256x512 .f32 :=
  k0_pay12 (k0_pay5 x3 x1) (k0_pay7 x3 x1) (k0_pay8 x3 x1)

/-- The block's chunk decays. -/
def dArr (x1 : FVec Ideal S1x256x512 .f32) (x3 : FVec Ideal S1x512 .f32) : FVec Ideal S256x512 .f32 := k0_pay13 (k0_pay8 x3 x1)

/-- The state a block leaves. -/
def endArr (x1 x2 : FVec Ideal S1x256x512 .f32) (x3 : FVec Ideal S1x512 .f32) (s : FVec Ideal S4x128x128 .f32) : FVec Ideal S4x128x128 .f32 :=
  stEnd (k0_pay14 x2) (kArr x1 x3) (dArr x1 x3) s

/-- The outputs of a block. -/
def outArr (x0 x1 x2 : FVec Ideal S1x256x512 .f32) (x3 : FVec Ideal S1x512 .f32) (s : FVec Ideal S4x128x128 .f32) : FVec Ideal S1x256x512 .f32 :=
  oArr (k0_pay10 (k0_pay7 x3 x1) (k0_pay9 x0)) (k0_pay14 x2) (kArr x1 x3) (dArr x1 x3) s (oiArr x0 x1 x2 x3)

/-- One whole stored piece is what was stored. -/
theorem canon_whole (w : FVec Ideal S4x128x128 .f32) (inb) :
    View.canon ([⟨Rect.unit ![0, 0, 0] ![4, 128, 128] inb, w⟩] : List (View.Piece (Elt Ideal) S4x128x128 .f32)) = w := by
  exact View.canon_unit_zero (Val := Elt Ideal) (e := .f32) (S := S4x128x128) (by funext a; fin_cases a <;> rfl) inb w

/-- The four stored final states over an earlier whole piece are the states after the block. -/
theorem fin_canon_init (V K D : FVec Ideal S256x512 .f32) (s w : FVec Ideal S4x128x128 .f32) (inb) :
    View.canon ([⟨Rect.unit ![3, 0, 0] ![1, 128, 128] inb_S4x128x128_S1x128x128_3_0_0, stFin V K D s 3⟩,
      ⟨Rect.unit ![2, 0, 0] ![1, 128, 128] inb_S4x128x128_S1x128x128_2_0_0, stFin V K D s 2⟩,
      ⟨Rect.unit ![1, 0, 0] ![1, 128, 128] inb_S4x128x128_S1x128x128_1_0_0, stFin V K D s 1⟩,
      ⟨Rect.unit ![0, 0, 0] ![1, 128, 128] inb_S4x128x128_S1x128x128_0_0_0, stFin V K D s 0⟩,
      ⟨Rect.unit ![0, 0, 0] ![4, 128, 128] inb, w⟩] : List (View.Piece (Elt Ideal) S4x128x128 .f32)) = stEnd V K D s := by
  funext y
  refine View.canon_append_of_pieces (stEnd V K D s) ([⟨Rect.unit ![0, 0, 0] ![4, 128, 128] inb, w⟩] : List (View.Piece (Elt Ideal) S4x128x128 .f32))
    ([⟨Rect.unit ![3, 0, 0] ![1, 128, 128] inb_S4x128x128_S1x128x128_3_0_0, stFin V K D s 3⟩,
      ⟨Rect.unit ![2, 0, 0] ![1, 128, 128] inb_S4x128x128_S1x128x128_2_0_0, stFin V K D s 2⟩,
      ⟨Rect.unit ![1, 0, 0] ![1, 128, 128] inb_S4x128x128_S1x128x128_1_0_0, stFin V K D s 1⟩,
      ⟨Rect.unit ![0, 0, 0] ![1, 128, 128] inb_S4x128x128_S1x128x128_0_0_0, stFin V K D s 0⟩] : List (View.Piece (Elt Ideal) S4x128x128 .f32)) ?_ y (View.cover_of_tiledL ([⟨Rect.unit ![3, 0, 0] ![1, 128, 128] inb_S4x128x128_S1x128x128_3_0_0, stFin V K D s 3⟩,
      ⟨Rect.unit ![2, 0, 0] ![1, 128, 128] inb_S4x128x128_S1x128x128_2_0_0, stFin V K D s 2⟩,
      ⟨Rect.unit ![1, 0, 0] ![1, 128, 128] inb_S4x128x128_S1x128x128_1_0_0, stFin V K D s 1⟩,
      ⟨Rect.unit ![0, 0, 0] ![1, 128, 128] inb_S4x128x128_S1x128x128_0_0_0, stFin V K D s 0⟩] : List (View.Piece (Elt Ideal) S4x128x128 .f32)) S1x128x128.size (by sl_kernel_rfl) y)
  intro p hp x
  simp only [List.mem_cons, List.not_mem_nil, or_false] at hp
  rcases hp with rfl | rfl | rfl | rfl
  all_goals
    have b0 : (x 0).val < 1 := (x 0).isLt
    refine stFin_at V K D s _ x _ ?_ ?_ ?_ <;> simp <;> omega

/-- Reading one head of a whole array. -/
theorem ld_read' (s : FVec Ideal S4x128x128 .f32) (off : Fin 3 → ℕ) (inb) :
    (fun j => s ((Rect.unit (s := S4x128x128) off ![1, 128, 128] inb).idx j)) = ldHd s (off 0) := ld_read s off inb

/-- Reading a whole array. -/
theorem whole_read (s : FVec Ideal S4x128x128 .f32) (inb) :
    (fun j => s ((Rect.unit (s := S4x128x128) ![0, 0, 0] ![4, 128, 128] inb).idx j)) = s := by
  funext j
  refine congrArg s ?_
  funext a
  fin_cases a <;> refine Fin.ext ?_ <;> simp

/-- The state the first point of a sample leaves. -/
theorem sout0_A_0_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : cond0_0 i) (hc1 : ¬cond0_1 i) (x0 : Vec Ideal S1x256x512 .f32) (x1 : Vec Ideal S1x256x512 .f32) (x2 : Vec Ideal S1x256x512 .f32) (x3 : Vec Ideal S1x512 .f32) (x4 : Vec Ideal S1x4x128x128 .f32) : sout0_A_0 (F := Ideal) c i arg2 harg2 arg3 harg3 arg4 harg4 arg5 harg5 arg6 harg6 arg7 harg7 arg8 harg8 arg9 harg9 arg10 harg10 arg11 harg11 hc0 hc1 x0 x1 x2 x3 x4 = endArr x1 x2 x3 (k0_pay3 x4) := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, canon_whole, ld_read', Matrix.cons_val_zero, Matrix.cons_val_one]
  simp only [st_2_0 (k0_pay14 x2) (k0_pay12 (k0_pay5 x3 x1) (k0_pay7 x3 x1) (k0_pay8 x3 x1)) (k0_pay13 (k0_pay8 x3 x1)) (k0_pay3 x4), st_3_0 (k0_pay14 x2) (k0_pay12 (k0_pay5 x3 x1) (k0_pay7 x3 x1) (k0_pay8 x3 x1)) (k0_pay13 (k0_pay8 x3 x1)) (k0_pay3 x4), st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, fin_0, fin_1, fin_2, fin_3]
  rw [fin_canon_init]
  rfl

/-- The outputs the first point of a sample writes. -/
theorem out0_A_5_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : cond0_0 i) (hc1 : ¬cond0_1 i) (x0 : Vec Ideal S1x256x512 .f32) (x1 : Vec Ideal S1x256x512 .f32) (x2 : Vec Ideal S1x256x512 .f32) (x3 : Vec Ideal S1x512 .f32) (x4 : Vec Ideal S1x4x128x128 .f32) : out0_A_5 (F := Ideal) c i arg2 harg2 arg3 harg3 arg4 harg4 arg5 harg5 arg6 harg6 arg7 harg7 arg8 harg8 arg9 harg9 arg10 harg10 arg11 harg11 hc0 hc1 x0 x1 x2 x3 x4 = outArr x0 x1 x2 x3 (k0_pay3 x4) := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, canon_whole, ld_read', Matrix.cons_val_zero, Matrix.cons_val_one]
  simp only [st_2_0 (k0_pay14 x2) (k0_pay12 (k0_pay5 x3 x1) (k0_pay7 x3 x1) (k0_pay8 x3 x1)) (k0_pay13 (k0_pay8 x3 x1)) (k0_pay3 x4), st_3_0 (k0_pay14 x2) (k0_pay12 (k0_pay5 x3 x1) (k0_pay7 x3 x1) (k0_pay8 x3 x1)) (k0_pay13 (k0_pay8 x3 x1)) (k0_pay3 x4), st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, blk_0_0 (k0_pay14 x2) (k0_pay12 (k0_pay5 x3 x1) (k0_pay7 x3 x1) (k0_pay8 x3 x1)) (k0_pay13 (k0_pay8 x3 x1)) (k0_pay3 x4), blk_1_0 (k0_pay14 x2) (k0_pay12 (k0_pay5 x3 x1) (k0_pay7 x3 x1) (k0_pay8 x3 x1)) (k0_pay13 (k0_pay8 x3 x1)) (k0_pay3 x4), blk_2_0, blk_3_0, blk_0_1, blk_1_1, blk_2_1, blk_3_1, blk_0_2, blk_1_2, blk_2_2, blk_3_2, blk_0_3, blk_1_3, blk_2_3, blk_3_3, blk_0_4, blk_1_4, blk_2_4, blk_3_4, blk_0_5, blk_1_5, blk_2_5, blk_3_5, blk_0_6, blk_1_6, blk_2_6, blk_3_6, blk_0_7, blk_1_7, blk_2_7, blk_3_7, blk_0_8, blk_1_8, blk_2_8, blk_3_8, blk_0_9, blk_1_9, blk_2_9, blk_3_9, blk_0_10, blk_1_10, blk_2_10, blk_3_10, blk_0_11, blk_1_11, blk_2_11, blk_3_11, blk_0_12, blk_1_12, blk_2_12, blk_3_12, blk_0_13, blk_1_13, blk_2_13, blk_3_13, blk_0_14, blk_1_14, blk_2_14, blk_3_14, blk_0_15, blk_1_15, blk_2_15, blk_3_15, fin_0, fin_1, fin_2, fin_3]
  simp only [st_canon, st_read, Matrix.cons_val_zero, Matrix.cons_val_one]
  simp only [out_0_0, out_0_1, out_0_2, out_0_3, out_1_0, out_1_1, out_1_2, out_1_3, out_2_0, out_2_1, out_2_2, out_2_3, out_3_0, out_3_1, out_3_2, out_3_3]
  have e := o_canon (k0_pay10 (k0_pay7 x3 x1) (k0_pay9 x0)) (k0_pay14 x2) (k0_pay12 (k0_pay5 x3 x1) (k0_pay7 x3 x1) (k0_pay8 x3 x1)) (k0_pay13 (k0_pay8 x3 x1)) (k0_pay3 x4) (oiArr x0 x1 x2 x3)
  simp only [oiArr] at e
  rw [e]
  rfl

end Cert.Hgrn

end
-- ==== Proof.HgrnBlockB.lean ====
/- One grid point of the recurrence: the state it leaves and the outputs it writes. -/
module

public import Idealize.ShloMosaic.Lib.Pipeline.CanonAppend
public import proofs.«01_k».proof.Proof.HgrnKv
public import proofs.«01_k».proof.Proof.HgrnSteps
public import proofs.«01_k».proof.Proof.HgrnOuts
public import proofs.«01_k».proof.Proof.HgrnCanonOut
public import proofs.«01_k».proof.Proof.HgrnBlockA

@[expose] public section

set_option maxRecDepth 16384

noncomputable section

namespace Cert.Hgrn

open Cert.KernelIdeal Cert.KernelIdeal.Gen Idealize.ShloMosaic Idealize.ShloMosaic.TcCoe Idealize.SL.Sem

set_option maxHeartbeats 4000000

/-- The state a middle point leaves. -/
theorem sout0_B_0_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : ¬cond0_0 i) (hc1 : ¬cond0_1 i) (x0 : Vec Ideal S1x256x512 .f32) (x1 : Vec Ideal S1x256x512 .f32) (x2 : Vec Ideal S1x256x512 .f32) (x3 : Vec Ideal S1x512 .f32) (x4 : Vec Ideal S1x4x128x128 .f32) (xs0 : Vec Ideal S4x128x128 .f32) : sout0_B_0 (F := Ideal) c i arg2 harg2 arg3 harg3 arg4 harg4 arg5 harg5 arg6 harg6 arg7 harg7 arg8 harg8 arg9 harg9 arg10 harg10 arg11 harg11 hc0 hc1 x0 x1 x2 x3 x4 xs0 = endArr x1 x2 x3 xs0 := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, ld_read, Matrix.cons_val_zero, Matrix.cons_val_one]
  simp only [st_2_0 (k0_pay14 x2) (k0_pay12 (k0_pay5 x3 x1) (k0_pay7 x3 x1) (k0_pay8 x3 x1)) (k0_pay13 (k0_pay8 x3 x1)) xs0, st_3_0 (k0_pay14 x2) (k0_pay12 (k0_pay5 x3 x1) (k0_pay7 x3 x1) (k0_pay8 x3 x1)) (k0_pay13 (k0_pay8 x3 x1)) xs0, st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, fin_0, fin_1, fin_2, fin_3]
  rw [fin_canon]
  rfl

/-- The outputs a middle point writes. -/
theorem out0_B_5_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : ¬cond0_0 i) (hc1 : ¬cond0_1 i) (x0 : Vec Ideal S1x256x512 .f32) (x1 : Vec Ideal S1x256x512 .f32) (x2 : Vec Ideal S1x256x512 .f32) (x3 : Vec Ideal S1x512 .f32) (x4 : Vec Ideal S1x4x128x128 .f32) (xs0 : Vec Ideal S4x128x128 .f32) : out0_B_5 (F := Ideal) c i arg2 harg2 arg3 harg3 arg4 harg4 arg5 harg5 arg6 harg6 arg7 harg7 arg8 harg8 arg9 harg9 arg10 harg10 arg11 harg11 hc0 hc1 x0 x1 x2 x3 x4 xs0 = outArr x0 x1 x2 x3 xs0 := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, ld_read, Matrix.cons_val_zero, Matrix.cons_val_one]
  simp only [st_2_0 (k0_pay14 x2) (k0_pay12 (k0_pay5 x3 x1) (k0_pay7 x3 x1) (k0_pay8 x3 x1)) (k0_pay13 (k0_pay8 x3 x1)) xs0, st_3_0 (k0_pay14 x2) (k0_pay12 (k0_pay5 x3 x1) (k0_pay7 x3 x1) (k0_pay8 x3 x1)) (k0_pay13 (k0_pay8 x3 x1)) xs0, st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, blk_0_0 (k0_pay14 x2) (k0_pay12 (k0_pay5 x3 x1) (k0_pay7 x3 x1) (k0_pay8 x3 x1)) (k0_pay13 (k0_pay8 x3 x1)) xs0, blk_1_0 (k0_pay14 x2) (k0_pay12 (k0_pay5 x3 x1) (k0_pay7 x3 x1) (k0_pay8 x3 x1)) (k0_pay13 (k0_pay8 x3 x1)) xs0, blk_2_0, blk_3_0, blk_0_1, blk_1_1, blk_2_1, blk_3_1, blk_0_2, blk_1_2, blk_2_2, blk_3_2, blk_0_3, blk_1_3, blk_2_3, blk_3_3, blk_0_4, blk_1_4, blk_2_4, blk_3_4, blk_0_5, blk_1_5, blk_2_5, blk_3_5, blk_0_6, blk_1_6, blk_2_6, blk_3_6, blk_0_7, blk_1_7, blk_2_7, blk_3_7, blk_0_8, blk_1_8, blk_2_8, blk_3_8, blk_0_9, blk_1_9, blk_2_9, blk_3_9, blk_0_10, blk_1_10, blk_2_10, blk_3_10, blk_0_11, blk_1_11, blk_2_11, blk_3_11, blk_0_12, blk_1_12, blk_2_12, blk_3_12, blk_0_13, blk_1_13, blk_2_13, blk_3_13, blk_0_14, blk_1_14, blk_2_14, blk_3_14, blk_0_15, blk_1_15, blk_2_15, blk_3_15, fin_0, fin_1, fin_2, fin_3]
  simp only [st_canon, st_read, Matrix.cons_val_zero, Matrix.cons_val_one]
  simp only [out_0_0, out_0_1, out_0_2, out_0_3, out_1_0, out_1_1, out_1_2, out_1_3, out_2_0, out_2_1, out_2_2, out_2_3, out_3_0, out_3_1, out_3_2, out_3_3]
  have e := o_canon (k0_pay10 (k0_pay7 x3 x1) (k0_pay9 x0)) (k0_pay14 x2) (k0_pay12 (k0_pay5 x3 x1) (k0_pay7 x3 x1) (k0_pay8 x3 x1)) (k0_pay13 (k0_pay8 x3 x1)) xs0 (oiArr x0 x1 x2 x3)
  simp only [oiArr] at e
  rw [e]
  rfl

end Cert.Hgrn

end
-- ==== Proof.HgrnBlockC.lean ====
/- One grid point of the recurrence: the state it leaves and the outputs it writes. -/
module

public import Idealize.ShloMosaic.Lib.Pipeline.CanonAppend
public import proofs.«01_k».proof.Proof.HgrnKv
public import proofs.«01_k».proof.Proof.HgrnSteps
public import proofs.«01_k».proof.Proof.HgrnOuts
public import proofs.«01_k».proof.Proof.HgrnCanonOut
public import proofs.«01_k».proof.Proof.HgrnBlockA

@[expose] public section

set_option maxRecDepth 16384

noncomputable section

namespace Cert.Hgrn

open Cert.KernelIdeal Cert.KernelIdeal.Gen Idealize.ShloMosaic Idealize.ShloMosaic.TcCoe Idealize.SL.Sem

set_option maxHeartbeats 4000000

/-- The state the last point leaves. -/
theorem sout0_C_0_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : ¬cond0_0 i) (hc1 : cond0_1 i) (x0 : Vec Ideal S1x256x512 .f32) (x1 : Vec Ideal S1x256x512 .f32) (x2 : Vec Ideal S1x256x512 .f32) (x3 : Vec Ideal S1x512 .f32) (x4 : Vec Ideal S1x4x128x128 .f32) (xs0 : Vec Ideal S4x128x128 .f32) : sout0_C_0 (F := Ideal) c i arg2 harg2 arg3 harg3 arg4 harg4 arg5 harg5 arg6 harg6 arg7 harg7 arg8 harg8 arg9 harg9 arg10 harg10 arg11 harg11 hc0 hc1 x0 x1 x2 x3 x4 xs0 = endArr x1 x2 x3 xs0 := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, ld_read, Matrix.cons_val_zero, Matrix.cons_val_one]
  simp only [st_2_0 (k0_pay14 x2) (k0_pay12 (k0_pay5 x3 x1) (k0_pay7 x3 x1) (k0_pay8 x3 x1)) (k0_pay13 (k0_pay8 x3 x1)) xs0, st_3_0 (k0_pay14 x2) (k0_pay12 (k0_pay5 x3 x1) (k0_pay7 x3 x1) (k0_pay8 x3 x1)) (k0_pay13 (k0_pay8 x3 x1)) xs0, st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, fin_0, fin_1, fin_2, fin_3]
  rw [fin_canon]
  rfl

/-- The outputs the last point writes. -/
theorem out0_C_5_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : ¬cond0_0 i) (hc1 : cond0_1 i) (x0 : Vec Ideal S1x256x512 .f32) (x1 : Vec Ideal S1x256x512 .f32) (x2 : Vec Ideal S1x256x512 .f32) (x3 : Vec Ideal S1x512 .f32) (x4 : Vec Ideal S1x4x128x128 .f32) (xs0 : Vec Ideal S4x128x128 .f32) : out0_C_5 (F := Ideal) c i arg2 harg2 arg3 harg3 arg4 harg4 arg5 harg5 arg6 harg6 arg7 harg7 arg8 harg8 arg9 harg9 arg10 harg10 arg11 harg11 hc0 hc1 x0 x1 x2 x3 x4 xs0 = outArr x0 x1 x2 x3 xs0 := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, ld_read, Matrix.cons_val_zero, Matrix.cons_val_one]
  simp only [st_2_0 (k0_pay14 x2) (k0_pay12 (k0_pay5 x3 x1) (k0_pay7 x3 x1) (k0_pay8 x3 x1)) (k0_pay13 (k0_pay8 x3 x1)) xs0, st_3_0 (k0_pay14 x2) (k0_pay12 (k0_pay5 x3 x1) (k0_pay7 x3 x1) (k0_pay8 x3 x1)) (k0_pay13 (k0_pay8 x3 x1)) xs0, st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, blk_0_0 (k0_pay14 x2) (k0_pay12 (k0_pay5 x3 x1) (k0_pay7 x3 x1) (k0_pay8 x3 x1)) (k0_pay13 (k0_pay8 x3 x1)) xs0, blk_1_0 (k0_pay14 x2) (k0_pay12 (k0_pay5 x3 x1) (k0_pay7 x3 x1) (k0_pay8 x3 x1)) (k0_pay13 (k0_pay8 x3 x1)) xs0, blk_2_0, blk_3_0, blk_0_1, blk_1_1, blk_2_1, blk_3_1, blk_0_2, blk_1_2, blk_2_2, blk_3_2, blk_0_3, blk_1_3, blk_2_3, blk_3_3, blk_0_4, blk_1_4, blk_2_4, blk_3_4, blk_0_5, blk_1_5, blk_2_5, blk_3_5, blk_0_6, blk_1_6, blk_2_6, blk_3_6, blk_0_7, blk_1_7, blk_2_7, blk_3_7, blk_0_8, blk_1_8, blk_2_8, blk_3_8, blk_0_9, blk_1_9, blk_2_9, blk_3_9, blk_0_10, blk_1_10, blk_2_10, blk_3_10, blk_0_11, blk_1_11, blk_2_11, blk_3_11, blk_0_12, blk_1_12, blk_2_12, blk_3_12, blk_0_13, blk_1_13, blk_2_13, blk_3_13, blk_0_14, blk_1_14, blk_2_14, blk_3_14, blk_0_15, blk_1_15, blk_2_15, blk_3_15, fin_0, fin_1, fin_2, fin_3]
  simp only [st_canon, st_read, Matrix.cons_val_zero, Matrix.cons_val_one]
  simp only [out_0_0, out_0_1, out_0_2, out_0_3, out_1_0, out_1_1, out_1_2, out_1_3, out_2_0, out_2_1, out_2_2, out_2_3, out_3_0, out_3_1, out_3_2, out_3_3]
  have e := o_canon (k0_pay10 (k0_pay7 x3 x1) (k0_pay9 x0)) (k0_pay14 x2) (k0_pay12 (k0_pay5 x3 x1) (k0_pay7 x3 x1) (k0_pay8 x3 x1)) (k0_pay13 (k0_pay8 x3 x1)) xs0 (oiArr x0 x1 x2 x3)
  simp only [oiArr] at e
  rw [e]
  rfl

/-- The final states the last point writes. -/
theorem out0_C_6_eq (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x512 .f32) (harg4 : arg4.IsWhole) (arg5 : Memref sig .tc .vmem S1x512 .f32) (harg5 : arg5.IsWhole) (arg6 : Memref sig .tc .vmem S1x4x128x128 .f32) (harg6 : arg6.IsWhole) (arg7 : Memref sig .tc .vmem S1x256x512 .f32) (harg7 : arg7.IsWhole) (arg8 : Memref sig .tc .vmem S1x4x128x128 .f32) (harg8 : arg8.IsWhole) (arg9 : Memref sig .tc .vmem S4x128x128 .f32) (harg9 : arg9.IsWhole) (arg10 : Memref sig .tc .vmem S4x16x128x128 .f32) (harg10 : arg10.IsWhole) (arg11 : Memref sig .tc .vmem S4x16x128x128 .f32) (harg11 : arg11.IsWhole) (hc0 : ¬cond0_0 i) (hc1 : cond0_1 i) (x0 : Vec Ideal S1x256x512 .f32) (x1 : Vec Ideal S1x256x512 .f32) (x2 : Vec Ideal S1x256x512 .f32) (x3 : Vec Ideal S1x512 .f32) (x4 : Vec Ideal S1x4x128x128 .f32) (xs0 : Vec Ideal S4x128x128 .f32) : out0_C_6 (F := Ideal) c i arg2 harg2 arg3 harg3 arg4 harg4 arg5 harg5 arg6 harg6 arg7 harg7 arg8 harg8 arg9 harg9 arg10 harg10 arg11 harg11 hc0 hc1 x0 x1 x2 x3 x4 xs0 = k0_pay2 (F := Ideal) (endArr x1 x2 x3 xs0) := by
  frame_out
  simp only [kv_0_0, kv_1_0, kv_2_0, kv_3_0, kv_0_1, kv_1_1, kv_2_1, kv_3_1, kv_0_2, kv_1_2, kv_2_2, kv_3_2, kv_0_3, kv_1_3, kv_2_3, kv_3_3, kv_0_4, kv_1_4, kv_2_4, kv_3_4, kv_0_5, kv_1_5, kv_2_5, kv_3_5, kv_0_6, kv_1_6, kv_2_6, kv_3_6, kv_0_7, kv_1_7, kv_2_7, kv_3_7, kv_0_8, kv_1_8, kv_2_8, kv_3_8, kv_0_9, kv_1_9, kv_2_9, kv_3_9, kv_0_10, kv_1_10, kv_2_10, kv_3_10, kv_0_11, kv_1_11, kv_2_11, kv_3_11, kv_0_12, kv_1_12, kv_2_12, kv_3_12, kv_0_13, kv_1_13, kv_2_13, kv_3_13, kv_0_14, kv_1_14, kv_2_14, kv_3_14, kv_0_15, kv_1_15, kv_2_15, kv_3_15]
  simp only [View.readCov_eq_canon', kv_canon, kv_read, ld_read, Matrix.cons_val_zero, Matrix.cons_val_one]
  simp only [st_2_0 (k0_pay14 x2) (k0_pay12 (k0_pay5 x3 x1) (k0_pay7 x3 x1) (k0_pay8 x3 x1)) (k0_pay13 (k0_pay8 x3 x1)) xs0, st_3_0 (k0_pay14 x2) (k0_pay12 (k0_pay5 x3 x1) (k0_pay7 x3 x1) (k0_pay8 x3 x1)) (k0_pay13 (k0_pay8 x3 x1)) xs0, st_0_1, st_1_1, st_2_1, st_3_1, st_0_2, st_1_2, st_2_2, st_3_2, st_0_3, st_1_3, st_2_3, st_3_3, st_0_4, st_1_4, st_2_4, st_3_4, st_0_5, st_1_5, st_2_5, st_3_5, st_0_6, st_1_6, st_2_6, st_3_6, st_0_7, st_1_7, st_2_7, st_3_7, st_0_8, st_1_8, st_2_8, st_3_8, st_0_9, st_1_9, st_2_9, st_3_9, st_0_10, st_1_10, st_2_10, st_3_10, st_0_11, st_1_11, st_2_11, st_3_11, st_0_12, st_1_12, st_2_12, st_3_12, st_0_13, st_1_13, st_2_13, st_3_13, st_0_14, st_1_14, st_2_14, st_3_14, st_0_15, st_1_15, st_2_15, st_3_15, fin_0, fin_1, fin_2, fin_3]
  simp only [fin_canon, whole_read]
  rfl

end Cert.Hgrn

end
-- ==== Proof.HgrnGate.lean ====
/- The gates of one block: their logs summed within chunks. -/
module

public import proofs.«01_k».proof.Proof.HgrnSpec
public import proofs.«01_k».proof.Proof.Gen.KernelIdeal.Skeleton

@[expose] public section

set_option maxRecDepth 16384

noncomputable section

namespace Cert.Hgrn

open Cert.KernelIdeal Cert.KernelIdeal.Gen Idealize.ShloMosaic Idealize.ShloMosaic.TcCoe Idealize.SL.Sem

/-- Two numbers differ in their last four bits only exactly when they lie in one chunk. -/
theorem xor_lt (a b : ℕ) : a ^^^ b < 16 ↔ a / 16 = b / 16 := by
  have h : (a ^^^ b) / 16 = (a / 16) ^^^ (b / 16) := by
    have := Nat.shiftRight_xor_distrib (a := a) (b := b) (i := 4)
    simpa only [Nat.shiftRight_eq_div_pow, Nat.reducePow] using this
  have h2 : (a ^^^ b) / 16 = 0 ↔ a ^^^ b < 16 := by omega
  rw [← h2, h]
  constructor
  · intro h0
    have h3 := congrArg (· ^^^ (b / 16)) h0
    simpa only [Nat.xor_assoc, Nat.xor_self, Nat.xor_zero, Nat.zero_xor] using h3
  · intro h0
    rw [h0, Nat.xor_self]

/-- A word below 256 compared with 16. -/
theorem lt16_word : ∀ x : Fin 256, IntOp.cmpi CmpIPredicate.slt (BitVec.ofNat 32 x.val) 16#32 = if x.val < 16 then 1#1 else 0#1 := by
  decide +kernel

/-- Two words below 256 compared. -/
theorem ge_word (R J : Fin 256) :
    IntOp.cmpi CmpIPredicate.sge (BitVec.ofNat 32 R.val) (BitVec.ofNat 32 J.val) = if J.val ≤ R.val then 1#1 else 0#1 := by
  have e : ∀ x : Fin 256, (BitVec.ofNat 32 x.val).toInt = (x.val : ℤ) := by decide +kernel
  simp only [IntOp.cmpi, BitVec.sle, e]
  by_cases h : J.val ≤ R.val <;> simp [h]

/-- The mask word of two rows: on when the second is in the first's chunk and not after it. -/
theorem msk_word (R J : Fin 256) :
    IntOp.andi (IntOp.cmpi CmpIPredicate.slt (IntOp.xori (BitVec.ofNat 32 R.val) (BitVec.ofNat 32 J.val)) 16#32)
      (IntOp.cmpi CmpIPredicate.sge (BitVec.ofNat 32 R.val) (BitVec.ofNat 32 J.val)) = if R.val / 16 = J.val / 16 ∧ J.val ≤ R.val then 1#1 else 0#1 := by
  have hx : R.val ^^^ J.val < 256 := Nat.xor_lt_two_pow (n := 8) R.isLt J.isLt
  have e : IntOp.xori (BitVec.ofNat 32 R.val) (BitVec.ofNat 32 J.val) = BitVec.ofNat 32 (⟨R.val ^^^ J.val, hx⟩ : Fin 256).val := by
    show BitVec.ofNat 32 R.val ^^^ BitVec.ofNat 32 J.val = _
    apply BitVec.eq_of_toNat_eq
    simp only [BitVec.toNat_xor, BitVec.toNat_ofNat]
    rw [Nat.mod_eq_of_lt (a := R.val) (by omega), Nat.mod_eq_of_lt (a := J.val) (by omega), Nat.mod_eq_of_lt (by omega)]
  rw [e, lt16_word, ge_word]
  simp only [xor_lt]
  by_cases h1 : R.val / 16 = J.val / 16 <;> by_cases h2 : J.val ≤ R.val <;> simp [h1, h2, IntOp.andi]

/-- The block's mask. -/
theorem msk_at (R J : Fin 256) : k0_pay6 (ix2 R J) = if R.val / 16 = J.val / 16 ∧ J.val ≤ R.val then 1#1 else 0#1 := by
  rw [← msk_word]
  pointwise [k0_pay6]

/-- The mask word as a number. -/
theorem msk_num (R J : Fin 256) :
    (FloatOps.sitofp (F := Ideal) FTy.f32 (BitVec.setWidth 32
      (IntOp.andi (IntOp.cmpi CmpIPredicate.slt (IntOp.xori (BitVec.ofNat 32 R.val) (BitVec.ofNat 32 J.val)) 16#32)
        (IntOp.cmpi CmpIPredicate.sge (BitVec.ofNat 32 R.val) (BitVec.ofNat 32 J.val)))) : EReal)
      = if R.val / 16 = J.val / 16 ∧ J.val ≤ R.val then 1 else 0 := by
  rw [msk_word]
  by_cases h : R.val / 16 = J.val / 16 ∧ J.val ≤ R.val
  · rw [if_pos h, if_pos h]
    show ((((1#1 : BitVec 1).setWidth 32).toInt : ℝ) : EReal) = 1
    simp
  · rw [if_neg h, if_neg h]
    show ((((0#1 : BitVec 1).setWidth 32).toInt : ℝ) : EReal) = 0
    simp

/-- The three masked sums of a value's parts are the masked sum of the value. -/
theorem msk_sum (R : Fin 256) (M f : Fin 256 → EReal) (hM : ∀ J : Fin 256, M J = if R.val / 16 = J.val / 16 ∧ J.val ≤ R.val then 1 else 0)
    (hf : ∀ J, f J ≠ ⊤) :
    (∑ J, M J * f J) + (∑ J, M J * (f J - f J)) + (∑ J, M J * (f J - f J - (f J - f J)))
      = ∑ j : Fin 16, if j.val ≤ R.val % 16 then f ⟨16 * (R.val / 16) + j.val, by omega⟩ else 0 := by
  rw [← chunk_sum R f, ← Finset.sum_add_distrib, ← Finset.sum_add_distrib]
  refine Finset.sum_congr rfl fun J _ => ?_
  rw [hM]
  by_cases h : R.val / 16 = J.val / 16 ∧ J.val ≤ R.val
  · rw [if_pos h, if_pos h, one_mul, one_mul, one_mul, split3 (hf J)]
  · rw [if_neg h, if_neg h, zero_mul, zero_mul, zero_mul, add_zero, add_zero]

/-- What a block's staged arrays hold: rows `256 p` onwards of the query, log gate, key and value rows. -/
structure Rows (x0 x1 x2 : FVec Ideal S1x256x512 .f32) (x3 : FVec Ideal S1x512 .f32) (Q K L V : ℕ → ℕ → EReal) (p : ℕ) : Prop where
  hq : ∀ (R : Fin 256) (c : Fin 512), x0 (ix3 0 R c) = Q (256 * p + R.val) c.val
  hl : ∀ (R : Fin 256) (c : Fin 512), Ideal.log (gate (x3 (ix2 0 c)) (x1 (ix3 0 R c))) = L (256 * p + R.val) c.val
  hk : ∀ (R : Fin 256) (c : Fin 512), 1 - gate (x3 (ix2 0 c)) (x1 (ix3 0 R c)) = K (256 * p + R.val) c.val
  hv : ∀ (R : Fin 256) (c : Fin 512), x2 (ix3 0 R c) = V (256 * p + R.val) c.val
  ht : ∀ c : Fin 512, x3 (ix2 0 c) ≠ ⊤

/-- The summed logs as three masked sums. -/
theorem pay7_at (x1 : FVec Ideal S1x256x512 .f32) (x3 : FVec Ideal S1x512 .f32) (ht : ∀ c : Fin 512, x3 (ix2 0 c) ≠ ⊤) (R : Fin 256) (c : Fin 512) :
    k0_pay7 (F := Ideal) x3 x1 (ix2 R c)
      = ∑ j : Fin 16, if j.val ≤ R.val % 16 then Ideal.log (gate (x3 (ix2 0 c)) (x1 (ix3 0 ⟨16 * (R.val / 16) + j.val, by omega⟩ c))) else 0 := by
  rw [← msk_sum R (fun J => FloatOps.sitofp (F := Ideal) FTy.f32 (BitVec.setWidth 32
      (IntOp.andi (IntOp.cmpi CmpIPredicate.slt (IntOp.xori (BitVec.ofNat 32 R.val) (BitVec.ofNat 32 J.val)) 16#32)
        (IntOp.cmpi CmpIPredicate.sge (BitVec.ofNat 32 R.val) (BitVec.ofNat 32 J.val)))))
    (fun J => Ideal.log (gate (x3 (ix2 0 c)) (x1 (ix3 0 J c)))) (fun J => msk_num R J) (fun J => log_ne_top (gate_ne_top (ht c) _))]
  pointwise [k0_pay7, k0_pay6, k0_pay4]
  rw [sum3]
  have h0 : ∀ k : Fin 256, (k.val < 256) = True := fun k => eq_true k.isLt
  have h1 : ∀ k : Fin 256, (256 + k.val < 256) = False := fun k => eq_false (by omega)
  have h2 : ∀ k : Fin 256, (512 + k.val < 256) = False := fun k => eq_false (by omega)
  have h3 : ∀ k : Fin 256, (512 + k.val - 256 < 256) = False := fun k => eq_false (by omega)
  have h4 : ∀ k : Fin 256, 256 + k.val - 256 = k.val := fun k => by omega
  have h5 : ∀ k : Fin 256, 512 + k.val - 256 - 256 = k.val := fun k => by omega
  simp only [h0, h1, h2, h3, h4, h5, dite_true, dite_false, gate]

variable {x0 x1 x2 : FVec Ideal S1x256x512 .f32} {x3 : FVec Ideal S1x512 .f32} {Q K L V : ℕ → ℕ → EReal} {p : ℕ}

/-- The summed logs of a block. -/
theorem bc_at (H : Rows x0 x1 x2 x3 Q K L V p) (R : Fin 256) (c : Fin 512) : k0_pay7 (F := Ideal) x3 x1 (ix2 R c) = bc L (256 * p + R.val) c.val := by
  rw [pay7_at x1 x3 H.ht]
  unfold bc
  have e1 : (256 * p + R.val) % 16 = R.val % 16 := by omega
  rw [e1]
  refine Finset.sum_congr rfl fun j _ => ?_
  rw [H.hl]
  have e2 : 256 * p + (16 * (R.val / 16) + j.val) = 16 * ((256 * p + R.val) / 16) + j.val := by omega
  simp only [e2]

/-- The summed logs at the end of each row's chunk. -/
theorem tot_at (H : Rows x0 x1 x2 x3 Q K L V p) (R : Fin 256) (c : Fin 512) :
    k0_pay8 (F := Ideal) x3 x1 (ix2 R c) = bc L (16 * ((256 * p + R.val) / 16) + 15) c.val := by
  have e : k0_pay8 (F := Ideal) x3 x1 (ix2 R c) = k0_pay7 (F := Ideal) x3 x1 (ix2 (⟨R.val / 16 * 16 + 15, by omega⟩ : Fin 256) c) := by
    pointwise [k0_pay8]
  rw [e, bc_at H]
  have e2 : 256 * p + (R.val / 16 * 16 + 15) = 16 * ((256 * p + R.val) / 16) + 15 := by omega
  simp only [e2]

/-- The block's keys. -/
theorem key_at (H : Rows x0 x1 x2 x3 Q K L V p) (R : Fin 256) (c : Fin 512) : k0_pay5 (F := Ideal) x3 x1 (ix2 R c) = K (256 * p + R.val) c.val := by
  rw [← H.hk]
  pointwise [k0_pay5, k0_pay4, gate]

/-- The block's queries. -/
theorem q_at (H : Rows x0 x1 x2 x3 Q K L V p) (R : Fin 256) (c : Fin 512) : k0_pay9 (F := Ideal) x0 (ix2 R c) = Q (256 * p + R.val) c.val := by
  rw [← H.hq]
  pointwise [k0_pay9]

/-- The block's values. -/
theorem v_at (H : Rows x0 x1 x2 x3 Q K L V p) (R : Fin 256) (c : Fin 512) : k0_pay14 (F := Ideal) x2 (ix2 R c) = V (256 * p + R.val) c.val := by
  rw [← H.hv]
  pointwise [k0_pay14]

/-- The block's scaled queries. -/
theorem qi_at (H : Rows x0 x1 x2 x3 Q K L V p) (R : Fin 256) (c : Fin 512) :
    k0_pay10 (F := Ideal) (k0_pay7 x3 x1) (k0_pay9 x0) (ix2 R c) = qi Q L (256 * p + R.val) c.val := by
  unfold qi
  rw [← bc_at H, ← q_at H]
  pointwise [k0_pay10]

/-- The block's inversely scaled keys. -/
theorem ki_at (H : Rows x0 x1 x2 x3 Q K L V p) (R : Fin 256) (c : Fin 512) :
    k0_pay11 (F := Ideal) (k0_pay5 x3 x1) (k0_pay7 x3 x1) (ix2 R c) = ki K L (256 * p + R.val) c.val := by
  unfold ki
  rw [← bc_at H, ← key_at H, ← zero_sub]
  pointwise [k0_pay11]

/-- The block's decayed keys. -/
theorem ko_at (H : Rows x0 x1 x2 x3 Q K L V p) (R : Fin 256) (c : Fin 512) :
    k0_pay12 (F := Ideal) (k0_pay5 x3 x1) (k0_pay7 x3 x1) (k0_pay8 x3 x1) (ix2 R c) = ko K L (256 * p + R.val) c.val := by
  unfold ko
  rw [← bc_at H, ← key_at H, ← tot_at H]
  pointwise [k0_pay12]

/-- The block's chunk decays. -/
theorem dc_at (H : Rows x0 x1 x2 x3 Q K L V p) (R : Fin 256) (c : Fin 512) :
    k0_pay13 (F := Ideal) (k0_pay8 x3 x1) (ix2 R c) = dc L ((256 * p + R.val) / 16) c.val := by
  unfold dc
  rw [← tot_at H]
  pointwise [k0_pay13]

end Cert.Hgrn

end
-- ==== Proof.HgrnBlockOut.lean ====
/- What one block of the recurrence leaves, in the plain formulas. -/
module

public import proofs.«01_k».proof.Proof.HgrnGate
public import proofs.«01_k».proof.Proof.HgrnBlockA

@[expose] public section

set_option maxRecDepth 16384

noncomputable section

namespace Cert.Hgrn

open Cert.KernelIdeal Cert.KernelIdeal.Gen Idealize.ShloMosaic Idealize.ShloMosaic.TcCoe Idealize.SL.Sem

variable {x0 x1 x2 : FVec Ideal S1x256x512 .f32} {x3 : FVec Ideal S1x512 .f32} {Q K L V : ℕ → ℕ → EReal} {p : ℕ}

/-- A masked value as a choice. -/
theorem sel_msk (R J : Fin 256) (x : EReal) :
    Scalar.select (k0_pay6 (ix2 R J)) x (0 : EReal) = if R.val / 16 = J.val / 16 ∧ J.val ≤ R.val then x else 0 := by
  rw [msk_at]
  by_cases h : R.val / 16 = J.val / 16 ∧ J.val ≤ R.val
  · rw [if_pos h, if_pos h]
    rfl
  · rw [if_neg h, if_neg h]
    rfl

/-- The masked sum over the block's rows is the sum over the row's own chunk. -/
theorem oi_sum (H : Rows x0 x1 x2 x3 Q K L V p) (R : Fin 256) (h e : ℕ) (f : Fin 256 → EReal)
    (hf : ∀ J : Fin 256, f J = Scalar.select (k0_pay6 (ix2 R J))
      ((∑ d : Fin 128, qi Q L (256 * p + R.val) (128 * h + d.val) * ki K L (256 * p + J.val) (128 * h + d.val)) * V (256 * p + J.val) (128 * h + e)) 0) :
    ∑ J, f J = oi Q K L V (256 * p + R.val) h e := by
  rw [Finset.sum_congr rfl fun J _ => (hf J).trans (sel_msk R J _), chunk_sum R (fun J => (∑ d : Fin 128, qi Q L (256 * p + R.val) (128 * h + d.val) * ki K L (256 * p + J.val) (128 * h + d.val)) * V (256 * p + J.val) (128 * h + e))]
  unfold oi
  have e1 : (256 * p + R.val) % 16 = R.val % 16 := by omega
  refine Finset.sum_congr rfl fun j _ => ?_
  have e2 : 256 * p + (16 * (R.val / 16) + j.val) = 16 * ((256 * p + R.val) / 16) + j.val := by omega
  simp only [e1, e2]
  by_cases hj : j.val ≤ R.val % 16
  · rw [if_pos hj, if_pos hj]
  · rw [if_neg hj, if_neg hj, zero_mul]

/-- One term of the block's sums within chunks. -/
theorem oi_pt (H : Rows x0 x1 x2 x3 Q K L V p) (R J : Fin 256) (h : ℕ) (hh : h < 4) (e : Fin 128) (cd : Fin 128 → Fin 512) (ce : Fin 512)
    (hd : ∀ d, (cd d).val = 128 * h + d.val) (he : ce.val = 128 * h + e.val) :
    Scalar.select (k0_pay6 (ix2 R J))
      ((∑ d : Fin 128, k0_pay10 (F := Ideal) (k0_pay7 x3 x1) (k0_pay9 x0) (ix2 R (cd d)) * k0_pay11 (F := Ideal) (k0_pay5 x3 x1) (k0_pay7 x3 x1) (ix2 J (cd d))) * x2 (ix3 0 J ce)) 0
    = Scalar.select (k0_pay6 (ix2 R J))
      ((∑ d : Fin 128, qi Q L (256 * p + R.val) (128 * h + d.val) * ki K L (256 * p + J.val) (128 * h + d.val)) * V (256 * p + J.val) (128 * h + e.val)) 0 := by
  rw [H.hv, he]
  simp only [qi_at H, ki_at H, hd]

/-- The block's sums within chunks. -/
theorem oi_at (H : Rows x0 x1 x2 x3 Q K L V p) (R : Fin 256) (h : ℕ) (hh : h < 4) (e : Fin 128) :
    oiArr x0 x1 x2 x3 h (ix2 R e) = oi Q K L V (256 * p + R.val) h e.val := by
  match h, hh with
  | 0, _ =>
    unfold oiArr
    pointwise [k0_pay17, k0_pay14]
    exact oi_sum H R 0 e.val _ fun J => oi_pt H R J 0 (by decide) e (fun d => ⟨d.val, by omega⟩) ⟨e.val, by omega⟩ (fun d => by simp) (by simp)
  | 1, _ =>
    unfold oiArr
    pointwise [k0_pay20, k0_pay18, k0_pay19, k0_pay14]
    exact oi_sum H R 1 e.val _ fun J => oi_pt H R J 1 (by decide) e (fun d => ⟨128 + d.val, by omega⟩) ⟨128 + e.val, by omega⟩ (fun d => by simp) (by simp)
  | 2, _ =>
    unfold oiArr
    pointwise [k0_pay21, k0_pay15, k0_pay14]
    exact oi_sum H R 2 e.val _ fun J => oi_pt H R J 2 (by decide) e (fun d => ⟨256 + d.val, by omega⟩) ⟨256 + e.val, by omega⟩ (fun d => by simp) (by simp)
  | 3, _ =>
    unfold oiArr
    pointwise [k0_pay22, k0_pay16, k0_pay14]
    exact oi_sum H R 3 e.val _ fun J => oi_pt H R J 3 (by decide) e (fun d => ⟨384 + d.val, by omega⟩) ⟨384 + e.val, by omega⟩ (fun d => by simp) (by simp)

/-- A state entry inside the block continues the recurrence from the block's first chunk. -/
theorem stE_eq (H : Rows x0 x1 x2 x3 Q K L V p) (s : FVec Ideal S4x128x128 .f32) (s0 : EReal) (h : ℕ) (hh : h < 4) (n : ℕ) (hn : n ≤ 16)
    (j k : Fin 128) (hs : s (ix3 (hdOf h) j k) = st K L V s0 h j.val k.val (16 * p)) :
    stE (k0_pay14 (F := Ideal) x2) (kArr x1 x3) (dArr x1 x3) s h n j k = st K L V s0 h j.val k.val (16 * p + n) := by
  unfold st
  rw [fold_add]
  unfold stE
  have ec : ∀ d : Fin 128, (colOf h d).val = 128 * h + d.val := fun d => by simp only [colOf]; omega
  refine fold_congr n hs (fun i hi => ?_) (fun i hi => ?_)
  · have e := dc_at H (rowOf i 0) (colOf h k)
    have er : (rowOf i 0).val = 16 * i := by simp only [rowOf]; omega
    rw [ec, er] at e
    have e2 : (256 * p + 16 * i) / 16 = 16 * p + i := by omega
    rw [e2] at e
    exact e
  · unfold kvE kvs
    refine Finset.sum_congr rfl fun r _ => ?_
    have er : (rowOf i r.val).val = 16 * i + r.val := by simp only [rowOf]; omega
    have ev := v_at H (rowOf i r.val) (colOf h j)
    have ek := ko_at H (rowOf i r.val) (colOf h k)
    have e2 : 256 * p + (16 * i + r.val) = 16 * (16 * p + i) + r.val := by omega
    rw [ec, er, e2] at ev ek
    exact congrArg₂ (· * ·) ev ek

/-- The state a block leaves continues the recurrence by sixteen chunks. -/
theorem end_at (H : Rows x0 x1 x2 x3 Q K L V p) (s : FVec Ideal S4x128x128 .f32) (s0 : Fin 4 → Fin 128 → Fin 128 → EReal)
    (hs : ∀ (h : Fin 4) (j k : Fin 128), s (ix3 h j k) = st K L V (s0 h j k) h.val j.val k.val (16 * p)) (h : Fin 4) (j k : Fin 128) :
    endArr x1 x2 x3 s (ix3 h j k) = st K L V (s0 h j k) h.val j.val k.val (16 * (p + 1)) := by
  have eh : hdOf h.val = h := Fin.ext (by simp only [hdOf]; omega)
  have := stE_eq H s (s0 h j k) h.val h.isLt 16 (le_refl _) j k (by rw [eh]; exact hs h j k)
  rw [show 16 * (p + 1) = 16 * p + 16 by omega, ← this]
  rfl

/-- The outputs of a block. -/
theorem out_at (H : Rows x0 x1 x2 x3 Q K L V p) (s : FVec Ideal S4x128x128 .f32) (s0 : Fin 4 → Fin 128 → Fin 128 → EReal)
    (hs : ∀ (h : Fin 4) (j k : Fin 128), s (ix3 h j k) = st K L V (s0 h j k) h.val j.val k.val (16 * p)) (R : Fin 256) (h : Fin 4) (e : Fin 128)
    (c : Fin 512) (hc : c.val = 128 * h.val + e.val) :
    outArr x0 x1 x2 x3 s (ix3 0 R c) = orow Q K L V (s0 h e) (256 * p + R.val) h.val e.val := by
  have e1 : c.val / 128 = h.val := by omega
  have e2 : (⟨c.val % 128, Nat.mod_lt _ (by decide)⟩ : Fin 128) = e := Fin.ext (by simp only; omega)
  have eh : hdOf h.val = h := Fin.ext (by simp only [hdOf]; omega)
  have ec : ∀ d : Fin 128, (colOf h.val d).val = 128 * h.val + d.val := fun d => by simp only [colOf]; omega
  show oE _ _ _ _ s (oiArr x0 x1 x2 x3 (c.val / 128)) (c.val / 128) R ⟨c.val % 128, _⟩ = _
  rw [e1, e2]
  unfold oE orow
  rw [oi_at H R h.val h.isLt e]
  refine congrArg (· + _) (Finset.sum_congr rfl fun d _ => ?_)
  have eq := qi_at H R (colOf h.val d)
  rw [ec] at eq
  have es := stE_eq H s (s0 h e d) h.val h.isLt (R.val / 16) (by omega) e d (by rw [eh]; exact hs h e d)
  rw [show 16 * p + R.val / 16 = (256 * p + R.val) / 16 by omega] at es
  exact congrArg₂ (· * ·) eq es

end Cert.Hgrn

end
-- ==== Proof.HgrnBlocks.lean ====
/- The recurrence kernel's run, block by block: what each grid point writes back to the outputs and to the final states, and the
   run with each output array named by the blocks written. -/
module

public import proofs.«01_k».proof.Proof.Gen.KernelIdeal.Frame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — by the frame's rewriting lemma for the case. -/
theorem flushed5_A (c : Dev nD) (t : Fin cfg0.N) (h0 : t.val % 64 = 0) (h1 : ¬t.val % 64 = 63) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  simp only [flushed5, outsAt0_A m c t h0 h1]

/-- … so at a point where case B runs, what its write-back would write is that case's NAMED TERM for the window (`Gen.out0_B_5`: the pieces
    its run found, read back) at the point's memrefs and input blocks, and for an output the case reads back what the point before left (`Gen.outsAt0` at `t - 1`) — by the frame's rewriting lemma for the case. -/
theorem flushed5_B (c : Dev nD) (t : Fin cfg0.N) (h0 : ¬t.val % 64 = 0) (h1 : ¬t.val % 64 = 63) :
    (dats m 0 c).flushed 5 t = (cfg0.win 5).cut (grid0.coords t) (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  simp only [flushed5, outsAt0_B m c t h0 h1]

/-- … so at a point where case C runs, what its write-back would write is that case's NAMED TERM for the window (`Gen.out0_C_5`: the pieces
    its run found, read back) at the point's memrefs and input blocks, and for an output the case reads back what the point before left (`Gen.outsAt0` at `t - 1`) — by the frame's rewriting lemma for the case. -/
theorem flushed5_C (c : Dev nD) (t : Fin cfg0.N) (h0 : ¬t.val % 64 = 0) (h1 : t.val % 64 = 63) :
    (dats m 0 c).flushed 5 t = (cfg0.win 5).cut (grid0.coords t) (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  simp only [flushed5, outsAt0_C m c t h0 h1]

/-- The index map sends distinct grid points to distinct block indices (decided over the 128 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2x16384x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- … so at a point where case A runs, what its write-back would write is that case's NAMED TERM for the window (`Gen.out0_A_6`: the pieces
    its run found, read back) at the point's memrefs and input blocks, and for an output the case reads back what the point before left (`Gen.outsAt0` at `t - 1`) — by the frame's rewriting lemma for the case. -/
theorem flushed6_A (c : Dev nD) (t : Fin cfg0.N) (h0 : t.val % 64 = 0) (h1 : ¬t.val % 64 = 63) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) := by
  simp only [flushed6, outsAt0_A m c t h0 h1]

/-- … so at a point where case B runs, what its write-back would write is that case's NAMED TERM for the window (`Gen.out0_B_6`: the pieces
    its run found, read back) at the point's memrefs and input blocks, and for an output the case reads back what the point before left (`Gen.outsAt0` at `t - 1`) — by the frame's rewriting lemma for the case. -/
theorem flushed6_B (c : Dev nD) (t : Fin cfg0.N) (h0 : ¬t.val % 64 = 0) (h1 : ¬t.val % 64 = 63) :
    (dats m 0 c).flushed 6 t = (cfg0.win 6).cut (grid0.coords t) (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2) := by
  simp only [flushed6, outsAt0_B m c t h0 h1]

/-- … so at a point where case C runs, what its write-back would write is that case's NAMED TERM for the window (`Gen.out0_C_6`: the pieces
    its run found, read back) at the point's memrefs and input blocks, and for an output the case reads back what the point before left (`Gen.outsAt0` at `t - 1`) — by the frame's rewriting lemma for the case. -/
theorem flushed6_C (c : Dev nD) (t : Fin cfg0.N) (h0 : ¬t.val % 64 = 0) (h1 : t.val % 64 = 63) :
    (dats m 0 c).flushed 6 t = (cfg0.win 6).cut (grid0.coords t) (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2) := by
  simp only [flushed6, outsAt0_C m c t h0 h1]

-- no `blocks6`: window 6's index map revisits a block index, or its points could not be enumerated here;
-- the final array is still the frame's `arrAt`, to read with Lib/Pipeline/Value.lean's lemmas by hand

/-- An index that no flushing point's block covers keeps output window 6's array contents at region entry. -/
theorem entry6 (c : Dev nD) (i : S2x4x128x128.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_1) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 5 cfg0.N
      ∧ r.2.mem ((c : Thread nD τ).loc main_v0_1) = (dats m 0 c).arrAt 6 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the points ≡ 0 (mod 64)
    stores the scratch whole without reading what it held, and `acc` does not enter there (nor where no point meets the
    conditions: `acc`, never read). -/
def scAt0_0 (c : Dev nD) (n : ℕ) (hb : n < cfg0.N) (acc : Vec F S4x128x128 .f32) : Vec F S4x128x128 .f32 :=
  if h0 : n % 64 = 0 then
    if h1 : n % 64 = 63 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N))
  else
    if h1 : n % 64 = 63 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc

/-- WHAT CARRIED SCRATCH 0 HOLDS after point `t`: the fold of its run up to `t`, from the reset at the run's first point
    `64·(t / 64)` (Lib/Pipeline/Value.lean `Pipeline.eq_accAt_of_mod`, by the frame's `outsAt0_κ`; without enumerating the points). -/
theorem soutsAt0_0_eq (c : Dev nD) (t : Fin cfg0.N) :
    (outsAt0 m c t.val t.isLt).2.2 = Pipeline.accAt (fun n h => scAt0_0 m c n h (VS0_0.read (Elt F) VS0_0.junk)) (scAt0_0 m c) (64 * (t.val / 64)) (t.val % 64)
      (by have h1 := t.isLt; have h2 := Nat.div_add_mod t.val 64; omega) :=
  Pipeline.eq_accAt_of_mod (fun n h => (outsAt0 m c n h).2.2) 64 (fun n h => scAt0_0 m c n h (VS0_0.read (Elt F) VS0_0.junk)) (scAt0_0 m c)
    (fun n h hn => by
      have hN := lt_of_lt_of_eq h (show cfg0.N = 128 from N_0)
      by_cases h0 : n % 64 = 0 <;> by_cases h1 : n % 64 = 63
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 128 from N_0)
      by_cases h0 : (n + 1) % 64 = 0 <;> by_cases h1 : (n + 1) % 64 = 63
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x256x512 .f32 × Vec F S1x4x128x128 .f32 × Vec F S4x128x128 .f32 :=
  ((VO0_5.read (Elt F) VO0_5.junk, VO0_6.read (Elt F) VO0_6.junk, VS0_0.read (Elt F) VS0_0.junk) : Vec F S1x256x512 .f32 × Vec F S1x4x128x128 .f32 × Vec F S4x128x128 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1x256x512 .f32 × Vec F S1x4x128x128 .f32 × Vec F S4x128x128 .f32) : Vec F S1x256x512 .f32 × Vec F S1x4x128x128 .f32 × Vec F S4x128x128 .f32 :=
  if h0 : n % 64 = 0 then
    if h1 : n % 64 = 63 then
      False.elim (by have hN : n < 128 := lt_of_lt_of_eq hb (show cfg0.N = 128 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 64 = 63 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) scM0_0 (Memref.isWhole_whole _) scM0_1 (Memref.isWhole_whole _) scM0_2 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2)

/-- `stAt0` at a point of case A: that case's contents. -/
theorem stAt0_A (c : Dev nD) (t : Fin cfg0.N) (acc : Vec F S1x256x512 .f32 × Vec F S1x4x128x128 .f32 × Vec F S4x128x128 .f32) (h0 : t.val % 64 = 0) (h1 : ¬t.val % 64 = 63) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- `stAt0` at a point of case B: that case's contents, over `acc`. -/
theorem stAt0_B (c : Dev nD) (t : Fin cfg0.N) (acc : Vec F S1x256x512 .f32 × Vec F S1x4x128x128 .f32 × Vec F S4x128x128 .f32) (h0 : ¬t.val % 64 = 0) (h1 : ¬t.val % 64 = 63) :
    stAt0 m c t.val t.isLt acc = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) acc.2.2) :=
  (dif_neg h0).trans ((dif_neg h1).trans rfl)

/-- `stAt0` at a point of case C: that case's contents, over `acc`. -/
theorem stAt0_C (c : Dev nD) (t : Fin cfg0.N) (acc : Vec F S1x256x512 .f32 × Vec F S1x4x128x128 .f32 × Vec F S4x128x128 .f32) (h0 : ¬t.val % 64 = 0) (h1 : t.val % 64 = 63) :
    stAt0 m c t.val t.isLt acc = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) acc.2.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 128 from N_0)
  have e := Pipeline.eq_accAt_of_mod (fun n h => outsAt0 m c n h) 128 (fun n h => stAt0 m c n h junk0) (stAt0 m c)
    (fun n h _ => by
      have hN := lt_of_lt_of_eq h (show cfg0.N = 128 from N_0)
      obtain rfl : n = 0 := by omega
      exact outsAt0_zero m c h)
    (fun n h _ => outsAt0_succ m c n h)
    (by decide) n hn (by have := Nat.div_add_mod n 128; omega)
  have hd : n / 128 = 0 := Nat.div_eq_of_lt hN
  have hm : n % 128 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one per point),
    `i`'s place in it, and the point that writes it back. -/
abbrev run5Of (i : S2x16384x512.Idx) : ℕ := 64 * ((i 0).val / 1 - 0) + 1 * ((i 1).val / 256 - 0) + 1 * ((i 2).val / 512 - 0)
set_option backward.proofsInPublic true in
abbrev loc5Of (i : S2x16384x512.Idx) : S1x256x512.Idx := fun a => match a with
  | ⟨0, _⟩ => ⟨(i 0).val % 1, Nat.mod_lt _ (by decide)⟩
  | ⟨1, _⟩ => ⟨(i 1).val % 256, Nat.mod_lt _ (by decide)⟩
  | ⟨2, _⟩ => ⟨(i 2).val % 512, Nat.mod_lt _ (by decide)⟩
abbrev pt5Of (i : S2x16384x512.Idx) : ℕ := run5Of i

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v0_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t`). -/
theorem idx_facts5 : ∀ t : Fin cfg0.N, 0 ≤ win0_5.index t (0 : Fin 3) ∧ win0_5.index t (0 : Fin 3) ≤ 1
    ∧ 0 ≤ win0_5.index t (1 : Fin 3) ∧ win0_5.index t (1 : Fin 3) ≤ 63
    ∧ 0 ≤ win0_5.index t (2 : Fin 3) ∧ win0_5.index t (2 : Fin 3) ≤ 0
    ∧ 64 * (win0_5.index t (0 : Fin 3) - 0) + 1 * (win0_5.index t (1 : Fin 3) - 0) + 1 * (win0_5.index t (2 : Fin 3) - 0) = t.val :=
  (by decide +kernel : ∀ t : Fin grid0.N, _)

/-- Every block of the box is SOME flushing point's: `onto5Pt`, the point that writes back the block at place `q` of the box. -/
abbrev onto5Pt (q0 : Fin 2) (q1 : Fin 64) (q2 : Fin 1) : Fin grid0.N :=
  ⟨64 * q0.val + 1 * q1.val + 1 * q2.val, lt_of_lt_of_eq (by omega) N_0.symm⟩
theorem idx_onto5 : ∀ (q0 : Fin 2) (q1 : Fin 64) (q2 : Fin 1), ∃ t : Fin cfg0.N, (cfg0.win 5).flush t = true ∧ win0_5.index t = ![q0.val + 0, q1.val + 0, q2.val + 0] :=
  fun q0 q1 q2 => ⟨onto5Pt q0 q1 q2, (by decide +kernel : ∀ (q0 : Fin 2) (q1 : Fin 64) (q2 : Fin 1), win0_5.flush (onto5Pt q0 q1 q2) = true ∧ win0_5.index (onto5Pt q0 q1 q2) = ![q0.val + 0, q1.val + 0, q2.val + 0]) q0 q1 q2⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  obtain ⟨e0, e1, e2, e3⟩ := idx_facts5 t
  funext y
  have hy0 : (y 0).val < 1 := (y 0).isLt
  have hy1 : (y 1).val < 256 := (y 1).isLt
  have hy2 : (y 2).val < 512 := (y 2).isLt
  have hb0 : (((cfg0.win 5).blk t).view.emb y 0).val = win0_5.index t (0 : Fin 3) * 1 + 1 * (y 0).val := rfl
  have hb1 : (((cfg0.win 5).blk t).view.emb y 1).val = win0_5.index t (1 : Fin 3) * 256 + 1 * (y 1).val := rfl
  have hb2 : (((cfg0.win 5).blk t).view.emb y 2).val = win0_5.index t (2 : Fin 3) * 512 + 1 * (y 2).val := rfl
  have hr : run5Of (((cfg0.win 5).blk t).view.emb y) = t.val := by
    show 64 * ((((cfg0.win 5).blk t).view.emb y 0).val / 1 - 0) + 1 * ((((cfg0.win 5).blk t).view.emb y 1).val / 256 - 0) + 1 * ((((cfg0.win 5).blk t).view.emb y 2).val / 512 - 0) = _
    rw [hb0, hb1, hb2]
    rw [show (win0_5.index t (0 : Fin 3) * 1 + 1 * (y 0).val) / 1 = win0_5.index t (0 : Fin 3) from by omega]; rw [show (win0_5.index t (1 : Fin 3) * 256 + 1 * (y 1).val) / 256 = win0_5.index t (1 : Fin 3) from by omega]; rw [show (win0_5.index t (2 : Fin 3) * 512 + 1 * (y 2).val) / 512 = win0_5.index t (2 : Fin 3) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 1 = (y 0).val; rw [hb0]; omega
    | ⟨1, _⟩ => show (((cfg0.win 5).blk t).view.emb y 1).val % 256 = (y 1).val; rw [hb1]; omega
    | ⟨2, _⟩ => show (((cfg0.win 5).blk t).view.emb y 2).val % 512 = (y 2).val; rw [hb2]; omega
  have hp : pt5Of (((cfg0.win 5).blk t).view.emb y) = t.val := by
    exact hr
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2x16384x512.Idx) :
    i ∈ ((cfg0.win 5).blk t).view.set ↔ ∀ a : Fin 3, win0_5.index t a * S1x256x512.size a ≤ (i a).val ∧ (i a).val < win0_5.index t a * S1x256x512.size a + S1x256x512.size a := by
  show i ∈ ((View.whole main_v0_0).slice (win0_5.rect t)).set ↔ _
  rw [View.set_slice_whole, Rect.mem_set_unit]
  exact Iff.rfl

/-- THE COVERED INDICES: in some flushing point's block iff inside the box those blocks fill. -/
theorem covered_iff5 (i : S2x16384x512.Idx) :
    (∃ t : Fin cfg0.N, (cfg0.win 5).flush t = true ∧ i ∈ ((cfg0.win 5).blk t).view.set) ↔ 0 ≤ (i 0).val ∧ (i 0).val < 2 ∧ 0 ≤ (i 1).val ∧ (i 1).val < 16384 ∧ 0 ≤ (i 2).val ∧ (i 2).val < 512 := by
  constructor
  · rintro ⟨t, -, hi⟩
    rw [mem_blk5] at hi
    have b0 : win0_5.index t (0 : Fin 3) * 1 ≤ (i 0).val ∧ (i 0).val < win0_5.index t (0 : Fin 3) * 1 + 1 := hi 0
    have b1 : win0_5.index t (1 : Fin 3) * 256 ≤ (i 1).val ∧ (i 1).val < win0_5.index t (1 : Fin 3) * 256 + 256 := hi 1
    have b2 : win0_5.index t (2 : Fin 3) * 512 ≤ (i 2).val ∧ (i 2).val < win0_5.index t (2 : Fin 3) * 512 + 512 := hi 2
    obtain ⟨e0, e1, e2, e3⟩ := idx_facts5 t
    omega
  · intro h
    have hi0 : (i 0).val < 2 := (i 0).isLt
    have hi1 : (i 1).val < 16384 := (i 1).isLt
    have hi2 : (i 2).val < 512 := (i 2).isLt
    obtain ⟨t, hft, ht⟩ := idx_onto5 ⟨(i 0).val / 1 - 0, by omega⟩ ⟨(i 1).val / 256 - 0, by omega⟩ ⟨(i 2).val / 512 - 0, by omega⟩
    have q0 : win0_5.index t (0 : Fin 3) = (i 0).val / 1 - 0 + 0 := congrFun ht 0
    have q1 : win0_5.index t (1 : Fin 3) = (i 1).val / 256 - 0 + 0 := congrFun ht 1
    have q2 : win0_5.index t (2 : Fin 3) = (i 2).val / 512 - 0 + 0 := congrFun ht 2
    refine ⟨t, hft, ?_⟩
    rw [mem_blk5]
    intro a
    match a with
    | ⟨0, _⟩ => show win0_5.index t (0 : Fin 3) * 1 ≤ (i 0).val ∧ (i 0).val < win0_5.index t (0 : Fin 3) * 1 + 1; omega
    | ⟨1, _⟩ => show win0_5.index t (1 : Fin 3) * 256 ≤ (i 1).val ∧ (i 1).val < win0_5.index t (1 : Fin 3) * 256 + 256; omega
    | ⟨2, _⟩ => show win0_5.index t (2 : Fin 3) * 512 ≤ (i 2).val ∧ (i 2).val < win0_5.index t (2 : Fin 3) * 512 + 512; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2 := (i 0).isLt; have h1 : (i 1).val < 16384 := (i 1).isLt; have h2 : (i 2).val < 512 := (i 2).isLt; omega))

/-! ## Output window 6 -/

/-- The block of the array that holds index `i`, numbered in the order the points write the blocks back (one every 64 points),
    `i`'s place in it, and the point that writes it back (the last of its 64). -/
abbrev run6Of (i : S2x4x128x128.Idx) : ℕ := 1 * ((i 0).val / 1 - 0) + 1 * ((i 1).val / 4 - 0) + 1 * ((i 2).val / 128 - 0) + 1 * ((i 3).val / 128 - 0)
set_option backward.proofsInPublic true in
abbrev loc6Of (i : S2x4x128x128.Idx) : S1x4x128x128.Idx := fun a => match a with
  | ⟨0, _⟩ => ⟨(i 0).val % 1, Nat.mod_lt _ (by decide)⟩
  | ⟨1, _⟩ => ⟨(i 1).val % 4, Nat.mod_lt _ (by decide)⟩
  | ⟨2, _⟩ => ⟨(i 2).val % 128, Nat.mod_lt _ (by decide)⟩
  | ⟨3, _⟩ => ⟨(i 3).val % 128, Nat.mod_lt _ (by decide)⟩
abbrev pt6Of (i : S2x4x128x128.Idx) : ℕ := 64 * run6Of i + 63

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v0_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t / 64`). -/
theorem idx_facts6 : ∀ t : Fin cfg0.N, 0 ≤ win0_6.index t (0 : Fin 4) ∧ win0_6.index t (0 : Fin 4) ≤ 1
    ∧ 0 ≤ win0_6.index t (1 : Fin 4) ∧ win0_6.index t (1 : Fin 4) ≤ 0
    ∧ 0 ≤ win0_6.index t (2 : Fin 4) ∧ win0_6.index t (2 : Fin 4) ≤ 0
    ∧ 0 ≤ win0_6.index t (3 : Fin 4) ∧ win0_6.index t (3 : Fin 4) ≤ 0
    ∧ 1 * (win0_6.index t (0 : Fin 4) - 0) + 1 * (win0_6.index t (1 : Fin 4) - 0) + 1 * (win0_6.index t (2 : Fin 4) - 0) + 1 * (win0_6.index t (3 : Fin 4) - 0) = t.val / 64 :=
  (by decide +kernel : ∀ t : Fin grid0.N, _)

/-- Every block of the box is SOME flushing point's: `onto6Pt`, the point that writes back the block at place `q` of the box (the last point of its run). -/
abbrev onto6Pt (q0 : Fin 2) (q1 : Fin 1) (q2 : Fin 1) (q3 : Fin 1) : Fin grid0.N :=
  ⟨64 * (1 * q0.val + 1 * q1.val + 1 * q2.val + 1 * q3.val) + 63, lt_of_lt_of_eq (by omega) N_0.symm⟩
theorem idx_onto6 : ∀ (q0 : Fin 2) (q1 : Fin 1) (q2 : Fin 1) (q3 : Fin 1), ∃ t : Fin cfg0.N, (cfg0.win 6).flush t = true ∧ win0_6.index t = ![q0.val + 0, q1.val + 0, q2.val + 0, q3.val + 0] :=
  fun q0 q1 q2 q3 => ⟨onto6Pt q0 q1 q2 q3, (by decide +kernel : ∀ (q0 : Fin 2) (q1 : Fin 1) (q2 : Fin 1) (q3 : Fin 1), win0_6.flush (onto6Pt q0 q1 q2 q3) = true ∧ win0_6.index (onto6Pt q0 q1 q2 q3) = ![q0.val + 0, q1.val + 0, q2.val + 0, q3.val + 0]) q0 q1 q2 q3⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  have hm : t.val % 64 = 63 := (flush0_6 t).mp hf
  obtain ⟨e0, e1, e2, e3, e4⟩ := idx_facts6 t
  funext y
  have hy0 : (y 0).val < 1 := (y 0).isLt
  have hy1 : (y 1).val < 4 := (y 1).isLt
  have hy2 : (y 2).val < 128 := (y 2).isLt
  have hy3 : (y 3).val < 128 := (y 3).isLt
  have hb0 : (((cfg0.win 6).blk t).view.emb y 0).val = win0_6.index t (0 : Fin 4) * 1 + 1 * (y 0).val := rfl
  have hb1 : (((cfg0.win 6).blk t).view.emb y 1).val = win0_6.index t (1 : Fin 4) * 4 + 1 * (y 1).val := rfl
  have hb2 : (((cfg0.win 6).blk t).view.emb y 2).val = win0_6.index t (2 : Fin 4) * 128 + 1 * (y 2).val := rfl
  have hb3 : (((cfg0.win 6).blk t).view.emb y 3).val = win0_6.index t (3 : Fin 4) * 128 + 1 * (y 3).val := rfl
  have hr : run6Of (((cfg0.win 6).blk t).view.emb y) = t.val / 64 := by
    show 1 * ((((cfg0.win 6).blk t).view.emb y 0).val / 1 - 0) + 1 * ((((cfg0.win 6).blk t).view.emb y 1).val / 4 - 0) + 1 * ((((cfg0.win 6).blk t).view.emb y 2).val / 128 - 0) + 1 * ((((cfg0.win 6).blk t).view.emb y 3).val / 128 - 0) = _
    rw [hb0, hb1, hb2, hb3]
    rw [show (win0_6.index t (0 : Fin 4) * 1 + 1 * (y 0).val) / 1 = win0_6.index t (0 : Fin 4) from by omega]; rw [show (win0_6.index t (1 : Fin 4) * 4 + 1 * (y 1).val) / 4 = win0_6.index t (1 : Fin 4) from by omega]; rw [show (win0_6.index t (2 : Fin 4) * 128 + 1 * (y 2).val) / 128 = win0_6.index t (2 : Fin 4) from by omega]; rw [show (win0_6.index t (3 : Fin 4) * 128 + 1 * (y 3).val) / 128 = win0_6.index t (3 : Fin 4) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 4 = (y 1).val; rw [hb1]; omega
    | ⟨2, _⟩ => show (((cfg0.win 6).blk t).view.emb y 2).val % 128 = (y 2).val; rw [hb2]; omega
    | ⟨3, _⟩ => show (((cfg0.win 6).blk t).view.emb y 3).val % 128 = (y 3).val; rw [hb3]; omega
  have hp : pt6Of (((cfg0.win 6).blk t).view.emb y) = t.val := by
    show 64 * run6Of (((cfg0.win 6).blk t).view.emb y) + 63 = _
    rw [hr]; have := Nat.div_add_mod t.val 64; omega
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S2x4x128x128.Idx) :
    i ∈ ((cfg0.win 6).blk t).view.set ↔ ∀ a : Fin 4, win0_6.index t a * S1x4x128x128.size a ≤ (i a).val ∧ (i a).val < win0_6.index t a * S1x4x128x128.size a + S1x4x128x128.size a := by
  show i ∈ ((View.whole main_v0_1).slice (win0_6.rect t)).set ↔ _
  rw [View.set_slice_whole, Rect.mem_set_unit]
  exact Iff.rfl

/-- THE COVERED INDICES: in some flushing point's block iff inside the box those blocks fill. -/
theorem covered_iff6 (i : S2x4x128x128.Idx) :
    (∃ t : Fin cfg0.N, (cfg0.win 6).flush t = true ∧ i ∈ ((cfg0.win 6).blk t).view.set) ↔ 0 ≤ (i 0).val ∧ (i 0).val < 2 ∧ 0 ≤ (i 1).val ∧ (i 1).val < 4 ∧ 0 ≤ (i 2).val ∧ (i 2).val < 128 ∧ 0 ≤ (i 3).val ∧ (i 3).val < 128 := by
  constructor
  · rintro ⟨t, -, hi⟩
    rw [mem_blk6] at hi
    have b0 : win0_6.index t (0 : Fin 4) * 1 ≤ (i 0).val ∧ (i 0).val < win0_6.index t (0 : Fin 4) * 1 + 1 := hi 0
    have b1 : win0_6.index t (1 : Fin 4) * 4 ≤ (i 1).val ∧ (i 1).val < win0_6.index t (1 : Fin 4) * 4 + 4 := hi 1
    have b2 : win0_6.index t (2 : Fin 4) * 128 ≤ (i 2).val ∧ (i 2).val < win0_6.index t (2 : Fin 4) * 128 + 128 := hi 2
    have b3 : win0_6.index t (3 : Fin 4) * 128 ≤ (i 3).val ∧ (i 3).val < win0_6.index t (3 : Fin 4) * 128 + 128 := hi 3
    obtain ⟨e0, e1, e2, e3, e4⟩ := idx_facts6 t
    omega
  · intro h
    have hi0 : (i 0).val < 2 := (i 0).isLt
    have hi1 : (i 1).val < 4 := (i 1).isLt
    have hi2 : (i 2).val < 128 := (i 2).isLt
    have hi3 : (i 3).val < 128 := (i 3).isLt
    obtain ⟨t, hft, ht⟩ := idx_onto6 ⟨(i 0).val / 1 - 0, by omega⟩ ⟨(i 1).val / 4 - 0, by omega⟩ ⟨(i 2).val / 128 - 0, by omega⟩ ⟨(i 3).val / 128 - 0, by omega⟩
    have q0 : win0_6.index t (0 : Fin 4) = (i 0).val / 1 - 0 + 0 := congrFun ht 0
    have q1 : win0_6.index t (1 : Fin 4) = (i 1).val / 4 - 0 + 0 := congrFun ht 1
    have q2 : win0_6.index t (2 : Fin 4) = (i 2).val / 128 - 0 + 0 := congrFun ht 2
    have q3 : win0_6.index t (3 : Fin 4) = (i 3).val / 128 - 0 + 0 := congrFun ht 3
    refine ⟨t, hft, ?_⟩
    rw [mem_blk6]
    intro a
    match a with
    | ⟨0, _⟩ => show win0_6.index t (0 : Fin 4) * 1 ≤ (i 0).val ∧ (i 0).val < win0_6.index t (0 : Fin 4) * 1 + 1; omega
    | ⟨1, _⟩ => show win0_6.index t (1 : Fin 4) * 4 ≤ (i 1).val ∧ (i 1).val < win0_6.index t (1 : Fin 4) * 4 + 4; omega
    | ⟨2, _⟩ => show win0_6.index t (2 : Fin 4) * 128 ≤ (i 2).val ∧ (i 2).val < win0_6.index t (2 : Fin 4) * 128 + 128; omega
    | ⟨3, _⟩ => show win0_6.index t (3 : Fin 4) * 128 ≤ (i 3).val ∧ (i 3).val < win0_6.index t (3 : Fin 4) * 128 + 128; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 2 := (i 0).isLt; have h1 : (i 1).val < 4 := (i 1).isLt; have h2 : (i 2).val < 128 := (i 2).isLt; have h3 : (i 3).val < 128 := (i 3).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      kept_main_arg0 m r h c,
      kept_main_arg1 m r h c,
      kept_main_arg2 m r h c,
      kept_main_arg3 m r h c,
      kept_main_arg4 m r h c⟩)
    (run_main m ρ)

end Cert.KernelIdeal.Value

end
-- ==== Proof.HgrnGrid.lean ====
/- The grid of the recurrence: the state after each point and the arrays after the run. -/
module

public import proofs.«01_k».proof.Proof.HgrnArr
public import proofs.«01_k».proof.Proof.HgrnBlockA
public import proofs.«01_k».proof.Proof.HgrnBlockB
public import proofs.«01_k».proof.Proof.HgrnBlockC
public import proofs.«01_k».proof.Proof.HgrnBlockOut
public import proofs.«01_k».proof.Proof.HgrnBlocks

@[expose] public section

set_option maxRecDepth 16384

noncomputable section

namespace Cert.Hgrn

open Cert.KernelIdeal Cert.KernelIdeal.Gen Idealize.ShloMosaic Idealize.ShloMosaic.TcCoe Idealize.SL.Sem

variable (m : (ℓ : Loc nD τ sig) → Buf (Elt Ideal) ℓ)

/-- The queries' array. -/
abbrev aQ (c : Dev nD) : FVec Ideal S2x16384x512 .f32 := m ((c : Thread nD τ).loc main_arg0)
/-- The gates' array. -/
abbrev aG (c : Dev nD) : FVec Ideal S2x16384x512 .f32 := m ((c : Thread nD τ).loc main_arg1)
/-- The values' array. -/
abbrev aV (c : Dev nD) : FVec Ideal S2x16384x512 .f32 := m ((c : Thread nD τ).loc main_arg2)
/-- The lower bounds' array. -/
abbrev aB (c : Dev nD) : FVec Ideal S1x512 .f32 := m ((c : Thread nD τ).loc main_arg3)
/-- The initial states' array. -/
abbrev aS (c : Dev nD) : FVec Ideal S2x4x128x128 .f32 := m ((c : Thread nD τ).loc main_arg4)

/-- Every window's block index at a grid point: 64 blocks of rows per sample. -/
theorem idx : ∀ t : Fin cfg0.N, win0_0.index t = ![t.val / 64, t.val % 64, 0]
    ∧ win0_1.index t = ![t.val / 64, t.val % 64, 0]
    ∧ win0_2.index t = ![t.val / 64, t.val % 64, 0]
    ∧ win0_3.index t = ![0, 0]
    ∧ win0_4.index t = ![t.val / 64, 0, 0, 0]
    ∧ win0_5.index t = ![t.val / 64, t.val % 64, 0]
    ∧ win0_6.index t = ![t.val / 64, 0, 0, 0] :=
  (by decide +kernel : ∀ t : Fin grid0.N, _)

/-- The grid has 128 points. -/
theorem lt128 (t : Fin cfg0.N) : t.val < 128 := lt_of_lt_of_eq t.isLt (show cfg0.N = 128 from N_0)

/-- The sample of a grid point. -/
def bOf (t : Fin cfg0.N) : Fin 2 := ⟨t.val / 64, by have := lt128 t; omega⟩

/-- A block of queries. -/
theorem blk0 (c : Dev nD) (t : Fin cfg0.N) (R : Fin 256) (j : Fin 512) :
    (iblk m c 0 t : FVec Ideal S1x256x512 .f32) (ix3 0 R j) = rowsOf (aQ m c) (bOf t) (256 * (t.val % 64) + R.val) j.val := by
  rw [rowsOf_blk _ _ _ (Nat.mod_lt _ (by decide))]
  unfold aQ bOf
  have := lt128 t
  blk_point [iblk, V, idx t]

/-- A block of gates. -/
theorem blk1 (c : Dev nD) (t : Fin cfg0.N) (R : Fin 256) (j : Fin 512) :
    (iblk m c 1 t : FVec Ideal S1x256x512 .f32) (ix3 0 R j) = rowsOf (aG m c) (bOf t) (256 * (t.val % 64) + R.val) j.val := by
  rw [rowsOf_blk _ _ _ (Nat.mod_lt _ (by decide))]
  unfold aG bOf
  have := lt128 t
  blk_point [iblk, V, idx t]

/-- A block of values. -/
theorem blk2 (c : Dev nD) (t : Fin cfg0.N) (R : Fin 256) (j : Fin 512) :
    (iblk m c 2 t : FVec Ideal S1x256x512 .f32) (ix3 0 R j) = rowsOf (aV m c) (bOf t) (256 * (t.val % 64) + R.val) j.val := by
  rw [rowsOf_blk _ _ _ (Nat.mod_lt _ (by decide))]
  unfold aV bOf
  have := lt128 t
  blk_point [iblk, V, idx t]

/-- The lower bounds. -/
theorem blk3 (c : Dev nD) (t : Fin cfg0.N) (j : Fin 512) :
    (iblk m c 3 t : FVec Ideal S1x512 .f32) (ix2 0 j) = lbOf (aB m c) j.val := by
  rw [lbOf_col]
  unfold aB
  blk_point [iblk, V, idx t]

/-- A sample's initial states. -/
theorem blk4 (c : Dev nD) (t : Fin cfg0.N) (h : Fin 4) (j k : Fin 128) :
    k0_pay3 (F := Ideal) (iblk m c 4 t) (ix3 h j k) = aS m c (ix4 (bOf t) h j k) := by
  have e : k0_pay3 (F := Ideal) (iblk m c 4 t) (ix3 h j k) = (iblk m c 4 t : FVec Ideal S1x4x128x128 .f32) (ix4 0 h j k) := by
    pointwise [k0_pay3]
  rw [e]
  unfold aS bOf
  have := lt128 t
  blk_point [iblk, V, idx t]

/-- What a point's staged arrays hold. -/
theorem rows (c : Dev nD) (hB : ∀ j : ℕ, lbOf (aB m c) j ≠ ⊤) (t : Fin cfg0.N) :
    Rows (iblk m c 0 t) (iblk m c 1 t) (iblk m c 2 t) (iblk m c 3 t) (rowsOf (aQ m c) (bOf t)) (keysOf (aG m c) (aB m c) (bOf t))
      (logsOf (aG m c) (aB m c) (bOf t)) (rowsOf (aV m c) (bOf t)) (t.val % 64) where
  hq R j := blk0 m c t R j
  hl R j := by
    unfold logsOf
    exact congrArg₂ (fun a b => Ideal.log (gate a b)) (blk3 m c t j) (blk1 m c t R j)
  hk R j := by
    unfold keysOf
    exact congrArg₂ (fun a b => 1 - gate a b) (blk3 m c t j) (blk1 m c t R j)
  hv R j := blk2 m c t R j
  ht j h := hB j.val ((blk3 m c t j).symm.trans h)

/-- The carried state after each point. -/
theorem state_at (c : Dev nD) (hB : ∀ j : ℕ, lbOf (aB m c) j ≠ ⊤) : ∀ (n : ℕ) (hn : n < cfg0.N) (h : Fin 4) (j k : Fin 128),
    (outsAt0 m c n hn).2.2 (ix3 h j k) = stV (aG m c) (aV m c) (aB m c) (aS m c) (bOf ⟨n, hn⟩) h j k (16 * (n % 64 + 1)) := by
  intro n
  induction n with
  | zero =>
    intro hn h j k
    have e := outsAt0_A m c ⟨0, hn⟩ (Nat.zero_mod _) (fun h => by simp only at h; omega)
    rw [show outsAt0 m c 0 hn = _ from e]
    dsimp only
    rw [sout0_A_0_eq]
    exact end_at (rows m c hB ⟨0, hn⟩) _ (fun h j k => aS m c (ix4 (bOf ⟨0, hn⟩) h j k)) (fun h j k => blk4 m c ⟨0, hn⟩ h j k) h j k
  | succ n ih =>
    intro hn h j k
    have hN : n + 1 < 128 := lt128 ⟨n + 1, hn⟩
    by_cases h0 : (n + 1) % 64 = 0
    · have e := outsAt0_A m c ⟨n + 1, hn⟩ h0 (by simp only; omega)
      rw [show outsAt0 m c (n + 1) hn = _ from e]
      dsimp only
      rw [sout0_A_0_eq]
      refine end_at (rows m c hB ⟨n + 1, hn⟩) _ (fun h j k => aS m c (ix4 (bOf ⟨n + 1, hn⟩) h j k)) (fun h j k => ?_) h j k
      refine (blk4 m c ⟨n + 1, hn⟩ h j k).trans ?_
      simp only [h0]
      rfl
    · have eb : bOf ⟨n, Nat.lt_of_succ_lt hn⟩ = bOf ⟨n + 1, hn⟩ := Fin.ext (by simp only [bOf]; omega)
      have hs : ∀ (h : Fin 4) (j k : Fin 128), (outsAt0 m c n (Nat.lt_of_succ_lt hn)).2.2 (ix3 h j k)
          = st (keysOf (aG m c) (aB m c) (bOf ⟨n + 1, hn⟩)) (logsOf (aG m c) (aB m c) (bOf ⟨n + 1, hn⟩)) (rowsOf (aV m c) (bOf ⟨n + 1, hn⟩))
            (aS m c (ix4 (bOf ⟨n + 1, hn⟩) h j k)) h.val j.val k.val (16 * ((n + 1) % 64)) := by
        intro h j k
        rw [ih (Nat.lt_of_succ_lt hn) h j k, eb, show n % 64 + 1 = (n + 1) % 64 by omega]
        rfl
      by_cases h1 : (n + 1) % 64 = 63
      · have e := outsAt0_C m c ⟨n + 1, hn⟩ h0 h1
        rw [show outsAt0 m c (n + 1) hn = _ from e]
        dsimp only
        rw [sout0_C_0_eq]
        exact end_at (rows m c hB ⟨n + 1, hn⟩) _ (fun h j k => aS m c (ix4 (bOf ⟨n + 1, hn⟩) h j k)) hs h j k
      · have e := outsAt0_B m c ⟨n + 1, hn⟩ h0 h1
        rw [show outsAt0 m c (n + 1) hn = _ from e]
        dsimp only
        rw [sout0_B_0_eq]
        exact end_at (rows m c hB ⟨n + 1, hn⟩) _ (fun h j k => aS m c (ix4 (bOf ⟨n + 1, hn⟩) h j k)) hs h j k

/-- What a point that starts from a carried state finds there. -/
theorem carried (c : Dev nD) (hB : ∀ j : ℕ, lbOf (aB m c) j ≠ ⊤) (t : Fin cfg0.N) (h0 : ¬t.val % 64 = 0) (h : Fin 4) (j k : Fin 128)
    (hp : t.val - 1 < cfg0.N) :
    (outsAt0 m c (t.val - 1) hp).2.2 (ix3 h j k)
      = st (keysOf (aG m c) (aB m c) (bOf t)) (logsOf (aG m c) (aB m c) (bOf t)) (rowsOf (aV m c) (bOf t))
          (aS m c (ix4 (bOf t) h j k)) h.val j.val k.val (16 * (t.val % 64)) := by
  have eb : bOf ⟨t.val - 1, hp⟩ = bOf t := Fin.ext (by simp only [bOf]; omega)
  rw [state_at m c hB _ hp h j k, eb, show (t.val - 1) % 64 + 1 = t.val % 64 by omega]
  rfl

/-- The outputs each point writes. -/
theorem outs_at (c : Dev nD) (hB : ∀ j : ℕ, lbOf (aB m c) j ≠ ⊤) (t : Fin cfg0.N) (R : Fin 256) (h : Fin 4) (e : Fin 128) (j : Fin 512)
    (hj : j.val = 128 * h.val + e.val) :
    (outsAt0 m c t.val t.isLt).1 (ix3 0 R j) = outV (aQ m c) (aG m c) (aV m c) (aB m c) (aS m c) (bOf t) (256 * (t.val % 64) + R.val) h e := by
  by_cases h0 : t.val % 64 = 0
  · rw [outsAt0_A m c t h0 (by omega)]
    dsimp only
    rw [out0_A_5_eq]
    refine out_at (rows m c hB t) _ (fun h j k => aS m c (ix4 (bOf t) h j k)) (fun h j k => ?_) R h e j hj
    refine (blk4 m c t h j k).trans ?_
    simp only [h0]
    rfl
  · by_cases h1 : t.val % 64 = 63
    · rw [outsAt0_C m c t h0 h1]
      dsimp only
      rw [out0_C_5_eq]
      exact out_at (rows m c hB t) _ (fun h j k => aS m c (ix4 (bOf t) h j k)) (fun h j k => carried m c hB t h0 h j k _) R h e j hj
    · rw [outsAt0_B m c t h0 h1]
      dsimp only
      rw [out0_B_5_eq]
      exact out_at (rows m c hB t) _ (fun h j k => aS m c (ix4 (bOf t) h j k)) (fun h j k => carried m c hB t h0 h j k _) R h e j hj

/-- The final states the last point of a sample writes. -/
theorem fins_at (c : Dev nD) (hB : ∀ j : ℕ, lbOf (aB m c) j ≠ ⊤) (t : Fin cfg0.N) (h1 : t.val % 64 = 63) (h : Fin 4) (j k : Fin 128) :
    (outsAt0 m c t.val t.isLt).2.1 (ix4 0 h j k) = stV (aG m c) (aV m c) (aB m c) (aS m c) (bOf t) h j k 1024 := by
  have h0 : ¬t.val % 64 = 0 := by omega
  rw [outsAt0_C m c t h0 h1]
  dsimp only
  rw [out0_C_6_eq]
  have e : ∀ w : FVec Ideal S4x128x128 .f32, k0_pay2 (F := Ideal) w (ix4 0 h j k) = w (ix3 h j k) := by
    intro w
    pointwise [k0_pay2]
  rw [e]
  refine (end_at (rows m c hB t) _ (fun h j k => aS m c (ix4 (bOf t) h j k)) (fun h j k => carried m c hB t h0 h j k _) h j k).trans ?_
  rw [h1]
  rfl

end Cert.Hgrn

end
-- ==== Proof.HgrnFinal.lean ====
/- The arrays the recurrence leaves. -/
module

public import proofs.«01_k».proof.Proof.HgrnGrid

@[expose] public section

set_option maxRecDepth 16384

noncomputable section

namespace Cert.Hgrn

open Cert.KernelIdeal Cert.KernelIdeal.Gen Idealize.ShloMosaic Idealize.ShloMosaic.TcCoe Idealize.SL.Sem

variable (m : (ℓ : Loc nD τ sig) → Buf (Elt Ideal) ℓ)

/-- An output of the array by its coordinates. -/
theorem outF_at (X G W : FVec Ideal S2x16384x512 .f32) (B : FVec Ideal S1x512 .f32) (S : FVec Ideal S2x4x128x128 .f32) (b : Fin 2) (t : ℕ) (h : Fin 4) (e : Fin 128)
    (i : S2x16384x512.Idx) (hb : (i 0).val = b.val) (ht : (i 1).val = t) (hc : (i 2).val = 128 * h.val + e.val) :
    outV X G W B S b t h e = outF X G W B S i := by
  have e0 : i 0 = b := Fin.ext hb
  have hi : (i 2).val < 512 := (i 2).isLt
  have e1 : (⟨(i 2).val / 128, by omega⟩ : Fin 4) = h := Fin.ext (by simp only; omega)
  have e2 : (⟨(i 2).val % 128, Nat.mod_lt _ (by decide)⟩ : Fin 128) = e := Fin.ext (by simp only; omega)
  unfold outF
  rw [e0, ht, e1, e2]

/-- A final state entry of the array by its coordinates. -/
theorem finF_at (G W : FVec Ideal S2x16384x512 .f32) (B : FVec Ideal S1x512 .f32) (S : FVec Ideal S2x4x128x128 .f32) (b : Fin 2) (h : Fin 4) (j k : Fin 128)
    (i : S2x4x128x128.Idx) (hb : (i 0).val = b.val) (hh : (i 1).val = h.val) (hj : (i 2).val = j.val) (hk : (i 3).val = k.val) :
    stV G W B S b h j k 1024 = finF G W B S i := by
  have e0 : i 0 = b := Fin.ext hb
  have e1 : i 1 = h := Fin.ext hh
  have e2 : i 2 = j := Fin.ext hj
  have e3 : i 3 = k := Fin.ext hk
  unfold finF
  rw [e0, e1, e2, e3]

/-- The outputs after the run. -/
theorem final_out (c : Dev nD) (hB : ∀ j : ℕ, lbOf (aB m c) j ≠ ⊤) : (dats m 0 c).arrAt 5 (cfgs 0).N
    = outF (aQ m c) (aG m c) (aV m c) (aB m c) (aS m c) := by
  refine (dats m 0 c).arrAt_eq_of_covers 5 _ (by decide +kernel) fun t _ y => ?_
  blk_simp
  rw [after0_5]
  idx_vars y
  rw [Subsingleton.elim y0 0]
  refine (outs_at m c hB t y1 ⟨y2.val / 128, by omega⟩ ⟨y2.val % 128, by omega⟩ y2 (by simp only; omega)).trans ?_
  refine outF_at _ _ _ _ _ _ _ _ _ _ ?_ ?_ ?_
  all_goals
    blk_simp [idx t]
    first | omega | (simp only [bOf]; omega) | skip

/-- The final states after the run. -/
theorem final_st (c : Dev nD) (hB : ∀ j : ℕ, lbOf (aB m c) j ≠ ⊤) : (dats m 0 c).arrAt 6 (cfgs 0).N
    = finF (aG m c) (aV m c) (aB m c) (aS m c) := by
  refine (dats m 0 c).arrAt_eq_of_covers 6 _ (by decide +kernel) fun t ht y => ?_
  have h1 : t.val % 64 = 63 := (by decide +kernel : ∀ t : Fin grid0.N, (cfg0.win 6).flush t = true → t.val % 64 = 63) t ht
  blk_simp
  rw [after0_6]
  idx_vars y
  rw [Subsingleton.elim y0 0]
  refine (fins_at m c hB t h1 y1 y2 y3).trans ?_
  refine finF_at _ _ _ _ _ _ _ _ _ ?_ ?_ ?_ ?_
  all_goals
    blk_simp [idx t]
    first | omega | (simp only [bOf]; omega) | skip

end Cert.Hgrn

end
-- ==== Proof.HgrnRefTerms.lean ====
/- The reference's arrays at its loop's entry, as formulas of its arguments. -/
module

public import proofs.«01_k».proof.Proof.Gen.ReferenceIdeal.Run
public import proofs.«01_k».proof.Proof.HgrnArr

@[expose] public section

set_option maxRecDepth 8192

noncomputable section

namespace Cert.Hgrn.Ref

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ)

/-- The gates. -/
def rF (G : FVec Ideal S2x16384x512 .f32) (B : FVec Ideal S1x512 .f32) : FVec Ideal S2x16384x512 .f32 :=
  addf (broadcastInDim S2x16384x512 ![0, 1, 2] bcast_S1x1x512_S2x16384x512_0_1_2 (broadcastInDim S1x1x512 ![2] bcast_S512_S1x1x512_2 (shapeCast S512 B shapeCasts_S1x512_S512)))
    (mulf (broadcastInDim S2x16384x512 ![0, 1, 2] bcast_S1x1x512_S2x16384x512_0_1_2 (broadcastInDim S1x1x512 ![2] bcast_S512_S1x1x512_2
        (subf (broadcastInDim S512 ![] bcast_S_S512 (constant S_ .f32 0x3F800000#32)) (shapeCast S512 B shapeCasts_S1x512_S512))))
      (Host.divf (broadcastInDim S2x16384x512 ![] bcast_S_S2x16384x512 (constant S_ .f32 0x3F800000#32))
        (addf (broadcastInDim S2x16384x512 ![] bcast_S_S2x16384x512 (constant S_ .f32 0x3F800000#32)) (Host.exp (Host.negf G)))))

/-- Rows split in heads and chunks. -/
def rH (X : FVec Ideal S2x16384x512 .f32) : FVec Ideal S2x4x1024x16x128 .f32 :=
  shapeCast S2x4x1024x16x128 (transpose S2x4x16384x128 [0, 2, 1, 3] (shapeCast S2x16384x4x128 X shapeCasts_S2x16384x512_S2x16384x4x128)
    transposes_S2x16384x4x128_S2x4x16384x128_0_2_1_3) shapeCasts_S2x4x16384x128_S2x4x1024x16x128

/-- The keys. -/
def rK (G : FVec Ideal S2x16384x512 .f32) (B : FVec Ideal S1x512 .f32) : FVec Ideal S2x4x1024x16x128 .f32 :=
  rH (subf (broadcastInDim S2x16384x512 ![] bcast_S_S2x16384x512 (constant S_ .f32 0x3F800000#32)) (rF G B))

/-- The causal mask of a chunk. -/
def rM : IVec S16x16 1 :=
  cmpi .sge (broadcastInDim S16x16 ![0, 1] bcast_S16x1_S16x16_0_1 (broadcastInDim S16x1 ![0] bcast_S16_S16x1_0 (iotaInDim S16 32 0)))
    (broadcastInDim S16x16 ![0, 1] bcast_S1x16_S16x16_0_1 (broadcastInDim S1x16 ![1] bcast_S16_S1x16_1 (iotaInDim S16 32 0)))

/-- The log gates summed along each chunk. -/
def rBc (G : FVec Ideal S2x16384x512 .f32) (B : FVec Ideal S1x512 .f32) : FVec Ideal S2x4x1024x16x128 .f32 :=
  transpose S2x4x1024x16x128 [0, 1, 2, 4, 3] (Host.dotGeneral dot_S2x4x1024x16x128_S16x16_S2x4x1024x128x16_3_1_0124_0_n_n none (rH (Host.log (rF G B))) (uitofp .f32 rM))
    transposes_S2x4x1024x128x16_S2x4x1024x16x128_0_1_2_4_3

/-- The queries scaled from the chunk's start. -/
def rQi (X G : FVec Ideal S2x16384x512 .f32) (B : FVec Ideal S1x512 .f32) : FVec Ideal S2x4x1024x16x128 .f32 := mulf (rH X) (Host.exp (rBc G B))

/-- The keys scaled back to the chunk's start. -/
def rKi (G : FVec Ideal S2x16384x512 .f32) (B : FVec Ideal S1x512 .f32) : FVec Ideal S2x4x1024x16x128 .f32 := mulf (rK G B) (Host.exp (Host.negf (rBc G B)))

/-- The keys scaled to the chunk's end. -/
def rKo (G : FVec Ideal S2x16384x512 .f32) (B : FVec Ideal S1x512 .f32) : FVec Ideal S2x4x1024x16x128 .f32 :=
  mulf (rK G B) (Host.exp (subf (broadcastInDim S2x4x1024x16x128 ![0, 1, 2, 3, 4] bcast_S2x4x1024x1x128_S2x4x1024x16x128_0_1_2_3_4
    (extractStridedSlice S2x4x1024x1x128 ![0, 0, 0, 15, 0] (rBc G B) slices_S2x4x1024x16x128_S2x4x1024x1x128_0_0_0_15_0)) (rBc G B)))

/-- The decays of whole chunks. -/
def rDc (G : FVec Ideal S2x16384x512 .f32) (B : FVec Ideal S1x512 .f32) : FVec Ideal S2x4x1024x128 .f32 :=
  Host.exp (shapeCast S2x4x1024x128 (extractStridedSlice S2x4x1024x1x128 ![0, 0, 0, 15, 0] (rBc G B) slices_S2x4x1024x16x128_S2x4x1024x1x128_0_0_0_15_0)
    shapeCasts_S2x4x1024x1x128_S2x4x1024x128)

/-- The masked scores of each chunk. -/
def rA (X G : FVec Ideal S2x16384x512 .f32) (B : FVec Ideal S1x512 .f32) : FVec Ideal S2x4x1024x16x16 .f32 :=
  select (broadcastInDim S2x4x1024x16x16 ![3, 4] bcast_S16x16_S2x4x1024x16x16_3_4 rM)
    (Host.dotGeneral dot_S2x4x1024x16x128_S2x4x1024x16x128_S2x4x1024x16x16_4_4_3_3_012_012 none (rQi X G B) (rKi G B))
    (broadcastInDim S2x4x1024x16x16 ![] bcast_S_S2x4x1024x16x16 (constant S_ .f32 0x00000000#32))

/-- The outputs from each chunk's own rows. -/
def rO (X G W : FVec Ideal S2x16384x512 .f32) (B : FVec Ideal S1x512 .f32) : FVec Ideal S2x4x1024x16x128 .f32 :=
  Host.dotGeneral dot_S2x4x1024x16x16_S2x4x1024x16x128_S2x4x1024x16x128_4_3_3_4_012_012 none (rA X G B) (rH W)

/-- The reference's argument arrays. -/
abbrev rX (c : Dev nD) : FVec Ideal S2x16384x512 .f32 := m ((c.tc : Thread nD τ).loc main_arg0)
/-- The gate pre-activations. -/
abbrev rG (c : Dev nD) : FVec Ideal S2x16384x512 .f32 := m ((c.tc : Thread nD τ).loc main_arg1)
/-- The values. -/
abbrev rW (c : Dev nD) : FVec Ideal S2x16384x512 .f32 := m ((c.tc : Thread nD τ).loc main_arg2)
/-- The lower bounds. -/
abbrev rB (c : Dev nD) : FVec Ideal S1x512 .f32 := m ((c.tc : Thread nD τ).loc main_arg3)
/-- The initial states. -/
abbrev rS (c : Dev nD) : FVec Ideal S2x4x128x128 .f32 := m ((c.tc : Thread nD τ).loc main_arg4)

set_option maxHeartbeats 2000000 in
/-- The values at the loop's entry. -/
theorem pre_3 (c : Dev nD) : entryContents preI m c (Proc.devRef .tc main_v63_3) = transpose S1024x2x4x16x128 [2, 0, 1, 3, 4] (rH (rW m c)) transposes_S2x4x1024x16x128_S1024x2x4x16x128_2_0_1_3_4 := by
  simp only [entryContents, preI, afterL_cons, afterL_nil, hostOps0, hostOps0_1, hostOps0_2]
  after_results_entrywise []

set_option maxHeartbeats 2000000 in
/-- The states at the loop's entry. -/
theorem pre_6 (c : Dev nD) : entryContents preI m c (Proc.devRef .tc main_v63_6) = transpose S2x4x128x128 [0, 1, 3, 2] (rS m c) transposes_S2x4x128x128_S2x4x128x128_0_1_3_2 := by
  simp only [entryContents, preI, afterL_cons, afterL_nil, hostOps0, hostOps0_1, hostOps0_2]
  after_results_entrywise []

set_option maxHeartbeats 2000000 in
/-- The scaled queries at the loop's entry. -/
theorem pre_0 (c : Dev nD) : entryContents preI m c (Proc.devRef .tc main_v63_0) = transpose S1024x2x4x16x128 [2, 0, 1, 3, 4] (rQi (rX m c) (rG m c) (rB m c)) transposes_S2x4x1024x16x128_S1024x2x4x16x128_2_0_1_3_4 := by
  simp only [entryContents, preI, afterL_cons, afterL_nil, hostOps0, hostOps0_1, hostOps0_2]
  after_results_entrywise []

set_option maxHeartbeats 2000000 in
/-- The scaled keys at the loop's entry. -/
theorem pre_2 (c : Dev nD) : entryContents preI m c (Proc.devRef .tc main_v63_2) = transpose S1024x2x4x16x128 [2, 0, 1, 3, 4] (rKo (rG m c) (rB m c)) transposes_S2x4x1024x16x128_S1024x2x4x16x128_2_0_1_3_4 := by
  simp only [entryContents, preI, afterL_cons, afterL_nil, hostOps0, hostOps0_1, hostOps0_2]
  after_results_entrywise []

set_option maxHeartbeats 2000000 in
/-- The decays at the loop's entry. -/
theorem pre_4 (c : Dev nD) : entryContents preI m c (Proc.devRef .tc main_v63_4) = transpose S1024x2x4x128 [2, 0, 1, 3] (rDc (rG m c) (rB m c)) transposes_S2x4x1024x128_S1024x2x4x128_2_0_1_3 := by
  simp only [entryContents, preI, afterL_cons, afterL_nil, hostOps0, hostOps0_1, hostOps0_2]
  after_results_entrywise []

set_option maxHeartbeats 2000000 in
/-- The chunk outputs at the loop's entry. -/
theorem pre_1 (c : Dev nD) : entryContents preI m c (Proc.devRef .tc main_v63_1) = transpose S1024x2x4x16x128 [2, 0, 1, 3, 4] (rO (rX m c) (rG m c) (rW m c) (rB m c)) transposes_S2x4x1024x16x128_S1024x2x4x16x128_2_0_1_3_4 := by
  simp only [entryContents, preI, afterL_cons, afterL_nil, hostOps0, hostOps0_1, hostOps0_2]
  after_results_entrywise []

end Cert.Hgrn.Ref

end
-- ==== Proof.HgrnRefAt.lean ====
/- The reference's arrays at the loop's entry, entry by entry. -/
module

public import proofs.«01_k».proof.Proof.HgrnRefTerms

@[expose] public section

set_option maxRecDepth 16384

noncomputable section

namespace Cert.Hgrn.Ref

open Cert.ReferenceIdeal Cert.ReferenceIdeal.Gen Cert.ReferenceIdeal.Value Idealize.ShloMosaic Idealize.ShloMosaic.TcCoe Idealize.SL.Sem Idealize.ShloMosaic.StableHlo

variable (X G W : FVec Ideal S2x16384x512 .f32) (B : FVec Ideal S1x512 .f32)

/-- A head's entry among the rows. -/
theorem rH_at (b : Fin 2) (h : Fin 4) (n : Fin 1024) (r : Fin 16) (d : Fin 128) :
    rH X (ix5 b h n r d) = rowsOf X b (16 * n.val + r.val) (128 * h.val + d.val) := by
  have e1 : (⟨(16 * n.val + r.val) % 16384, Nat.mod_lt _ (by decide)⟩ : Fin 16384) = ⟨n.val * 16 + r.val, by omega⟩ := Fin.ext (by simp only; omega)
  have e2 : (⟨(128 * h.val + d.val) % 512, Nat.mod_lt _ (by decide)⟩ : Fin 512) = ⟨h.val * 128 + d.val, by omega⟩ := Fin.ext (by simp only; omega)
  unfold rowsOf
  rw [e1, e2]
  unfold rH
  pointwise

/-- A gate's entry. -/
theorem rF_at (b : Fin 2) (t : Fin 16384) (c : Fin 512) : rF G B (ix3 b t c) = gate (B (ix2 0 c)) (G (ix3 b t c)) := by
  unfold rF gate
  pointwise
  rfl

/-- The mask's entry. -/
theorem rM_at (i j : Fin 16) : rM (ix2 i j) = if j.val ≤ i.val then 1#1 else 0#1 := by
  unfold rM
  pointwise
  exact (by decide +kernel : ∀ i j : Fin 16, IntOp.cmpi CmpIPredicate.sge (BitVec.ofNat 32 i.val) (BitVec.ofNat 32 j.val) = if j.val ≤ i.val then 1#1 else 0#1) i j

/-- The mask as a number. -/
theorem rM_num (i j : Fin 16) : (FloatOps.uitofp (F := Ideal) FTy.f32 (rM (ix2 i j)) : EReal) = if j.val ≤ i.val then 1 else 0 := by
  rw [rM_at]
  by_cases h : j.val ≤ i.val
  · rw [if_pos h, if_pos h]
    show ((((1#1 : BitVec 1).toNat : ℕ) : ℝ) : EReal) = 1
    simp
  · rw [if_neg h, if_neg h]
    show ((((0#1 : BitVec 1).toNat : ℕ) : ℝ) : EReal) = 0
    simp

/-- The logs of the gates. -/
theorem rLog_at (b : Fin 2) (t c : ℕ) : rowsOf (Host.log (rF G B)) b t c = logsOf G B b t c := by
  unfold rowsOf logsOf
  pointwise
  rw [rF_at]
  rfl

/-- The keys. -/
theorem rKeys_at (b : Fin 2) (t c : ℕ) :
    rowsOf (subf (broadcastInDim S2x16384x512 ![] bcast_S_S2x16384x512 (constant S_ .f32 0x3F800000#32)) (rF G B)) b t c = keysOf G B b t c := by
  unfold rowsOf keysOf
  pointwise
  rw [rF_at]
  rfl

/-- The keys by head. -/
theorem rK_at (b : Fin 2) (h : Fin 4) (n : Fin 1024) (r : Fin 16) (d : Fin 128) :
    rK G B (ix5 b h n r d) = keysOf G B b (16 * n.val + r.val) (128 * h.val + d.val) := by
  unfold rK
  rw [rH_at, rKeys_at]

/-- A row's chunk. -/
theorem row_div (n : Fin 1024) (r : Fin 16) : (16 * n.val + r.val) / 16 = n.val := by omega

/-- A row's place in its chunk. -/
theorem row_mod (n : Fin 1024) (r : Fin 16) : (16 * n.val + r.val) % 16 = r.val := by omega

/-- The summed log gates. -/
theorem rBc_at (b : Fin 2) (h : Fin 4) (n : Fin 1024) (r : Fin 16) (d : Fin 128) :
    rBc G B (ix5 b h n r d) = bc (logsOf G B b) (16 * n.val + r.val) (128 * h.val + d.val) := by
  unfold rBc bc
  rw [row_div, row_mod]
  pointwise
  refine Finset.sum_congr rfl fun x _ => ?_
  rw [rM_num, rH_at, rLog_at]
  by_cases hx : x.val ≤ r.val
  · rw [if_pos hx, if_pos hx, mul_one]
  · rw [if_neg hx, if_neg hx, mul_zero]

/-- The chunk decays. -/
theorem rDc_at (b : Fin 2) (h : Fin 4) (n : Fin 1024) (d : Fin 128) :
    rDc G B (ix4 b h n d) = dc (logsOf G B b) n.val (128 * h.val + d.val) := by
  unfold rDc dc
  pointwise
  rw [rBc_at]
  rfl

/-- The keys scaled to the chunk's end. -/
theorem rKo_at (b : Fin 2) (h : Fin 4) (n : Fin 1024) (r : Fin 16) (d : Fin 128) :
    rKo G B (ix5 b h n r d) = ko (keysOf G B b) (logsOf G B b) (16 * n.val + r.val) (128 * h.val + d.val) := by
  unfold rKo ko
  rw [row_div]
  pointwise
  rw [rK_at, rBc_at, rBc_at]
  rfl

/-- The scaled queries. -/
theorem rQi_at (b : Fin 2) (h : Fin 4) (n : Fin 1024) (r : Fin 16) (d : Fin 128) :
    rQi X G B (ix5 b h n r d) = qi (rowsOf X b) (logsOf G B b) (16 * n.val + r.val) (128 * h.val + d.val) := by
  unfold rQi qi
  pointwise
  rw [rH_at, rBc_at]

/-- The keys scaled to the chunk's start. -/
theorem rKi_at (b : Fin 2) (h : Fin 4) (n : Fin 1024) (r : Fin 16) (d : Fin 128) :
    rKi G B (ix5 b h n r d) = ki (keysOf G B b) (logsOf G B b) (16 * n.val + r.val) (128 * h.val + d.val) := by
  unfold rKi ki
  pointwise
  rw [rK_at, rBc_at]

/-- The scores. -/
theorem rA_at (b : Fin 2) (h : Fin 4) (n : Fin 1024) (r j : Fin 16) :
    rA X G B (ix5 b h n r j) = if j.val ≤ r.val then ∑ d : Fin 128, rQi X G B (ix5 b h n r d) * rKi G B (ix5 b h n j d) else 0 := by
  unfold rA
  pointwise
  rw [rM_at]
  by_cases hx : j.val ≤ r.val
  · rw [if_pos hx, if_pos hx]
    rfl
  · rw [if_neg hx, if_neg hx]
    rfl

/-- The chunk outputs. -/
theorem rO_at (b : Fin 2) (h : Fin 4) (n : Fin 1024) (r : Fin 16) (e : Fin 128) :
    rO X G W B (ix5 b h n r e) = oi (rowsOf X b) (keysOf G B b) (logsOf G B b) (rowsOf W b) (16 * n.val + r.val) h.val e.val := by
  have h1 : rO X G W B (ix5 b h n r e) = ∑ j : Fin 16, rA X G B (ix5 b h n r j) * rH W (ix5 b h n j e) := by
    unfold rO
    pointwise
  rw [h1]
  unfold oi
  rw [row_div, row_mod]
  refine Finset.sum_congr rfl fun j _ => ?_
  rw [rA_at, rH_at]
  simp only [rQi_at, rKi_at]

end Cert.Hgrn.Ref

end
-- ==== Proof.HgrnRefStep.lean ====
/- One trip of the reference's loop, entry by entry. -/
module

public import proofs.«01_k».proof.Proof.HgrnRefTerms
public import Idealize.ShloMosaic.Lib.DynamicIndex
public import Idealize.ShloMosaic.Lib.Pipeline.Value

@[expose] public section

set_option maxRecDepth 16384

noncomputable section

namespace Cert.Hgrn.Ref

open Cert.ReferenceIdeal Cert.ReferenceIdeal.Gen Cert.ReferenceIdeal.Value Idealize.ShloMosaic Idealize.ShloMosaic.TcCoe Idealize.SL.Sem Idealize.ShloMosaic.StableHlo

/-- The counter word of a trip, as a number. -/
theorem iv_toInt (k : Fin 1024) : (Scf.iv 0#32 1#32 k.val).toInt = k.val :=
  (by decide +kernel : ∀ k : Fin 1024, (Scf.iv 0#32 1#32 k.val).toInt = k.val) k

/-- A trip's slice of a stacked array of rows. -/
theorem slice5 (k : Fin 1024) (x : FVec Ideal S1024x2x4x16x128 .f32) (start : Fin S1024x2x4x16x128.rank → Int)
    (hs : ∀ a, start a = ((![k.val, 0, 0, 0, 0] : Fin 5 → ℕ) a : Int)) (b : Fin 2) (h : Fin 4) (r : Fin 16) (d : Fin 128) :
    shapeCast S2x4x16x128 (Host.dynamicSlice S1x2x4x16x128 x start sliceFits_S1024x2x4x16x128_S1x2x4x16x128) shapeCasts_S1x2x4x16x128_S2x4x16x128 (ix4 b h r d)
      = x (ix5 k b h r d) := by
  have hoff : S1024x2x4x16x128.Slices (![k.val, 0, 0, 0, 0] : Fin 5 → ℕ) S1x2x4x16x128 :=
    ⟨rfl, fun a => by have := k.isLt; fin_cases a <;> simp <;> omega⟩
  rw [Host.dynamicSlice_eq_extractStridedSlice S1x2x4x16x128 x start (![k.val, 0, 0, 0, 0] : Fin 5 → ℕ) _ hoff hs]
  pointwise

/-- A trip's slice of the stacked decays. -/
theorem slice4 (k : Fin 1024) (x : FVec Ideal S1024x2x4x128 .f32) (start : Fin S1024x2x4x128.rank → Int)
    (hs : ∀ a, start a = ((![k.val, 0, 0, 0] : Fin 4 → ℕ) a : Int)) (b : Fin 2) (h : Fin 4) (d : Fin 128) :
    shapeCast S2x4x128 (Host.dynamicSlice S1x2x4x128 x start sliceFits_S1024x2x4x128_S1x2x4x128) shapeCasts_S1x2x4x128_S2x4x128 (ix3 b h d)
      = x (ix4 k b h d) := by
  have hoff : S1024x2x4x128.Slices (![k.val, 0, 0, 0] : Fin 4 → ℕ) S1x2x4x128 :=
    ⟨rfl, fun a => by have := k.isLt; fin_cases a <;> simp <;> omega⟩
  rw [Host.dynamicSlice_eq_extractStridedSlice S1x2x4x128 x start (![k.val, 0, 0, 0] : Fin 4 → ℕ) _ hoff hs]
  pointwise

/-- A trip's update of the stacked outputs. -/
theorem update5 (k : Fin 1024) (x : FVec Ideal S1024x2x4x16x128 .f32) (u : FVec Ideal S1x2x4x16x128 .f32) (start : Fin S1024x2x4x16x128.rank → Int)
    (hs : ∀ a, start a = ((![k.val, 0, 0, 0, 0] : Fin 5 → ℕ) a : Int)) (n : Fin 1024) (b : Fin 2) (h : Fin 4) (r : Fin 16) (d : Fin 128) :
    Host.dynamicUpdateSlice x u start updateFits_S1024x2x4x16x128_S1x2x4x16x128 (ix5 n b h r d)
      = if n = k then u (ix5 0 b h r d) else x (ix5 n b h r d) := by
  have hoff : S1024x2x4x16x128.Slices (![k.val, 0, 0, 0, 0] : Fin 5 → ℕ) S1x2x4x16x128 :=
    ⟨rfl, fun a => by have := k.isLt; fin_cases a <;> simp <;> omega⟩
  rw [Host.dynamicUpdateSlice_eq_updateSlice x u start _ (![k.val, 0, 0, 0, 0] : Fin 5 → ℕ) (fun a => by have := hoff.2 a; rw [hs a]; omega) hoff]
  pointwise
  by_cases hn : n = k
  · subst hn
    rw [dif_pos ⟨le_refl _, Nat.lt_succ_self _⟩, if_pos rfl]
    exact congrArg (fun z : Fin 1 => u (ix5 z b h r d)) (Subsingleton.elim _ _)
  · rw [dif_neg (fun h => hn (Fin.ext (by omega))), if_neg hn]

/-- The next states from a trip's slices. -/
def nextS (q : FVec Ideal S2x4x128x128 .f32) (cd : FVec Ideal S2x4x128 .f32) (ko' v' : FVec Ideal S2x4x16x128 .f32) : FVec Ideal S2x4x128x128 .f32 :=
  addf (mulf q (broadcastInDim S2x4x128x128 ![0, 1, 2, 3] bcast_S2x4x128x1_S2x4x128x128_0_1_2_3 (broadcastInDim S2x4x128x1 ![0, 1, 2] bcast_S2x4x128_S2x4x128x1_0_1_2 cd)))
    (Host.dotGeneral dot_S2x4x16x128_S2x4x16x128_S2x4x128x128_2_2_3_3_01_01 none ko' v')

/-- An entry of the next states. -/
theorem nextS_at (q : FVec Ideal S2x4x128x128 .f32) (cd : FVec Ideal S2x4x128 .f32) (ko' v' : FVec Ideal S2x4x16x128 .f32) (b : Fin 2) (h : Fin 4) (d e : Fin 128) :
    nextS q cd ko' v' (ix4 b h d e) = q (ix4 b h d e) * cd (ix3 b h d) + ∑ r : Fin 16, ko' (ix4 b h r d) * v' (ix4 b h r e) := by
  unfold nextS
  pointwise

/-- A trip's outputs from its slices. -/
def nextO (s : FVec Ideal S2x4x128x128 .f32) (q o : FVec Ideal S2x4x16x128 .f32) : FVec Ideal S1x2x4x16x128 .f32 :=
  broadcastInDim S1x2x4x16x128 ![1, 2, 3, 4] bcast_S2x4x16x128_S1x2x4x16x128_1_2_3_4
    (addf (Host.dotGeneral dot_S2x4x16x128_S2x4x128x128_S2x4x16x128_3_2_2_3_01_01 none q s) o)

/-- An entry of a trip's outputs. -/
theorem nextO_at (s : FVec Ideal S2x4x128x128 .f32) (q o : FVec Ideal S2x4x16x128 .f32) (b : Fin 2) (h : Fin 4) (r : Fin 16) (e : Fin 128) :
    nextO s q o (ix5 0 b h r e) = (∑ d : Fin 128, q (ix4 b h r d) * s (ix4 b h d e)) + o (ix4 b h r e) := by
  unfold nextO
  pointwise

/-- The starts of a trip's slices of rows. -/
theorem start5 (k : Fin 1024) (a : Fin 5) : ((![fun _ => Scf.iv 0#32 1#32 k.val, constantI S_ 32 0#32, constantI S_ 32 0#32, constantI S_ 32 0#32, constantI S_ 32 0#32] : Fin 5 → IVec S_ 32)
    a (Shape.Idx.first h_S_)).toInt = ((![k.val, 0, 0, 0, 0] : Fin 5 → ℕ) a : Int) := by
  have := iv_toInt k
  fin_cases a
  · exact this
  all_goals rfl

/-- The starts of a trip's slice of the decays. -/
theorem start4 (k : Fin 1024) (a : Fin 4) : ((![fun _ => Scf.iv 0#32 1#32 k.val, constantI S_ 32 0#32, constantI S_ 32 0#32, constantI S_ 32 0#32] : Fin 4 → IVec S_ 32)
    a (Shape.Idx.first h_S_)).toInt = ((![k.val, 0, 0, 0] : Fin 4 → ℕ) a : Int) := by
  have := iv_toInt k
  fin_cases a
  · exact this
  all_goals rfl

variable (V : Valuation τ sig (Elt Ideal)) (k : Fin 1024) (hc : V (Proc.devRef .tc main_v63_5) = fun _ => Scf.iv 0#32 1#32 k.val)

include hc in
/-- A state entry after a trip. -/
theorem step6_at (b : Fin 2) (h : Fin 4) (d e : Fin 128) (q : FVec Ideal S2x4x128x128 .f32) (cd : FVec Ideal S1024x2x4x128 .f32)
    (ko' v' : FVec Ideal S1024x2x4x16x128 .f32) (hq : V (Proc.devRef .tc main_v63_6) = q) (hcd : V (Proc.devRef .tc main_v63_4) = cd)
    (hko : V (Proc.devRef .tc main_v63_2) = ko') (hv : V (Proc.devRef .tc main_v63_3) = v') :
    (step_main_v63_6 V : FVec Ideal S2x4x128x128 .f32) (ix4 b h d e)
      = q (ix4 b h d e) * cd (ix4 k b h d) + ∑ r : Fin 16, ko' (ix5 k b h r d) * v' (ix5 k b h r e) := by
  unfold step_main_v63_6
  rw [hc, hq, hcd, hko, hv]
  refine (nextS_at _ _ _ _ b h d e).trans ?_
  refine congrArg₂ (· + ·) (congrArg _ (slice4 k cd _ (start4 k) b h d)) (Finset.sum_congr rfl fun r _ => ?_)
  exact congrArg₂ (· * ·) (slice5 k ko' _ (start5 k) b h r d) (slice5 k v' _ (start5 k) b h r e)

include hc in
/-- A stacked output after a trip. -/
theorem step7_at (b : Fin 2) (h : Fin 4) (n : Fin 1024) (r : Fin 16) (e : Fin 128) (s : FVec Ideal S2x4x128x128 .f32)
    (qi' oi' acc : FVec Ideal S1024x2x4x16x128 .f32) (hq : V (Proc.devRef .tc main_v63_6) = s) (hcd : V (Proc.devRef .tc main_v63_7) = acc)
    (hko : V (Proc.devRef .tc main_v63_0) = qi') (hv : V (Proc.devRef .tc main_v63_1) = oi') :
    (step_main_v63_7 V : FVec Ideal S1024x2x4x16x128 .f32) (ix5 n b h r e)
      = if n = k then (∑ d : Fin 128, qi' (ix5 k b h r d) * s (ix4 b h d e)) + oi' (ix5 k b h r e) else acc (ix5 n b h r e) := by
  unfold step_main_v63_7
  rw [hc, hq, hcd, hko, hv]
  refine (update5 k acc (nextO s _ _) _ (start5 k) n b h r e).trans ?_
  by_cases hn : n = k
  · rw [if_pos hn, if_pos hn, nextO_at]
    exact congrArg₂ (· + ·) (Finset.sum_congr rfl fun d _ => congrArg (· * s (ix4 b h d e)) (slice5 k qi' _ (start5 k) b h r d)) (slice5 k oi' _ (start5 k) b h r e)
  · rw [if_neg hn, if_neg hn]

end Cert.Hgrn.Ref

end
-- ==== Proof.HgrnRefLoop.lean ====
/- The reference's loop: what its carried arrays hold after each trip, and its results. -/
module

public import proofs.«01_k».proof.Proof.HgrnRefAt
public import proofs.«01_k».proof.Proof.HgrnRefStep

@[expose] public section

set_option maxRecDepth 16384

noncomputable section

namespace Cert.Hgrn.Ref

open Cert.ReferenceIdeal Cert.ReferenceIdeal.Gen Cert.ReferenceIdeal.Value Idealize.ShloMosaic Idealize.ShloMosaic.TcCoe Idealize.SL.Sem Idealize.ShloMosaic.StableHlo

variable (m : (ℓ : Loc nD τ sig) → Buf (Elt Ideal) ℓ)

/-- Every buffer before trip `k`. -/
abbrev vals (c : Dev nD) (k : ℕ) : Valuation τ sig (Elt Ideal) := STEP^[k] (entryContents preI m c)

/-- The stacked queries stay. -/
theorem kept0 (c : Dev nD) (k : ℕ) : vals m c k (Proc.devRef .tc main_v63_0) = entryContents preI m c (Proc.devRef .tc main_v63_0) := by
  induction k with
  | zero => rfl
  | succ k ih => rw [vals, Function.iterate_succ_apply', STEP_main_v63_0]; exact ih

/-- The stacked chunk outputs stay. -/
theorem kept1 (c : Dev nD) (k : ℕ) : vals m c k (Proc.devRef .tc main_v63_1) = entryContents preI m c (Proc.devRef .tc main_v63_1) := by
  induction k with
  | zero => rfl
  | succ k ih => rw [vals, Function.iterate_succ_apply', STEP_main_v63_1]; exact ih

/-- The stacked keys stay. -/
theorem kept2 (c : Dev nD) (k : ℕ) : vals m c k (Proc.devRef .tc main_v63_2) = entryContents preI m c (Proc.devRef .tc main_v63_2) := by
  induction k with
  | zero => rfl
  | succ k ih => rw [vals, Function.iterate_succ_apply', STEP_main_v63_2]; exact ih

/-- The stacked values stay. -/
theorem kept3 (c : Dev nD) (k : ℕ) : vals m c k (Proc.devRef .tc main_v63_3) = entryContents preI m c (Proc.devRef .tc main_v63_3) := by
  induction k with
  | zero => rfl
  | succ k ih => rw [vals, Function.iterate_succ_apply', STEP_main_v63_3]; exact ih

/-- The stacked decays stay. -/
theorem kept4 (c : Dev nD) (k : ℕ) : vals m c k (Proc.devRef .tc main_v63_4) = entryContents preI m c (Proc.devRef .tc main_v63_4) := by
  induction k with
  | zero => rfl
  | succ k ih => rw [vals, Function.iterate_succ_apply', STEP_main_v63_4]; exact ih

/-- The counter before trip `k`. -/
theorem counter (c : Dev nD) (k : ℕ) : vals m c k (Proc.devRef .tc main_v63_5) = fun _ => Scf.iv 0#32 1#32 k := by
  induction k with
  | zero => exact (ctr_entry m c).trans (by rw [Scf.iv_zero])
  | succ k ih =>
    rw [vals, Function.iterate_succ_apply', STEP_main_v63_5]
    unfold step_main_v63_5
    rw [Scf.iv_succ]
    exact congrArg (fun x : IVec S_ 32 => addi x (constantI S_ 32 1#32)) ih

/-- A state entry before trip `k`. -/
theorem state_ref (c : Dev nD) (k : ℕ) (hk : k ≤ 1024) (b : Fin 2) (h : Fin 4) (d e : Fin 128) :
    (vals m c k (Proc.devRef .tc main_v63_6) : FVec Ideal S2x4x128x128 .f32) (ix4 b h d e)
      = stV (rG m c) (rW m c) (rB m c) (rS m c) b h e d k := by
  induction k with
  | zero =>
    have h0 : vals m c 0 (Proc.devRef .tc main_v63_6) = transpose S2x4x128x128 [0, 1, 3, 2] (rS m c) transposes_S2x4x128x128_S2x4x128x128_0_1_3_2 := pre_6 m c
    rw [h0]
    pointwise
    rfl
  | succ k ih =>
    have hs : vals m c (k + 1) (Proc.devRef .tc main_v63_6) = step_main_v63_6 (vals m c k) := by
      rw [vals, Function.iterate_succ_apply', STEP_main_v63_6]
    rw [hs]
    refine (step6_at (vals m c k) ⟨k, by omega⟩ (counter m c k) b h d e _ _ _ _ rfl ((kept4 m c k).trans (pre_4 m c)) ((kept2 m c k).trans (pre_2 m c))
      ((kept3 m c k).trans (pre_3 m c))).trans ?_
    rw [ih (by omega)]
    pointwise
    simp only [rDc_at, rKo_at, rH_at]
    have hf : stV (rG m c) (rW m c) (rB m c) (rS m c) b h e d (k + 1) = stV (rG m c) (rW m c) (rB m c) (rS m c) b h e d k * dc (logsOf (rG m c) (rB m c) b) k (128 * h.val + d.val)
        + kvs (keysOf (rG m c) (rB m c) b) (logsOf (rG m c) (rB m c) b) (rowsOf (rW m c) b) h.val e.val d.val k := rfl
    rw [hf]
    unfold kvs
    exact congrArg _ (Finset.sum_congr rfl fun x _ => mul_comm _ _)

/-- A stacked output once its trip is over. -/
theorem stack_ref (c : Dev nD) (k : ℕ) (hk : k ≤ 1024) (n : Fin 1024) (hn : n.val < k) (b : Fin 2) (h : Fin 4) (r : Fin 16) (e : Fin 128) :
    (vals m c k (Proc.devRef .tc main_v63_7) : FVec Ideal S1024x2x4x16x128 .f32) (ix5 n b h r e)
      = outV (rX m c) (rG m c) (rW m c) (rB m c) (rS m c) b (16 * n.val + r.val) h e := by
  induction k with
  | zero => omega
  | succ k ih =>
    have hs : vals m c (k + 1) (Proc.devRef .tc main_v63_7) = step_main_v63_7 (vals m c k) := by
      rw [vals, Function.iterate_succ_apply', STEP_main_v63_7]
    rw [hs]
    refine (step7_at (vals m c k) ⟨k, by omega⟩ (counter m c k) b h n r e _ _ _ _ rfl rfl ((kept0 m c k).trans (pre_0 m c)) ((kept1 m c k).trans (pre_1 m c))).trans ?_
    by_cases hnk : n = ⟨k, by omega⟩
    · rw [if_pos hnk]
      have hnv : n.val = k := congrArg Fin.val hnk
      simp only [state_ref m c k (by omega)]
      pointwise
      simp only [rQi_at, rO_at]
      unfold outV orow
      rw [row_div, hnv]
      rfl
    · rw [if_neg hnk]
      exact ih (by omega) (by have : n.val ≠ k := fun h => hnk (Fin.ext h); omega)

/-- The reference's outputs. -/
theorem ref_out (c : Dev nD) : out_main_v67 (vals m c 1024) = outF (rX m c) (rG m c) (rW m c) (rB m c) (rS m c) := by
  funext y
  idx_vars y
  unfold out_main_v67
  pointwise
  refine (stack_ref m c 1024 (le_refl _) ⟨y1.val / 16, by omega⟩ (by simp only; omega) y0 ⟨y2.val / 128, by omega⟩ ⟨y1.val % 16, by omega⟩ ⟨y2.val % 128, by omega⟩).trans ?_
  have e1 : 16 * (y1.val / 16) + y1.val % 16 = y1.val := by omega
  dsimp only
  rw [e1]
  rfl

/-- The reference's final states. -/
theorem ref_st (c : Dev nD) : out_main_v68 (vals m c 1024) = finF (rG m c) (rW m c) (rB m c) (rS m c) := by
  funext y
  idx_vars y
  unfold out_main_v68
  pointwise
  exact state_ref m c 1024 (le_refl _) y0 y1 y3 y2

end Cert.Hgrn.Ref

end
-- ==== Proof.HgrnClaim.lean ====
/- The algebraic claim of the gated recurrence: its outputs and its final states. -/
module

public import proofs.«01_k».proof.Defs
public import proofs.«01_k».proof.Proof.HgrnPre
public import proofs.«01_k».proof.Proof.HgrnFinal
public import proofs.«01_k».proof.Proof.HgrnRefLoop

@[expose] public section

set_option maxRecDepth 16384

noncomputable section

namespace Cert.Proof.HgrnClaim

open Idealize.ShloMosaic Idealize.ShloMosaic.TcCoe Idealize.SL.Sem

/-- The kernel and the plain recurrence leave the same outputs and the same final states. -/
theorem algebraic : Cert.algebraic_KernelIdeal_ReferenceIdeal_pre_lower_bound_finite (hKernelIdeal := Cert.KernelIdeal.Gen.facts)
    (hReferenceIdeal := Cert.ReferenceIdeal.Gen.facts) (hPre_lower_bound_finite := Cert.Hgrn.Pre.facts) :=
  fun m ρ m' ρ' hp hag => ⟨fun c => (Cert.KernelIdeal.Gen.dats m 0 c).arrAt 5 Cert.KernelIdeal.cfg0.N, fun c => (Cert.KernelIdeal.Gen.dats m 0 c).arrAt 6 Cert.KernelIdeal.cfg0.N,
    Cert.KernelIdeal.Value.run_blocks m ρ,
    (θ_run _ _ _).mono (fun _ h c => by
      obtain ⟨e0, e1, e2, e3, e4⟩ := hag c
      have hB : ∀ j : ℕ, Cert.Hgrn.lbOf (Cert.Hgrn.aB m c) j ≠ ⊤ := Cert.Hgrn.Pre.lb_ne_top _ _ _ _ _ (hp c)
      have f0 : Cert.Hgrn.Ref.rX m' c = Cert.Hgrn.aQ m c := e0
      have f1 : Cert.Hgrn.Ref.rG m' c = Cert.Hgrn.aG m c := e1
      have f2 : Cert.Hgrn.Ref.rW m' c = Cert.Hgrn.aV m c := e2
      have f3 : Cert.Hgrn.Ref.rB m' c = Cert.Hgrn.aB m c := e3
      have f4 : Cert.Hgrn.Ref.rS m' c = Cert.Hgrn.aS m c := e4
      have ho := Cert.Hgrn.Ref.ref_out m' c
      have hs := Cert.Hgrn.Ref.ref_st m' c
      rw [f0, f1, f2, f3, f4] at ho
      rw [f1, f2, f3, f4] at hs
      exact ⟨(h c).1.trans (ho.trans (Cert.Hgrn.final_out m c hB).symm), (h c).2.1.trans (hs.trans (Cert.Hgrn.final_st m c hB).symm), (h c).2.2⟩)
      (Cert.ReferenceIdeal.Value.run m' ρ')⟩

end Cert.Proof.HgrnClaim

end
-- ==== Proof.lean ====
/- Everything the certificate claims: each program's frame, each idealization, and, program by program, that the kernel and its plain
   reference leave the same arrays. The mathematics is in the modules imported here. -/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Ffn.Frame
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnCd.Frame
public import proofs.«01_k».proof.Proof.Gen.FfnCdIdeal.Frame
public import proofs.«01_k».proof.Proof.Gen.FfnCdRefIdeal
public import proofs.«01_k».proof.Proof.Gen.FfnCdRefIdeal.Run
public import proofs.«01_k».proof.Proof.Gen.FfnLast.Frame
public import proofs.«01_k».proof.Proof.Gen.FfnLastIdeal.Frame
public import proofs.«01_k».proof.Proof.Gen.FfnLastRefIdeal
public import proofs.«01_k».proof.Proof.Gen.FfnLastRefIdeal.Run
public import proofs.«01_k».proof.Proof.Gen.FfnAb.Frame
public import proofs.«01_k».proof.Proof.Gen.FfnAbIdeal.Frame
public import proofs.«01_k».proof.Proof.Gen.FfnAbRefIdeal
public import proofs.«01_k».proof.Proof.Gen.FfnAbRefIdeal.Run
public import proofs.«01_k».proof.Proof.Gen.InprojCd.Frame
public import proofs.«01_k».proof.Proof.Gen.InprojCdIdeal.Frame
public import proofs.«01_k».proof.Proof.Gen.InprojCdRefIdeal
public import proofs.«01_k».proof.Proof.Gen.InprojCdRefIdeal.Run
public import proofs.«01_k».proof.Proof.FfnClaim
public import proofs.«01_k».proof.Proof.FfnCdClaim
public import proofs.«01_k».proof.Proof.FfnLastClaim
public import proofs.«01_k».proof.Proof.FfnAbClaim
public import proofs.«01_k».proof.Proof.InprojCdClaim
public import proofs.«01_k».proof.Proof.HgrnClaim
public import Idealize.ShloMosaic.Adequacy
public import Idealize.ShloMosaic.Init

@[expose] public section

noncomputable section

namespace Cert.Proof

open Idealize.ShloMosaic Idealize.SL.Sem

/-- `Cert.quiescent_ReferenceIdeal`: the plain program runs to its end, leaves its arguments as they were, and uses no semaphore. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ReferenceIdeal.Value.run m ρ)

/-- `Cert.quiescent_FfnRefIdeal`: the plain program runs to its end, leaves its arguments as they were, and uses no semaphore. -/
theorem frame_FfnRefIdeal : Cert.quiescent_FfnRefIdeal (hFfnRefIdeal := Cert.FfnRefIdeal.Gen.facts) := fun m ρ _ =>
  (θ_run Cert.FfnRefIdeal.defs _ _).mono (fun r h => ⟨fun c => (h c).2, Idealize.ShloMosaic.sem_eq_zero_of_no_sems (by decide) r.2⟩)
    (Cert.FfnRefIdeal.Value.run m ρ)

/-- `Cert.quiescent_FfnCdRefIdeal`: the plain program runs to its end, leaves its arguments as they were, and uses no semaphore. -/
theorem frame_FfnCdRefIdeal : Cert.quiescent_FfnCdRefIdeal (hFfnCdRefIdeal := Cert.FfnCdRefIdeal.Gen.facts) := fun m ρ _ =>
  (θ_run Cert.FfnCdRefIdeal.defs _ _).mono (fun r h => ⟨fun c => (h c).2, Idealize.ShloMosaic.sem_eq_zero_of_no_sems (by decide) r.2⟩)
    (Cert.FfnCdRefIdeal.Value.run m ρ)

/-- `Cert.quiescent_FfnLastRefIdeal`: the plain program runs to its end, leaves its arguments as they were, and uses no semaphore. -/
theorem frame_FfnLastRefIdeal : Cert.quiescent_FfnLastRefIdeal (hFfnLastRefIdeal := Cert.FfnLastRefIdeal.Gen.facts) := fun m ρ _ =>
  (θ_run Cert.FfnLastRefIdeal.defs _ _).mono (fun r h => ⟨fun c => (h c).2, Idealize.ShloMosaic.sem_eq_zero_of_no_sems (by decide) r.2⟩)
    (Cert.FfnLastRefIdeal.Value.run m ρ)

/-- `Cert.quiescent_FfnAbRefIdeal`: the plain program runs to its end, leaves its arguments as they were, and uses no semaphore. -/
theorem frame_FfnAbRefIdeal : Cert.quiescent_FfnAbRefIdeal (hFfnAbRefIdeal := Cert.FfnAbRefIdeal.Gen.facts) := fun m ρ _ =>
  (θ_run Cert.FfnAbRefIdeal.defs _ _).mono (fun r h => ⟨fun c => (h c).2, Idealize.ShloMosaic.sem_eq_zero_of_no_sems (by decide) r.2⟩)
    (Cert.FfnAbRefIdeal.Value.run m ρ)

/-- `Cert.quiescent_InprojCdRefIdeal`: the plain program runs to its end, leaves its arguments as they were, and uses no semaphore. -/
theorem frame_InprojCdRefIdeal : Cert.quiescent_InprojCdRefIdeal (hInprojCdRefIdeal := Cert.InprojCdRefIdeal.Gen.facts) := fun m ρ _ =>
  (θ_run Cert.InprojCdRefIdeal.defs _ _).mono (fun r h => ⟨fun c => (h c).2.2.2.2.2.2, Idealize.ShloMosaic.sem_eq_zero_of_no_sems (by decide) r.2⟩)
    (Cert.InprojCdRefIdeal.Value.run m ρ)

/-- Every claim: the witnesses of the programs' stated facts, the frames, and program by program the idealization and the value claim. -/
theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.FfnCd.Gen.facts, Cert.FfnCdIdeal.Gen.facts, Cert.FfnCdRefIdeal.Gen.facts, Cert.FfnLast.Gen.facts, Cert.FfnLastIdeal.Gen.facts, Cert.FfnLastRefIdeal.Gen.facts, Cert.FfnAb.Gen.facts, Cert.FfnAbIdeal.Gen.facts, Cert.FfnAbRefIdeal.Gen.facts, Cert.InprojCd.Gen.facts, Cert.InprojCdIdeal.Gen.facts, Cert.InprojCdRefIdeal.Gen.facts, Cert.Hgrn.Pre.facts,
  fun m ρ _ => Cert.Kernel.Gen.frame m ρ, fun m ρ _ => Cert.KernelIdeal.Gen.frame m ρ, fun m ρ _ => Cert.KernelIdeal.Gen.frame m ρ, frame_ReferenceIdeal, fun m ρ _ => frame_ReferenceIdeal m ρ trivial,
  fun m ρ _ => Cert.Ffn.Gen.frame m ρ, fun m ρ _ => Cert.FfnIdeal.Gen.frame m ρ, frame_FfnRefIdeal,
  fun m ρ _ => Cert.FfnCd.Gen.frame m ρ, fun m ρ _ => Cert.FfnCdIdeal.Gen.frame m ρ, frame_FfnCdRefIdeal,
  fun m ρ _ => Cert.FfnLast.Gen.frame m ρ, fun m ρ _ => Cert.FfnLastIdeal.Gen.frame m ρ, frame_FfnLastRefIdeal,
  fun m ρ _ => Cert.FfnAb.Gen.frame m ρ, fun m ρ _ => Cert.FfnAbIdeal.Gen.frame m ρ, frame_FfnAbRefIdeal,
  fun m ρ _ => Cert.InprojCd.Gen.frame m ρ, fun m ρ _ => Cert.InprojCdIdeal.Gen.frame m ρ, frame_InprojCdRefIdeal,
  trivial, HgrnClaim.algebraic,
  trivial, FfnClaim.algebraic,
  trivial, FfnCdClaim.algebraic,
  trivial, FfnLastClaim.algebraic,
  trivial, FfnAbClaim.algebraic,
  trivial, InprojCdClaim.algebraic⟩

end Cert.Proof

end
